-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_KernelStepIdeal_finite_step [hPre_finite_step : Cert.Pre_finite_step.Facts] (m : (ℓ : Loc Cert.KernelStepIdeal.nD Cert.KernelStepIdeal.τ Cert.KernelStepIdeal.sig) → Buf (Elt Ideal) ℓ) : Prop :=
  ∀ c : Dev Cert.KernelStepIdeal.nD,
    (Cert.Pre_finite_step.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3))).1 = (fun _ => 1#1)
    ∧ (Cert.Pre_finite_step.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3))).2.1 = (fun _ => 1#1)
    ∧ (Cert.Pre_finite_step.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3))).2.2.1 = (fun _ => 1#1)
    ∧ (Cert.Pre_finite_step.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3))).2.2.2 = (fun _ => 1#1)

def Pre_ReferenceStepIdeal (m : (ℓ : Loc Cert.ReferenceStepIdeal.nD Cert.ReferenceStepIdeal.τ Cert.ReferenceStepIdeal.sig) → Buf (Elt Ideal) ℓ) : Prop :=
  True

def Pre_ReferenceStepIdeal_finite_step [hPre_finite_step : Cert.Pre_finite_step.Facts] (m : (ℓ : Loc Cert.ReferenceStepIdeal.nD Cert.ReferenceStepIdeal.τ Cert.ReferenceStepIdeal.sig) → Buf (Elt Ideal) ℓ) : Prop :=
  ∀ c : Dev Cert.ReferenceStepIdeal.nD,
    (Cert.Pre_finite_step.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3))).1 = (fun _ => 1#1)
    ∧ (Cert.Pre_finite_step.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3))).2.1 = (fun _ => 1#1)
    ∧ (Cert.Pre_finite_step.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3))).2.2.1 = (fun _ => 1#1)
    ∧ (Cert.Pre_finite_step.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3))).2.2.2 = (fun _ => 1#1)

def Pre_KernelDownStep (m : (ℓ : Loc Cert.KernelDownStep.nD Cert.KernelDownStep.τ Cert.KernelDownStep.sig) → Buf (Elt Bits) ℓ) : Prop :=
  True

def Pre_KernelDownStepIdeal (m : (ℓ : Loc Cert.KernelDownStepIdeal.nD Cert.KernelDownStepIdeal.τ Cert.KernelDownStepIdeal.sig) → Buf (Elt Ideal) ℓ) : Prop :=
  True

def Pre_ReferenceDownStepIdeal (m : (ℓ : Loc Cert.ReferenceDownStepIdeal.nD Cert.ReferenceDownStepIdeal.τ Cert.ReferenceDownStepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1)
      ∧ r.2.mem ((c.tc : Thread Cert.KernelStep.nD Cert.KernelStep.τ).loc Cert.KernelStep.main_arg2) = m ((c.tc : Thread Cert.KernelStep.nD Cert.KernelStep.τ).loc Cert.KernelStep.main_arg2)
      ∧ r.2.mem ((c.tc : Thread Cert.KernelStep.nD Cert.KernelStep.τ).loc Cert.KernelStep.main_arg3) = m ((c.tc : Thread Cert.KernelStep.nD Cert.KernelStep.τ).loc Cert.KernelStep.main_arg3))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ r.2.sem = fun _ => 0)

def quiescent_KernelStepIdeal_pre_finite_step [hKernelStepIdeal : Cert.KernelStepIdeal.Facts] [hPre_finite_step : Cert.Pre_finite_step.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal_finite_step m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3))
      ∧ r.2.sem = fun _ => 0)

def quiescent_ReferenceStepIdeal_pre_finite_step [hReferenceStepIdeal : Cert.ReferenceStepIdeal.Facts] [hPre_finite_step : Cert.Pre_finite_step.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal_finite_step m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3))
      ∧ r.2.sem = fun _ => 0)

def quiescent_KernelDownStep [hKernelDownStep : Cert.KernelDownStep.Facts] : Prop :=
  ∀ (m : (ℓ : Loc Cert.KernelDownStep.nD Cert.KernelDownStep.τ Cert.KernelDownStep.sig) → Buf (Elt Bits) ℓ) (g : Dev Cert.KernelDownStep.nD → PrngReg), Pre_KernelDownStep m →
    θ_run (Cert.KernelDownStep.defs (F := Bits)) (onTc (τ := Cert.KernelDownStep.τ) (Cert.KernelDownStep.main (F := Bits))) ⟨m, fun _ => 0, g⟩ (fun r => (∀ c : Dev Cert.KernelDownStep.nD,
      r.2.mem ((c.tc : Thread Cert.KernelDownStep.nD Cert.KernelDownStep.τ).loc Cert.KernelDownStep.main_arg0) = m ((c.tc : Thread Cert.KernelDownStep.nD Cert.KernelDownStep.τ).loc Cert.KernelDownStep.main_arg0)
      ∧ r.2.mem ((c.tc : Thread Cert.KernelDownStep.nD Cert.KernelDownStep.τ).loc Cert.KernelDownStep.main_arg1) = m ((c.tc : Thread Cert.KernelDownStep.nD Cert.KernelDownStep.τ).loc Cert.KernelDownStep.main_arg1)
      ∧ r.2.mem ((c.tc : Thread Cert.KernelDownStep.nD Cert.KernelDownStep.τ).loc Cert.KernelDownStep.main_arg2) = m ((c.tc : Thread Cert.KernelDownStep.nD Cert.KernelDownStep.τ).loc Cert.KernelDownStep.main_arg2)
      ∧ r.2.mem ((c.tc : Thread Cert.KernelDownStep.nD Cert.KernelDownStep.τ).loc Cert.KernelDownStep.main_arg3) = m ((c.tc : Thread Cert.KernelDownStep.nD Cert.KernelDownStep.τ).loc Cert.KernelDownStep.main_arg3)
      ∧ r.2.mem ((c.tc : Thread Cert.KernelDownStep.nD Cert.KernelDownStep.τ).loc Cert.KernelDownStep.main_arg4) = m ((c.tc : Thread Cert.KernelDownStep.nD Cert.KernelDownStep.τ).loc Cert.KernelDownStep.main_arg4))
      ∧ r.2.sem = fun _ => 0)

def quiescent_KernelDownStepIdeal [hKernelDownStepIdeal : Cert.KernelDownStepIdeal.Facts] : Prop :=
  ∀ (m : (ℓ : Loc Cert.KernelDownStepIdeal.nD Cert.KernelDownStepIdeal.τ Cert.KernelDownStepIdeal.sig) → Buf (Elt Ideal) ℓ) (g : Dev Cert.KernelDownStepIdeal.nD → PrngReg), Pre_KernelDownStepIdeal m →
    θ_run (Cert.KernelDownStepIdeal.defs (F := Ideal)) (onTc (τ := Cert.KernelDownStepIdeal.τ) (Cert.KernelDownStepIdeal.main (F := Ideal))) ⟨m, fun _ => 0, g⟩ (fun r => (∀ c : Dev Cert.KernelDownStepIdeal.nD,
      r.2.mem ((c.tc : Thread Cert.KernelDownStepIdeal.nD Cert.KernelDownStepIdeal.τ).loc Cert.KernelDownStepIdeal.main_arg0) = m ((c.tc : Thread Cert.KernelDownStepIdeal.nD Cert.KernelDownStepIdeal.τ).loc Cert.KernelDownStepIdeal.main_arg0)
      ∧ r.2.mem ((c.tc : Thread Cert.KernelDownStepIdeal.nD Cert.KernelDownStepIdeal.τ).loc Cert.KernelDownStepIdeal.main_arg1) = m ((c.tc : Thread Cert.KernelDownStepIdeal.nD Cert.KernelDownStepIdeal.τ).loc Cert.KernelDownStepIdeal.main_arg1)
      ∧ r.2.mem ((c.tc : Thread Cert.KernelDownStepIdeal.nD Cert.KernelDownStepIdeal.τ).loc Cert.KernelDownStepIdeal.main_arg2) = m ((c.tc : Thread Cert.KernelDownStepIdeal.nD Cert.KernelDownStepIdeal.τ).loc Cert.KernelDownStepIdeal.main_arg2)
      ∧ r.2.mem ((c.tc : Thread Cert.KernelDownStepIdeal.nD Cert.KernelDownStepIdeal.τ).loc Cert.KernelDownStepIdeal.main_arg3) = m ((c.tc : Thread Cert.KernelDownStepIdeal.nD Cert.KernelDownStepIdeal.τ).loc Cert.KernelDownStepIdeal.main_arg3)
      ∧ r.2.mem ((c.tc : Thread Cert.KernelDownStepIdeal.nD Cert.KernelDownStepIdeal.τ).loc Cert.KernelDownStepIdeal.main_arg4) = m ((c.tc : Thread Cert.KernelDownStepIdeal.nD Cert.KernelDownStepIdeal.τ).loc Cert.KernelDownStepIdeal.main_arg4))
      ∧ r.2.sem = fun _ => 0)

def quiescent_ReferenceDownStepIdeal [hReferenceDownStepIdeal : Cert.ReferenceDownStepIdeal.Facts] : Prop :=
  ∀ (m : (ℓ : Loc Cert.ReferenceDownStepIdeal.nD Cert.ReferenceDownStepIdeal.τ Cert.ReferenceDownStepIdeal.sig) → Buf (Elt Ideal) ℓ) (g : Dev Cert.ReferenceDownStepIdeal.nD → PrngReg), Pre_ReferenceDownStepIdeal m →
    θ_run (Cert.ReferenceDownStepIdeal.defs (F := Ideal)) (onTc (τ := Cert.ReferenceDownStepIdeal.τ) (Cert.ReferenceDownStepIdeal.main (F := Ideal))) ⟨m, fun _ => 0, g⟩ (fun r => (∀ c : Dev Cert.ReferenceDownStepIdeal.nD,
      r.2.mem ((c.tc : Thread Cert.ReferenceDownStepIdeal.nD Cert.ReferenceDownStepIdeal.τ).loc Cert.ReferenceDownStepIdeal.main_arg0) = m ((c.tc : Thread Cert.ReferenceDownStepIdeal.nD Cert.ReferenceDownStepIdeal.τ).loc Cert.ReferenceDownStepIdeal.main_arg0)
      ∧ r.2.mem ((c.tc : Thread Cert.ReferenceDownStepIdeal.nD Cert.ReferenceDownStepIdeal.τ).loc Cert.ReferenceDownStepIdeal.main_arg1) = m ((c.tc : Thread Cert.ReferenceDownStepIdeal.nD Cert.ReferenceDownStepIdeal.τ).loc Cert.ReferenceDownStepIdeal.main_arg1)
      ∧ r.2.mem ((c.tc : Thread Cert.ReferenceDownStepIdeal.nD Cert.ReferenceDownStepIdeal.τ).loc Cert.ReferenceDownStepIdeal.main_arg2) = m ((c.tc : Thread Cert.ReferenceDownStepIdeal.nD Cert.ReferenceDownStepIdeal.τ).loc Cert.ReferenceDownStepIdeal.main_arg2)
      ∧ r.2.mem ((c.tc : Thread Cert.ReferenceDownStepIdeal.nD Cert.ReferenceDownStepIdeal.τ).loc Cert.ReferenceDownStepIdeal.main_arg3) = m ((c.tc : Thread Cert.ReferenceDownStepIdeal.nD Cert.ReferenceDownStepIdeal.τ).loc Cert.ReferenceDownStepIdeal.main_arg3)
      ∧ r.2.mem ((c.tc : Thread Cert.ReferenceDownStepIdeal.nD Cert.ReferenceDownStepIdeal.τ).loc Cert.ReferenceDownStepIdeal.main_arg4) = m ((c.tc : Thread Cert.ReferenceDownStepIdeal.nD Cert.ReferenceDownStepIdeal.τ).loc Cert.ReferenceDownStepIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v6)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v6) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v31) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v6_0)) (v1 : (c : Dev Cert.KernelOutIdeal.nD) → Buf (Elt Ideal) ((c.tc : Thread Cert.KernelOutIdeal.nD Cert.KernelOutIdeal.τ).loc Cert.KernelOutIdeal.main_v6_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6_0) = v0 c
          ∧ r.2.mem ((c.tc : Thread Cert.KernelOutIdeal.nD Cert.KernelOutIdeal.τ).loc Cert.KernelOutIdeal.main_v6_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v33) = v0 c
          ∧ r.2.mem ((c.tc : Thread Cert.ReferenceOutIdeal.nD Cert.ReferenceOutIdeal.τ).loc Cert.ReferenceOutIdeal.main_v34) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)) (v2 : (c : Dev Cert.KernelUpIdeal.nD) → Buf (Elt Ideal) ((c.tc : Thread Cert.KernelUpIdeal.nD Cert.KernelUpIdeal.τ).loc Cert.KernelUpIdeal.main_v5_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_v5_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v44) = v0 c
          ∧ r.2.mem ((c.tc : Thread Cert.ReferenceUpIdeal.nD Cert.ReferenceUpIdeal.τ).loc Cert.ReferenceUpIdeal.main_v45) = v1 c
          ∧ r.2.mem ((c.tc : Thread Cert.ReferenceUpIdeal.nD Cert.ReferenceUpIdeal.τ).loc Cert.ReferenceUpIdeal.main_v46) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v45_0)) (v1 : (c : Dev Cert.KernelInIdeal.nD) → Buf (Elt Ideal) ((c.tc : Thread Cert.KernelInIdeal.nD Cert.KernelInIdeal.τ).loc Cert.KernelInIdeal.main_v45_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v45_0) = v0 c
          ∧ r.2.mem ((c.tc : Thread Cert.KernelInIdeal.nD Cert.KernelInIdeal.τ).loc Cert.KernelInIdeal.main_v45_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v100) = v0 c
          ∧ r.2.mem ((c.tc : Thread Cert.ReferenceInIdeal.nD Cert.ReferenceInIdeal.τ).loc Cert.ReferenceInIdeal.main_v101) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelStep_KernelStepIdeal : Prop :=
  True

def algebraic_KernelStepIdeal_ReferenceStepIdeal_pre_finite_step [hKernelStepIdeal : Cert.KernelStepIdeal.Facts] [hReferenceStepIdeal : Cert.ReferenceStepIdeal.Facts] [hPre_finite_step : Cert.Pre_finite_step.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal_finite_step m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)
      ∧ m' ((c.tc : Thread Cert.ReferenceStepIdeal.nD Cert.ReferenceStepIdeal.τ).loc Cert.ReferenceStepIdeal.main_arg2) = m ((c.tc : Thread Cert.KernelStepIdeal.nD Cert.KernelStepIdeal.τ).loc Cert.KernelStepIdeal.main_arg2)
      ∧ m' ((c.tc : Thread Cert.ReferenceStepIdeal.nD Cert.ReferenceStepIdeal.τ).loc Cert.ReferenceStepIdeal.main_arg3) = m ((c.tc : Thread Cert.KernelStepIdeal.nD Cert.KernelStepIdeal.τ).loc Cert.KernelStepIdeal.main_arg3)) →
    ∃ (v0 : (c : Dev Cert.KernelStepIdeal.nD) → Buf (Elt Ideal) ((c.tc : Thread Cert.KernelStepIdeal.nD Cert.KernelStepIdeal.τ).loc Cert.KernelStepIdeal.main_v2_0)) (v1 : (c : Dev Cert.KernelStepIdeal.nD) → Buf (Elt Ideal) ((c.tc : Thread Cert.KernelStepIdeal.nD Cert.KernelStepIdeal.τ).loc Cert.KernelStepIdeal.main_v2_1)) (v2 : (c : Dev Cert.KernelStepIdeal.nD) → Buf (Elt Ideal) ((c.tc : Thread Cert.KernelStepIdeal.nD Cert.KernelStepIdeal.τ).loc Cert.KernelStepIdeal.main_v2_2)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v2_0) = v0 c
          ∧ r.2.mem ((c.tc : Thread Cert.KernelStepIdeal.nD Cert.KernelStepIdeal.τ).loc Cert.KernelStepIdeal.main_v2_1) = v1 c
          ∧ r.2.mem ((c.tc : Thread Cert.KernelStepIdeal.nD Cert.KernelStepIdeal.τ).loc Cert.KernelStepIdeal.main_v2_2) = v2 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
          ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
          ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v34) = v0 c
          ∧ r.2.mem ((c.tc : Thread Cert.ReferenceStepIdeal.nD Cert.ReferenceStepIdeal.τ).loc Cert.ReferenceStepIdeal.main_v36) = v1 c
          ∧ r.2.mem ((c.tc : Thread Cert.ReferenceStepIdeal.nD Cert.ReferenceStepIdeal.τ).loc Cert.ReferenceStepIdeal.main_v38) = v2 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1)
          ∧ r.2.mem ((c.tc : Thread Cert.ReferenceStepIdeal.nD Cert.ReferenceStepIdeal.τ).loc Cert.ReferenceStepIdeal.main_arg2) = m' ((c.tc : Thread Cert.ReferenceStepIdeal.nD Cert.ReferenceStepIdeal.τ).loc Cert.ReferenceStepIdeal.main_arg2)
          ∧ r.2.mem ((c.tc : Thread Cert.ReferenceStepIdeal.nD Cert.ReferenceStepIdeal.τ).loc Cert.ReferenceStepIdeal.main_arg3) = m' ((c.tc : Thread Cert.ReferenceStepIdeal.nD Cert.ReferenceStepIdeal.τ).loc Cert.ReferenceStepIdeal.main_arg3))

def preserves_KernelDownStep_KernelDownStepIdeal : Prop :=
  True

def algebraic_KernelDownStepIdeal_ReferenceDownStepIdeal [hKernelDownStepIdeal : Cert.KernelDownStepIdeal.Facts] [hReferenceDownStepIdeal : Cert.ReferenceDownStepIdeal.Facts] : Prop :=
  ∀ (m : (ℓ : Loc Cert.KernelDownStepIdeal.nD Cert.KernelDownStepIdeal.τ Cert.KernelDownStepIdeal.sig) → Buf (Elt Ideal) ℓ) (g : Dev Cert.KernelDownStepIdeal.nD → PrngReg)
    (m' : (ℓ : Loc Cert.ReferenceDownStepIdeal.nD Cert.ReferenceDownStepIdeal.τ Cert.ReferenceDownStepIdeal.sig) → Buf (Elt Ideal) ℓ) (g' : Dev Cert.ReferenceDownStepIdeal.nD → PrngReg), Pre_KernelDownStepIdeal m →
    (∀ c : Dev Cert.KernelDownStepIdeal.nD,
      m' ((c.tc : Thread Cert.ReferenceDownStepIdeal.nD Cert.ReferenceDownStepIdeal.τ).loc Cert.ReferenceDownStepIdeal.main_arg0) = m ((c.tc : Thread Cert.KernelDownStepIdeal.nD Cert.KernelDownStepIdeal.τ).loc Cert.KernelDownStepIdeal.main_arg0)
      ∧ m' ((c.tc : Thread Cert.ReferenceDownStepIdeal.nD Cert.ReferenceDownStepIdeal.τ).loc Cert.ReferenceDownStepIdeal.main_arg1) = m ((c.tc : Thread Cert.KernelDownStepIdeal.nD Cert.KernelDownStepIdeal.τ).loc Cert.KernelDownStepIdeal.main_arg1)
      ∧ m' ((c.tc : Thread Cert.ReferenceDownStepIdeal.nD Cert.ReferenceDownStepIdeal.τ).loc Cert.ReferenceDownStepIdeal.main_arg2) = m ((c.tc : Thread Cert.KernelDownStepIdeal.nD Cert.KernelDownStepIdeal.τ).loc Cert.KernelDownStepIdeal.main_arg2)
      ∧ m' ((c.tc : Thread Cert.ReferenceDownStepIdeal.nD Cert.ReferenceDownStepIdeal.τ).loc Cert.ReferenceDownStepIdeal.main_arg3) = m ((c.tc : Thread Cert.KernelDownStepIdeal.nD Cert.KernelDownStepIdeal.τ).loc Cert.KernelDownStepIdeal.main_arg3)
      ∧ m' ((c.tc : Thread Cert.ReferenceDownStepIdeal.nD Cert.ReferenceDownStepIdeal.τ).loc Cert.ReferenceDownStepIdeal.main_arg4) = m ((c.tc : Thread Cert.KernelDownStepIdeal.nD Cert.KernelDownStepIdeal.τ).loc Cert.KernelDownStepIdeal.main_arg4)) →
    ∃ (v0 : (c : Dev Cert.KernelDownStepIdeal.nD) → Buf (Elt Ideal) ((c.tc : Thread Cert.KernelDownStepIdeal.nD Cert.KernelDownStepIdeal.τ).loc Cert.KernelDownStepIdeal.main_v6)),
      θ_run (Cert.KernelDownStepIdeal.defs (F := Ideal)) (onTc (τ := Cert.KernelDownStepIdeal.τ) (Cert.KernelDownStepIdeal.main (F := Ideal))) ⟨m, fun _ => 0, g⟩ (fun r => ∀ c : Dev Cert.KernelDownStepIdeal.nD,
          r.2.mem ((c.tc : Thread Cert.KernelDownStepIdeal.nD Cert.KernelDownStepIdeal.τ).loc Cert.KernelDownStepIdeal.main_v6) = v0 c
          ∧ r.2.mem ((c.tc : Thread Cert.KernelDownStepIdeal.nD Cert.KernelDownStepIdeal.τ).loc Cert.KernelDownStepIdeal.main_arg0) = m ((c.tc : Thread Cert.KernelDownStepIdeal.nD Cert.KernelDownStepIdeal.τ).loc Cert.KernelDownStepIdeal.main_arg0)
          ∧ r.2.mem ((c.tc : Thread Cert.KernelDownStepIdeal.nD Cert.KernelDownStepIdeal.τ).loc Cert.KernelDownStepIdeal.main_arg1) = m ((c.tc : Thread Cert.KernelDownStepIdeal.nD Cert.KernelDownStepIdeal.τ).loc Cert.KernelDownStepIdeal.main_arg1)
          ∧ r.2.mem ((c.tc : Thread Cert.KernelDownStepIdeal.nD Cert.KernelDownStepIdeal.τ).loc Cert.KernelDownStepIdeal.main_arg2) = m ((c.tc : Thread Cert.KernelDownStepIdeal.nD Cert.KernelDownStepIdeal.τ).loc Cert.KernelDownStepIdeal.main_arg2)
          ∧ r.2.mem ((c.tc : Thread Cert.KernelDownStepIdeal.nD Cert.KernelDownStepIdeal.τ).loc Cert.KernelDownStepIdeal.main_arg3) = m ((c.tc : Thread Cert.KernelDownStepIdeal.nD Cert.KernelDownStepIdeal.τ).loc Cert.KernelDownStepIdeal.main_arg3)
          ∧ r.2.mem ((c.tc : Thread Cert.KernelDownStepIdeal.nD Cert.KernelDownStepIdeal.τ).loc Cert.KernelDownStepIdeal.main_arg4) = m ((c.tc : Thread Cert.KernelDownStepIdeal.nD Cert.KernelDownStepIdeal.τ).loc Cert.KernelDownStepIdeal.main_arg4))
      ∧ θ_run (Cert.ReferenceDownStepIdeal.defs (F := Ideal)) (onTc (τ := Cert.ReferenceDownStepIdeal.τ) (Cert.ReferenceDownStepIdeal.main (F := Ideal))) ⟨m', fun _ => 0, g'⟩ (fun r => ∀ c : Dev Cert.ReferenceDownStepIdeal.nD,
          r.2.mem ((c.tc : Thread Cert.ReferenceDownStepIdeal.nD Cert.ReferenceDownStepIdeal.τ).loc Cert.ReferenceDownStepIdeal.main_v31) = v0 c
          ∧ r.2.mem ((c.tc : Thread Cert.ReferenceDownStepIdeal.nD Cert.ReferenceDownStepIdeal.τ).loc Cert.ReferenceDownStepIdeal.main_arg0) = m' ((c.tc : Thread Cert.ReferenceDownStepIdeal.nD Cert.ReferenceDownStepIdeal.τ).loc Cert.ReferenceDownStepIdeal.main_arg0)
          ∧ r.2.mem ((c.tc : Thread Cert.ReferenceDownStepIdeal.nD Cert.ReferenceDownStepIdeal.τ).loc Cert.ReferenceDownStepIdeal.main_arg1) = m' ((c.tc : Thread Cert.ReferenceDownStepIdeal.nD Cert.ReferenceDownStepIdeal.τ).loc Cert.ReferenceDownStepIdeal.main_arg1)
          ∧ r.2.mem ((c.tc : Thread Cert.ReferenceDownStepIdeal.nD Cert.ReferenceDownStepIdeal.τ).loc Cert.ReferenceDownStepIdeal.main_arg2) = m' ((c.tc : Thread Cert.ReferenceDownStepIdeal.nD Cert.ReferenceDownStepIdeal.τ).loc Cert.ReferenceDownStepIdeal.main_arg2)
          ∧ r.2.mem ((c.tc : Thread Cert.ReferenceDownStepIdeal.nD Cert.ReferenceDownStepIdeal.τ).loc Cert.ReferenceDownStepIdeal.main_arg3) = m' ((c.tc : Thread Cert.ReferenceDownStepIdeal.nD Cert.ReferenceDownStepIdeal.τ).loc Cert.ReferenceDownStepIdeal.main_arg3)
          ∧ r.2.mem ((c.tc : Thread Cert.ReferenceDownStepIdeal.nD Cert.ReferenceDownStepIdeal.τ).loc Cert.ReferenceDownStepIdeal.main_arg4) = m' ((c.tc : Thread Cert.ReferenceDownStepIdeal.nD Cert.ReferenceDownStepIdeal.τ).loc Cert.ReferenceDownStepIdeal.main_arg4))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelStep : Cert.KernelStep.Facts) (hKernelStepIdeal : Cert.KernelStepIdeal.Facts) (hReferenceStepIdeal : Cert.ReferenceStepIdeal.Facts) (hKernelDownStep : Cert.KernelDownStep.Facts) (hKernelDownStepIdeal : Cert.KernelDownStepIdeal.Facts) (hReferenceDownStepIdeal : Cert.ReferenceDownStepIdeal.Facts) (hPre_finite : Cert.Pre_finite.Facts) (hPre_finite_step : Cert.Pre_finite_step.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelStep (hKernelStep := hKernelStep)
    ∧ quiescent_KernelStepIdeal (hKernelStepIdeal := hKernelStepIdeal)
    ∧ quiescent_KernelStepIdeal_pre_finite_step (hKernelStepIdeal := hKernelStepIdeal) (hPre_finite_step := hPre_finite_step)
    ∧ quiescent_ReferenceStepIdeal (hReferenceStepIdeal := hReferenceStepIdeal)
    ∧ quiescent_ReferenceStepIdeal_pre_finite_step (hReferenceStepIdeal := hReferenceStepIdeal) (hPre_finite_step := hPre_finite_step)
    ∧ quiescent_KernelDownStep (hKernelDownStep := hKernelDownStep)
    ∧ quiescent_KernelDownStepIdeal (hKernelDownStepIdeal := hKernelDownStepIdeal)
    ∧ quiescent_ReferenceDownStepIdeal (hReferenceDownStepIdeal := hReferenceDownStepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelStep_KernelStepIdeal
    ∧ algebraic_KernelStepIdeal_ReferenceStepIdeal_pre_finite_step (hKernelStepIdeal := hKernelStepIdeal) (hReferenceStepIdeal := hReferenceStepIdeal) (hPre_finite_step := hPre_finite_step)
    ∧ preserves_KernelDownStep_KernelDownStepIdeal
    ∧ algebraic_KernelDownStepIdeal_ReferenceDownStepIdeal (hKernelDownStepIdeal := hKernelDownStepIdeal) (hReferenceDownStepIdeal := hReferenceDownStepIdeal)
-- ==== Pre_finite.lean ====
abbrev S8192x4864 : Shape := ⟨2, ![8192, 4864]⟩
abbrev S16 : Shape := ⟨1, ![16]⟩
abbrev S8192x1024 : Shape := ⟨2, ![8192, 1024]⟩
abbrev S8192x128 : Shape := ⟨2, ![8192, 128]⟩
abbrev S_ : Shape := ⟨0, ![]⟩

class Facts : Prop where
  slices_S8192x4864_S8192x1024_0_3072 : S8192x4864.Slices ![0, 3072] S8192x1024
  slices_S8192x4864_S8192x128_0_4608 : S8192x4864.Slices ![0, 4608] S8192x128
  bcast_S_S8192x1024 : S_.BroadcastsInDim S8192x1024 (![] : Fin 0 → Fin S8192x1024.rank)
  bcast_S_S8192x128 : S_.BroadcastsInDim S8192x128 (![] : Fin 0 → Fin S8192x128.rank)
  bcast_S_S16 : S_.BroadcastsInDim S16 (![] : Fin 0 → Fin S16.rank)

variable [Facts]

def fn {F : FTy → Type} [FloatOps F] (main_arg0 : FVec F S8192x4864 .f32) (main_arg1 : FVec F S16 .f32) : IVec S8192x1024 1 × IVec S8192x128 1 × IVec S16 1 :=
  let main_v0 : FVec F S8192x1024 .f32 := (extractStridedSlice S8192x1024 ![0, 3072] · slices_S8192x4864_S8192x1024_0_3072) main_arg0
  let main_v1 : FVec F S8192x128 .f32 := (extractStridedSlice S8192x128 ![0, 4608] · slices_S8192x4864_S8192x128_0_4608) main_arg0
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x128 .f32 := Host.absf main_v1
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_cst_1 : FVec F S_ .f32 := constant S_ .f32 0x7F800000#32
  let main_v8 : FVec F S16 .f32 := broadcastInDim S16 ![] bcast_S_S16 main_cst_1
  let main_v9 : IVec S16 1 := cmpf .olt main_arg1 main_v8
  (main_v4, main_v7, main_v9)
-- ==== Pre_finite_step.lean ====
abbrev S256x4864 : Shape := ⟨2, ![256, 4864]⟩
abbrev S16 : Shape := ⟨1, ![16]⟩
abbrev S8x128x2x64 : Shape := ⟨4, ![8, 128, 2, 64]⟩
abbrev S256x1024 : Shape := ⟨2, ![256, 1024]⟩
abbrev S256x128 : Shape := ⟨2, ![256, 128]⟩
abbrev S_ : Shape := ⟨0, ![]⟩

class Facts : Prop where
  slices_S256x4864_S256x1024_0_3072 : S256x4864.Slices ![0, 3072] S256x1024
  slices_S256x4864_S256x128_0_4608 : S256x4864.Slices ![0, 4608] S256x128
  bcast_S_S256x1024 : S_.BroadcastsInDim S256x1024 (![] : Fin 0 → Fin S256x1024.rank)
  bcast_S_S256x128 : S_.BroadcastsInDim S256x128 (![] : Fin 0 → Fin S256x128.rank)
  bcast_S_S16 : S_.BroadcastsInDim S16 (![] : Fin 0 → Fin S16.rank)
  bcast_S_S8x128x2x64 : S_.BroadcastsInDim S8x128x2x64 (![] : Fin 0 → Fin S8x128x2x64.rank)

variable [Facts]

def fn {F : FTy → Type} [FloatOps F] (main_arg0 : FVec F S256x4864 .f32) (main_arg1 : FVec F S16 .f32) (main_arg2 : FVec F S8x128x2x64 .f32) (main_arg3 : FVec F S8x128x2x64 .f32) : IVec S256x1024 1 × IVec S256x128 1 × IVec S16 1 × IVec S8x128x2x64 1 :=
  let main_v0 : FVec F S256x1024 .f32 := (extractStridedSlice S256x1024 ![0, 3072] · slices_S256x4864_S256x1024_0_3072) main_arg0
  let main_v1 : FVec F S256x128 .f32 := (extractStridedSlice S256x128 ![0, 4608] · slices_S256x4864_S256x128_0_4608) main_arg0
  let main_v2 : FVec F S256x1024 .f32 := Host.absf main_v0
  let main_cst : FVec F S_ .f32 := constant S_ .f32 0x7F800000#32
  let main_v3 : FVec F S256x1024 .f32 := broadcastInDim S256x1024 ![] bcast_S_S256x1024 main_cst
  let main_v4 : IVec S256x1024 1 := cmpf .olt main_v2 main_v3
  let main_v5 : FVec F S256x128 .f32 := Host.absf main_v1
  let main_cst_0 : FVec F S_ .f32 := constant S_ .f32 0x7F800000#32
  let main_v6 : FVec F S256x128 .f32 := broadcastInDim S256x128 ![] bcast_S_S256x128 main_cst_0
  let main_v7 : IVec S256x128 1 := cmpf .olt main_v5 main_v6
  let main_cst_1 : FVec F S_ .f32 := constant S_ .f32 0x7F800000#32
  let main_v8 : FVec F S16 .f32 := broadcastInDim S16 ![] bcast_S_S16 main_cst_1
  let main_v9 : IVec S16 1 := cmpf .olt main_arg1 main_v8
  let main_v10 : FVec F S8x128x2x64 .f32 := Host.absf main_arg2
  let main_cst_2 : FVec F S_ .f32 := constant S_ .f32 0x7F800000#32
  let main_v11 : FVec F S8x128x2x64 .f32 := broadcastInDim S8x128x2x64 ![] bcast_S_S8x128x2x64 main_cst_2
  let main_v12 : IVec S8x128x2x64 1 := cmpf .olt main_v10 main_v11
  (main_v4, main_v7, main_v9, main_v12)
-- ==== Kernel.lean ====
abbrev S8192x4864 : Shape := ⟨2, ![8192, 4864]⟩
abbrev S16 : Shape := ⟨1, ![16]⟩
abbrev S8192x1024 : Shape := ⟨2, ![8192, 1024]⟩
abbrev S64x1024 : Shape := ⟨2, ![64, 1024]⟩
abbrev S64x128 : Shape := ⟨2, ![64, 128]⟩
abbrev S192x128 : Shape := ⟨2, ![192, 128]⟩
abbrev S1x192 : Shape := ⟨2, ![1, 192]⟩
abbrev S192x64 : Shape := ⟨2, ![192, 64]⟩
abbrev S64x64 : Shape := ⟨2, ![64, 64]⟩
abbrev S512x64 : Shape := ⟨2, ![512, 64]⟩
abbrev S1 : Shape := ⟨1, ![1]⟩
abbrev S64x1 : Shape := ⟨2, ![64, 1]⟩
abbrev S512x1 : Shape := ⟨2, ![512, 1]⟩
abbrev S512x192 : Shape := ⟨2, ![512, 192]⟩
abbrev S512 : Shape := ⟨1, ![512]⟩

abbrev nBuf : Space → Nat
  | .hbm => 3
  | .vmem => 16
  | .smem => 1
  | _ => 0

abbrev bufTy : (tb : Table) → Fin (tcTables nBuf tb) → BufTy
  | .hbm, ⟨0, _⟩ => ⟨S8192x4864, .f32⟩
  | .hbm, ⟨1, _⟩ => ⟨S16, .f32⟩
  | .hbm, ⟨2, _⟩ => ⟨S8192x1024, .bf16⟩
  | .local _ .vmem, ⟨0, _⟩ => ⟨S64x1024, .f32⟩
  | .local _ .vmem, ⟨1, _⟩ => ⟨S64x1024, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x1024, .bf16⟩
  | .local _ .vmem, ⟨15, _⟩ => ⟨S64x1024, .bf16⟩
  | .local _ .smem, ⟨0, _⟩ => ⟨S16, .f32⟩
  | _, _ => ⟨S8192x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c36_i32 : BitVec 32 := 36#32
  let c0_i32_0 : BitVec 32 := 0#32
  ![v3.toNat, c36_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c36_i32 : BitVec 32 := 36#32
  let c0_i32_0 : BitVec 32 := 0#32
  ![v3.toNat, c36_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c36_i32 : BitVec 32 := 36#32
  let c0_i32_1 : BitVec 32 := 0#32
  ![v3.toNat, c36_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c37_i32 : BitVec 32 := 37#32
  let c0_i32_0 : BitVec 32 := 0#32
  ![v3.toNat, c37_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c37_i32 : BitVec 32 := 37#32
  let c0_i32_0 : BitVec 32 := 0#32
  ![v3.toNat, c37_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c37_i32 : BitVec 32 := 37#32
  let c0_i32_1 : BitVec 32 := 0#32
  ![v3.toNat, c37_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x4864 : Shape := ⟨2, ![8192, 4864]⟩
abbrev S16 : Shape := ⟨1, ![16]⟩
abbrev S8192x1024 : Shape := ⟨2, ![8192, 1024]⟩
abbrev S4x2048x16x64 : Shape := ⟨4, ![4, 2048, 16, 64]⟩
abbrev S8192x128 : Shape := ⟨2, ![8192, 128]⟩
abbrev S4x2048x2x64 : Shape := ⟨4, ![4, 2048, 2, 64]⟩
abbrev S4x32x64x2x8x64 : Shape := ⟨6, ![4, 32, 64, 2, 8, 64]⟩
abbrev S4x32x64x2x64 : Shape := ⟨5, ![4, 32, 64, 2, 64]⟩
abbrev S_ : Shape := ⟨0, ![]⟩
abbrev S4x34x64x2x64 : Shape := ⟨5, ![4, 34, 64, 2, 64]⟩
abbrev S4x32x192x2x64 : Shape := ⟨5, ![4, 32, 192, 2, 64]⟩
abbrev S3 : Shape := ⟨1, ![3]⟩
abbrev S3x64 : Shape := ⟨2, ![3, 64]⟩
abbrev S192 : Shape := ⟨1, ![192]⟩
abbrev S32 : Shape := ⟨1, ![32]⟩
abbrev S32x1 : Shape := ⟨2, ![32, 1]⟩
abbrev S1x192 : Shape := ⟨2, ![1, 192]⟩
abbrev S32x192 : Shape := ⟨2, ![32, 192]⟩
abbrev S4x32x2x192x64x8 : Shape := ⟨6, ![4, 32, 2, 192, 64, 8]⟩
abbrev S4x32x2x8x64x192 : Shape := ⟨6, ![4, 32, 2, 8, 64, 192]⟩
abbrev S1x32x1x1x1x192 : Shape := ⟨6, ![1, 32, 1, 1, 1, 192]⟩
abbrev S2x8x1 : Shape := ⟨3, ![2, 8, 1]⟩
abbrev S4x32x2x8x64 : Shape := ⟨5, ![4, 32, 2, 8, 64]⟩
abbrev S1x1x2x8x1 : Shape := ⟨5, ![1, 1, 2, 8, 1]⟩
abbrev S4x32x2x8x64x1 : Shape := ⟨6, ![4, 32, 2, 8, 64, 1]⟩
abbrev S4x32x2x64x8x64 : Shape := ⟨6, ![4, 32, 2, 64, 8, 64]⟩

abbrev nBuf : Space → Nat
  | .hbm => 75
  | .vmem => 0
  | .smem => 0
  | _ => 0

abbrev bufTy : (tb : Table) → Fin (tcTables nBuf tb) → BufTy
  | .hbm, ⟨0, _⟩ => ⟨S8192x4864, .f32⟩
  | .hbm, ⟨1, _⟩ => ⟨S16, .f32⟩
  | .hbm, ⟨2, _⟩ => ⟨S8192x1024, .f32⟩
  | .hbm, ⟨3, _⟩ => ⟨S4x2048x16x64, .f32⟩
  | .hbm, ⟨4, _⟩ => ⟨S8192x128, .f32⟩
  | .hbm, ⟨5, _⟩ => ⟨S4x2048x2x64, .f32⟩
  | .hbm, ⟨6, _⟩ => ⟨S8192x128, .f32⟩
  | .hbm, ⟨7, _⟩ => ⟨S4x2048x2x64, .f32⟩
  | .hbm, ⟨8, _⟩ => ⟨S4x32x64x2x8x64, .f32⟩
  | .hbm, ⟨9, _⟩ => ⟨S4x32x64x2x64, .f32⟩
  | .hbm, ⟨10, _⟩ => ⟨S_, .i32⟩
  | .hbm, ⟨11, _⟩ => ⟨S_, .f32⟩
  | .hbm, ⟨12, _⟩ => ⟨S4x34x64x2x64, .f32⟩
  | .hbm, ⟨13, _⟩ => ⟨S4x32x64x2x64, .f32⟩
  | .hbm, ⟨14, _⟩ => ⟨S4x32x64x2x64, .f32⟩
  | .hbm, ⟨15, _⟩ => ⟨S4x32x64x2x64, .f32⟩
  | .hbm, ⟨16, _⟩ => ⟨S4x32x192x2x64, .f32⟩
  | .hbm, ⟨17, _⟩ => ⟨S4x32x64x2x64, .f32⟩
  | .hbm, ⟨18, _⟩ => ⟨S_, .i32⟩
  | .hbm, ⟨19, _⟩ => ⟨S_, .f32⟩
  | .hbm, ⟨20, _⟩ => ⟨S4x34x64x2x64, .f32⟩
  | .hbm, ⟨21, _⟩ => ⟨S4x32x64x2x64, .f32⟩
  | .hbm, ⟨22, _⟩ => ⟨S4x32x64x2x64, .f32⟩
  | .hbm, ⟨23, _⟩ => ⟨S4x32x64x2x64, .f32⟩
  | .hbm, ⟨24, _⟩ => ⟨S4x32x192x2x64, .f32⟩
  | .hbm, ⟨25, _⟩ => ⟨S3, .i32⟩
  | .hbm, ⟨26, _⟩ => ⟨S3x64, .i32⟩
  | .hbm, ⟨27, _⟩ => ⟨S192, .i32⟩
  | .hbm, ⟨28, _⟩ => ⟨S32, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S1x192, .i32⟩
  | .hbm, ⟨34, _⟩ => ⟨S32x192, .i32⟩
  | .hbm, ⟨35, _⟩ => ⟨S32x192, .i32⟩
  | .hbm, ⟨36, _⟩ => ⟨S32x192, .i32⟩
  | .hbm, ⟨37, _⟩ => ⟨S_, .i32⟩
  | .hbm, ⟨38, _⟩ => ⟨S32x192, .i32⟩
  | .hbm, ⟨39, _⟩ => ⟨S32x192, .i1⟩
  | .hbm, ⟨40, _⟩ => ⟨S4x32x2x192x64x8, .f32⟩
  | .hbm, ⟨41, _⟩ => ⟨S4x32x2x8x64x192, .f32⟩
  | .hbm, ⟨42, _⟩ => ⟨S_, .f32⟩
  | .hbm, ⟨43, _⟩ => ⟨S4x32x2x8x64x192, .f32⟩
  | .hbm, ⟨44, _⟩ => ⟨S4x32x2x8x64x192, .f32⟩
  | .hbm, ⟨45, _⟩ => ⟨S1x32x1x1x1x192, .i1⟩
  | .hbm, ⟨46, _⟩ => ⟨S_, .f32⟩
  | .hbm, ⟨47, _⟩ => ⟨S_, .f32⟩
  | .hbm, ⟨48, _⟩ => ⟨S4x32x2x8x64x192, .i1⟩
  | .hbm, ⟨49, _⟩ => ⟨S4x32x2x8x64x192, .f32⟩
  | .hbm, ⟨50, _⟩ => ⟨S4x32x2x8x64x192, .f32⟩
  | .hbm, ⟨51, _⟩ => ⟨S2x8x1, .f32⟩
  | .hbm, ⟨52, _⟩ => ⟨S_, .f32⟩
  | .hbm, ⟨53, _⟩ => ⟨S4x32x2x8x64, .f32⟩
  | .hbm, ⟨54, _⟩ => ⟨S1x1x2x8x1, .f32⟩
  | .hbm, ⟨55, _⟩ => ⟨S4x32x2x8x64, .f32⟩
  | .hbm, ⟨56, _⟩ => ⟨S4x32x2x8x64, .f32⟩
  | .hbm, ⟨57, _⟩ => ⟨S4x32x2x8x64x1, .f32⟩
  | .hbm, ⟨58, _⟩ => ⟨S4x32x2x8x64x192, .f32⟩
  | .hbm, ⟨59, _⟩ => ⟨S4x32x2x8x64x192, .f32⟩
  | .hbm, ⟨60, _⟩ => ⟨S4x32x2x8x64x192, .f32⟩
  | .hbm, ⟨61, _⟩ => ⟨S_, .f32⟩
  | .hbm, ⟨62, _⟩ => ⟨S4x32x2x8x64, .f32⟩
  | .hbm, ⟨63, _⟩ => ⟨S1x1x2x8x1, .f32⟩
  | .hbm, ⟨64, _⟩ => ⟨S4x32x2x8x64, .f32⟩
  | .hbm, ⟨65, _⟩ => ⟨S4x32x2x8x64, .f32⟩
  | .hbm, ⟨66, _⟩ => ⟨S4x32x2x8x64, .f32⟩
  | .hbm, ⟨67, _⟩ => ⟨S4x32x2x8x64, .f32⟩
  | .hbm, ⟨68, _⟩ => ⟨S4x32x2x8x64x1, .f32⟩
  | .hbm, ⟨69, _⟩ => ⟨S4x32x2x8x64x192, .f32⟩
  | .hbm, ⟨70, _⟩ => ⟨S4x32x2x8x64x192, .f32⟩
  | .hbm, ⟨71, _⟩ => ⟨S4x32x2x64x8x64, .f32⟩
  | .hbm, ⟨72, _⟩ => ⟨S4x32x64x2x8x64, .f32⟩
  | .hbm, ⟨73, _⟩ => ⟨S8192x1024, .f32⟩
  | .hbm, ⟨74, _⟩ => ⟨S8192x1024, .bf16⟩
  | _, _ => ⟨S8192x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== KernelDown.lean ====
abbrev S8192x5632 : Shape := ⟨2, ![8192, 5632]⟩
abbrev S1x5632x2048 : Shape := ⟨3, ![1, 5632, 2048]⟩
abbrev S8192x2048 : Shape := ⟨2, ![8192, 2048]⟩
abbrev S1x2048 : Shape := ⟨2, ![1, 2048]⟩
abbrev S5632x2048 : Shape := ⟨2, ![5632, 2048]⟩
abbrev S2048 : Shape := ⟨1, ![2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S5632x2048, .f32⟩
  | .hbm, ⟨6, _⟩ => ⟨S5632x2048, .bf16⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDownIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelOut.lean ====
abbrev S8192x1024 : Shape := ⟨2, ![8192, 1024]⟩
abbrev S1x2048x2048 : Shape := ⟨3, ![1, 2048, 2048]⟩
abbrev S8192x2048 : Shape := ⟨2, ![8192, 2048]⟩
abbrev S1x2048 : Shape := ⟨2, ![1, 2048]⟩
abbrev S2048x2048 : Shape := ⟨2, ![2048, 2048]⟩
abbrev S2048 : Shape := ⟨1, ![2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S8192x1024 : Shape := ⟨2, ![8192, 1024]⟩
abbrev S1x2048x2048 : Shape := ⟨3, ![1, 2048, 2048]⟩
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelUp.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S4x2x11264 : Shape := ⟨3, ![4, 2, 11264]⟩
abbrev S2048x11264 : Shape := ⟨2, ![2048, 11264]⟩
abbrev S3x11264 : Shape := ⟨2, ![3, 11264]⟩
abbrev S11264 : Shape := ⟨1, ![11264]⟩
abbrev S8192x5632 : Shape := ⟨2, ![8192, 5632]⟩
abbrev S4x8x5632 : Shape := ⟨3, ![4, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S512x512 : Shape := ⟨2, ![512, 512]⟩
abbrev S1x8x512 : Shape := ⟨3, ![1, 8, 512]⟩
abbrev S8x512 : Shape := ⟨2, ![8, 512]⟩
abbrev S2x512 : Shape := ⟨2, ![2, 512]⟩

abbrev nBuf : Space → Nat
  | .hbm => 13
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S4x2x11264, .f32⟩
  | .hbm, ⟨5, _⟩ => ⟨S2048x11264, .f32⟩
  | .hbm, ⟨6, _⟩ => ⟨S2048x11264, .bf16⟩
  | .hbm, ⟨7, _⟩ => ⟨S3x11264, .f32⟩
  | .hbm, ⟨8, _⟩ => ⟨S11264, .f32⟩
  | .hbm, ⟨9, _⟩ => ⟨S1x11264, .f32⟩
  | .hbm, ⟨10, _⟩ => ⟨S8192x5632, .bf16⟩
  | .hbm, ⟨11, _⟩ => ⟨S4x8x5632, .f32⟩
  | .hbm, ⟨12, _⟩ => ⟨S4x8x5632, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x2x512, .f32⟩
  | .local _ .vmem, ⟨15, _⟩ => ⟨S1x2x512, .f32⟩
  | .local _ .vmem, ⟨16, _⟩ => ⟨S1x2x512, .f32⟩
  | .local _ .vmem, ⟨17, _⟩ => ⟨S1x2x512, .f32⟩
  | .local _ .vmem, ⟨18, _⟩ => ⟨S512x512, .bf16⟩
  | .local _ .vmem, ⟨19, _⟩ => ⟨S512x512, .bf16⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S8x512, .f32⟩
  | .local _ .vmem, ⟨25, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.addi arg0 c11_i32
  let c0_i32_4 : BitVec 32 := 0#32
  let c0_i32_5 : BitVec 32 := 0#32
  ![v16.toNat, c0_i32_4.toNat, v17.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceUpIdeal.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S4x2x11264 : Shape := ⟨3, ![4, 2, 11264]⟩
abbrev S4x2048x2048 : Shape := ⟨3, ![4, 2048, 2048]⟩
abbrev S2048x11264 : Shape := ⟨2, ![2048, 11264]⟩
abbrev S4x2048x11264 : Shape := ⟨3, ![4, 2048, 11264]⟩
abbrev S4x2050x11264 : Shape := ⟨3, ![4, 2050, 11264]⟩
abbrev S11264 : Shape := ⟨1, ![11264]⟩
abbrev S3x11264 : Shape := ⟨2, ![3, 11264]⟩
abbrev S1x1x11264 : Shape := ⟨3, ![1, 1, 11264]⟩
abbrev S4x2048x5632 : Shape := ⟨3, ![4, 2048, 5632]⟩
abbrev S_ : Shape := ⟨0, ![]⟩
abbrev S4x8x11264 : Shape := ⟨3, ![4, 8, 11264]⟩
abbrev S8192x5632 : Shape := ⟨2, ![8192, 5632]⟩
abbrev S4x8x5632 : Shape := ⟨3, ![4, 8, 5632]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S4x2x11264, .f32⟩
  | .hbm, ⟨5, _⟩ => ⟨S8192x2048, .f32⟩
  | .hbm, ⟨6, _⟩ => ⟨S4x2048x2048, .f32⟩
  | .hbm, ⟨7, _⟩ => ⟨S2048x11264, .f32⟩
  | .hbm, ⟨8, _⟩ => ⟨S4x2048x11264, .f32⟩
  | .hbm, ⟨9, _⟩ => ⟨S4x2050x11264, .f32⟩
  | .hbm, ⟨10, _⟩ => ⟨S11264, .f32⟩
  | .hbm, ⟨11, _⟩ => ⟨S4x2048x11264, .f32⟩
  | .hbm, ⟨12, _⟩ => ⟨S3x11264, .f32⟩
  | .hbm, ⟨13, _⟩ => ⟨S1x11264, .f32⟩
  | .hbm, ⟨14, _⟩ => ⟨S11264, .f32⟩
  | .hbm, ⟨15, _⟩ => ⟨S1x1x11264, .f32⟩
  | .hbm, ⟨16, _⟩ => ⟨S4x2048x11264, .f32⟩
  | .hbm, ⟨17, _⟩ => ⟨S4x2048x11264, .f32⟩
  | .hbm, ⟨18, _⟩ => ⟨S1x1x11264, .f32⟩
  | .hbm, ⟨19, _⟩ => ⟨S4x2048x11264, .f32⟩
  | .hbm, ⟨20, _⟩ => ⟨S4x2048x11264, .f32⟩
  | .hbm, ⟨21, _⟩ => ⟨S4x2048x11264, .f32⟩
  | .hbm, ⟨22, _⟩ => ⟨S3x11264, .f32⟩
  | .hbm, ⟨23, _⟩ => ⟨S1x11264, .f32⟩
  | .hbm, ⟨24, _⟩ => ⟨S11264, .f32⟩
  | .hbm, ⟨25, _⟩ => ⟨S1x1x11264, .f32⟩
  | .hbm, ⟨26, _⟩ => ⟨S4x2048x11264, .f32⟩
  | .hbm, ⟨27, _⟩ => ⟨S4x2048x11264, .f32⟩
  | .hbm, ⟨28, _⟩ => ⟨S4x2048x11264, .f32⟩
  | .hbm, ⟨29, _⟩ => ⟨S4x2048x11264, .f32⟩
  | .hbm, ⟨30, _⟩ => ⟨S3x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S4x2048x11264, .f32⟩
  | .hbm, ⟨35, _⟩ => ⟨S4x2048x11264, .f32⟩
  | .hbm, ⟨36, _⟩ => ⟨S4x2048x11264, .f32⟩
  | .hbm, ⟨37, _⟩ => ⟨S4x2048x5632, .f32⟩
  | .hbm, ⟨38, _⟩ => ⟨S4x2048x5632, .f32⟩
  | .hbm, ⟨39, _⟩ => ⟨S_, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S_, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x8x11264, .f32⟩
  | .hbm, ⟨50, _⟩ => ⟨S8192x5632, .f32⟩
  | .hbm, ⟨51, _⟩ => ⟨S8192x5632, .bf16⟩
  | .hbm, ⟨52, _⟩ => ⟨S4x8x5632, .f32⟩
  | .hbm, ⟨53, _⟩ => ⟨S4x8x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== KernelIn.lean ====
abbrev S4x2048x2048 : Shape := ⟨3, ![4, 2048, 2048]⟩
abbrev S2048 : Shape := ⟨1, ![2048]⟩
abbrev S1x2048x4640 : Shape := ⟨3, ![1, 2048, 4640]⟩
abbrev S2048x4640 : Shape := ⟨2, ![2048, 4640]⟩
abbrev S2048x1280 : Shape := ⟨2, ![2048, 1280]⟩
abbrev S2048x3360 : Shape := ⟨2, ![2048, 3360]⟩
abbrev S_ : Shape := ⟨0, ![]⟩
abbrev S2048x224 : Shape := ⟨2, ![2048, 224]⟩
abbrev S2048x1024 : Shape := ⟨2, ![2048, 1024]⟩
abbrev S2048x64 : Shape := ⟨2, ![2048, 64]⟩
abbrev S2048x160 : Shape := ⟨2, ![2048, 160]⟩
abbrev S2048x3584 : Shape := ⟨2, ![2048, 3584]⟩
abbrev S2048x3072 : Shape := ⟨2, ![2048, 3072]⟩
abbrev S2048x512 : Shape := ⟨2, ![2048, 512]⟩
abbrev S2048x256 : Shape := ⟨2, ![2048, 256]⟩
abbrev S2048x4864 : Shape := ⟨2, ![2048, 4864]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2048x1x128 : Shape := ⟨4, ![1, 2048, 1, 128]⟩
abbrev S8192x2048 : Shape := ⟨2, ![8192, 2048]⟩
abbrev S1x2048 : Shape := ⟨2, ![1, 2048]⟩
abbrev S8192x4864 : Shape := ⟨2, ![8192, 4864]⟩
abbrev S512x2048 : Shape := ⟨2, ![512, 2048]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 54
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S1x2048x4640, .f32⟩
  | .hbm, ⟨4, _⟩ => ⟨S2048x4640, .f32⟩
  | .hbm, ⟨5, _⟩ => ⟨S2048x1280, .f32⟩
  | .hbm, ⟨6, _⟩ => ⟨S2048x3360, .f32⟩
  | .hbm, ⟨7, _⟩ => ⟨S_, .f32⟩
  | .hbm, ⟨8, _⟩ => ⟨S2048x224, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x64, .f32⟩
  | .hbm, ⟨13, _⟩ => ⟨S2048x64, .f32⟩
  | .hbm, ⟨14, _⟩ => ⟨S2048x160, .f32⟩
  | .hbm, ⟨15, _⟩ => ⟨S2048x3584, .f32⟩
  | .hbm, ⟨16, _⟩ => ⟨S2048x3072, .f32⟩
  | .hbm, ⟨17, _⟩ => ⟨S2048x1024, .f32⟩
  | .hbm, ⟨18, _⟩ => ⟨S2048x512, .f32⟩
  | .hbm, ⟨19, _⟩ => ⟨S2048x256, .f32⟩
  | .hbm, ⟨20, _⟩ => ⟨S2048x4864, .f32⟩
  | .hbm, ⟨21, _⟩ => ⟨S2048x4864, .bf16⟩
  | .hbm, ⟨22, _⟩ => ⟨S2048, .i32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S2048, .f32⟩
  | .hbm, ⟨32, _⟩ => ⟨S2048x1, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S2048x32, .f32⟩
  | .hbm, ⟨41, _⟩ => ⟨S2048x32, .f32⟩
  | .hbm, ⟨42, _⟩ => ⟨S2048x128, .f32⟩
  | .hbm, ⟨43, _⟩ => ⟨S1x2048x1x128, .f32⟩
  | .hbm, ⟨44, _⟩ => ⟨S1x2048x1x128, .f32⟩
  | .hbm, ⟨45, _⟩ => ⟨S2048x128, .f32⟩
  | .hbm, ⟨46, _⟩ => ⟨S1x2048x1x128, .f32⟩
  | .hbm, ⟨47, _⟩ => ⟨S1x2048x1x128, .f32⟩
  | .hbm, ⟨48, _⟩ => ⟨S2048x128, .f32⟩
  | .hbm, ⟨49, _⟩ => ⟨S8192x2048, .f32⟩
  | .hbm, ⟨50, _⟩ => ⟨S1x2048, .f32⟩
  | .hbm, ⟨51, _⟩ => ⟨S1x2048, .f32⟩
  | .hbm, ⟨52, _⟩ => ⟨S8192x4864, .f32⟩
  | .hbm, ⟨53, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45_0 : Ref sig .tc := ⟨.hbm, 52, rfl⟩
abbrev main_v45_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 19], ![false, false]⟩

def k0_cond2 (i : grid0.Coords) : BitVec 1 :=
  let arg1 : BitVec 32 := BitVec.ofNat 32 (i 1).val
  let c12_i32 : BitVec 32 := 12#32
  let v7 : BitVec 1 := Scalar.cmpi .sge arg1 c12_i32
  let c16_i32 : BitVec 32 := 16#32
  let v8 : BitVec 1 := Scalar.cmpi .slt arg1 c16_i32
  let v9 : BitVec 1 := Scalar.andi v7 v8
  let v11 : BitVec 32 := Scalar.extui v9
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c18_i32 : BitVec 32 := 18#32
  let v10 : BitVec 1 := Scalar.cmpi .eq arg1 c18_i32
  let v13 : BitVec 32 := Scalar.extui v10
  let c0_i32_5 : BitVec 32 := 0#32
  let v14 : BitVec 1 := Scalar.cmpi .ne v13 c0_i32_5
  v14

def k0_cond4 (i : grid0.Coords) : BitVec 1 :=
  let arg1 : BitVec 32 := BitVec.ofNat 32 (i 1).val
  let c12_i32 : BitVec 32 := 12#32
  let v7 : BitVec 1 := Scalar.cmpi .sge arg1 c12_i32
  let c16_i32 : BitVec 32 := 16#32
  let v8 : BitVec 1 := Scalar.cmpi .slt arg1 c16_i32
  let v9 : BitVec 1 := Scalar.andi v7 v8
  let c18_i32 : BitVec 32 := 18#32
  let v10 : BitVec 1 := Scalar.cmpi .eq arg1 c18_i32
  let v15 : BitVec 1 := Scalar.ori v9 v10
  let v_true : BitVec 1 := 1#1
  let v16 : BitVec 1 := Scalar.xori v15 v_true
  let v17 : BitVec 32 := Scalar.extui v16
  let c0_i32_6 : BitVec 32 := 0#32
  let v18 : BitVec 1 := Scalar.cmpi .ne v17 c0_i32_6
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceInIdeal.lean ====
abbrev S4x2048x2048 : Shape := ⟨3, ![4, 2048, 2048]⟩
abbrev S2048 : Shape := ⟨1, ![2048]⟩
abbrev S1x2048x4640 : Shape := ⟨3, ![1, 2048, 4640]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x4640 : Shape := ⟨2, ![2048, 4640]⟩
abbrev S4x2048x4640 : Shape := ⟨3, ![4, 2048, 4640]⟩
abbrev S4x2048x1024 : Shape := ⟨3, ![4, 2048, 1024]⟩
abbrev S4x2048x128 : Shape := ⟨3, ![4, 2048, 128]⟩
abbrev S4x2048x64 : Shape := ⟨3, ![4, 2048, 64]⟩
abbrev S4x2048x160 : Shape := ⟨3, ![4, 2048, 160]⟩
abbrev S4x2048x16x64 : Shape := ⟨4, ![4, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S4x2048x2x64 : Shape := ⟨4, ![4, 2048, 2, 64]⟩
abbrev S4x2048x2x32 : Shape := ⟨4, ![4, 2048, 2, 32]⟩
abbrev S4x2048x224 : Shape := ⟨3, ![4, 2048, 224]⟩
abbrev S4x2048x4864 : Shape := ⟨3, ![4, 2048, 4864]⟩
abbrev S8192x4864 : Shape := ⟨2, ![8192, 4864]⟩
abbrev S8192x2048 : Shape := ⟨2, ![8192, 2048]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S1x2048x4640, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S2048x4640, .f32⟩
  | .hbm, ⟨34, _⟩ => ⟨S4x2048x4640, .f32⟩
  | .hbm, ⟨35, _⟩ => ⟨S2048, .i32⟩
  | .hbm, ⟨36, _⟩ => ⟨S4x2048x1024, .f32⟩
  | .hbm, ⟨37, _⟩ => ⟨S4x2048x128, .f32⟩
  | .hbm, ⟨38, _⟩ => ⟨S4x2048x128, .f32⟩
  | .hbm, ⟨39, _⟩ => ⟨S4x2048x1024, .f32⟩
  | .hbm, ⟨40, _⟩ => ⟨S4x2048x64, .f32⟩
  | .hbm, ⟨41, _⟩ => ⟨S4x2048x1024, .f32⟩
  | .hbm, ⟨42, _⟩ => ⟨S4x2048x1024, .f32⟩
  | .hbm, ⟨43, _⟩ => ⟨S4x2048x64, .f32⟩
  | .hbm, ⟨44, _⟩ => ⟨S4x2048x160, .f32⟩
  | .hbm, ⟨45, _⟩ => ⟨S4x2048x16x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S1x2048x1x32, .f32⟩
  | .hbm, ⟨62, _⟩ => ⟨S2048x32, .f32⟩
  | .hbm, ⟨63, _⟩ => ⟨S1x2048x1x32, .f32⟩
  | .hbm, ⟨64, _⟩ => ⟨S4x2048x16x32, .f32⟩
  | .hbm, ⟨65, _⟩ => ⟨S4x2048x16x32, .f32⟩
  | .hbm, ⟨66, _⟩ => ⟨S4x2048x16x32, .f32⟩
  | .hbm, ⟨67, _⟩ => ⟨S4x2048x16x32, .f32⟩
  | .hbm, ⟨68, _⟩ => ⟨S4x2048x16x32, .f32⟩
  | .hbm, ⟨69, _⟩ => ⟨S4x2048x16x32, .f32⟩
  | .hbm, ⟨70, _⟩ => ⟨S4x2048x16x32, .f32⟩
  | .hbm, ⟨71, _⟩ => ⟨S4x2048x16x32, .f32⟩
  | .hbm, ⟨72, _⟩ => ⟨S4x2048x16x32, .f32⟩
  | .hbm, ⟨73, _⟩ => ⟨S4x2048x16x32, .f32⟩
  | .hbm, ⟨74, _⟩ => ⟨S4x2048x16x32, .f32⟩
  | .hbm, ⟨75, _⟩ => ⟨S4x2048x16x32, .f32⟩
  | .hbm, ⟨76, _⟩ => ⟨S4x2048x16x64, .f32⟩
  | .hbm, ⟨77, _⟩ => ⟨S4x2048x1024, .f32⟩
  | .hbm, ⟨78, _⟩ => ⟨S4x2048x2x64, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S2048, .f32⟩
  | .hbm, ⟨88, _⟩ => ⟨S2048x1, .f32⟩
  | .hbm, ⟨89, _⟩ => ⟨S1x32, .f32⟩
  | .hbm, ⟨90, _⟩ => ⟨S2048x32, .f32⟩
  | .hbm, ⟨91, _⟩ => ⟨S2048x32, .f32⟩
  | .hbm, ⟨92, _⟩ => ⟨S2048x32, .f32⟩
  | .hbm, ⟨93, _⟩ => ⟨S2048x32, .f32⟩
  | .hbm, ⟨94, _⟩ => ⟨S1x2048x1x32, .f32⟩
  | .hbm, ⟨95, _⟩ => ⟨S2048x32, .f32⟩
  | .hbm, ⟨96, _⟩ => ⟨S1x2048x1x32, .f32⟩
  | .hbm, ⟨97, _⟩ => ⟨S4x2048x2x32, .f32⟩
  | .hbm, ⟨98, _⟩ => ⟨S4x2048x2x32, .f32⟩
  | .hbm, ⟨99, _⟩ => ⟨S4x2048x2x32, .f32⟩
  | .hbm, ⟨100, _⟩ => ⟨S4x2048x2x32, .f32⟩
  | .hbm, ⟨101, _⟩ => ⟨S4x2048x2x32, .f32⟩
  | .hbm, ⟨102, _⟩ => ⟨S4x2048x2x32, .f32⟩
  | .hbm, ⟨103, _⟩ => ⟨S4x2048x2x32, .f32⟩
  | .hbm, ⟨104, _⟩ => ⟨S4x2048x2x32, .f32⟩
  | .hbm, ⟨105, _⟩ => ⟨S4x2048x2x32, .f32⟩
  | .hbm, ⟨106, _⟩ => ⟨S4x2048x2x32, .f32⟩
  | .hbm, ⟨107, _⟩ => ⟨S4x2048x2x32, .f32⟩
  | .hbm, ⟨108, _⟩ => ⟨S4x2048x2x32, .f32⟩
  | .hbm, ⟨109, _⟩ => ⟨S4x2048x2x64, .f32⟩
  | .hbm, ⟨110, _⟩ => ⟨S4x2048x128, .f32⟩
  | .hbm, ⟨111, _⟩ => ⟨S_, .f32⟩
  | .hbm, ⟨112, _⟩ => ⟨S4x2048x224, .f32⟩
  | .hbm, ⟨113, _⟩ => ⟨S4x2048x4864, .f32⟩
  | .hbm, ⟨114, _⟩ => ⟨S8192x4864, .f32⟩
  | .hbm, ⟨115, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩

abbrev nD : Nat := 1
abbrev τ : Topo := Topo.v7x

variable {F : FTy → Type} [FloatOps F]
-- ==== KernelStep.lean ====
abbrev S256x4864 : Shape := ⟨2, ![256, 4864]⟩
abbrev S16 : Shape := ⟨1, ![16]⟩
abbrev S8x128x2x64 : Shape := ⟨4, ![8, 128, 2, 64]⟩
abbrev S1024x128 : Shape := ⟨2, ![1024, 128]⟩
abbrev S256x1024 : Shape := ⟨2, ![256, 1024]⟩
abbrev S32x1024 : Shape := ⟨2, ![32, 1024]⟩
abbrev S32x128 : Shape := ⟨2, ![32, 128]⟩
abbrev S128x128 : Shape := ⟨2, ![128, 128]⟩
abbrev S160x128 : Shape := ⟨2, ![160, 128]⟩
abbrev S160x64 : Shape := ⟨2, ![160, 64]⟩
abbrev S32x64 : Shape := ⟨2, ![32, 64]⟩
abbrev S256x64 : Shape := ⟨2, ![256, 64]⟩
abbrev S1 : Shape := ⟨1, ![1]⟩
abbrev S32x1 : Shape := ⟨2, ![32, 1]⟩
abbrev S256x1 : Shape := ⟨2, ![256, 1]⟩
abbrev S256x160 : Shape := ⟨2, ![256, 160]⟩
abbrev S256 : Shape := ⟨1, ![256]⟩

abbrev nBuf : Space → Nat
  | .hbm => 9
  | .vmem => 16
  | .smem => 1
  | _ => 0

abbrev bufTy : (tb : Table) → Fin (tcTables nBuf tb) → BufTy
  | .hbm, ⟨0, _⟩ => ⟨S256x4864, .f32⟩
  | .hbm, ⟨1, _⟩ => ⟨S16, .f32⟩
  | .hbm, ⟨2, _⟩ => ⟨S8x128x2x64, .f32⟩
  | .hbm, ⟨3, _⟩ => ⟨S8x128x2x64, .f32⟩
  | .hbm, ⟨4, _⟩ => ⟨S1024x128, .f32⟩
  | .hbm, ⟨5, _⟩ => ⟨S1024x128, .f32⟩
  | .hbm, ⟨6, _⟩ => ⟨S256x1024, .bf16⟩
  | .hbm, ⟨7, _⟩ => ⟨S1024x128, .f32⟩
  | .hbm, ⟨8, _⟩ => ⟨S1024x128, .f32⟩
  | .local _ .vmem, ⟨0, _⟩ => ⟨S32x1024, .f32⟩
  | .local _ .vmem, ⟨1, _⟩ => ⟨S32x1024, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S32x1024, .bf16⟩
  | .local _ .vmem, ⟨11, _⟩ => ⟨S32x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .smem, ⟨0, _⟩ => ⟨S16, .f32⟩
  | _, _ => ⟨S256x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepIdeal.lean ====
abbrev S256x4864 : Shape := ⟨2, ![256, 4864]⟩
abbrev S16 : Shape := ⟨1, ![16]⟩
abbrev S8x128x2x64 : Shape := ⟨4, ![8, 128, 2, 64]⟩
abbrev S256x1024 : Shape := ⟨2, ![256, 1024]⟩
abbrev S8x32x16x64 : Shape := ⟨4, ![8, 32, 16, 64]⟩
abbrev S256x128 : Shape := ⟨2, ![256, 128]⟩
abbrev S8x32x2x64 : Shape := ⟨4, ![8, 32, 2, 64]⟩
abbrev S8x160x2x64 : Shape := ⟨4, ![8, 160, 2, 64]⟩
abbrev S8x32x2x8x64 : Shape := ⟨5, ![8, 32, 2, 8, 64]⟩
abbrev S8x2x160x32x8 : Shape := ⟨5, ![8, 2, 160, 32, 8]⟩
abbrev S8x2x8x32x160 : Shape := ⟨5, ![8, 2, 8, 32, 160]⟩
abbrev S_ : Shape := ⟨0, ![]⟩
abbrev S2x8x1 : Shape := ⟨3, ![2, 8, 1]⟩
abbrev S8x2x8x32 : Shape := ⟨4, ![8, 2, 8, 32]⟩
abbrev S1x2x8x1 : Shape := ⟨4, ![1, 2, 8, 1]⟩
abbrev S8x2x8x32x1 : Shape := ⟨5, ![8, 2, 8, 32, 1]⟩
abbrev S8x2x64x8x32 : Shape := ⟨5, ![8, 2, 64, 8, 32]⟩
abbrev S1024x128 : Shape := ⟨2, ![1024, 128]⟩

abbrev nBuf : Space → Nat
  | .hbm => 46
  | .vmem => 0
  | .smem => 0
  | _ => 0

abbrev bufTy : (tb : Table) → Fin (tcTables nBuf tb) → BufTy
  | .hbm, ⟨0, _⟩ => ⟨S256x4864, .f32⟩
  | .hbm, ⟨1, _⟩ => ⟨S16, .f32⟩
  | .hbm, ⟨2, _⟩ => ⟨S8x128x2x64, .f32⟩
  | .hbm, ⟨3, _⟩ => ⟨S8x128x2x64, .f32⟩
  | .hbm, ⟨4, _⟩ => ⟨S256x1024, .f32⟩
  | .hbm, ⟨5, _⟩ => ⟨S8x32x16x64, .f32⟩
  | .hbm, ⟨6, _⟩ => ⟨S256x128, .f32⟩
  | .hbm, ⟨7, _⟩ => ⟨S8x32x2x64, .f32⟩
  | .hbm, ⟨8, _⟩ => ⟨S256x128, .f32⟩
  | .hbm, ⟨9, _⟩ => ⟨S8x32x2x64, .f32⟩
  | .hbm, ⟨10, _⟩ => ⟨S8x160x2x64, .f32⟩
  | .hbm, ⟨11, _⟩ => ⟨S8x160x2x64, .f32⟩
  | .hbm, ⟨12, _⟩ => ⟨S8x32x2x8x64, .f32⟩
  | .hbm, ⟨13, _⟩ => ⟨S8x2x160x32x8, .f32⟩
  | .hbm, ⟨14, _⟩ => ⟨S8x2x8x32x160, .f32⟩
  | .hbm, ⟨15, _⟩ => ⟨S_, .f32⟩
  | .hbm, ⟨16, _⟩ => ⟨S8x2x8x32x160, .f32⟩
  | .hbm, ⟨17, _⟩ => ⟨S8x2x8x32x160, .f32⟩
  | .hbm, ⟨18, _⟩ => ⟨S2x8x1, .f32⟩
  | .hbm, ⟨19, _⟩ => ⟨S_, .f32⟩
  | .hbm, ⟨20, _⟩ => ⟨S8x2x8x32, .f32⟩
  | .hbm, ⟨21, _⟩ => ⟨S1x2x8x1, .f32⟩
  | .hbm, ⟨22, _⟩ => ⟨S8x2x8x32, .f32⟩
  | .hbm, ⟨23, _⟩ => ⟨S8x2x8x32, .f32⟩
  | .hbm, ⟨24, _⟩ => ⟨S8x2x8x32x1, .f32⟩
  | .hbm, ⟨25, _⟩ => ⟨S8x2x8x32x160, .f32⟩
  | .hbm, ⟨26, _⟩ => ⟨S8x2x8x32x160, .f32⟩
  | .hbm, ⟨27, _⟩ => ⟨S8x2x8x32x160, .f32⟩
  | .hbm, ⟨28, _⟩ => ⟨S_, .f32⟩
  | .hbm, ⟨29, _⟩ => ⟨S8x2x8x32, .f32⟩
  | .hbm, ⟨30, _⟩ => ⟨S1x2x8x1, .f32⟩
  | .hbm, ⟨31, _⟩ => ⟨S8x2x8x32, .f32⟩
  | .hbm, ⟨32, _⟩ => ⟨S8x2x8x32, .f32⟩
  | .hbm, ⟨33, _⟩ => ⟨S8x2x8x32, .f32⟩
  | .hbm, ⟨34, _⟩ => ⟨S8x2x8x32, .f32⟩
  | .hbm, ⟨35, _⟩ => ⟨S8x2x8x32x1, .f32⟩
  | .hbm, ⟨36, _⟩ => ⟨S8x2x8x32x160, .f32⟩
  | .hbm, ⟨37, _⟩ => ⟨S8x2x8x32x160, .f32⟩
  | .hbm, ⟨38, _⟩ => ⟨S8x2x64x8x32, .f32⟩
  | .hbm, ⟨39, _⟩ => ⟨S8x32x2x8x64, .f32⟩
  | .hbm, ⟨40, _⟩ => ⟨S256x1024, .f32⟩
  | .hbm, ⟨41, _⟩ => ⟨S256x1024, .bf16⟩
  | .hbm, ⟨42, _⟩ => ⟨S8x128x2x64, .f32⟩
  | .hbm, ⟨43, _⟩ => ⟨S1024x128, .f32⟩
  | .hbm, ⟨44, _⟩ => ⟨S8x128x2x64, .f32⟩
  | .hbm, ⟨45, _⟩ => ⟨S1024x128, .f32⟩
  | _, _ => ⟨S256x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== KernelDownStep.lean ====
abbrev S256x5632 : Shape := ⟨2, ![256, 5632]⟩
abbrev S1x5632x2048 : Shape := ⟨3, ![1, 5632, 2048]⟩
abbrev S256x2048 : Shape := ⟨2, ![256, 2048]⟩
abbrev S1x2048 : Shape := ⟨2, ![1, 2048]⟩
abbrev S5632x2048 : Shape := ⟨2, ![5632, 2048]⟩
abbrev S2048 : Shape := ⟨1, ![2048]⟩
abbrev S256x1408 : Shape := ⟨2, ![256, 1408]⟩
abbrev S1408x2048 : Shape := ⟨2, ![1408, 2048]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S256x5632, .bf16⟩
  | .hbm, ⟨1, _⟩ => ⟨S1x5632x2048, .f32⟩
  | .hbm, ⟨2, _⟩ => ⟨S256x2048, .f32⟩
  | .hbm, ⟨3, _⟩ => ⟨S1x2048, .f32⟩
  | .hbm, ⟨4, _⟩ => ⟨S1x2048, .f32⟩
  | .hbm, ⟨5, _⟩ => ⟨S5632x2048, .f32⟩
  | .hbm, ⟨6, _⟩ => ⟨S5632x2048, .bf16⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S256x2048, .f32⟩
  | .local _ .vmem, ⟨0, _⟩ => ⟨S256x1408, .bf16⟩
  | .local _ .vmem, ⟨1, _⟩ => ⟨S256x1408, .bf16⟩
  | .local _ .vmem, ⟨2, _⟩ => ⟨S1408x2048, .bf16⟩
  | .local _ .vmem, ⟨3, _⟩ => ⟨S1408x2048, .bf16⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceDownStepIdeal.lean ====
abbrev S256x5632 : Shape := ⟨2, ![256, 5632]⟩
abbrev S1x5632x2048 : Shape := ⟨3, ![1, 5632, 2048]⟩
abbrev S256x2048 : Shape := ⟨2, ![256, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S256 : Shape := ⟨1, ![256]⟩
abbrev S256x1 : Shape := ⟨2, ![256, 1]⟩

abbrev nBuf : Space → Nat
  | .hbm => 43
  | .vmem => 0
  | .smem => 0
  | _ => 0

abbrev bufTy : (tb : Table) → Fin (tcTables nBuf tb) → BufTy
  | .hbm, ⟨0, _⟩ => ⟨S256x5632, .bf16⟩
  | .hbm, ⟨1, _⟩ => ⟨S1x5632x2048, .f32⟩
  | .hbm, ⟨2, _⟩ => ⟨S256x2048, .f32⟩
  | .hbm, ⟨3, _⟩ => ⟨S1x2048, .f32⟩
  | .hbm, ⟨4, _⟩ => ⟨S1x2048, .f32⟩
  | .hbm, ⟨5, _⟩ => ⟨S256x5632, .f32⟩
  | .hbm, ⟨6, _⟩ => ⟨S5632x2048, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S1x2048, .f32⟩
  | .hbm, ⟨38, _⟩ => ⟨S256x2048, .f32⟩
  | .hbm, ⟨39, _⟩ => ⟨S256x2048, .f32⟩
  | .hbm, ⟨40, _⟩ => ⟨S1x2048, .f32⟩
  | .hbm, ⟨41, _⟩ => ⟨S256x2048, .f32⟩
  | .hbm, ⟨42, _⟩ => ⟨S256x2048, .f32⟩
  | _, _ => ⟨S256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Attn.Math.lean ====
/- The scalar mathematics of one attention row: a row of scores and a sink logit, and two ways of averaging the values
   by their softmax weights. -/
module

public import Idealize.ShloMosaic.Lib.Pointwise

@[expose] public section

noncomputable section

namespace Cert.Attn

open Idealize.ShloMosaic

/-- The bit pattern of negative infinity denotes `⊥`. -/
theorem ninf_eq : (Ideal.ofBits .f32 0xFF800000#32 : EReal) = ⊥ := by
  show Ideal.ieee 8 23 (0xFF800000#32) = ⊥
  unfold Ideal.ieee
  have h1 : (BitVec.extractLsb' 23 8 0xFF800000#32).toNat = 2 ^ 8 - 1 := by decide
  have h2 : (BitVec.extractLsb' 0 23 0xFF800000#32).toNat = 0 := by decide
  have h3 : (BitVec.extractLsb' (8 + 23) 1 0xFF800000#32 == 1#1) = true := by decide
  simp only [h1, h2, h3, if_true]

/-- The bit pattern of positive infinity denotes `⊤`. -/
theorem pinf_eq : (Ideal.ofBits .f32 0x7F800000#32 : EReal) = ⊤ := by
  show Ideal.ieee 8 23 (0x7F800000#32) = ⊤
  unfold Ideal.ieee
  have h1 : (BitVec.extractLsb' 23 8 0x7F800000#32).toNat = 2 ^ 8 - 1 := by decide
  have h2 : (BitVec.extractLsb' 0 23 0x7F800000#32).toNat = 0 := by decide
  have h3 : (BitVec.extractLsb' (8 + 23) 1 0x7F800000#32 == 1#1) = false := by decide
  simp only [h1, h2, h3, if_true, Bool.false_eq_true, if_false]

/-- The attention's scale is a real number. -/
theorem scale_real : ∃ r : ℝ, (Ideal.ofBits .f32 0x3E000000#32 : EReal) = (r : EReal) := by
  show ∃ r : ℝ, Ideal.ieee 8 23 (0x3E000000#32) = (r : EReal)
  unfold Ideal.ieee
  have h1 : (BitVec.extractLsb' 23 8 0x3E000000#32).toNat = 124 := by decide
  simp only [h1]
  exact ⟨_, by rw [if_neg (by decide), if_neg (by decide)]⟩

/-- A product with a nonnegative real number distributes over a finite sum of extended reals. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of real numbers is a real number. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A finite sum of nonnegative real numbers is a nonnegative real number. -/
theorem sum_nonneg_real {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

/-- The greatest of a row of scores and the sink logit, as both programs fold it from negative infinity. -/
def top {n : ℕ} (s : Fin n → EReal) (σ : EReal) : EReal :=
  max (Finset.univ.fold max (Ideal.ofBits .f32 0xFF800000#32 : EReal) s) σ

/-- The softmax denominator: the exponentials of the scores and of the sink logit, less the greatest of them. -/
def den {n : ℕ} (s : Fin n → EReal) (σ : EReal) : EReal :=
  (∑ k, Ideal.exp (s k - top s σ)) + Ideal.exp (σ - top s σ)

/-- With a sink logit below positive infinity and scores that are real or negative infinity, one of them real, the
    greatest of them is real. -/
theorem top_real {n : ℕ} (s : Fin n → EReal) (σ : EReal) (hσ : σ ≠ ⊤) (hs : ∀ k, s k = ⊥ ∨ ∃ r : ℝ, s k = (r : EReal))
    (hr : ∃ k, ∃ r : ℝ, s k = (r : EReal)) :
    ∃ r : ℝ, top s σ = (r : EReal) := by
  classical
  have hf : ∀ t : Finset (Fin n), t.fold max (Ideal.ofBits .f32 0xFF800000#32 : EReal) s ≠ ⊤ := by
    intro t
    induction t using Finset.induction_on with
    | empty => rw [Finset.fold_empty, ninf_eq]; exact bot_ne_top
    | insert a t ha ih =>
      rw [Finset.fold_insert ha]
      rcases max_choice (s a) (t.fold max (Ideal.ofBits .f32 0xFF800000#32 : EReal) s) with h | h
      · rw [h]
        rcases hs a with h' | ⟨r, h'⟩
        · rw [h']; exact bot_ne_top
        · rw [h']; exact EReal.coe_ne_top r
      · rw [h]; exact ih
  have h1 : top s σ ≠ ⊤ := by
    unfold top
    rcases max_choice (Finset.univ.fold max (Ideal.ofBits .f32 0xFF800000#32 : EReal) s) σ with h | h
    · rw [h]; exact hf _
    · rw [h]; exact hσ
  have h2 : top s σ ≠ ⊥ := fun h => by
    obtain ⟨k, r, hk⟩ := hr
    have : s k ≤ top s σ := le_trans ((Finset.le_fold_max _).2 (Or.inr ⟨k, Finset.mem_univ k, le_refl _⟩)) (le_max_left _ _)
    rw [h, hk] at this
    exact EReal.coe_ne_bot r (le_bot_iff.mp this)
  exact ⟨(top s σ).toReal, (EReal.coe_toReal h1 h2).symm⟩

/-- The exponential of a real or of negative infinity, less a real, is a nonnegative real. -/
theorem exp_sub_real (x : EReal) (hx : x = ⊥ ∨ ∃ r : ℝ, x = (r : EReal)) (t : ℝ) :
    ∃ e : ℝ, 0 ≤ e ∧ Ideal.exp (x - (t : EReal)) = (e : EReal) := by
  rcases hx with h | ⟨r, h⟩
  · refine ⟨0, le_refl _, ?_⟩
    rw [h, EReal.bot_sub]; rfl
  · refine ⟨Real.exp (r - t), (Real.exp_pos _).le, ?_⟩
    rw [h, ← EReal.coe_sub]; rfl

/-- An extended real that is not positive infinity is real or negative infinity. -/
theorem real_or_bot (x : EReal) (hx : x ≠ ⊤) : x = ⊥ ∨ ∃ r : ℝ, x = (r : EReal) := by
  induction x with
  | bot => exact Or.inl rfl
  | top => exact absurd rfl hx
  | coe r => exact Or.inr ⟨r, rfl⟩

/-- The softmax denominator is a positive real number. -/
theorem den_real {n : ℕ} (s : Fin n → EReal) (σ : EReal) (hσ : σ ≠ ⊤) (hs : ∀ k, s k = ⊥ ∨ ∃ r : ℝ, s k = (r : EReal))
    (hr : ∃ k, ∃ r : ℝ, s k = (r : EReal)) :
    ∃ d : ℝ, 0 < d ∧ den s σ = (d : EReal) := by
  classical
  obtain ⟨t, ht⟩ := top_real s σ hσ hs hr
  obtain ⟨k, r, hk⟩ := hr
  obtain ⟨a, ha0, ha⟩ := sum_nonneg_real (Finset.univ.erase k) (fun k => Ideal.exp (s k - (t : EReal)))
    fun k _ => exp_sub_real _ (hs k) t
  obtain ⟨b, hb0, hb⟩ := exp_sub_real σ (real_or_bot σ hσ) t
  refine ⟨Real.exp (r - t) + a + b, by have := Real.exp_pos (r - t); linarith, ?_⟩
  unfold den
  rw [ht, ← Finset.add_sum_erase _ _ (Finset.mem_univ k), ha, hb, hk, ← EReal.coe_sub, EReal.coe_add, EReal.coe_add]
  rfl

/-- One attention output two ways. Dividing the weighted sum of the values by the softmax denominator is the sum of
    the values weighted by the divided exponentials; where the score is negative infinity the weight is zero, so
    there the two value rows may differ. -/
theorem average_eq {n : ℕ} (s v v' : Fin n → EReal) (σ : EReal) (hσ : σ ≠ ⊤) (hs : ∀ k, s k = ⊥ ∨ ∃ r : ℝ, s k = (r : EReal))
    (hr : ∃ k, ∃ r : ℝ, s k = (r : EReal))
    (hv : ∀ k, s k = ⊥ ∨ v' k = v k) :
    Ideal.div (∑ k, Ideal.exp (s k - top s σ) * v k) (den s σ)
      = ∑ k, v' k * Ideal.div (Ideal.exp (s k - top s σ)) (den s σ) := by
  obtain ⟨d, hd0, hd⟩ := den_real s σ hσ hs hr
  obtain ⟨t, ht⟩ := top_real s σ hσ hs hr
  rw [hd, Ideal.div_coe hd0.ne', sum_mul_real _ _ (by positivity)]
  refine Finset.sum_congr rfl fun k _ => ?_
  rw [Ideal.div_coe hd0.ne']
  rcases hv k with h | h
  · rw [h, ht, EReal.bot_sub]
    have : Ideal.exp ⊥ = 0 := rfl
    rw [this]; simp
  · rw [h]; ac_rfl

end Cert.Attn
-- ==== Proof.Attn.Block.lean ====
/- What the attention kernel stores at one grid point, read element by element. -/
module

public import proofs.«01_k».proof.Proof.Gen.KernelIdeal.Skeleton
public import Idealize.ShloMosaic.Lib.Pipeline.ValueKit
public import proofs.«01_k».proof.Proof.Attn.Math

@[expose] public section

set_option maxRecDepth 16384

noncomputable section

namespace Cert.Attn

open Idealize.ShloMosaic Idealize.ShloMosaic.TcCoe Idealize.SL.Sem
open Cert.KernelIdeal Cert.KernelIdeal.Gen

/-- Whether the band's slot `k` of chunk `n` is a chunk of the sequence, as a one-bit word. -/
def inBand (n : Fin 32) (k : Fin 192) : BitVec 1 := if 2 ≤ (n : ℕ) + (k : ℕ) / 64 then 1#1 else 0#1

/-- The kernel's mask at slot `k` of chunk `n`: the chunk number less two plus the slot's chunk is not negative. -/
theorem mask_at (i : grid0.Coords) (k : Fin 192) :
    k0_pay6 (k0_pay4 i) k0_pay5 (ix2 0 k) = inBand (i 1) k := by
  have h : ∀ (n : Fin 32) (k : Fin 192),
      k0_pay6 (k0_pay4 (fun a => match a with | 0 => (0 : Fin 4) | 1 => n)) k0_pay5 (ix2 0 k) = inBand n k := by
    intro n k
    pointwise [k0_pay6, k0_pay4, k0_pay5]
    revert n k
    decide +kernel
  exact h (i 1) k

/-- Eight square tiles stacked: row `R` is row `R % 64` of tile `R / 64`. -/
theorem cat8 (p : Fin 8 → FVec Ideal S64x64 .f32) (R : Fin 512) (d : Fin 64) :
    concatenate S512x64 0 [⟨S64x64, p 0⟩, ⟨S64x64, p 1⟩, ⟨S64x64, p 2⟩, ⟨S64x64, p 3⟩, ⟨S64x64, p 4⟩, ⟨S64x64, p 5⟩, ⟨S64x64, p 6⟩, ⟨S64x64, p 7⟩] concatenates_S64x64_S64x64_S64x64_S64x64_S64x64_S64x64_S64x64_S64x64_S512x64_d0 (ix2 R d)
      = p ⟨(R : ℕ) / 64, by omega⟩ (ix2 (⟨(R : ℕ) % 64, by omega⟩ : Fin 64) d) := by
  pointwise
  obtain ⟨g, r, hR⟩ : ∃ (g : Fin 8) (r : Fin 64), (R : ℕ) = g * 64 + r := ⟨⟨R / 64, by omega⟩, ⟨R % 64, by omega⟩, by simp only []; omega⟩
  fin_vals g with h <;> (simp only [hR, h]; repeat (first | rw [dif_pos (by omega)] | rw [dif_neg (by omega)])) <;>
    exact congrArg₂ (fun (a : Fin 8) (j : S64x64.Idx) => p a j) (Fin.ext (by simp <;> omega)) ((ix2_inj ..).2 ⟨Fin.ext (by simp only []; omega), rfl⟩)

/-- Sixteen square tiles side by side: column `l` is column `l % 64` of tile `l / 64`. -/
theorem cat16 (p : Fin 16 → FVec Ideal S64x64 .f32) (r : Fin 64) (l : Fin 1024) :
    concatenate S64x1024 1 [⟨S64x64, p 0⟩, ⟨S64x64, p 1⟩, ⟨S64x64, p 2⟩, ⟨S64x64, p 3⟩, ⟨S64x64, p 4⟩, ⟨S64x64, p 5⟩, ⟨S64x64, p 6⟩, ⟨S64x64, p 7⟩, ⟨S64x64, p 8⟩, ⟨S64x64, p 9⟩, ⟨S64x64, p 10⟩, ⟨S64x64, p 11⟩, ⟨S64x64, p 12⟩, ⟨S64x64, p 13⟩, ⟨S64x64, p 14⟩, ⟨S64x64, p 15⟩] concatenates_S64x64_S64x64_S64x64_S64x64_S64x64_S64x64_S64x64_S64x64_S64x64_S64x64_S64x64_S64x64_S64x64_S64x64_S64x64_S64x64_S64x1024_d1 (ix2 r l)
      = p ⟨(l : ℕ) / 64, by omega⟩ (ix2 r (⟨(l : ℕ) % 64, by omega⟩ : Fin 64)) := by
  have hb : ∀ b : Fin S64x64.rank, b.cast rfl ≠ (1 : Fin S64x1024.rank) →
      ((ix2 r (⟨(l : ℕ) % 64, by omega⟩ : Fin 64) : S64x64.Idx) b).val = ((ix2 r l : S64x1024.Idx) (b.cast rfl)).val := by
    intro b hb
    fin_cases b
    · rfl
    · exact absurd rfl hb
  exact concatenate_ofFn_apply (t := S64x1024) (s₁ := S64x64) 1 p
    concatenates_S64x64_S64x64_S64x64_S64x64_S64x64_S64x64_S64x64_S64x64_S64x64_S64x64_S64x64_S64x64_S64x64_S64x64_S64x64_S64x64_S64x1024_d1
    rfl 64 rfl (ix2 r l) ⟨(l : ℕ) / 64, by omega⟩ rfl (ix2 r (⟨(l : ℕ) % 64, by omega⟩ : Fin 64)) rfl hb

/-- The query columns of head `g` of the first key-value head. -/
def qtile0 (q : FVec Ideal S64x1024 .f32) (g : Fin 8) : FVec Ideal S64x64 .f32 :=
  match g with
    | 0 => extractStridedSlice S64x64 ![0, 0] q slices_S64x1024_o0_0_S64x64
    | 1 => extractStridedSlice S64x64 ![0, 64] q slices_S64x1024_o0_64_S64x64
    | 2 => extractStridedSlice S64x64 ![0, 128] q slices_S64x1024_o0_128_S64x64
    | 3 => extractStridedSlice S64x64 ![0, 192] q slices_S64x1024_o0_192_S64x64
    | 4 => extractStridedSlice S64x64 ![0, 256] q slices_S64x1024_o0_256_S64x64
    | 5 => extractStridedSlice S64x64 ![0, 320] q slices_S64x1024_o0_320_S64x64
    | 6 => extractStridedSlice S64x64 ![0, 384] q slices_S64x1024_o0_384_S64x64
    | 7 => extractStridedSlice S64x64 ![0, 448] q slices_S64x1024_o0_448_S64x64

/-- The query columns of head `g` of the second key-value head. -/
def qtile1 (q : FVec Ideal S64x1024 .f32) (g : Fin 8) : FVec Ideal S64x64 .f32 :=
  match g with
    | 0 => extractStridedSlice S64x64 ![0, 512] q slices_S64x1024_o0_512_S64x64
    | 1 => extractStridedSlice S64x64 ![0, 576] q slices_S64x1024_o0_576_S64x64
    | 2 => extractStridedSlice S64x64 ![0, 640] q slices_S64x1024_o0_640_S64x64
    | 3 => extractStridedSlice S64x64 ![0, 704] q slices_S64x1024_o0_704_S64x64
    | 4 => extractStridedSlice S64x64 ![0, 768] q slices_S64x1024_o0_768_S64x64
    | 5 => extractStridedSlice S64x64 ![0, 832] q slices_S64x1024_o0_832_S64x64
    | 6 => extractStridedSlice S64x64 ![0, 896] q slices_S64x1024_o0_896_S64x64
    | 7 => extractStridedSlice S64x64 ![0, 960] q slices_S64x1024_o0_960_S64x64

/-- The eight heads' query columns of the first key-value head, stacked row upon row. -/
def qrows0 (q : FVec Ideal S64x1024 .f32) : FVec Ideal S512x64 .f32 :=
  concatenate S512x64 0 [⟨S64x64, qtile0 q 0⟩, ⟨S64x64, qtile0 q 1⟩, ⟨S64x64, qtile0 q 2⟩, ⟨S64x64, qtile0 q 3⟩, ⟨S64x64, qtile0 q 4⟩, ⟨S64x64, qtile0 q 5⟩, ⟨S64x64, qtile0 q 6⟩, ⟨S64x64, qtile0 q 7⟩] concatenates_S64x64_S64x64_S64x64_S64x64_S64x64_S64x64_S64x64_S64x64_S512x64_d0

/-- The eight heads' query columns of the second key-value head, stacked row upon row. -/
def qrows1 (q : FVec Ideal S64x1024 .f32) : FVec Ideal S512x64 .f32 :=
  concatenate S512x64 0 [⟨S64x64, qtile1 q 0⟩, ⟨S64x64, qtile1 q 1⟩, ⟨S64x64, qtile1 q 2⟩, ⟨S64x64, qtile1 q 3⟩, ⟨S64x64, qtile1 q 4⟩, ⟨S64x64, qtile1 q 5⟩, ⟨S64x64, qtile1 q 6⟩, ⟨S64x64, qtile1 q 7⟩] concatenates_S64x64_S64x64_S64x64_S64x64_S64x64_S64x64_S64x64_S64x64_S512x64_d0

/-- A head's query column is the block's. -/
theorem qtile0_at (q : FVec Ideal S64x1024 .f32) (g : Fin 8) (r d : Fin 64) :
    qtile0 q g (ix2 r d) = q (ix2 r (⟨g * 64 + d, by omega⟩ : Fin 1024)) := by
  fin_cases g <;> (simp only [qtile0]; pointwise) <;> exact congrArg q ((ix2_inj ..).2 ⟨Fin.ext (by simp), Fin.ext (by simp)⟩)

/-- A head's query column is the block's, in the second half. -/
theorem qtile1_at (q : FVec Ideal S64x1024 .f32) (g : Fin 8) (r d : Fin 64) :
    qtile1 q g (ix2 r d) = q (ix2 r (⟨(8 + g) * 64 + d, by omega⟩ : Fin 1024)) := by
  fin_cases g <;> (simp only [qtile1]; pointwise) <;> exact congrArg q ((ix2_inj ..).2 ⟨Fin.ext (by simp), Fin.ext (by simp)⟩)

/-- A stacked row read back: row `R` is row `R % 64` of head `R / 64`. -/
theorem qrows0_at (q : FVec Ideal S64x1024 .f32) (R : Fin 512) (d : Fin 64) :
    qrows0 q (ix2 R d) = q (ix2 (⟨(R : ℕ) % 64, by omega⟩ : Fin 64) (⟨(R : ℕ) / 64 * 64 + d, by omega⟩ : Fin 1024)) :=
  (cat8 (qtile0 q) R d).trans (qtile0_at q _ _ d)

/-- A stacked row of the second key-value head read back. -/
theorem qrows1_at (q : FVec Ideal S64x1024 .f32) (R : Fin 512) (d : Fin 64) :
    qrows1 q (ix2 R d) = q (ix2 (⟨(R : ℕ) % 64, by omega⟩ : Fin 64) (⟨(8 + (R : ℕ) / 64) * 64 + d, by omega⟩ : Fin 1024)) :=
  (cat8 (qtile1 q) R d).trans (qtile1_at q _ _ d)

/-- The sink column read: row `g * 64 + r` holds the sink logit of head `g`. -/
theorem sinks_at (w : Fin 8 → EReal) (g : Fin 8) (r : Fin 64) :
    k0_pay8 (F := Ideal) (w 0) (w 1) (w 2) (w 3) (w 4) (w 5) (w 6) (w 7) (ix2 (⟨g * 64 + r, by omega⟩ : Fin 512) 0) = w g := by
  pointwise [k0_pay8]
  fin_vals g with hg <;> (simp only [hg]; repeat (first | rw [dif_pos (by omega)] | rw [dif_neg (by omega)])) <;>
    exact congrArg w (Fin.ext (by rw [hg]; rfl))

/-- The raw scores of the first key-value head. -/
def raw0 (q : FVec Ideal S64x1024 .f32) (kk : FVec Ideal S192x128 .f32) : FVec Ideal S512x192 .f32 :=
  matmul dot_S512x64_S192x64_S512x192_1_1_0_0_n_n none (truncf .bf16 (qrows0 q) bitsLt_bf16_f32)
    (truncf .bf16 (extractStridedSlice S192x64 ![0, 0] kk slices_S192x128_o0_0_S192x64) bitsLt_bf16_f32) (constant S512x192 .f32 0x00000000#32)

/-- The raw scores of the second key-value head. -/
def raw1 (q : FVec Ideal S64x1024 .f32) (kk : FVec Ideal S192x128 .f32) : FVec Ideal S512x192 .f32 :=
  matmul dot_S512x64_S192x64_S512x192_1_1_0_0_n_n none (truncf .bf16 (qrows1 q) bitsLt_bf16_f32)
    (truncf .bf16 (extractStridedSlice S192x64 ![0, 64] kk slices_S192x128_o0_64_S192x64) bitsLt_bf16_f32) (constant S512x192 .f32 0x00000000#32)

/-- The masked scores of one key-value head, over its stacked query rows and its keys. -/
def scores (msk : IVec S1x192 1) (raw : FVec Ideal S512x192 .f32) : FVec Ideal S512x192 .f32 :=
  select (broadcastTo S512x192 (shapeCast S1x192 msk shapeCasts_S1x192_S1x192) broadcasts_S1x192_S512x192)
    (mulf raw (broadcast S512x192 (Scalar.ofBits .f32 0x3E000000#32))) (broadcast S512x192 (Scalar.ofBits .f32 0xFF800000#32))

/-- The row maxima of the masked scores and the sink column. -/
def rowTop (s : FVec Ideal S512x192 .f32) (σ : FVec Ideal S512x1 .f32) : FVec Ideal S512x1 .f32 :=
  maximumf (shapeCast S512x1 (multiReduction .maximumf [1] S512 s 0xFF800000#32 reduces_S512x192_S512 (.inl rfl) rfl) shapeCasts_S512_S512x1) σ

/-- The exponentials of the masked scores less their row maxima. -/
def rowExp (s : FVec Ideal S512x192 .f32) (t : FVec Ideal S512x1 .f32) : FVec Ideal S512x192 .f32 :=
  exp (subf s (broadcastTo S512x192 t broadcasts_S512x1_S512x192))

/-- One key-value head's averaged values, all eight query heads stacked. -/
def heads (v : FVec Ideal S192x64 .bf16) (σ : FVec Ideal S512x1 .f32) (s : FVec Ideal S512x192 .f32) : FVec Ideal S512x64 .f32 :=
  k0_pay12 v σ (rowTop s σ) (rowExp s (rowTop s σ))

/-- One averaged value: the weighted sum of the values over the softmax denominator. -/
theorem heads_at (v : FVec Ideal S192x64 .bf16) (σ : FVec Ideal S512x1 .f32) (s : FVec Ideal S512x192 .f32) (R : Fin 512) (d : Fin 64) :
    heads v σ s (ix2 R d)
      = Ideal.div (∑ k : Fin 192, Ideal.exp (s (ix2 R k) - top (fun k : Fin 192 => s (ix2 R k)) (σ (ix2 R 0))) * v (ix2 k d))
          (den (fun k : Fin 192 => s (ix2 R k)) (σ (ix2 R 0))) := by
  pointwise [heads, k0_pay12, rowTop, rowExp, top, den]

/-- The keys (or values) of the band: three chunks stacked. -/
theorem band_at (p : Fin 3 → FVec Ideal S64x128 .f32) (k : Fin 192) (l : Fin 128) :
    k0_pay2 (p 0) (p 1) (p 2) (ix2 k l) = p ⟨(k : ℕ) / 64, by omega⟩ (ix2 (⟨(k : ℕ) % 64, by omega⟩ : Fin 64) l) := by
  pointwise [k0_pay2]
  obtain ⟨g, r, hR⟩ : ∃ (g : Fin 3) (r : Fin 64), (k : ℕ) = g * 64 + r := ⟨⟨k / 64, by omega⟩, ⟨k % 64, by omega⟩, by simp only []; omega⟩
  fin_vals g with h <;> (simp only [hR, h]; repeat (first | rw [dif_pos (by omega)] | rw [dif_neg (by omega)])) <;>
    exact congrArg₂ (fun (a : Fin 3) (j : S64x128.Idx) => p a j) (Fin.ext (by simp <;> omega)) ((ix2_inj ..).2 ⟨Fin.ext (by simp only []; omega), rfl⟩)

/-- The block the kernel stores, from its query block, its stacked keys and values, its mask and its sinks. -/
def stored (msk : IVec S1x192 1) (q : FVec Ideal S64x1024 .f32) (kk vv : FVec Ideal S192x128 .f32)
    (σ0 σ1 : FVec Ideal S512x1 .f32) : FVec Ideal S64x1024 .bf16 :=
  k0_pay1 msk
    (extractStridedSlice S64x64 ![0, 0] (heads (k0_pay7 vv) σ0 (scores msk (raw0 q kk))) slices_S512x64_o0_0_S64x64)
    (extractStridedSlice S64x64 ![64, 0] (heads (k0_pay7 vv) σ0 (scores msk (raw0 q kk))) slices_S512x64_o64_0_S64x64)
    (extractStridedSlice S64x64 ![128, 0] (heads (k0_pay7 vv) σ0 (scores msk (raw0 q kk))) slices_S512x64_o128_0_S64x64)
    (extractStridedSlice S64x64 ![192, 0] (heads (k0_pay7 vv) σ0 (scores msk (raw0 q kk))) slices_S512x64_o192_0_S64x64)
    (extractStridedSlice S64x64 ![256, 0] (heads (k0_pay7 vv) σ0 (scores msk (raw0 q kk))) slices_S512x64_o256_0_S64x64)
    (extractStridedSlice S64x64 ![320, 0] (heads (k0_pay7 vv) σ0 (scores msk (raw0 q kk))) slices_S512x64_o320_0_S64x64)
    (extractStridedSlice S64x64 ![384, 0] (heads (k0_pay7 vv) σ0 (scores msk (raw0 q kk))) slices_S512x64_o384_0_S64x64)
    (extractStridedSlice S64x64 ![448, 0] (heads (k0_pay7 vv) σ0 (scores msk (raw0 q kk))) slices_S512x64_o448_0_S64x64)
    (k0_pay21 vv) σ1 (raw1 q kk)

/-- The sixteen heads' tiles, cut from the two stacks. -/
def otile (A B : FVec Ideal S512x64 .f32) (h : Fin 16) : FVec Ideal S64x64 .f32 :=
  match (h : ℕ) with
    | 0 => extractStridedSlice S64x64 ![0, 0] A slices_S512x64_o0_0_S64x64
    | 1 => extractStridedSlice S64x64 ![64, 0] A slices_S512x64_o64_0_S64x64
    | 2 => extractStridedSlice S64x64 ![128, 0] A slices_S512x64_o128_0_S64x64
    | 3 => extractStridedSlice S64x64 ![192, 0] A slices_S512x64_o192_0_S64x64
    | 4 => extractStridedSlice S64x64 ![256, 0] A slices_S512x64_o256_0_S64x64
    | 5 => extractStridedSlice S64x64 ![320, 0] A slices_S512x64_o320_0_S64x64
    | 6 => extractStridedSlice S64x64 ![384, 0] A slices_S512x64_o384_0_S64x64
    | 7 => extractStridedSlice S64x64 ![448, 0] A slices_S512x64_o448_0_S64x64
    | 8 => extractStridedSlice S64x64 ![0, 0] B slices_S512x64_o0_0_S64x64
    | 9 => extractStridedSlice S64x64 ![64, 0] B slices_S512x64_o64_0_S64x64
    | 10 => extractStridedSlice S64x64 ![128, 0] B slices_S512x64_o128_0_S64x64
    | 11 => extractStridedSlice S64x64 ![192, 0] B slices_S512x64_o192_0_S64x64
    | 12 => extractStridedSlice S64x64 ![256, 0] B slices_S512x64_o256_0_S64x64
    | 13 => extractStridedSlice S64x64 ![320, 0] B slices_S512x64_o320_0_S64x64
    | 14 => extractStridedSlice S64x64 ![384, 0] B slices_S512x64_o384_0_S64x64
    | _ => extractStridedSlice S64x64 ![448, 0] B slices_S512x64_o448_0_S64x64

/-- An element of a head's tile, in the first stack for the first eight heads and in the second for the others. -/
theorem otile_at (A B : FVec Ideal S512x64 .f32) (h : Fin 16) (r d : Fin 64) :
    otile A B h (ix2 r d) = (if (h : ℕ) < 8 then A else B) (ix2 (⟨h % 8 * 64 + r, by omega⟩ : Fin 512) d) := by
  fin_cases h <;> (simp only [otile]; pointwise) <;> (first | rw [if_pos (by simp)] | rw [if_neg (by simp)]) <;>
    exact congrArg _ ((ix2_inj ..).2 ⟨Fin.ext (by simp), Fin.ext (by simp)⟩)

/-- A stored element is an averaged value of its head: the first eight heads are the first key-value head's, the others the second's. -/
theorem stored_at (msk : IVec S1x192 1) (q : FVec Ideal S64x1024 .f32) (kk vv : FVec Ideal S192x128 .f32)
    (σ0 σ1 : FVec Ideal S512x1 .f32) (r : Fin 64) (l : Fin 1024) :
    stored msk q kk vv σ0 σ1 (ix2 r l)
      = (if (l : ℕ) / 64 < 8 then heads (k0_pay7 vv) σ0 (scores msk (raw0 q kk)) else heads (k0_pay21 vv) σ1 (scores msk (raw1 q kk)))
          (ix2 (⟨l / 64 % 8 * 64 + r, by omega⟩ : Fin 512) (⟨(l : ℕ) % 64, by omega⟩ : Fin 64)) := by
  have e : ∀ A B : FVec Ideal S512x64 .f32, B = heads (k0_pay21 vv) σ1 (scores msk (raw1 q kk)) →
      k0_pay1 msk (otile A B 0) (otile A B 1) (otile A B 2) (otile A B 3) (otile A B 4) (otile A B 5) (otile A B 6) (otile A B 7)
        (k0_pay21 vv) σ1 (raw1 q kk)
      = truncf .bf16 (concatenate S64x1024 1 [⟨S64x64, otile A B 0⟩, ⟨S64x64, otile A B 1⟩, ⟨S64x64, otile A B 2⟩, ⟨S64x64, otile A B 3⟩, ⟨S64x64, otile A B 4⟩, ⟨S64x64, otile A B 5⟩, ⟨S64x64, otile A B 6⟩, ⟨S64x64, otile A B 7⟩, ⟨S64x64, otile A B 8⟩, ⟨S64x64, otile A B 9⟩, ⟨S64x64, otile A B 10⟩, ⟨S64x64, otile A B 11⟩, ⟨S64x64, otile A B 12⟩, ⟨S64x64, otile A B 13⟩, ⟨S64x64, otile A B 14⟩, ⟨S64x64, otile A B 15⟩] concatenates_S64x64_S64x64_S64x64_S64x64_S64x64_S64x64_S64x64_S64x64_S64x64_S64x64_S64x64_S64x64_S64x64_S64x64_S64x64_S64x64_S64x1024_d1) bitsLt_bf16_f32 := by
    intro A B hB; subst hB; rfl
  have e' := e (heads (k0_pay7 vv) σ0 (scores msk (raw0 q kk))) _ rfl
  refine (congrFun e' (ix2 r l)).trans ?_
  exact (cat16 (otile _ _) r l).trans (otile_at _ _ _ r _)

/-- The masked score of row `R` at slot `k`. -/
theorem scores_at (msk : IVec S1x192 1) (raw : FVec Ideal S512x192 .f32) (R : Fin 512) (k : Fin 192) :
    scores msk raw (ix2 R k)
      = Scalar.select (msk (ix2 0 k)) (raw (ix2 R k) * Ideal.ofBits .f32 0x3E000000#32) (Ideal.ofBits .f32 0xFF800000#32) := by
  pointwise [scores]

/-- A raw score of the first key-value head. -/
theorem raw0_at (q : FVec Ideal S64x1024 .f32) (kk : FVec Ideal S192x128 .f32) (R : Fin 512) (k : Fin 192) :
    raw0 q kk (ix2 R k) = ∑ d : Fin 64, qrows0 q (ix2 R d) * kk (ix2 k (⟨d, by omega⟩ : Fin 128)) := by
  pointwise [raw0]

/-- A raw score of the second key-value head. -/
theorem raw1_at (q : FVec Ideal S64x1024 .f32) (kk : FVec Ideal S192x128 .f32) (R : Fin 512) (k : Fin 192) :
    raw1 q kk (ix2 R k) = ∑ d : Fin 64, qrows1 q (ix2 R d) * kk (ix2 k (⟨64 + d, by omega⟩ : Fin 128)) := by
  pointwise [raw1]

/-- The stored payload, as the body composes it, is `stored`. -/
theorem stored_eq (n z : IVec S1x192 32) (q : FVec Ideal S64x1024 .f32) (kk vv : FVec Ideal S192x128 .f32)
    (w0 w1 w2 w3 w4 w5 w6 w7 u0 u1 u2 u3 u4 u5 u6 u7 : Ideal .f32) :
    k0_pay1 (k0_pay6 n z) (k0_pay13 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay14 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay15 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay16 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay17 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay18 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay19 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay20 (k0_pay7 vv) (k0_pay8 w0 w1 w2 w3 w4 w5 w6 w7) (k0_pay10 kk n z q w0 w1 w2 w3 w4 w5 w6 w7) (k0_pay11 kk n z q w0 w1 w2 w3 w4 w5 w6 w7))
      (k0_pay21 vv) (k0_pay22 u0 u1 u2 u3 u4 u5 u6 u7) (k0_pay23 kk q)
    = stored (k0_pay6 n z) q kk vv (k0_pay8 w0 w1 w2 w3 w4 w5 w6 w7) (k0_pay8 u0 u1 u2 u3 u4 u5 u6 u7) := rfl

/-- The masked scores of head `l / 64` in row `r` of a block, from the query block and the band's three key blocks. -/
def blockScores (n : Fin 32) (q : FVec Ideal S64x1024 .f32) (pk : Fin 3 → FVec Ideal S64x128 .f32) (r : Fin 64) (l : Fin 1024) (k : Fin 192) : EReal :=
  Scalar.select (inBand n k) ((∑ d : Fin 64, q (ix2 r (⟨(l : ℕ) / 64 * 64 + d, by omega⟩ : Fin 1024))
    * pk ⟨(k : ℕ) / 64, by omega⟩ (ix2 (⟨(k : ℕ) % 64, by omega⟩ : Fin 64) (⟨(l : ℕ) / 64 / 8 * 64 + d, by omega⟩ : Fin 128)))
      * Ideal.ofBits .f32 0x3E000000#32) (Ideal.ofBits .f32 0xFF800000#32)

/-- The scores of a row of the first stack are the block's scores. -/
theorem scores0_eq (i : grid0.Coords) (q : FVec Ideal S64x1024 .f32) (pk : Fin 3 → FVec Ideal S64x128 .f32) (r : Fin 64) (l : Fin 1024)
    (hl : (l : ℕ) / 64 < 8) (k : Fin 192) :
    scores (k0_pay6 (k0_pay4 i) k0_pay5) (raw0 q (k0_pay2 (pk 0) (pk 1) (pk 2))) (ix2 (⟨(l : ℕ) / 64 % 8 * 64 + r, by omega⟩ : Fin 512) k)
      = blockScores (i 1) q pk r l k := by
  rw [scores_at, mask_at, raw0_at]
  unfold blockScores
  congr 2
  refine Finset.sum_congr rfl fun d _ => ?_
  rw [qrows0_at, band_at]
  exact Ideal.mul_congr (congrArg q ((ix2_inj ..).2 ⟨Fin.ext (by simp only []; omega), Fin.ext (by simp only []; omega)⟩))
    (congrArg _ ((ix2_inj ..).2 ⟨rfl, Fin.ext (by simp only []; omega)⟩))

/-- The scores of a row of the second stack are the block's scores. -/
theorem scores1_eq (i : grid0.Coords) (q : FVec Ideal S64x1024 .f32) (pk : Fin 3 → FVec Ideal S64x128 .f32) (r : Fin 64) (l : Fin 1024)
    (hl : ¬ (l : ℕ) / 64 < 8) (k : Fin 192) :
    scores (k0_pay6 (k0_pay4 i) k0_pay5) (raw1 q (k0_pay2 (pk 0) (pk 1) (pk 2))) (ix2 (⟨(l : ℕ) / 64 % 8 * 64 + r, by omega⟩ : Fin 512) k)
      = blockScores (i 1) q pk r l k := by
  rw [scores_at, mask_at, raw1_at]
  unfold blockScores
  congr 2
  refine Finset.sum_congr rfl fun d _ => ?_
  rw [qrows1_at, band_at]
  exact Ideal.mul_congr (congrArg q ((ix2_inj ..).2 ⟨Fin.ext (by simp only []; omega), Fin.ext (by simp only []; omega)⟩))
    (congrArg _ ((ix2_inj ..).2 ⟨rfl, Fin.ext (by simp only []; omega)⟩))

/-- The values of the first key-value head, read in the band. -/
theorem vals0_at (pv : Fin 3 → FVec Ideal S64x128 .f32) (k : Fin 192) (d : Fin 64) :
    (show EReal from k0_pay7 (F := Ideal) (k0_pay2 (pv 0) (pv 1) (pv 2)) (ix2 k d))
      = pv ⟨(k : ℕ) / 64, by omega⟩ (ix2 (⟨(k : ℕ) % 64, by omega⟩ : Fin 64) (⟨d, by omega⟩ : Fin 128)) := by
  refine Eq.trans ?_ (band_at pv k ⟨d, by omega⟩)
  generalize k0_pay2 (F := Ideal) (pv 0) (pv 1) (pv 2) = X
  pointwise [k0_pay7]

/-- The values of the second key-value head, read in the band. -/
theorem vals1_at (pv : Fin 3 → FVec Ideal S64x128 .f32) (k : Fin 192) (d : Fin 64) :
    (show EReal from k0_pay21 (F := Ideal) (k0_pay2 (pv 0) (pv 1) (pv 2)) (ix2 k d))
      = pv ⟨(k : ℕ) / 64, by omega⟩ (ix2 (⟨(k : ℕ) % 64, by omega⟩ : Fin 64) (⟨64 + d, by omega⟩ : Fin 128)) := by
  refine Eq.trans ?_ (band_at pv k ⟨64 + d, by omega⟩)
  generalize k0_pay2 (F := Ideal) (pv 0) (pv 1) (pv 2) = X
  pointwise [k0_pay21]

/-- A stored element from the blocks: the band's values averaged by the exponentials of the scores less their greatest,
    over the softmax denominator. -/
theorem stored_row (i : grid0.Coords) (q : FVec Ideal S64x1024 .f32) (pk pv : Fin 3 → FVec Ideal S64x128 .f32) (w : Fin 16 → EReal)
    (r : Fin 64) (l : Fin 1024) :
    stored (k0_pay6 (k0_pay4 i) k0_pay5) q (k0_pay2 (pk 0) (pk 1) (pk 2)) (k0_pay2 (pv 0) (pv 1) (pv 2))
        (k0_pay8 (F := Ideal) (w 0) (w 1) (w 2) (w 3) (w 4) (w 5) (w 6) (w 7))
        (k0_pay8 (F := Ideal) (w 8) (w 9) (w 10) (w 11) (w 12) (w 13) (w 14) (w 15)) (ix2 r l)
      = Ideal.div (∑ k : Fin 192, Ideal.exp (blockScores (i 1) q pk r l k - top (blockScores (i 1) q pk r l) (w ⟨(l : ℕ) / 64, by omega⟩))
            * pv ⟨(k : ℕ) / 64, by omega⟩ (ix2 (⟨(k : ℕ) % 64, by omega⟩ : Fin 64) (⟨(l : ℕ) / 64 / 8 * 64 + (l : ℕ) % 64, by omega⟩ : Fin 128)))
          (den (blockScores (i 1) q pk r l) (w ⟨(l : ℕ) / 64, by omega⟩)) := by
  rw [stored_at]
  by_cases hl : (l : ℕ) / 64 < 8
  · rw [if_pos hl, heads_at]
    have hσ := sinks_at (fun g : Fin 8 => w ⟨g, by omega⟩) ⟨(l : ℕ) / 64 % 8, by omega⟩ r
    have hw : w ⟨(l : ℕ) / 64 % 8, by omega⟩ = w ⟨(l : ℕ) / 64, by omega⟩ := congrArg w (Fin.ext (by simp only []; omega))
    have hσ' := hσ.trans hw
    have hs := fun k : Fin 192 => scores0_eq i q pk r l hl k
    simp only [hs]
    erw [hσ']
    congr 1
    refine Finset.sum_congr rfl fun k _ => ?_
    exact Ideal.mul_congr rfl ((vals0_at pv k _).trans (congrArg _ ((ix2_inj ..).2 ⟨rfl, Fin.ext (by simp only []; omega)⟩)))
  · rw [if_neg hl, heads_at]
    have hσ := sinks_at (fun g : Fin 8 => w ⟨8 + g, by omega⟩) ⟨(l : ℕ) / 64 % 8, by omega⟩ r
    have hw : w ⟨8 + (l : ℕ) / 64 % 8, by omega⟩ = w ⟨(l : ℕ) / 64, by omega⟩ := congrArg w (Fin.ext (by simp only []; omega))
    have hσ' := hσ.trans hw
    have hs := fun k : Fin 192 => scores1_eq i q pk r l hl k
    simp only [hs]
    erw [hσ']
    congr 1
    refine Finset.sum_congr rfl fun k _ => ?_
    exact Ideal.mul_congr rfl ((vals1_at pv k _).trans (congrArg _ ((ix2_inj ..).2 ⟨rfl, Fin.ext (by simp only []; omega)⟩)))

end Cert.Attn
-- ==== Proof.Attn.Kernel.lean ====
/- The attention kernel's result array as one function of its arguments. -/
module

public import proofs.«01_k».proof.Proof.Gen.KernelIdeal.Frame
public import proofs.«01_k».proof.Proof.Attn.Block

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' blocks at every grid point: 32 chunks of each of 4 sequences, the keys and values of the two chunks
    before clamped at the sequence's first chunk. -/
theorem idx_val : ∀ t : Fin cfg0.N,
    win0_0.index t = ![0] ∧ win0_1.index t = ![t.val, 3]
    ∧ win0_2.index t = ![t.val / 32 * 32 + (t.val % 32 - 2), 36] ∧ win0_3.index t = ![t.val / 32 * 32 + (t.val % 32 - 1), 36]
    ∧ win0_4.index t = ![t.val, 36]
    ∧ win0_5.index t = ![t.val / 32 * 32 + (t.val % 32 - 2), 37] ∧ win0_6.index t = ![t.val / 32 * 32 + (t.val % 32 - 1), 37]
    ∧ win0_7.index t = ![t.val, 37] ∧ win0_8.index t = ![t.val, 0] ∧ ((grid0.coords t) 1).val = t.val % 32 :=
  (by decide +kernel : ∀ t : Fin grid0.N, _)

/-- The array row of the band's slot `k` for the chunk of array row `R`: two chunks back and on, the chunks before the
    sequence's first read as the first. -/
def bandRow (R : Fin 8192) (k : Fin 192) : Fin 8192 :=
  ⟨((R : ℕ) / 64 / 32 * 32 + ((R : ℕ) / 64 % 32 + (k : ℕ) / 64 - 2)) * 64 + (k : ℕ) % 64, by omega⟩

/-- The masked scores of row `R` and head `h`. -/
def rowScores (X : FVec Ideal S8192x4864 .f32) (R : Fin 8192) (h : Fin 16) (k : Fin 192) : EReal :=
  Scalar.select (inBand ⟨(R : ℕ) / 64 % 32, by omega⟩ k)
    ((∑ d : Fin 64, X (ix2 R (⟨3072 + ((h : ℕ) * 64 + d), by omega⟩ : Fin 4864))
      * X (ix2 (bandRow R k) (⟨4608 + ((h : ℕ) / 8 * 64 + d), by omega⟩ : Fin 4864))) * Ideal.ofBits .f32 0x3E000000#32)
    (Ideal.ofBits .f32 0xFF800000#32)

/-- The kernel's result at row `R` and column `l`. -/
def outAt (X : FVec Ideal S8192x4864 .f32) (w : FVec Ideal S16 .f32) (R : Fin 8192) (l : Fin 1024) : EReal :=
  Ideal.div (∑ k : Fin 192, Ideal.exp (rowScores X R ⟨(l : ℕ) / 64, by omega⟩ k
        - top (rowScores X R ⟨(l : ℕ) / 64, by omega⟩) (w (ix1 (⟨(l : ℕ) / 64, by omega⟩ : Fin 16))))
      * X (ix2 (bandRow R k) (⟨4736 + ((l : ℕ) / 64 / 8 * 64 + (l : ℕ) % 64), by omega⟩ : Fin 4864)))
    (den (rowScores X R ⟨(l : ℕ) / 64, by omega⟩) (w (ix1 (⟨(l : ℕ) / 64, by omega⟩ : Fin 16))))

/-- The kernel's result array. -/
def out (X : FVec Ideal S8192x4864 .f32) (w : FVec Ideal S16 .f32) : FVec Ideal S8192x1024 .bf16 :=
  fun j => outAt X w (j 0) (j 1)

/-- The query block read: 64 rows, the 1024 query columns. -/
theorem q_at (c : Dev nD) (t : Fin cfg0.N) (r : Fin 64) (l : Fin 1024) (h : t.val * 64 + r.val < 8192) :
    (show EReal from X0_1 m c t (ix2 r l)) = (show EReal from m ((c : Thread nD τ).loc main_arg0) (ix2 (⟨t.val * 64 + r, h⟩ : Fin 8192) (⟨3072 + l, by omega⟩ : Fin 4864))) := by
  unfold X0_1 Pipeline.Window.fill
  rw [dif_pos (moved0_1 t _)]
  blk_ext [iblk, V, idx_val t]

/-- The three key blocks. -/
def kblk (c : Dev nD) (t : Fin cfg0.N) : Fin 3 → FVec Ideal S64x128 .f32
  | 0 => iblk m c 2 t
  | 1 => iblk m c 3 t
  | 2 => iblk m c 4 t

/-- The three value blocks. -/
def vblk (c : Dev nD) (t : Fin cfg0.N) : Fin 3 → FVec Ideal S64x128 .f32
  | 0 => iblk m c 5 t
  | 1 => iblk m c 6 t
  | 2 => iblk m c 7 t

/-- A key block read. -/
theorem kblk_at (c : Dev nD) (t : Fin cfg0.N) (g : Fin 3) (r : Fin 64) (l : Fin 128) (R : Fin 8192) (C : Fin 4864)
    (hR : (R : ℕ) = (t.val / 32 * 32 + (t.val % 32 + g - 2)) * 64 + r) (hC : (C : ℕ) = 4608 + l) :
    (show EReal from kblk m c t g (ix2 r l)) = (show EReal from m ((c : Thread nD τ).loc main_arg0) (ix2 R C)) := by
  fin_cases g <;> (simp only [kblk]; simp only [Fin.mk_one, Fin.reduceFinMk, Fin.zero_eta, Fin.val_one, Fin.val_zero, Fin.val_two] at hR) <;> blk_ext [iblk, V, idx_val t]

/-- A value block read. -/
theorem vblk_at (c : Dev nD) (t : Fin cfg0.N) (g : Fin 3) (r : Fin 64) (l : Fin 128) (R : Fin 8192) (C : Fin 4864)
    (hR : (R : ℕ) = (t.val / 32 * 32 + (t.val % 32 + g - 2)) * 64 + r) (hC : (C : ℕ) = 4736 + l) :
    (show EReal from vblk m c t g (ix2 r l)) = (show EReal from m ((c : Thread nD τ).loc main_arg0) (ix2 R C)) := by
  fin_cases g <;> (simp only [vblk]; simp only [Fin.mk_one, Fin.reduceFinMk, Fin.zero_eta, Fin.val_one, Fin.val_zero, Fin.val_two] at hR) <;> blk_ext [iblk, V, idx_val t]

/-- The sink logits as the body reads them. -/
def sblk (c : Dev nD) (t : Fin cfg0.N) (h : Fin 16) : EReal := iblk m c 0 t (ix1 h)

/-- The sink logits are the argument's. -/
theorem sblk_at (c : Dev nD) (t : Fin cfg0.N) (h : Fin 16) :
    sblk m c t h = (show EReal from m ((c : Thread nD τ).loc main_arg1) (ix1 h)) := by
  unfold sblk
  blk_ext [iblk, V, idx_val t]

/-- What the body stores at block index `(r, l)` of point `t` is the result at the array index that it sits at. -/
theorem point (c : Dev nD) (t : Fin cfg0.N) (r : Fin 64) (l : Fin 1024) (h : t.val * 64 + r.val < 8192) :
    stored (k0_pay6 (k0_pay4 (grid0.coords t)) k0_pay5) (X0_1 m c t) (k0_pay2 (kblk m c t 0) (kblk m c t 1) (kblk m c t 2))
        (k0_pay2 (vblk m c t 0) (vblk m c t 1) (vblk m c t 2))
        (k0_pay8 (F := Ideal) (iblk m c 0 t (ix1 0)) (iblk m c 0 t (ix1 1)) (iblk m c 0 t (ix1 2)) (iblk m c 0 t (ix1 3))
          (iblk m c 0 t (ix1 4)) (iblk m c 0 t (ix1 5)) (iblk m c 0 t (ix1 6)) (iblk m c 0 t (ix1 7)))
        (k0_pay8 (F := Ideal) (iblk m c 0 t (ix1 8)) (iblk m c 0 t (ix1 9)) (iblk m c 0 t (ix1 10)) (iblk m c 0 t (ix1 11))
          (iblk m c 0 t (ix1 12)) (iblk m c 0 t (ix1 13)) (iblk m c 0 t (ix1 14)) (iblk m c 0 t (ix1 15))) (ix2 r l)
      = outAt (m ((c : Thread nD τ).loc main_arg0)) (m ((c : Thread nD τ).loc main_arg1)) ⟨t.val * 64 + r, h⟩ l := by
  refine (stored_row (grid0.coords t) (X0_1 m c t) (kblk m c t) (vblk m c t) (sblk m c t) r l).trans ?_
  have hS : blockScores (grid0.coords t 1) (X0_1 m c t) (kblk m c t) r l
      = rowScores (m ((c : Thread nD τ).loc main_arg0)) ⟨t.val * 64 + r, h⟩ ⟨(l : ℕ) / 64, by omega⟩ := by
    funext k
    have hn : inBand (grid0.coords t 1) k = inBand ⟨(t.val * 64 + r.val) / 64 % 32, by omega⟩ k := by
      refine congrArg (fun n : Fin 32 => inBand n k) (Fin.ext ?_)
      have := (idx_val t).2.2.2.2.2.2.2.2.2
      simp only []
      omega
    unfold blockScores rowScores
    rw [hn]
    congr 2
    refine Finset.sum_congr rfl fun d _ => Ideal.mul_congr ?_ ?_
    · exact q_at m c t r _ h
    · exact kblk_at m c t _ _ _ _ _ (by simp only [bandRow]; omega) rfl
  unfold outAt
  rw [hS, sblk_at]
  congr 1
  refine Finset.sum_congr rfl fun k _ => Ideal.mul_congr rfl ?_
  exact vblk_at m c t _ _ _ _ _ (by simp only [bandRow]; omega) rfl

/-- The result array after the run. -/
theorem final (c : Dev nD) : (dats m 0 c).arrAt 8 (cfgs 0).N
    = out (m ((c : Thread nD τ).loc main_arg0)) (m ((c : Thread nD τ).loc main_arg1)) := by
  refine (dats m 0 c).arrAt_eq_of_covers 8 _ (by decide +kernel) fun t _ y => ?_
  blk_simp
  rw [after0_8]; unfold outsAt0 out0_A_8; frame_out
  have ht : t.val < 128 := t.isLt
  obtain ⟨r, l, rfl⟩ : ∃ (r : Fin 64) (l : Fin 1024), y = ix2 r l := ⟨y 0, y 1, eq_ix2 y⟩
  refine (congrFun (stored_eq _ _ _ _ _ _ _ _ _ _ _ _ _ _ _ _ _ _ _ _ _) _).trans ?_
  refine Eq.trans ?_ (show outAt _ _ (⟨t.val * 64 + r, by omega⟩ : Fin 8192) l = _ from congrArg₂ (outAt (m ((c : Thread nD τ).loc main_arg0)) (m ((c : Thread nD τ).loc main_arg1))) (Fin.ext ?_) (Fin.ext ?_))
  · pointwise
    exact (point m c t r l (by omega))
  · blk_simp [idx_val t]
  · blk_simp [idx_val t]
end Cert.Attn
-- ==== Proof.Attn.Reference.lean ====
/- The reference attention's result read element by element. -/
module

public import proofs.«01_k».proof.Proof.Gen.ReferenceIdeal.Run
public import proofs.«01_k».proof.Proof.Attn.Kernel

@[expose] public section

set_option maxRecDepth 16384

noncomputable section

namespace Cert.Attn.Ref

open Idealize.ShloMosaic Idealize.ShloMosaic.TcCoe Idealize.SL.Sem
open Cert.ReferenceIdeal Cert.ReferenceIdeal.Gen

/-- One group of 128 columns by sequence and chunk. -/
def chunks (T : FVec Ideal S8192x128 .f32) : FVec Ideal S4x32x64x2x64 .f32 :=
  shapeCast _ (shapeCast _ T shapeCasts_S8192x128_S4x2048x2x64) shapeCasts_S4x2048x2x64_S4x32x64x2x64

/-- Two chunks of zeros ahead of each sequence. -/
def padded (T : FVec Ideal S8192x128 .f32) : FVec Ideal S4x34x64x2x64 .f32 :=
  pad S4x34x64x2x64 ![0, 2, 0, 0, 0] ![0, 0, 0, 0, 0] ![0, 0, 0, 0, 0] (chunks T) (sitofp .f32 (constantI S_ 32 0#32))
    pads_S4x32x64x2x64_S4x34x64x2x64_000_200_000_000_000 h_S_

/-- Each chunk's band: the two chunks before and the chunk itself. -/
def band (T : FVec Ideal S8192x128 .f32) : FVec Ideal S4x32x192x2x64 .f32 :=
  concatenate S4x32x192x2x64 2 [⟨S4x32x64x2x64, extractStridedSlice S4x32x64x2x64 ![0, 0, 0, 0, 0] (padded T) slices_S4x34x64x2x64_S4x32x64x2x64_0_0_0_0_0⟩,
    ⟨S4x32x64x2x64, extractStridedSlice S4x32x64x2x64 ![0, 1, 0, 0, 0] (padded T) slices_S4x34x64x2x64_S4x32x64x2x64_0_1_0_0_0⟩,
    ⟨S4x32x64x2x64, extractStridedSlice S4x32x64x2x64 ![0, 2, 0, 0, 0] (padded T) slices_S4x34x64x2x64_S4x32x64x2x64_0_2_0_0_0⟩]
    concatenates_S4x32x64x2x64_S4x32x64x2x64_S4x32x64x2x64_S4x32x192x2x64_d2

/-- A chunk's entry is the array's. -/
theorem chunks_at (T : FVec Ideal S8192x128 .f32) (b : Fin 4) (n : Fin 32) (r : Fin 64) (a : Fin 2) (d : Fin 64) :
    chunks T (ix5 b n r a d) = T (ix2 (⟨b * 2048 + n * 64 + r, by omega⟩ : Fin 8192) (⟨a * 64 + d, by omega⟩ : Fin 128)) := by
  pointwise [chunks]

/-- A padded entry: zero in the first two chunks, the chunk two back in the others. -/
theorem padded_at (T : FVec Ideal S8192x128 .f32) (b : Fin 4) (n : Fin 34) (r : Fin 64) (a : Fin 2) (d : Fin 64) :
    padded T (ix5 b n r a d) = if h : 2 ≤ (n : ℕ) then chunks T (ix5 b (⟨n - 2, by omega⟩ : Fin 32) r a d) else 0 := by
  pointwise [padded]
  by_cases h : 2 ≤ (n : ℕ)
  · rw [dif_pos h, dif_pos ⟨h, by omega⟩]
  · rw [dif_neg h, dif_neg (fun h' => h h'.1)]
    show (((0#32 : BitVec 32).toInt : ℝ) : EReal) = 0
    simp

/-- A band's entry is a padded entry. -/
theorem band_at (T : FVec Ideal S8192x128 .f32) (b : Fin 4) (n : Fin 32) (k : Fin 192) (a : Fin 2) (d : Fin 64) :
    band T (ix5 b n k a d) = padded T (ix5 b (⟨n + k / 64, by omega⟩ : Fin 34) (⟨k % 64, by omega⟩ : Fin 64) a d) := by
  have hb : ∀ x : Fin S4x32x64x2x64.rank, x.cast rfl ≠ (2 : Fin S4x32x192x2x64.rank) →
      ((ix5 b n (⟨k % 64, by omega⟩ : Fin 64) a d : S4x32x64x2x64.Idx) x).val = ((ix5 b n k a d : S4x32x192x2x64.Idx) (x.cast rfl)).val := by
    intro x hx
    fin_cases x <;> first | rfl | exact absurd rfl hx
  let p : Fin 3 → FVec Ideal S4x32x64x2x64 .f32 := ![extractStridedSlice S4x32x64x2x64 ![0, 0, 0, 0, 0] (padded T) slices_S4x34x64x2x64_S4x32x64x2x64_0_0_0_0_0,
    extractStridedSlice S4x32x64x2x64 ![0, 1, 0, 0, 0] (padded T) slices_S4x34x64x2x64_S4x32x64x2x64_0_1_0_0_0,
    extractStridedSlice S4x32x64x2x64 ![0, 2, 0, 0, 0] (padded T) slices_S4x34x64x2x64_S4x32x64x2x64_0_2_0_0_0]
  have hp : ∀ (g : Fin 3) (r : Fin 64), p g (ix5 b n r a d) = padded T (ix5 b (⟨n + g, by omega⟩ : Fin 34) r a d) := by
    intro g r
    fin_cases g <;> (simp only [p, Fin.mk_one, Fin.reduceFinMk, Fin.zero_eta, Matrix.cons_val]; pointwise)
    all_goals exact congrArg (fun z => padded T (ix5 b z r a d)) (Fin.ext (Nat.add_comm _ _))
  refine Eq.trans (concatenate_ofFn_apply (t := S4x32x192x2x64) (s₁ := S4x32x64x2x64) 2 p
    concatenates_S4x32x64x2x64_S4x32x64x2x64_S4x32x64x2x64_S4x32x192x2x64_d2 rfl 64 rfl (ix5 b n k a d) ⟨(k : ℕ) / 64, by omega⟩ rfl
    (ix5 b n (⟨k % 64, by omega⟩ : Fin 64) a d) rfl hb) (hp _ _)

/-- The mask of slots that are chunks of the sequence. -/
def mask : IVec S32x192 1 :=
  cmpi .sge (addi (broadcastInDim S32x192 ![0, 1] bcast_S32x1_S32x192_0_1 (subi (broadcastInDim S32x1 ![0] bcast_S32_S32x1_0 (iotaInDim S32 32 0)) (broadcastInDim S32x1 ![] bcast_S_S32x1 (constantI S_ 32 2#32)))) (broadcastInDim S32x192 ![0, 1] bcast_S1x192_S32x192_0_1 (broadcastInDim S1x192 ![1] bcast_S192_S1x192_1 (shapeCast _ (broadcastInDim S3x64 ![0] bcast_S3_S3x64_0 (iotaInDim S3 32 0)) shapeCasts_S3x64_S192)))) (broadcastInDim S32x192 ![] bcast_S_S32x192 (constantI S_ 32 0#32))

/-- The mask's word. -/
theorem mask_at (n : Fin 32) (k : Fin 192) : mask (ix2 n k) = inBand n k := by
  pointwise [mask]
  revert n k
  decide +kernel

/-- The raw scores. -/
def raw (X : FVec Ideal S8192x4864 .f32) : FVec Ideal S4x32x2x192x64x8 .f32 :=
  Host.dotGeneral dot_S4x32x192x2x64_S4x32x64x2x8x64_S4x32x2x192x64x8_4_5_2_24_013_013 none
    (band (extractStridedSlice S8192x128 ![0, 4608] X slices_S8192x4864_S8192x128_0_4608))
    (shapeCast _ (shapeCast _ (extractStridedSlice S8192x1024 ![0, 3072] X slices_S8192x4864_S8192x1024_0_3072) shapeCasts_S8192x1024_S4x2048x16x64) shapeCasts_S4x2048x16x64_S4x32x64x2x8x64 : FVec Ideal S4x32x64x2x8x64 .f32)

/-- A raw score. -/
theorem raw_at (X : FVec Ideal S8192x4864 .f32) (b : Fin 4) (n : Fin 32) (a : Fin 2) (k : Fin 192) (q : Fin 64) (g : Fin 8) :
    raw X (ix6 b n a k q g) = ∑ d : Fin 64, band (extractStridedSlice S8192x128 ![0, 4608] X slices_S8192x4864_S8192x128_0_4608) (ix5 b n k a d)
      * X (ix2 (⟨b * 2048 + n * 64 + q, by omega⟩ : Fin 8192) (⟨3072 + (a * 512 + g * 64 + d), by omega⟩ : Fin 4864)) := by
  pointwise [raw]

/-- The masked scores. -/
def scores (X : FVec Ideal S8192x4864 .f32) : FVec Ideal S4x32x2x8x64x192 .f32 :=
  select (broadcastInDim S4x32x2x8x64x192 ![0, 1, 2, 3, 4, 5] bcast_S1x32x1x1x1x192_S4x32x2x8x64x192_0_1_2_3_4_5 (broadcastInDim S1x32x1x1x1x192 ![1, 5] bcast_S32x192_S1x32x1x1x1x192_1_5 mask))
    (mulf (transpose S4x32x2x8x64x192 [0, 1, 2, 5, 4, 3] (raw X) transposes_S4x32x2x192x64x8_S4x32x2x8x64x192_0_1_2_5_4_3) (broadcastInDim S4x32x2x8x64x192 ![] bcast_S_S4x32x2x8x64x192 (constant S_ .f32 0x3E000000#32)))
    (broadcastInDim S4x32x2x8x64x192 ![] bcast_S_S4x32x2x8x64x192 (id (constant S_ .f32 0xFF800000#32)))

/-- A masked score. -/
theorem scores_at (X : FVec Ideal S8192x4864 .f32) (b : Fin 4) (n : Fin 32) (a : Fin 2) (g : Fin 8) (q : Fin 64) (k : Fin 192) :
    scores X (ix6 b n a g q k) = Scalar.select (mask (ix2 n k)) (raw X (ix6 b n a k q g) * Ideal.ofBits .f32 0x3E000000#32) (Ideal.ofBits .f32 0xFF800000#32) := by
  pointwise [scores]
  rfl

/-- The sink logits by head. -/
def sinks (W : FVec Ideal S16 .f32) : FVec Ideal S4x32x2x8x64 .f32 :=
  broadcastInDim S4x32x2x8x64 ![0, 1, 2, 3, 4] bcast_S1x1x2x8x1_S4x32x2x8x64_0_1_2_3_4 (broadcastInDim S1x1x2x8x1 ![2, 3, 4] bcast_S2x8x1_S1x1x2x8x1_2_3_4 (shapeCast _ W shapeCasts_S16_S2x8x1))

/-- A sink logit. -/
theorem sinks_at (W : FVec Ideal S16 .f32) (b : Fin 4) (n : Fin 32) (a : Fin 2) (g : Fin 8) (q : Fin 64) :
    sinks W (ix5 b n a g q) = W (ix1 (⟨a * 8 + g, by omega⟩ : Fin 16)) := by
  pointwise [sinks]

/-- A maximum of two arrays, at an entry. -/
theorem max_at {s : Shape} (x y : FVec Ideal s .f32) (j : s.Idx) : maximumf x y j = max (x j) (y j) := rfl

/-- The greatest score and sink of each row. -/
def tops (s : FVec Ideal S4x32x2x8x64x192 .f32) (σ : FVec Ideal S4x32x2x8x64 .f32) : FVec Ideal S4x32x2x8x64 .f32 :=
  maximumf (Host.reduce FloatOps.maximumf s (constant S_ .f32 0xFF800000#32) reducesTo_S4x32x2x8x64x192_S4x32x2x8x64_d5 h_S_) σ

/-- The source indices of one row. -/
theorem row_fiber (b : Fin 4) (n : Fin 32) (a : Fin 2) (g : Fin 8) (q : Fin 64) (i : S4x32x2x8x64x192.Idx) :
    reducesTo_S4x32x2x8x64x192_S4x32x2x8x64_d5.drop i = ix5 b n a g q ↔ ∃ k : Fin 192, ix6 b n a g q k = i := by
  constructor
  · intro e
    refine ⟨i 5, ?_⟩
    funext x
    apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- Different slots are different indices. -/
theorem row_injective (b : Fin 4) (n : Fin 32) (a : Fin 2) (g : Fin 8) (q : Fin 64) :
    Function.Injective (fun k : Fin 192 => (ix6 b n a g q k : S4x32x2x8x64x192.Idx)) := fun _ _ e => congrFun e 5

/-- A row's sum on the host. -/
theorem row_sum (v : FVec Ideal S4x32x2x8x64x192 .f32) (b : Fin 4) (n : Fin 32) (a : Fin 2) (g : Fin 8) (q : Fin 64) :
    Host.reduceAdd v (constant (F := Ideal) S_ .f32 0x00000000#32) reducesTo_S4x32x2x8x64x192_S4x32x2x8x64_d5 h_S_ (ix5 b n a g q)
      = ∑ k : Fin 192, v (ix6 b n a g q k) := by
  have h : (Finset.univ.filter fun i => reducesTo_S4x32x2x8x64x192_S4x32x2x8x64_d5.drop i = ix5 b n a g q).sum v
      = ∑ k : Fin 192, v (ix6 b n a g q k) :=
    Finset.sum_filter_eq_sum_of_fiber _ _ (row_injective b n a g q) (row_fiber b n a g q) v
  refine Eq.trans (show _ = Ideal.ofBits .f32 0x00000000#32 + (Finset.univ.filter fun i => reducesTo_S4x32x2x8x64x192_S4x32x2x8x64_d5.drop i = ix5 b n a g q).sum v from rfl) ?_
  rw [h]
  pointwise

/-- A row's greatest on the host. -/
theorem row_max (v : FVec Ideal S4x32x2x8x64x192 .f32) (b : Fin 4) (n : Fin 32) (a : Fin 2) (g : Fin 8) (q : Fin 64) :
    Host.reduce FloatOps.maximumf v (constant (F := Ideal) S_ .f32 0xFF800000#32) reducesTo_S4x32x2x8x64x192_S4x32x2x8x64_d5 h_S_ (ix5 b n a g q)
      = (Finset.univ : Finset (Fin 192)).fold max (Ideal.ofBits .f32 0xFF800000#32) (fun k => v (ix6 b n a g q k)) := by
  refine (Host.reduce_eq_fold (max : EReal → EReal → EReal) v (constant (F := Ideal) S_ .f32 0xFF800000#32)
    reducesTo_S4x32x2x8x64x192_S4x32x2x8x64_d5 h_S_ (ix5 b n a g q)).trans ?_
  exact Finset.fold_filter_eq_fold_of_fiber (max : EReal → EReal → EReal) _ _ (row_injective b n a g q) (row_fiber b n a g q) _ v

/-- A row's greatest score or sink. -/
theorem tops_at (s : FVec Ideal S4x32x2x8x64x192 .f32) (σ : FVec Ideal S4x32x2x8x64 .f32) (b : Fin 4) (n : Fin 32) (a : Fin 2) (g : Fin 8) (q : Fin 64) :
    tops s σ (ix5 b n a g q) = top (fun k : Fin 192 => s (ix6 b n a g q k)) (σ (ix5 b n a g q)) := by
  unfold tops top
  rw [max_at, row_max]

/-- The exponentials of the scores less their row's greatest. -/
def exps (s : FVec Ideal S4x32x2x8x64x192 .f32) (t : FVec Ideal S4x32x2x8x64 .f32) : FVec Ideal S4x32x2x8x64x192 .f32 :=
  Host.exp (subf s (broadcastInDim S4x32x2x8x64x192 ![0, 1, 2, 3, 4, 5] bcast_S4x32x2x8x64x1_S4x32x2x8x64x192_0_1_2_3_4_5 (broadcastInDim S4x32x2x8x64x1 ![0, 1, 2, 3, 4] bcast_S4x32x2x8x64_S4x32x2x8x64x1_0_1_2_3_4 t)))

/-- The softmax denominators. -/
def dens (e : FVec Ideal S4x32x2x8x64x192 .f32) (σ t : FVec Ideal S4x32x2x8x64 .f32) : FVec Ideal S4x32x2x8x64 .f32 :=
  addf (Host.reduceAdd e (constant S_ .f32 0x00000000#32) reducesTo_S4x32x2x8x64x192_S4x32x2x8x64_d5 h_S_) (Host.exp (subf σ t))

/-- One exponential. -/
theorem exps_at (s : FVec Ideal S4x32x2x8x64x192 .f32) (t : FVec Ideal S4x32x2x8x64 .f32) (b : Fin 4) (n : Fin 32) (a : Fin 2) (g : Fin 8) (q : Fin 64) (k : Fin 192) :
    exps s t (ix6 b n a g q k) = Ideal.exp (s (ix6 b n a g q k) - t (ix5 b n a g q)) := by
  pointwise [exps]

/-- One denominator. -/
theorem dens_at (e : FVec Ideal S4x32x2x8x64x192 .f32) (σ t : FVec Ideal S4x32x2x8x64 .f32) (b : Fin 4) (n : Fin 32) (a : Fin 2) (g : Fin 8) (q : Fin 64) :
    dens e σ t (ix5 b n a g q) = (∑ k : Fin 192, e (ix6 b n a g q k)) + Ideal.exp (σ (ix5 b n a g q) - t (ix5 b n a g q)) := by
  refine Eq.trans (congrArg (fun z => z + _) (row_sum e b n a g q)) ?_
  rfl

/-- The softmax weights. -/
def weights (s : FVec Ideal S4x32x2x8x64x192 .f32) (σ : FVec Ideal S4x32x2x8x64 .f32) : FVec Ideal S4x32x2x8x64x192 .f32 :=
  Host.divf (exps s (tops s σ)) (broadcastInDim S4x32x2x8x64x192 ![0, 1, 2, 3, 4, 5] bcast_S4x32x2x8x64x1_S4x32x2x8x64x192_0_1_2_3_4_5 (broadcastInDim S4x32x2x8x64x1 ![0, 1, 2, 3, 4] bcast_S4x32x2x8x64_S4x32x2x8x64x1_0_1_2_3_4 (dens (exps s (tops s σ)) σ (tops s σ))))

/-- One weight is a quotient. -/
theorem weights_at (s : FVec Ideal S4x32x2x8x64x192 .f32) (σ : FVec Ideal S4x32x2x8x64 .f32) (b : Fin 4) (n : Fin 32) (a : Fin 2) (g : Fin 8) (q : Fin 64) (k : Fin 192) :
    weights s σ (ix6 b n a g q k) = Ideal.div (exps s (tops s σ) (ix6 b n a g q k)) (dens (exps s (tops s σ)) σ (tops s σ) (ix5 b n a g q)) := by
  pointwise [weights]

/-- One weight in terms of its row's scores and sink. -/
theorem weight_eq (s : FVec Ideal S4x32x2x8x64x192 .f32) (σ : FVec Ideal S4x32x2x8x64 .f32) (b : Fin 4) (n : Fin 32) (a : Fin 2) (g : Fin 8) (q : Fin 64) (k : Fin 192) :
    weights s σ (ix6 b n a g q k) = Ideal.div (Ideal.exp (s (ix6 b n a g q k) - top (fun k : Fin 192 => s (ix6 b n a g q k)) (σ (ix5 b n a g q))))
      (den (fun k : Fin 192 => s (ix6 b n a g q k)) (σ (ix5 b n a g q))) := by
  rw [weights_at, dens_at]
  simp only [exps_at, tops_at]
  rfl

/-- The averaged values. -/
def averaged (v : FVec Ideal S4x32x192x2x64 .f32) (w : FVec Ideal S4x32x2x8x64x192 .f32) : FVec Ideal S8192x1024 .bf16 :=
  truncf .bf16 (shapeCast _ (transpose S4x32x64x2x8x64 [0, 1, 5, 2, 4, 3] (Host.dotGeneral dot_S4x32x192x2x64_S4x32x2x8x64x192_S4x32x2x64x8x64_2_5_4_34_013_012 none v w : FVec Ideal S4x32x2x64x8x64 .f32) transposes_S4x32x2x64x8x64_S4x32x64x2x8x64_0_1_5_2_4_3) shapeCasts_S4x32x64x2x8x64_S8192x1024) bitsLt_bf16_f32

/-- One averaged entry. -/
theorem averaged_at (v : FVec Ideal S4x32x192x2x64 .f32) (w : FVec Ideal S4x32x2x8x64x192 .f32) (R : Fin 8192) (l : Fin 1024) :
    averaged v w (ix2 R l) = ∑ k : Fin 192, v (ix5 (⟨R / 2048, by omega⟩ : Fin 4) (⟨R / 64 % 32, by omega⟩ : Fin 32) k (⟨l / 512, by omega⟩ : Fin 2) (⟨l % 64, by omega⟩ : Fin 64))
      * w (ix6 (⟨R / 2048, by omega⟩ : Fin 4) (⟨R / 64 % 32, by omega⟩ : Fin 32) (⟨l / 512, by omega⟩ : Fin 2) (⟨l / 64 % 8, by omega⟩ : Fin 8) (⟨R % 64, by omega⟩ : Fin 64) k) := by
  pointwise [averaged]

/-- The keys' columns. -/
theorem keys_at (X : FVec Ideal S8192x4864 .f32) (r : Fin 8192) (c : Fin 128) :
    extractStridedSlice S8192x128 ![0, 4608] X slices_S8192x4864_S8192x128_0_4608 (ix2 r c) = X (ix2 r (⟨4608 + c, by omega⟩ : Fin 4864)) := by
  pointwise

/-- The values' columns. -/
theorem values_at (X : FVec Ideal S8192x4864 .f32) (r : Fin 8192) (c : Fin 128) :
    extractStridedSlice S8192x128 ![0, 4736] X slices_S8192x4864_S8192x128_0_4736 (ix2 r c) = X (ix2 r (⟨4736 + c, by omega⟩ : Fin 4864)) := by
  pointwise

/-- A band's entry at a slot that is a chunk of the sequence. -/
theorem band_in (T : FVec Ideal S8192x128 .f32) (R : Fin 8192) (k : Fin 192) (a : Fin 2) (d : Fin 64) (h : 2 ≤ (R : ℕ) / 64 % 32 + k / 64) :
    band T (ix5 (⟨R / 2048, by omega⟩ : Fin 4) (⟨R / 64 % 32, by omega⟩ : Fin 32) k a d) = T (ix2 (bandRow R k) (⟨a * 64 + d, by omega⟩ : Fin 128)) := by
  rw [band_at, padded_at, dif_pos (show 2 ≤ ((⟨(R : ℕ) / 64 % 32 + k / 64, by omega⟩ : Fin 34) : ℕ) from h), chunks_at]
  refine congrArg T ((ix2_inj ..).2 ⟨Fin.ext ?_, rfl⟩)
  show (R : ℕ) / 2048 * 2048 + ((R : ℕ) / 64 % 32 + k / 64 - 2) * 64 + k % 64 = ((R : ℕ) / 64 / 32 * 32 + ((R : ℕ) / 64 % 32 + k / 64 - 2)) * 64 + k % 64
  omega

/-- A query entry by row and head. -/
theorem query_at (X : FVec Ideal S8192x4864 .f32) (R : Fin 8192) (h : Fin 16) (d : Fin 64)
    (p : (R : ℕ) / 2048 * 2048 + (R : ℕ) / 64 % 32 * 64 + (R : ℕ) % 64 < 8192) (q : 3072 + ((h : ℕ) / 8 * 512 + (h : ℕ) % 8 * 64 + d) < 4864) :
    X (ix2 (⟨(R : ℕ) / 2048 * 2048 + (R : ℕ) / 64 % 32 * 64 + (R : ℕ) % 64, p⟩ : Fin 8192) (⟨3072 + ((h : ℕ) / 8 * 512 + (h : ℕ) % 8 * 64 + d), q⟩ : Fin 4864))
      = X (ix2 R (⟨3072 + ((h : ℕ) * 64 + d), by omega⟩ : Fin 4864)) := by
  refine congrArg X ((ix2_inj ..).2 ⟨Fin.ext ?_, Fin.ext ?_⟩)
  · show (R : ℕ) / 2048 * 2048 + (R : ℕ) / 64 % 32 * 64 + (R : ℕ) % 64 = R
    omega
  · show 3072 + ((h : ℕ) / 8 * 512 + (h : ℕ) % 8 * 64 + d) = 3072 + ((h : ℕ) * 64 + d)
    omega

/-- A key entry by row, head and slot. -/
theorem key_at (X : FVec Ideal S8192x4864 .f32) (R : Fin 8192) (h : Fin 16) (k : Fin 192) (d : Fin 64) (hk : 2 ≤ (R : ℕ) / 64 % 32 + k / 64) :
    band (extractStridedSlice S8192x128 ![0, 4608] X slices_S8192x4864_S8192x128_0_4608) (ix5 (⟨R / 2048, by omega⟩ : Fin 4) (⟨R / 64 % 32, by omega⟩ : Fin 32) k (⟨h / 8, by omega⟩ : Fin 2) d)
      = X (ix2 (bandRow R k) (⟨4608 + (h / 8 * 64 + d), by omega⟩ : Fin 4864)) :=
  (band_in _ R k _ d hk).trans (keys_at X _ _)

/-- A raw score by row, head and slot. -/
theorem raw_row (X : FVec Ideal S8192x4864 .f32) (R : Fin 8192) (h : Fin 16) (k : Fin 192) (hk : 2 ≤ (R : ℕ) / 64 % 32 + k / 64) :
    raw X (ix6 (⟨R / 2048, by omega⟩ : Fin 4) (⟨R / 64 % 32, by omega⟩ : Fin 32) (⟨h / 8, by omega⟩ : Fin 2) k (⟨R % 64, by omega⟩ : Fin 64) (⟨h % 8, by omega⟩ : Fin 8))
      = ∑ d : Fin 64, X (ix2 R (⟨3072 + (h * 64 + d), by omega⟩ : Fin 4864)) * X (ix2 (bandRow R k) (⟨4608 + (h / 8 * 64 + d), by omega⟩ : Fin 4864)) := by
  refine (raw_at X _ _ _ _ _ _).trans (Finset.sum_congr rfl fun d _ => ?_)
  exact (congrArg₂ (fun p q : EReal => p * q) (key_at X R h k d hk) (query_at X R h d (by omega) (by omega))).trans (mul_comm (G := EReal) _ _)

/-- A masked-out slot takes the second value. -/
theorem select_zero (a b : EReal) : Scalar.select 0#1 a b = b := rfl

/-- The reference's score of a row against a slot is the kernel's. -/
theorem scores_row (X : FVec Ideal S8192x4864 .f32) (R : Fin 8192) (h : Fin 16) (k : Fin 192) :
    scores X (ix6 (⟨R / 2048, by omega⟩ : Fin 4) (⟨R / 64 % 32, by omega⟩ : Fin 32) (⟨h / 8, by omega⟩ : Fin 2) (⟨h % 8, by omega⟩ : Fin 8) (⟨R % 64, by omega⟩ : Fin 64) k)
      = rowScores X R h k := by
  rw [scores_at, mask_at]
  unfold rowScores
  by_cases hk : 2 ≤ (R : ℕ) / 64 % 32 + k / 64
  · rw [raw_row X R h k hk]
  · rw [show inBand (⟨(R : ℕ) / 64 % 32, by omega⟩ : Fin 32) k = 0#1 from if_neg hk]
    exact (select_zero _ _).trans (select_zero _ _).symm

/-- With real queries and keys a score in the band is real. -/
theorem rowScores_in (X : FVec Ideal S8192x4864 .f32) (hQ : ∀ (r : Fin 8192) (c : Fin 1024), ∃ x : ℝ, X (ix2 r (⟨3072 + c, by omega⟩ : Fin 4864)) = x) (hK : ∀ (r : Fin 8192) (c : Fin 128), ∃ x : ℝ, X (ix2 r (⟨4608 + c, by omega⟩ : Fin 4864)) = x) (R : Fin 8192) (h : Fin 16) (k : Fin 192)
    (hk : 2 ≤ (R : ℕ) / 64 % 32 + k / 64) : ∃ r : ℝ, rowScores X R h k = r := by
  have h1 : inBand (⟨(R : ℕ) / 64 % 32, by omega⟩ : Fin 32) k = 1#1 := if_pos hk
  obtain ⟨c, hc⟩ := scale_real
  unfold rowScores
  rw [h1, hc]
  obtain ⟨x, hx⟩ := sum_real Finset.univ (fun d : Fin 64 => (X (ix2 R (⟨3072 + (h * 64 + d), by omega⟩ : Fin 4864)) * X (ix2 (bandRow R k) (⟨4608 + (h / 8 * 64 + d), by omega⟩ : Fin 4864)) : EReal))
    fun d _ => by
      obtain ⟨y, hy⟩ := hQ R ⟨h * 64 + d, by omega⟩
      obtain ⟨z, hz⟩ := hK (bandRow R k) ⟨h / 8 * 64 + d, by omega⟩
      exact ⟨y * z, by rw [hy, hz, EReal.coe_mul]⟩
  exact ⟨x * c, by rw [EReal.coe_mul, ← hx]; rfl⟩

/-- With real queries and keys a score is real or −∞. -/
theorem rowScores_real (X : FVec Ideal S8192x4864 .f32) (hQ : ∀ (r : Fin 8192) (c : Fin 1024), ∃ x : ℝ, X (ix2 r (⟨3072 + c, by omega⟩ : Fin 4864)) = x) (hK : ∀ (r : Fin 8192) (c : Fin 128), ∃ x : ℝ, X (ix2 r (⟨4608 + c, by omega⟩ : Fin 4864)) = x) (R : Fin 8192) (h : Fin 16) (k : Fin 192) :
    rowScores X R h k = ⊥ ∨ ∃ r : ℝ, rowScores X R h k = r := by
  by_cases hk : 2 ≤ (R : ℕ) / 64 % 32 + k / 64
  · exact Or.inr (rowScores_in X hQ hK R h k hk)
  · left
    have h0 : inBand (⟨(R : ℕ) / 64 % 32, by omega⟩ : Fin 32) k = 0#1 := if_neg hk
    unfold rowScores
    rw [h0]
    exact ninf_eq

/-- Outside the band a score is −∞. -/
theorem rowScores_out (X : FVec Ideal S8192x4864 .f32) (R : Fin 8192) (h : Fin 16) (k : Fin 192) (hk : ¬ 2 ≤ (R : ℕ) / 64 % 32 + k / 64) :
    rowScores X R h k = ⊥ := by
  unfold rowScores inBand
  have h0 : (if 2 ≤ ((⟨(R : ℕ) / 64 % 32, by omega⟩ : Fin 32) : ℕ) + (k : ℕ) / 64 then 1#1 else 0#1) = 0#1 := if_neg hk
  rw [h0]
  exact ninf_eq

/-- For real queries and keys, and sinks below +∞, the reference's steps give the kernel's array. -/
theorem steps_eq (X : FVec Ideal S8192x4864 .f32) (W : FVec Ideal S16 .f32) (hQ : ∀ (r : Fin 8192) (c : Fin 1024), ∃ x : ℝ, X (ix2 r (⟨3072 + c, by omega⟩ : Fin 4864)) = x) (hK : ∀ (r : Fin 8192) (c : Fin 128), ∃ x : ℝ, X (ix2 r (⟨4608 + c, by omega⟩ : Fin 4864)) = x) (hW : ∀ i, W i ≠ ⊤) :
    averaged (band (extractStridedSlice S8192x128 ![0, 4736] X slices_S8192x4864_S8192x128_0_4736)) (weights (scores X) (sinks W)) = Cert.Attn.out X W := by
  funext j
  obtain ⟨R, l, rfl⟩ : ∃ (R : Fin 8192) (l : Fin 1024), j = ix2 R l := ⟨j 0, j 1, eq_ix2 j⟩
  rw [averaged_at]
  obtain ⟨σ, hσ⟩ : ∃ σ : EReal, W (ix1 (⟨(l : ℕ) / 64, by omega⟩ : Fin 16)) = σ := ⟨_, rfl⟩
  have hσt : σ ≠ ⊤ := hσ ▸ hW _
  have hs : (fun k : Fin 192 => scores X (ix6 (⟨R / 2048, by omega⟩ : Fin 4) (⟨R / 64 % 32, by omega⟩ : Fin 32) (⟨l / 512, by omega⟩ : Fin 2) (⟨l / 64 % 8, by omega⟩ : Fin 8) (⟨R % 64, by omega⟩ : Fin 64) k))
      = rowScores X R (⟨(l : ℕ) / 64, by omega⟩ : Fin 16) := by
    funext k
    rw [← scores_row]
    exact congrArg (fun z : Fin 2 => scores X (ix6 (⟨R / 2048, by omega⟩ : Fin 4) (⟨R / 64 % 32, by omega⟩ : Fin 32) z (⟨l / 64 % 8, by omega⟩ : Fin 8) (⟨R % 64, by omega⟩ : Fin 64) k))
      (Fin.ext (show (l : ℕ) / 512 = (l : ℕ) / 64 / 8 by omega))
  have hσ' : sinks W (ix5 (⟨R / 2048, by omega⟩ : Fin 4) (⟨R / 64 % 32, by omega⟩ : Fin 32) (⟨l / 512, by omega⟩ : Fin 2) (⟨l / 64 % 8, by omega⟩ : Fin 8) (⟨R % 64, by omega⟩ : Fin 64)) = (σ : EReal) := by
    rw [sinks_at, ← hσ]
    exact congrArg W (congrArg ix1 (Fin.ext (show (l : ℕ) / 512 * 8 + (l : ℕ) / 64 % 8 = (l : ℕ) / 64 by omega)))
  have hw : ∀ k : Fin 192, weights (scores X) (sinks W) (ix6 (⟨R / 2048, by omega⟩ : Fin 4) (⟨R / 64 % 32, by omega⟩ : Fin 32) (⟨l / 512, by omega⟩ : Fin 2) (⟨l / 64 % 8, by omega⟩ : Fin 8) (⟨R % 64, by omega⟩ : Fin 64) k)
      = Ideal.div (Ideal.exp (rowScores X R (⟨(l : ℕ) / 64, by omega⟩ : Fin 16) k - top (rowScores X R (⟨(l : ℕ) / 64, by omega⟩ : Fin 16)) (σ : EReal)))
        (den (rowScores X R (⟨(l : ℕ) / 64, by omega⟩ : Fin 16)) (σ : EReal)) := by
    intro k
    rw [weight_eq, hs, hσ', ← congrFun hs k]
  refine (Finset.sum_congr rfl fun k _ => congrArg (fun z => _ * z) (hw k)).trans ?_
  refine (average_eq (rowScores X R (⟨(l : ℕ) / 64, by omega⟩ : Fin 16))
    (fun k => X (ix2 (bandRow R k) (⟨4736 + ((l : ℕ) / 64 / 8 * 64 + (l : ℕ) % 64), by omega⟩ : Fin 4864))) _ σ hσt (rowScores_real X hQ hK R _)
    ⟨128, rowScores_in X hQ hK R _ 128 (by show 2 ≤ (R : ℕ) / 64 % 32 + 128 / 64; omega)⟩ fun k => ?_).symm.trans ?_
  · by_cases hk : 2 ≤ (R : ℕ) / 64 % 32 + k / 64
    · right
      rw [band_in _ R k _ _ hk, values_at]
      refine congrArg X ((ix2_inj ..).2 ⟨rfl, Fin.ext ?_⟩)
      show 4736 + ((l : ℕ) / 512 * 64 + (l : ℕ) % 64) = 4736 + ((l : ℕ) / 64 / 8 * 64 + (l : ℕ) % 64)
      omega
    · exact Or.inl (rowScores_out X R _ k hk)
  · unfold out outAt
    rw [← hσ]
    rfl

/-- The reference's result is these steps composed. -/
theorem result_eq (m : (ℓ : Loc nD τ sig) → Buf (Elt Ideal) ℓ) (c : Dev nD) :
    Cert.ReferenceIdeal.Value.res_out0 m c = averaged
      (band (extractStridedSlice S8192x128 ![0, 4736] (m ((c.tc : Thread nD τ).loc main_arg0) : FVec Ideal S8192x4864 .f32) slices_S8192x4864_S8192x128_0_4736))
      (weights (scores (m ((c.tc : Thread nD τ).loc main_arg0))) (sinks (m ((c.tc : Thread nD τ).loc main_arg1)))) := rfl

end Cert.Attn.Ref
-- ==== Proof.Attn.Finite.lean ====
/- What the precondition says: the queries and keys are real numbers and the sinks are below +∞. -/
module

public import proofs.«01_k».proof.Proof.Gen.Pre_finite
public import proofs.«01_k».proof.Proof.Attn.Math
public import Idealize.ShloMosaic.Lib.Pointwise

@[expose] public section

set_option maxRecDepth 16384

noncomputable section

namespace Cert.Attn.Finite

open Idealize.ShloMosaic Cert.Pre_finite

/-- A value whose absolute value is below +∞ is a real number. -/
theorem real_of_lt (x : EReal) (h : Ideal.cmp .olt (max x (-x)) (Ideal.ofBits .f32 0x7F800000#32) = 1#1) : ∃ r : ℝ, x = (r : EReal) := by
  rw [pinf_eq] at h
  have h' : max x (-x) < ⊤ := by
    by_contra hn
    have : Ideal.cmp .olt (max x (-x)) ⊤ = 0#1 := by
      unfold Ideal.cmp
      simp [hn]
    rw [this] at h
    exact absurd h (by decide)
  induction x with
  | bot => exact absurd h' (by simp)
  | top => exact absurd h' (by simp)
  | coe r => exact ⟨r, rfl⟩

/-- A value below +∞ is not +∞. -/
theorem ne_top_of_lt (x : EReal) (h : Ideal.cmp .olt x (Ideal.ofBits .f32 0x7F800000#32) = 1#1) : x ≠ ⊤ := by
  rw [pinf_eq] at h
  rintro rfl
  have : Ideal.cmp .olt (⊤ : EReal) ⊤ = 0#1 := by
    unfold Ideal.cmp
    simp
  rw [this] at h
  exact absurd h (by decide)

/-- The precondition's first part: every query is real. -/
theorem queries (X : FVec Ideal S8192x4864 .f32) (W : FVec Ideal S16 .f32)
    (h : (@Cert.Pre_finite.fn Cert.Pre_finite.Gen.facts Ideal _ X W).1 = fun _ => 1#1) (r : Fin 8192) (c : Fin 1024) :
    ∃ x : ℝ, X (ix2 r (⟨3072 + c, by omega⟩ : Fin 4864)) = (x : EReal) := by
  obtain ⟨x, hx⟩ := real_of_lt _ (congrFun h (ix2 r c))
  have e : extractStridedSlice S8192x1024 ![0, 3072] X Cert.Pre_finite.Gen.facts.slices_S8192x4864_S8192x1024_0_3072 (ix2 r c) = X (ix2 r (⟨3072 + c, by omega⟩ : Fin 4864)) := by
    pointwise
  exact ⟨x, e.symm.trans hx⟩

/-- The precondition's second part: every key is real. -/
theorem keys (X : FVec Ideal S8192x4864 .f32) (W : FVec Ideal S16 .f32)
    (h : (@Cert.Pre_finite.fn Cert.Pre_finite.Gen.facts Ideal _ X W).2.1 = fun _ => 1#1) (r : Fin 8192) (c : Fin 128) :
    ∃ x : ℝ, X (ix2 r (⟨4608 + c, by omega⟩ : Fin 4864)) = (x : EReal) := by
  obtain ⟨x, hx⟩ := real_of_lt _ (congrFun h (ix2 r c))
  have e : extractStridedSlice S8192x128 ![0, 4608] X Cert.Pre_finite.Gen.facts.slices_S8192x4864_S8192x128_0_4608 (ix2 r c) = X (ix2 r (⟨4608 + c, by omega⟩ : Fin 4864)) := by
    pointwise
  exact ⟨x, e.symm.trans hx⟩

/-- The precondition's third part: no sink is +∞. -/
theorem sinks (X : FVec Ideal S8192x4864 .f32) (W : FVec Ideal S16 .f32) (h : (@Cert.Pre_finite.fn Cert.Pre_finite.Gen.facts Ideal _ X W).2.2 = fun _ => 1#1) (i : S16.Idx) :
    W i ≠ ⊤ := ne_top_of_lt (W i) (congrFun h i)

end Cert.Attn.Finite

end
-- ==== Proof.Attn.Claims.lean ====
/- The attention's claims. -/
module

public import proofs.«01_k».proof.Defs
public import proofs.«01_k».proof.Proof.Attn.Reference
public import proofs.«01_k».proof.Proof.Attn.Finite
public import Idealize.ShloMosaic.Adequacy
public import Idealize.ShloMosaic.Init

@[expose] public section

noncomputable section

namespace Cert.Attn

open Idealize.ShloMosaic Idealize.ShloMosaic.TcCoe Idealize.SL.Sem

/-- The reference's result is the kernel's array when every query and key is real and no sink is +∞. -/
theorem result_out (m : (ℓ : Loc Cert.ReferenceIdeal.nD Cert.ReferenceIdeal.τ Cert.ReferenceIdeal.sig) → Buf (Elt Ideal) ℓ) (c : Dev Cert.ReferenceIdeal.nD)
    (X : FVec Ideal Cert.KernelIdeal.S8192x4864 .f32) (W : FVec Ideal Cert.KernelIdeal.S16 .f32)
    (h0 : m ((c.tc : Thread Cert.ReferenceIdeal.nD Cert.ReferenceIdeal.τ).loc Cert.ReferenceIdeal.main_arg0) = X)
    (h1 : m ((c.tc : Thread Cert.ReferenceIdeal.nD Cert.ReferenceIdeal.τ).loc Cert.ReferenceIdeal.main_arg1) = W)
    (hQ : ∀ (r : Fin 8192) (c : Fin 1024), ∃ x : ℝ, X (ix2 r (⟨3072 + c, by omega⟩ : Fin 4864)) = x) (hK : ∀ (r : Fin 8192) (c : Fin 128), ∃ x : ℝ, X (ix2 r (⟨4608 + c, by omega⟩ : Fin 4864)) = x) (hW : ∀ i, W i ≠ ⊤) :
    Cert.ReferenceIdeal.Value.res_out0 m c = out X W := by
  rw [Ref.result_eq, h0, h1]
  exact Ref.steps_eq X W hQ hK hW

/-- The reference runs, leaves its arguments as they were and ends with every counter at zero. -/
theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- On real queries and keys, and sinks below +∞, the kernel's attention and the reference's are the same array. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  refine ⟨fun c => out (m (c.tc.loc Cert.KernelIdeal.main_arg0)) (m (c.tc.loc Cert.KernelIdeal.main_arg1)), ?_, ?_⟩
  · run_from Cert.KernelIdeal.Gen.run_main m g
    exact final m c
  · run_from Cert.ReferenceIdeal.Value.run m' g'
    exact result_out m' c _ _ (hargs c).1 (hargs c).2 (fun r k => Finite.queries _ _ (hpre c).1 r k) (fun r k => Finite.keys _ _ (hpre c).2.1 r k) (fun i => Finite.sinks _ _ (hpre c).2.2 i)

end Cert.Attn

end
-- ==== Proof.Norm.Row.lean ====
/- The layer's closing step on one row: the scaled residual added and the layer norm. -/
module

public import Idealize.ShloMosaic.Lib.Pointwise

@[expose] public section

noncomputable section

namespace Cert.Norm

open Idealize.ShloMosaic

/-- The mean of a row of 2048. -/
def mean (z : Fin 2048 → EReal) : EReal := Ideal.div (∑ l, z l) (Ideal.ofBits .f32 0x45000000#32)

/-- The mean square distance of a row of 2048 from its mean. -/
def spread (z : Fin 2048 → EReal) : EReal :=
  Ideal.div (∑ l, (z l - mean z) * (z l - mean z)) (Ideal.ofBits .f32 0x45000000#32)

/-- The layer norm of a row at column `l`, with that column's gain and bias. -/
def lnRow (z : Fin 2048 → EReal) (g b : EReal) (l : Fin 2048) : EReal :=
  (z l - mean z) * Ideal.rsqrt (spread z + Ideal.ofBits .f32 0x3727C5AC#32) * g + b

/-- A row of the scaled residual plus what the layer adds. -/
def resid (h f : Fin 2048 → EReal) (l : Fin 2048) : EReal := Ideal.ofBits .f32 0x3F9837F0#32 * h l + f l

end Cert.Norm

end
-- ==== Proof.Down.Kernel.lean ====
/- The second feed-forward product's result array as one function of its arguments. -/
module

public import proofs.«01_k».proof.Proof.Gen.KernelDownIdeal.Frame
public import Idealize.ShloMosaic.Lib.Pipeline.Value
public import Idealize.ShloMosaic.Lib.Pipeline.ValueKit
public import Idealize.ShloMosaic.Lib.Pipeline.ReadBack
public import proofs.«01_k».proof.Proof.Norm.Row

@[expose] public section

set_option maxRecDepth 16384

noncomputable section

namespace Cert.Down

open Idealize.ShloMosaic Idealize.ShloMosaic.TcCoe Idealize.SL.Sem
open Idealize.ShloMosaic.Pipeline (Dat)
open Cert.KernelDownIdeal Cert.KernelDownIdeal.Gen
open Cert.Norm (lnRow resid mean spread)

variable (m : (ℓ : Loc nD τ sig) → Buf (Elt Ideal) ℓ)

/-- The windows' blocks at every grid point: 16 row blocks, each visited by 4 runs of 1408 inner columns. -/
theorem idx_val : ∀ t : Fin cfg0.N,
    win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] :=
  (by decide +kernel : ∀ t : Fin grid0.N, _)

/-- One block product at an index. -/
theorem pay1_at (x : FVec Ideal S512x1408 .bf16) (w : FVec Ideal S1408x2048 .bf16) (r : Fin 512) (l : Fin 2048) :
    k0_pay1 (F := Ideal) x w (ix2 r l) = (∑ k : Fin 1408, x (ix2 r k) * w (ix2 k l) : EReal) := by
  pointwise [k0_pay1]

/-- The block product stored first. -/
theorem pay2_at (x : FVec Ideal S512x1408 .bf16) (w : FVec Ideal S1408x2048 .bf16) (r : Fin 512) (l : Fin 2048) :
    k0_pay2 (F := Ideal) x w (ix2 r l) = (∑ k : Fin 1408, x (ix2 r k) * w (ix2 k l) : EReal) := by
  refine Eq.trans ?_ (pay1_at x w r l)
  generalize hp : k0_pay1 (F := Ideal) x w = p
  pointwise [k0_pay2, hp]

/-- The block product added to what was accumulated. -/
theorem pay3_at (x : FVec Ideal S512x1408 .bf16) (w : FVec Ideal S1408x2048 .bf16) (a : FVec Ideal S512x2048 .f32) (r : Fin 512) (l : Fin 2048) :
    k0_pay3 (F := Ideal) x w a (ix2 r l) = (a (ix2 r l) + ∑ k : Fin 1408, x (ix2 r k) * w (ix2 k l) : EReal) := by
  rw [← pay1_at x w r l]
  generalize hp : k0_pay1 (F := Ideal) x w = p
  pointwise [k0_pay3, hp]

/-- The stored block: the layer norm of the scaled residual plus the accumulated product. -/
theorem pay4_at (h a : FVec Ideal S512x2048 .f32) (g b : FVec Ideal S1x2048 .f32) (r : Fin 512) (l : Fin 2048) :
    k0_pay4 (F := Ideal) h a g b (ix2 r l)
      = lnRow (resid (fun l => h (ix2 r l)) (fun l => a (ix2 r l))) (g (ix2 0 l)) (b (ix2 0 l)) l := by
  unfold lnRow spread mean resid
  pointwise [k0_pay4]

/-- The accumulated block after a run's first point. -/
theorem acc_first (c : Dev nD) (t : Fin cfg0.N) (h : t.val % 4 = 0) :
    (outsAt0 m c t.val t.isLt).2 = k0_pay2 (iblk m c 0 t) (iblk m c 1 t) := by
  rw [outsAt0_A m c t h (by omega) (by omega)]
  dsimp only
  frame_out

/-- The accumulated block after each further point. -/
theorem acc_next (c : Dev nD) (t : Fin cfg0.N) (h : ¬t.val % 4 = 0) :
    (outsAt0 m c t.val t.isLt).2
      = k0_pay3 (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    dsimp only
    frame_out
    rw [read_unread_whole]
  · rw [outsAt0_B m c t h (by omega) h2]
    dsimp only
    frame_out
    rw [read_unread_whole]

/-- The block written back at a run's last point, over the accumulated block. -/
theorem out_last (c : Dev nD) (t : Fin cfg0.N) (h : t.val % 4 = 3) :
    (outsAt0 m c t.val t.isLt).1 = k0_pay4 (iblk m c 2 t) (outsAt0 m c t.val t.isLt).2 (iblk m c 3 t) (iblk m c 4 t) := by
  rw [acc_next m c t (by omega), outsAt0_C m c t (by omega) (by omega) h]
  dsimp only
  frame_out
  rw [read_unread_whole]

/-- The product's row `R` at column `l`. -/
def prodAt (X : FVec Ideal S8192x5632 .bf16) (w : FVec Ideal S1x5632x2048 .f32) (R : Fin 8192) (l : Fin 2048) : EReal :=
  ∑ k : Fin 5632, X (ix2 R k) * w (ix3 0 k l)

/-- The result's row `R` at column `l`: the layer norm of the scaled residual plus the product. -/
def outAt (X : FVec Ideal S8192x5632 .bf16) (w : FVec Ideal S1x5632x2048 .f32) (h : FVec Ideal S8192x2048 .f32)
    (g b : FVec Ideal S1x2048 .f32) (R : Fin 8192) (l : Fin 2048) : EReal :=
  lnRow (resid (fun l => h (ix2 R l)) (prodAt X w R)) (g (ix2 0 l)) (b (ix2 0 l)) l

/-- The result array. -/
def out (X : FVec Ideal S8192x5632 .bf16) (w : FVec Ideal S1x5632x2048 .f32) (h : FVec Ideal S8192x2048 .f32)
    (g b : FVec Ideal S1x2048 .f32) : FVec Ideal S8192x2048 .f32 :=
  fun j => outAt X w h g b (j 0) (j 1)

/-- The weights as the host hands them over. -/
theorem w_entry (c : Dev nD) (k : Fin 5632) (l : Fin 2048) :
    (show EReal from V m c main_v1 (ix2 k l)) = (show EReal from m ((c : Thread nD τ).loc main_arg1) (ix3 0 k l)) := by
  entry_read
  pointwise

/-- The gains as the host hands them over. -/
theorem g_entry (c : Dev nD) (l : Fin 2048) :
    (show EReal from V m c main_v3 (ix2 0 l)) = (show EReal from m ((c : Thread nD τ).loc main_arg3) (ix2 0 l)) := by
  entry_read
  pointwise

/-- The biases as the host hands them over. -/
theorem b_entry (c : Dev nD) (l : Fin 2048) :
    (show EReal from V m c main_v5 (ix2 0 l)) = (show EReal from m ((c : Thread nD τ).loc main_arg4) (ix2 0 l)) := by
  entry_read
  pointwise

/-- The activation block read. -/
theorem x_at (c : Dev nD) (t : Fin cfg0.N) (r : Fin 512) (k : Fin 1408) (R : Fin 8192) (K : Fin 5632)
    (hR : (R : ℕ) = t.val / 4 * 512 + r) (hK : (K : ℕ) = t.val % 4 * 1408 + k) :
    (show EReal from iblk m c 0 t (ix2 r k)) = (show EReal from m ((c : Thread nD τ).loc main_arg0) (ix2 R K)) := by
  blk_ext [iblk, V, idx_val t]

/-- The weight block read. -/
theorem w_at (c : Dev nD) (t : Fin cfg0.N) (k : Fin 1408) (l : Fin 2048) (K : Fin 5632) (hK : (K : ℕ) = t.val % 4 * 1408 + k) :
    (show EReal from iblk m c 1 t (ix2 k l)) = (show EReal from m ((c : Thread nD τ).loc main_arg1) (ix3 0 K l)) := by
  refine Eq.trans ?_ (w_entry m c K l)
  blk_ext [iblk, idx_val t]

/-- The residual block read. -/
theorem h_at (c : Dev nD) (t : Fin cfg0.N) (r : Fin 512) (l : Fin 2048) (R : Fin 8192) (hR : (R : ℕ) = t.val / 4 * 512 + r) :
    (show EReal from iblk m c 2 t (ix2 r l)) = (show EReal from m ((c : Thread nD τ).loc main_arg2) (ix2 R l)) := by
  blk_ext [iblk, V, idx_val t]

/-- The gains read. -/
theorem g_at (c : Dev nD) (t : Fin cfg0.N) (l : Fin 2048) :
    (show EReal from iblk m c 3 t (ix2 0 l)) = (show EReal from m ((c : Thread nD τ).loc main_arg3) (ix2 0 l)) := by
  refine Eq.trans ?_ (g_entry m c l)
  blk_ext [iblk, idx_val t]

/-- The biases read. -/
theorem b_at (c : Dev nD) (t : Fin cfg0.N) (l : Fin 2048) :
    (show EReal from iblk m c 4 t (ix2 0 l)) = (show EReal from m ((c : Thread nD τ).loc main_arg4) (ix2 0 l)) := by
  refine Eq.trans ?_ (b_entry m c l)
  blk_ext [iblk, idx_val t]

/-- The accumulated block at a run's last point: the whole product's rows. -/
theorem acc_last (c : Dev nD) (t : Fin cfg0.N) (h : t.val % 4 = 3) (r : Fin 512) (l : Fin 2048) (R : Fin 8192)
    (hR : (R : ℕ) = t.val / 4 * 512 + r) :
    (show EReal from (outsAt0 m c t.val t.isLt).2 (ix2 r l))
      = prodAt (m ((c : Thread nD τ).loc main_arg0)) (m ((c : Thread nD τ).loc main_arg1)) R l := by
  refine (Pipeline.eq_sum_fin_of_reset_step_apply_of_flush (M := EReal) (fun n h => (fun j => (outsAt0 m c n h).2 j)) 4 (fun _ => 0)
    (fun t j => ∑ k : Fin 1408, (show EReal from iblk m c 0 t (ix2 (j 0 : Fin 512) k)) * (show EReal from iblk m c 1 t (ix2 k (j 1 : Fin 2048))))
    (fun t h j => ?_) (fun t h j => ?_) t h (ix2 r l)).trans ?_
  · rw [eq_ix2 j, zero_add]
    exact (congrFun (acc_first m c t h) _).trans (pay2_at _ _ _ _)
  · rw [eq_ix2 j]
    exact (congrFun (acc_next m c t h) _).trans (pay3_at _ _ _ _ _)
  · rw [zero_add]
    unfold prodAt
    refine Fin.sum_mul_add_congr fun s k hl => ?_
    have hs : (4 * (t.val / 4) + s.val) / 4 = t.val / 4 := by omega
    have hs' : (4 * (t.val / 4) + s.val) % 4 = s.val := by omega
    refine Ideal.mul_congr (x_at m c _ r k R _ ?_ ?_) (w_at m c _ k l _ ?_) <;> simp only [] <;> omega

/-- What the body stores at block index `(r, l)` of a run's last point is the result at the array index that it sits at. -/
theorem point (c : Dev nD) (t : Fin cfg0.N) (h : t.val % 4 = 3) (r : Fin 512) (l : Fin 2048) (hR : t.val / 4 * 512 + r.val < 8192) :
    lnRow (resid (fun l => (show EReal from iblk m c 2 t (ix2 r l))) (fun l => (show EReal from (outsAt0 m c t.val t.isLt).2 (ix2 r l))))
        (iblk m c 3 t (ix2 0 l)) (iblk m c 4 t (ix2 0 l)) l
      = outAt (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 4 * 512 + r, hR⟩ l := by
  have e1 : (fun l => (show EReal from iblk m c 2 t (ix2 r l))) = fun l => (show EReal from m ((c : Thread nD τ).loc main_arg2) (ix2 (⟨t.val / 4 * 512 + r, hR⟩ : Fin 8192) l)) :=
    funext fun l => h_at m c t r l _ rfl
  have e2 : (fun l => (show EReal from (outsAt0 m c t.val t.isLt).2 (ix2 r l)))
      = prodAt (m ((c : Thread nD τ).loc main_arg0)) (m ((c : Thread nD τ).loc main_arg1)) ⟨t.val / 4 * 512 + r, hR⟩ :=
    funext fun l => acc_last m c t h r l _ rfl
  unfold outAt
  rw [e1, e2]
  exact congrArg₂ (fun g b => lnRow _ g b l) (g_at m c t l) (b_at m c t l)

/-- The result array after the run. -/
theorem final (c : Dev nD) : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5, out_last m c t h3]
  have ht : t.val < 64 := t.isLt
  obtain ⟨r, l, rfl⟩ : ∃ (r : Fin 512) (l : Fin 2048), y = ix2 r l := ⟨y 0, y 1, eq_ix2 y⟩
  refine (pay4_at _ _ _ _ r l).trans ?_
  refine Eq.trans ?_ (show outAt _ _ _ _ _ (⟨t.val / 4 * 512 + r, by omega⟩ : Fin 8192) l = _ from
    congrArg₂ (outAt (m ((c : Thread nD τ).loc main_arg0)) (m ((c : Thread nD τ).loc main_arg1)) (m ((c : Thread nD τ).loc main_arg2))
      (m ((c : Thread nD τ).loc main_arg3)) (m ((c : Thread nD τ).loc main_arg4))) (Fin.ext ?_) (Fin.ext ?_))
  · exact point m c t h3 r l (by omega)
  · blk_simp [idx_val t]
  · blk_simp [idx_val t]

end Cert.Down
-- ==== Proof.Down.Reference.lean ====
/- The references' layer norm and the second feed-forward product, read as scalar mathematics. -/
module

public import proofs.«01_k».proof.Proof.Gen.ReferenceDownIdeal.Run
public import proofs.«01_k».proof.Proof.Down.Kernel

@[expose] public section

set_option maxRecDepth 16384

noncomputable section

namespace Cert.Down.Ref

open Idealize.ShloMosaic Idealize.ShloMosaic.TcCoe Idealize.SL.Sem
open Cert.ReferenceDownIdeal Cert.ReferenceDownIdeal.Gen
open Cert.Norm (lnRow resid mean spread)

/-- The rows' distances from their means, as the reference computes them. -/
def centered (Z : FVec Ideal S8192x2048 .f32) : FVec Ideal S8192x2048 .f32 :=
  subf Z (broadcastInDim S8192x2048 ![0, 1] bcast_S8192x1_S8192x2048_0_1 (Host.divf (broadcastInDim S8192x1 ![0] bcast_S8192_S8192x1_0 (Host.reduceAdd Z (constant S_ .f32 0x00000000#32) reducesTo_S8192x2048_S8192_d1 h_S_)) (broadcastInDim S8192x1 ![] bcast_S_S8192x1 (constant S_ .f32 0x45000000#32))))

/-- The layer norm of distances `D`, as the reference computes it. -/
def scaled (D : FVec Ideal S8192x2048 .f32) (g b : FVec Ideal S2048 .f32) : FVec Ideal S8192x2048 .f32 :=
  addf (mulf (mulf D (broadcastInDim S8192x2048 ![0, 1] bcast_S8192x1_S8192x2048_0_1 (Host.rsqrt (addf (Host.divf (broadcastInDim S8192x1 ![0] bcast_S8192_S8192x1_0 (Host.reduceAdd (mulf D D) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 g))) (broadcastInDim S8192x2048 ![0, 1] bcast_S1x2048_S8192x2048_0_1 (broadcastInDim S1x2048 ![1] bcast_S2048_S1x2048_1 b))

/-- The scaled residual plus what the layer adds. -/
def added (h f : FVec Ideal S8192x2048 .f32) : FVec Ideal S8192x2048 .f32 :=
  addf (mulf (broadcastInDim S8192x2048 ![] bcast_S_S8192x2048 (constant S_ .f32 0x3F9837F0#32)) h) f

/-- The product. -/
def prod (X : FVec Ideal S8192x5632 .bf16) (w : FVec Ideal S1x5632x2048 .f32) : FVec Ideal S8192x2048 .f32 :=
  Host.dotGeneral dot_S8192x5632_S5632x2048_S8192x2048_1_0_0_1_n_n none (extf .f32 X bitsLt_bf16_f32) (shapeCast S5632x2048 w shapeCasts_S1x5632x2048_S5632x2048)

/-- The distances at an index. -/
theorem centered_at (Z : FVec Ideal S8192x2048 .f32) (R : Fin 8192) (l : Fin 2048) :
    (show EReal from centered Z (ix2 R l)) = (show EReal from Z (ix2 R l)) - mean (fun l => Z (ix2 R l)) := by
  unfold mean
  pointwise [centered]

/-- The layer norm of distances at an index. -/
theorem scaled_at (D : FVec Ideal S8192x2048 .f32) (g b : FVec Ideal S2048 .f32) (R : Fin 8192) (l : Fin 2048) :
    scaled D g b (ix2 R l) = (D (ix2 R l) * Ideal.rsqrt (Ideal.div (∑ k : Fin 2048, D (ix2 R k) * D (ix2 R k)) (Ideal.ofBits .f32 0x45000000#32) + Ideal.ofBits .f32 0x3727C5AC#32)
      * g (ix1 l) + b (ix1 l) : EReal) := by
  pointwise [scaled]

/-- The whole layer norm at an index is the row's. -/
theorem norm_at (Z : FVec Ideal S8192x2048 .f32) (g b : FVec Ideal S2048 .f32) (R : Fin 8192) (l : Fin 2048) :
    (show EReal from scaled (centered Z) g b (ix2 R l)) = lnRow (fun l => Z (ix2 R l)) (g (ix1 l)) (b (ix1 l)) l := by
  refine (scaled_at _ g b R l).trans ?_
  have h : ∀ l, centered Z (ix2 R l) = _ := fun l => centered_at Z R l
  simp only [h]
  rfl

/-- The scaled residual plus what the layer adds, at an index. -/
theorem added_at (h f : FVec Ideal S8192x2048 .f32) (R : Fin 8192) (l : Fin 2048) :
    (show EReal from added h f (ix2 R l)) = resid (fun l => h (ix2 R l)) (fun l => f (ix2 R l)) l := by
  unfold resid
  pointwise [added]

/-- The product at an index. -/
theorem prod_at (X : FVec Ideal S8192x5632 .bf16) (w : FVec Ideal S1x5632x2048 .f32) (R : Fin 8192) (l : Fin 2048) :
    (show EReal from prod X w (ix2 R l)) = prodAt X w R l := by
  unfold prodAt
  pointwise [prod]

/-- A row's gains or biases read out of the argument. -/
theorem gain_at (g : FVec Ideal S1x2048 .f32) (l : Fin 2048) :
    (show EReal from shapeCast S2048 g shapeCasts_S1x2048_S2048 (ix1 l)) = (show EReal from g (ix2 0 l)) := by
  pointwise

/-- The reference's steps composed are the kernel's array. -/
theorem steps_eq (X : FVec Ideal S8192x5632 .bf16) (w : FVec Ideal S1x5632x2048 .f32) (h : FVec Ideal S8192x2048 .f32) (g b : FVec Ideal S1x2048 .f32) :
    scaled (centered (added h (prod X w))) (shapeCast S2048 g shapeCasts_S1x2048_S2048) (shapeCast S2048 b shapeCasts_S1x2048_S2048) = out X w h g b := by
  funext j
  obtain ⟨R, l, rfl⟩ : ∃ (R : Fin 8192) (l : Fin 2048), j = ix2 R l := ⟨j 0, j 1, eq_ix2 j⟩
  refine (norm_at _ _ _ R l).trans ?_
  have hz : (fun l => (show EReal from added h (prod X w) (ix2 R l))) = resid (fun l => h (ix2 R l)) (prodAt X w R) := by
    funext l
    refine (added_at h _ R l).trans ?_
    exact congrArg (fun f => resid (fun l => h (ix2 R l)) f l) (funext fun l => prod_at X w R l)
  refine (congrArg (fun z => lnRow z _ _ l) hz).trans ?_
  exact congrArg₂ (fun g b => lnRow (resid (fun l => h (ix2 R l)) (prodAt X w R)) g b l) (gain_at g l) (gain_at b l)

end Cert.Down.Ref

end
-- ==== Proof.Down.Claims.lean ====
/- The second feed-forward product's claims. -/
module

public import proofs.«01_k».proof.Defs
public import proofs.«01_k».proof.Proof.Down.Reference
public import Idealize.ShloMosaic.Adequacy
public import Idealize.ShloMosaic.Init

@[expose] public section

noncomputable section

namespace Cert.Down

open Idealize.ShloMosaic Idealize.ShloMosaic.TcCoe Idealize.SL.Sem

/-- The reference runs, leaves its arguments as they were and ends with every counter at zero. -/
theorem reference_frame : Cert.quiescent_ReferenceDownIdeal (hReferenceDownIdeal := Cert.ReferenceDownIdeal.Gen.facts) := by
  intro m g _
  exact (θ_run Cert.ReferenceDownIdeal.defs _ _).mono (fun r h => ⟨fun c => (h c).2, sem_eq_zero_of_no_sems (by decide) r.2⟩)
    (Cert.ReferenceDownIdeal.Value.run m g)

/-- The kernel's and the reference's result are the same array. -/
theorem algebraic : Cert.algebraic_KernelDownIdeal_ReferenceDownIdeal (hKernelDownIdeal := Cert.KernelDownIdeal.Gen.facts)
    (hReferenceDownIdeal := Cert.ReferenceDownIdeal.Gen.facts) := by
  intro m g m' g' _ hargs
  refine ⟨fun c => out (m (c.tc.loc Cert.KernelDownIdeal.main_arg0)) (m (c.tc.loc Cert.KernelDownIdeal.main_arg1))
    (m (c.tc.loc Cert.KernelDownIdeal.main_arg2)) (m (c.tc.loc Cert.KernelDownIdeal.main_arg3)) (m (c.tc.loc Cert.KernelDownIdeal.main_arg4)), ?_, ?_⟩
  · run_from Cert.KernelDownIdeal.Gen.run_main m g
    exact final m c
  · run_from Cert.ReferenceDownIdeal.Value.run m' g'
    obtain ⟨h0, h1, h2, h3, h4⟩ := hargs c
    rw [h0, h1, h2, h3, h4]
    exact Ref.steps_eq _ _ _ _ _

end Cert.Down

end
-- ==== Proof.Out.Kernel.lean ====
/- The output projection's result arrays as functions of its arguments. -/
module

public import proofs.«01_k».proof.Proof.Gen.KernelOutIdeal.Value
public import Idealize.ShloMosaic.Lib.Pipeline.Value
public import Idealize.ShloMosaic.Lib.Pipeline.ValueKit
public import proofs.«01_k».proof.Proof.Norm.Row

@[expose] public section

set_option maxRecDepth 16384

noncomputable section

namespace Cert.Out

open Idealize.ShloMosaic Idealize.ShloMosaic.TcCoe Idealize.SL.Sem
open Idealize.ShloMosaic.Pipeline (Dat)
open Cert.KernelOutIdeal Cert.KernelOutIdeal.Gen
open Cert.Norm (lnRow resid mean spread)

variable (m : (ℓ : Loc nD τ sig) → Buf (Elt Ideal) ℓ)

/-- The windows' blocks at every grid point: 32 row blocks, the weights' two halves at each. -/
theorem idx_val : ∀ t : Fin cfg0.N,
    win0_0.index t = ![t.val, 0] ∧ win0_1.index t = ![t.val, 0] ∧ win0_2.index t = ![0, 0] ∧ win0_3.index t = ![1, 0]
    ∧ win0_4.index t = ![t.val, 0] ∧ win0_5.index t = ![0, 0] ∧ win0_6.index t = ![0, 0] ∧ win0_7.index t = ![t.val, 0]
    ∧ win0_8.index t = ![t.val, 0] :=
  (by decide +kernel : ∀ t : Fin grid0.N, _)

/-- A row's two products added. -/
def halves (a b : Fin 1024 → EReal) (u v : Fin 1024 → Fin 2048 → EReal) (l : Fin 2048) : EReal :=
  (∑ k, a k * u k l) + ∑ k, b k * v k l

/-- The stored block: the layer norm of the scaled residual plus the two products. -/
theorem pay2_at (x : FVec Ideal S256x1024 .bf16) (u : FVec Ideal S1024x2048 .bf16) (y : FVec Ideal S256x1024 .bf16) (v : FVec Ideal S1024x2048 .bf16)
    (h : FVec Ideal S256x2048 .f32) (g b : FVec Ideal S1x2048 .f32) (r : Fin 256) (l : Fin 2048) :
    (show EReal from k0_pay2 (F := Ideal) x u y v h g b (ix2 r l))
      = lnRow (resid (fun l => h (ix2 r l)) (halves (fun k => x (ix2 r k)) (fun k => y (ix2 r k)) (fun k l => u (ix2 k l)) (fun k l => v (ix2 k l))))
          (g (ix2 0 l)) (b (ix2 0 l)) l := by
  unfold lnRow spread mean resid halves
  pointwise [k0_pay2]

/-- The joined product's row `R` at column `l`: the attention's half and the recurrence's. -/
def prodAt (A B : FVec Ideal S8192x1024 .bf16) (w : FVec Ideal S1x2048x2048 .f32) (R : Fin 8192) (l : Fin 2048) : EReal :=
  halves (fun k => A (ix2 R k)) (fun k => B (ix2 R k)) (fun k l => w (ix3 0 (⟨k, by omega⟩ : Fin 2048) l))
    (fun k l => w (ix3 0 (⟨1024 + k, by omega⟩ : Fin 2048) l)) l

/-- The result's row `R` at column `l`. -/
def outAt (A B : FVec Ideal S8192x1024 .bf16) (w : FVec Ideal S1x2048x2048 .f32) (h : FVec Ideal S8192x2048 .f32)
    (g b : FVec Ideal S1x2048 .f32) (R : Fin 8192) (l : Fin 2048) : EReal :=
  lnRow (resid (fun l => h (ix2 R l)) (prodAt A B w R)) (g (ix2 0 l)) (b (ix2 0 l)) l

/-- The result array. -/
def out (A B : FVec Ideal S8192x1024 .bf16) (w : FVec Ideal S1x2048x2048 .f32) (h : FVec Ideal S8192x2048 .f32)
    (g b : FVec Ideal S1x2048 .f32) : FVec Ideal S8192x2048 .f32 :=
  fun j => outAt A B w h g b (j 0) (j 1)

/-- The result array in the shorter format. -/
def out16 (A B : FVec Ideal S8192x1024 .bf16) (w : FVec Ideal S1x2048x2048 .f32) (h : FVec Ideal S8192x2048 .f32)
    (g b : FVec Ideal S1x2048 .f32) : FVec Ideal S8192x2048 .bf16 :=
  fun j => outAt A B w h g b (j 0) (j 1)

/-- The weights as the host hands them over. -/
theorem w_entry (c : Dev nD) (k : Fin 2048) (l : Fin 2048) :
    (show EReal from V m c main_v1 (ix2 k l)) = (show EReal from m ((c : Thread nD τ).loc main_arg2) (ix3 0 k l)) := by
  entry_read
  pointwise

/-- The gains as the host hands them over. -/
theorem g_entry (c : Dev nD) (l : Fin 2048) :
    (show EReal from V m c main_v3 (ix2 0 l)) = (show EReal from m ((c : Thread nD τ).loc main_arg4) (ix2 0 l)) := by
  entry_read
  pointwise

/-- The biases as the host hands them over. -/
theorem b_entry (c : Dev nD) (l : Fin 2048) :
    (show EReal from V m c main_v5 (ix2 0 l)) = (show EReal from m ((c : Thread nD τ).loc main_arg5) (ix2 0 l)) := by
  entry_read
  pointwise

/-- The attention block read. -/
theorem x_at (c : Dev nD) (t : Fin cfg0.N) (r : Fin 256) (k : Fin 1024) (R : Fin 8192) (hR : (R : ℕ) = t.val * 256 + r) :
    (show EReal from iblk m c 0 t (ix2 r k)) = (show EReal from m ((c : Thread nD τ).loc main_arg0) (ix2 R k)) := by
  blk_ext [iblk, V, idx_val t]

/-- The recurrence block read. -/
theorem y_at (c : Dev nD) (t : Fin cfg0.N) (r : Fin 256) (k : Fin 1024) (R : Fin 8192) (hR : (R : ℕ) = t.val * 256 + r) :
    (show EReal from iblk m c 1 t (ix2 r k)) = (show EReal from m ((c : Thread nD τ).loc main_arg1) (ix2 R k)) := by
  blk_ext [iblk, V, idx_val t]

/-- The weights' first half read. -/
theorem u_at (c : Dev nD) (t : Fin cfg0.N) (k : Fin 1024) (l : Fin 2048) (K : Fin 2048) (hK : (K : ℕ) = k) :
    (show EReal from iblk m c 2 t (ix2 k l)) = (show EReal from m ((c : Thread nD τ).loc main_arg2) (ix3 0 K l)) := by
  refine Eq.trans ?_ (w_entry m c K l)
  blk_ext [iblk, idx_val t]

/-- The weights' second half read. -/
theorem v_at (c : Dev nD) (t : Fin cfg0.N) (k : Fin 1024) (l : Fin 2048) (K : Fin 2048) (hK : (K : ℕ) = 1024 + k) :
    (show EReal from iblk m c 3 t (ix2 k l)) = (show EReal from m ((c : Thread nD τ).loc main_arg2) (ix3 0 K l)) := by
  refine Eq.trans ?_ (w_entry m c K l)
  blk_ext [iblk, idx_val t]

/-- The residual block read. -/
theorem h_at (c : Dev nD) (t : Fin cfg0.N) (r : Fin 256) (l : Fin 2048) (R : Fin 8192) (hR : (R : ℕ) = t.val * 256 + r) :
    (show EReal from iblk m c 4 t (ix2 r l)) = (show EReal from m ((c : Thread nD τ).loc main_arg3) (ix2 R l)) := by
  blk_ext [iblk, V, idx_val t]

/-- The gains read. -/
theorem g_at (c : Dev nD) (t : Fin cfg0.N) (l : Fin 2048) :
    (show EReal from iblk m c 5 t (ix2 0 l)) = (show EReal from m ((c : Thread nD τ).loc main_arg4) (ix2 0 l)) := by
  refine Eq.trans ?_ (g_entry m c l)
  blk_ext [iblk, idx_val t]

/-- The biases read. -/
theorem b_at (c : Dev nD) (t : Fin cfg0.N) (l : Fin 2048) :
    (show EReal from iblk m c 6 t (ix2 0 l)) = (show EReal from m ((c : Thread nD τ).loc main_arg5) (ix2 0 l)) := by
  refine Eq.trans ?_ (b_entry m c l)
  blk_ext [iblk, idx_val t]

/-- What the body stores at block index `(r, l)` of point `t` is the result at the array index that it sits at. -/
theorem point (c : Dev nD) (t : Fin cfg0.N) (r : Fin 256) (l : Fin 2048) (hR : t.val * 256 + r.val < 8192) :
    (show EReal from k0_pay2 (F := Ideal) (iblk m c 0 t) (iblk m c 2 t) (iblk m c 1 t) (iblk m c 3 t) (iblk m c 4 t) (iblk m c 5 t) (iblk m c 6 t) (ix2 r l))
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) ⟨t.val * 256 + r, hR⟩ l := by
  refine (pay2_at _ _ _ _ _ _ _ r l).trans ?_
  have e1 : (fun l => (show EReal from iblk m c 4 t (ix2 r l))) = fun l => (show EReal from m ((c : Thread nD τ).loc main_arg3) (ix2 (⟨t.val * 256 + r, hR⟩ : Fin 8192) l)) :=
    funext fun l => h_at m c t r l _ rfl
  have e2 : halves (fun k => (show EReal from iblk m c 0 t (ix2 r k))) (fun k => (show EReal from iblk m c 1 t (ix2 r k)))
        (fun k l => (show EReal from iblk m c 2 t (ix2 k l))) (fun k l => (show EReal from iblk m c 3 t (ix2 k l)))
      = prodAt (m ((c : Thread nD τ).loc main_arg0)) (m ((c : Thread nD τ).loc main_arg1)) (m ((c : Thread nD τ).loc main_arg2)) ⟨t.val * 256 + r, hR⟩ := by
    funext l
    unfold prodAt halves
    refine congrArg₂ (· + ·) (Finset.sum_congr rfl fun k _ => Ideal.mul_congr (x_at m c t r k _ rfl) (u_at m c t k l _ rfl))
      (Finset.sum_congr rfl fun k _ => Ideal.mul_congr (y_at m c t r k _ rfl) (v_at m c t k l _ rfl))
  unfold outAt
  refine (congrArg₂ (fun h f => lnRow (resid h f) _ _ l) e1 e2).trans ?_
  exact congrArg₂ (fun g b => lnRow _ g b l) (g_at m c t l) (b_at m c t l)

/-- The first result array after the run. -/
theorem final (c : Dev nD) : (dats m 0 c).arrAt 7 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]; unfold_out out0_7; frame_out
  have ht : t.val < 32 := t.isLt
  obtain ⟨r, l, rfl⟩ : ∃ (r : Fin 256) (l : Fin 2048), y = ix2 r l := ⟨y 0, y 1, eq_ix2 y⟩
  refine Eq.trans ?_ (show outAt _ _ _ _ _ _ (⟨t.val * 256 + r, by omega⟩ : Fin 8192) l = _ from
    congrArg₂ (outAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (Fin.ext ?_) (Fin.ext ?_))
  · exact point m c t r l (by omega)
  · blk_simp [idx_val t]
  · blk_simp [idx_val t]

/-- The second result array after the run. -/
theorem final16 (c : Dev nD) : (dats m 0 c).arrAt 8 (cfgs 0).N
    = out16 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]; unfold_out out0_8; frame_out
  have ht : t.val < 32 := t.isLt
  obtain ⟨r, l, rfl⟩ : ∃ (r : Fin 256) (l : Fin 2048), y = ix2 r l := ⟨y 0, y 1, eq_ix2 y⟩
  refine Eq.trans ?_ (show outAt _ _ _ _ _ _ (⟨t.val * 256 + r, by omega⟩ : Fin 8192) l = _ from
    congrArg₂ (outAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (Fin.ext ?_) (Fin.ext ?_))
  · exact point m c t r l (by omega)
  · blk_simp [idx_val t]
  · blk_simp [idx_val t]

end Cert.Out
-- ==== Proof.Out.Reference.lean ====
/- The output projection's reference, read as scalar mathematics. -/
module

public import proofs.«01_k».proof.Proof.Gen.ReferenceOutIdeal.Run
public import proofs.«01_k».proof.Proof.Out.Kernel
public import proofs.«01_k».proof.Proof.Down.Reference

@[expose] public section

set_option maxRecDepth 16384

noncomputable section

namespace Cert.Out.Ref

open Idealize.ShloMosaic Idealize.ShloMosaic.TcCoe Idealize.SL.Sem
open Cert.ReferenceOutIdeal Cert.ReferenceOutIdeal.Gen
open Cert.Norm (lnRow resid)
open Cert.Down.Ref (centered scaled added norm_at added_at gain_at)

/-- The two operands side by side. -/
def joined (A B : FVec Ideal S8192x1024 .bf16) : FVec Ideal S8192x2048 .f32 :=
  concatenate S8192x2048 1 [⟨S8192x1024, (extf .f32 A bitsLt_bf16_f32)⟩, ⟨S8192x1024, (extf .f32 B bitsLt_bf16_f32)⟩] concatenates_S8192x1024_S8192x1024_S8192x2048_d1

/-- The product of the joined operands. -/
def prod (A B : FVec Ideal S8192x1024 .bf16) (w : FVec Ideal S1x2048x2048 .f32) : FVec Ideal S8192x2048 .f32 :=
  Host.dotGeneral dot_S8192x2048_S2048x2048_S8192x2048_1_0_0_1_n_n none (joined A B) (shapeCast S2048x2048 w shapeCasts_S1x2048x2048_S2048x2048)

/-- The joined operands' first half. -/
theorem joined_left (A B : FVec Ideal S8192x1024 .bf16) (R : Fin 8192) (k : Fin 1024) :
    (show EReal from joined A B (ix2 R (⟨k, by omega⟩ : Fin 2048))) = (show EReal from A (ix2 R k)) := by
  pointwise [joined]

/-- The joined operands' second half. -/
theorem joined_right (A B : FVec Ideal S8192x1024 .bf16) (R : Fin 8192) (k : Fin 1024) :
    (show EReal from joined A B (ix2 R (⟨1024 + k, by omega⟩ : Fin 2048))) = (show EReal from B (ix2 R k)) := by
  pointwise [joined]

/-- The product at an index, over the joined operands. -/
theorem prod_sum (A B : FVec Ideal S8192x1024 .bf16) (w : FVec Ideal S1x2048x2048 .f32) (R : Fin 8192) (l : Fin 2048) :
    (show EReal from prod A B w (ix2 R l)) = (∑ k : Fin 2048, joined A B (ix2 R k) * w (ix3 0 k l) : EReal) := by
  unfold prod
  generalize joined A B = J
  pointwise

/-- The product at an index: the two halves. -/
theorem prod_at (A B : FVec Ideal S8192x1024 .bf16) (w : FVec Ideal S1x2048x2048 .f32) (R : Fin 8192) (l : Fin 2048) :
    (show EReal from prod A B w (ix2 R l)) = prodAt A B w R l := by
  refine (prod_sum A B w R l).trans ?_
  refine (Fin.sum_univ_add (M := EReal) (a := 1024) (b := 1024) _).trans ?_
  unfold prodAt halves
  exact congrArg₂ (· + ·) (Finset.sum_congr rfl fun k _ => Ideal.mul_congr (joined_left A B R k) rfl)
    (Finset.sum_congr rfl fun k _ => Ideal.mul_congr (joined_right A B R k) rfl)

/-- The reference's steps composed are the kernel's array. -/
theorem steps_eq (A B : FVec Ideal S8192x1024 .bf16) (w : FVec Ideal S1x2048x2048 .f32) (h : FVec Ideal S8192x2048 .f32) (g b : FVec Ideal S1x2048 .f32) :
    scaled (centered (added h (prod A B w))) (shapeCast S2048 g shapeCasts_S1x2048_S2048) (shapeCast S2048 b shapeCasts_S1x2048_S2048) = out A B w h g b := by
  funext j
  obtain ⟨R, l, rfl⟩ : ∃ (R : Fin 8192) (l : Fin 2048), j = ix2 R l := ⟨j 0, j 1, eq_ix2 j⟩
  refine (norm_at _ _ _ R l).trans ?_
  have hz : (fun l => (show EReal from added h (prod A B w) (ix2 R l))) = resid (fun l => h (ix2 R l)) (prodAt A B w R) := by
    funext l
    refine (added_at h _ R l).trans ?_
    exact congrArg (fun f => resid (fun l => h (ix2 R l)) f l) (funext fun l => prod_at A B w R l)
  refine (congrArg (fun z => lnRow z _ _ l) hz).trans ?_
  exact congrArg₂ (fun g b => lnRow (resid (fun l => h (ix2 R l)) (prodAt A B w R)) g b l) (gain_at g l) (gain_at b l)

/-- The reference's first result is these steps composed. -/
theorem result_eq (m : (ℓ : Loc nD τ sig) → Buf (Elt Ideal) ℓ) (c : Dev nD) :
    Cert.ReferenceOutIdeal.Value.res_out0 m c
      = scaled (centered (added (m ((c.tc : Thread nD τ).loc main_arg3)) (prod (m ((c.tc : Thread nD τ).loc main_arg0)) (m ((c.tc : Thread nD τ).loc main_arg1)) (m ((c.tc : Thread nD τ).loc main_arg2)))))
          (shapeCast S2048 (m ((c.tc : Thread nD τ).loc main_arg4) : FVec Ideal S1x2048 .f32) shapeCasts_S1x2048_S2048)
          (shapeCast S2048 (m ((c.tc : Thread nD τ).loc main_arg5) : FVec Ideal S1x2048 .f32) shapeCasts_S1x2048_S2048) := rfl

/-- The reference's second result is the first in the shorter format. -/
theorem result16_eq (m : (ℓ : Loc nD τ sig) → Buf (Elt Ideal) ℓ) (c : Dev nD) :
    Cert.ReferenceOutIdeal.Value.res_out1 m c = (truncf .bf16 (Cert.ReferenceOutIdeal.Value.res_out0 m c : FVec Ideal S8192x2048 .f32) bitsLt_bf16_f32 : FVec Ideal S8192x2048 .bf16) := rfl

end Cert.Out.Ref

end
-- ==== Proof.Out.Claims.lean ====
/- The output projection's claims. -/
module

public import proofs.«01_k».proof.Defs
public import proofs.«01_k».proof.Proof.Out.Reference
public import Idealize.ShloMosaic.Adequacy
public import Idealize.ShloMosaic.Init

@[expose] public section

noncomputable section

namespace Cert.Out

open Idealize.ShloMosaic Idealize.ShloMosaic.TcCoe Idealize.SL.Sem

/-- The reference runs, leaves its arguments as they were and ends with every counter at zero. -/
theorem reference_frame : Cert.quiescent_ReferenceOutIdeal (hReferenceOutIdeal := Cert.ReferenceOutIdeal.Gen.facts) := by
  intro m g _
  exact (θ_run Cert.ReferenceOutIdeal.defs _ _).mono (fun r h => ⟨fun c => (h c).2.2, sem_eq_zero_of_no_sems (by decide) r.2⟩)
    (Cert.ReferenceOutIdeal.Value.run m g)

/-- The reference's first result is the kernel's array. -/
theorem result_out (m : (ℓ : Loc Cert.ReferenceOutIdeal.nD Cert.ReferenceOutIdeal.τ Cert.ReferenceOutIdeal.sig) → Buf (Elt Ideal) ℓ) (c : Dev Cert.ReferenceOutIdeal.nD)
    (A B : FVec Ideal Cert.KernelOutIdeal.S8192x1024 .bf16) (w : FVec Ideal Cert.KernelOutIdeal.S1x2048x2048 .f32)
    (h : FVec Ideal Cert.KernelOutIdeal.S8192x2048 .f32) (g b : FVec Ideal Cert.KernelOutIdeal.S1x2048 .f32)
    (h0 : m ((c.tc : Thread Cert.ReferenceOutIdeal.nD Cert.ReferenceOutIdeal.τ).loc Cert.ReferenceOutIdeal.main_arg0) = A)
    (h1 : m ((c.tc : Thread Cert.ReferenceOutIdeal.nD Cert.ReferenceOutIdeal.τ).loc Cert.ReferenceOutIdeal.main_arg1) = B)
    (h2 : m ((c.tc : Thread Cert.ReferenceOutIdeal.nD Cert.ReferenceOutIdeal.τ).loc Cert.ReferenceOutIdeal.main_arg2) = w)
    (h3 : m ((c.tc : Thread Cert.ReferenceOutIdeal.nD Cert.ReferenceOutIdeal.τ).loc Cert.ReferenceOutIdeal.main_arg3) = h)
    (h4 : m ((c.tc : Thread Cert.ReferenceOutIdeal.nD Cert.ReferenceOutIdeal.τ).loc Cert.ReferenceOutIdeal.main_arg4) = g)
    (h5 : m ((c.tc : Thread Cert.ReferenceOutIdeal.nD Cert.ReferenceOutIdeal.τ).loc Cert.ReferenceOutIdeal.main_arg5) = b) :
    Cert.ReferenceOutIdeal.Value.res_out0 m c = out A B w h g b := by
  refine (Ref.result_eq m c).trans ?_
  rw [h0, h1, h2, h3, h4, h5]
  exact Ref.steps_eq A B w h g b

/-- The kernel's and the reference's results are the same arrays. -/
theorem algebraic : Cert.algebraic_KernelOutIdeal_ReferenceOutIdeal (hKernelOutIdeal := Cert.KernelOutIdeal.Gen.facts)
    (hReferenceOutIdeal := Cert.ReferenceOutIdeal.Gen.facts) := by
  intro m g m' g' _ hargs
  refine ⟨fun c => out (m (c.tc.loc Cert.KernelOutIdeal.main_arg0)) (m (c.tc.loc Cert.KernelOutIdeal.main_arg1))
    (m (c.tc.loc Cert.KernelOutIdeal.main_arg2)) (m (c.tc.loc Cert.KernelOutIdeal.main_arg3)) (m (c.tc.loc Cert.KernelOutIdeal.main_arg4)) (m (c.tc.loc Cert.KernelOutIdeal.main_arg5)),
    fun c => out16 (m (c.tc.loc Cert.KernelOutIdeal.main_arg0)) (m (c.tc.loc Cert.KernelOutIdeal.main_arg1))
    (m (c.tc.loc Cert.KernelOutIdeal.main_arg2)) (m (c.tc.loc Cert.KernelOutIdeal.main_arg3)) (m (c.tc.loc Cert.KernelOutIdeal.main_arg4)) (m (c.tc.loc Cert.KernelOutIdeal.main_arg5)), ?_, ?_⟩
  · run_from Cert.KernelOutIdeal.Gen.run_main m g
    · exact final m c
    · exact final16 m c
  · run_from Cert.ReferenceOutIdeal.Value.run m' g'
    · obtain ⟨h0, h1, h2, h3, h4, h5⟩ := hargs c
      exact result_out m' c _ _ _ _ _ _ h0 h1 h2 h3 h4 h5
    · obtain ⟨h0, h1, h2, h3, h4, h5⟩ := hargs c
      have hr := result_out m' c _ _ _ _ _ _ h0 h1 h2 h3 h4 h5
      refine (Ref.result16_eq m' c).trans ?_
      rw [hr]
      rfl

end Cert.Out

end
-- ==== Proof.UpIdeal.Run.lean ====
/- One grid point of the first feed-forward kernel: the body, run on whole staging buffers. -/
module

public import proofs.«01_k».proof.Proof.Gen.KernelUpIdeal.Frame
public import proofs.«01_k».proof.Proof.Gen.KernelUpIdeal.Skeleton

@[expose] public section

set_option maxRecDepth 16384

noncomputable section

namespace Cert.UpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal Cert.KernelUpIdeal.Gen

variable {F : FTy → Type} [FloatOps F]

local notation "𝕄" => MT nD τ sig Unit (Elt F) ℕ (UR sig nD τ) ℕ

set_option maxHeartbeats 2000000 in
/-- The body at any grid point: from the nine input blocks, the three output buffers at anything and the two carried
    buffers at `xs0`, `xs1`, it ends with the inputs as they were and each written buffer holding the pieces the run
    finds (`L9`, `L10`, `L11` for the outputs, `LS0`, `LS1` for the carried buffers). -/
def bodyRun (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole)
    (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) :
    Σ' (L9 : List (View.Piece (Elt F) S512x512 .bf16)) (L10 L11 : List (View.Piece (Elt F) S1x8x512 .f32)) (LS0 : List (View.Piece (Elt F) S8x512 .f32)), { LS1 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_ffn_up_eq_skeleton]; unfold cc0_ffn_up_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg14.eq_unread hfs0; obtain rfl := harg15.eq_unread hfs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]; · iexists _; iexact HS0
    iexists _; iexact HS1

end Cert.UpIdeal

end
-- ==== Proof.UpIdeal.Point.lean ====
/- What one grid point of the first feed-forward kernel writes, in terms of the blocks it reads. -/
module

public import proofs.«01_k».proof.Proof.UpIdeal.Run

@[expose] public section

set_option maxRecDepth 16384

noncomputable section

namespace Cert.UpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal Cert.KernelUpIdeal.Gen

variable {F : FTy → Type} [FloatOps F]

local notation "𝕄" => MT nD τ sig Unit (Elt F) ℕ (UR sig nD τ) ℕ

/-- Whether the point opens a batch (its row block is the first of the batch's four): the bit the body computes. -/
def firstBit (i : grid0.Coords) : BitVec 1 :=
  let v1 : BitVec 32 := Scalar.select (Scalar.cmpi .eq 4#32 0#32) 1#32 4#32
  let v2 : BitVec 32 := Scalar.remsi (BitVec.ofNat 32 (i 1).val) v1
  Scalar.cmpi .eq (Scalar.select (Scalar.andi (Scalar.xori (Scalar.cmpi .slt v2 0#32) (Scalar.cmpi .slt v1 0#32)) (Scalar.cmpi .ne v2 0#32)) (Scalar.addi v2 v1) v2) 0#32

/-- The bit is one exactly at the points whose number is a multiple of four. -/
theorem firstBit_eq : ∀ t : Fin cfg0.N, firstBit (grid0.coords t) = if t.val % 4 = 0 then 1#1 else 0#1 :=
  (by decide +kernel : ∀ t : Fin grid0.N, firstBit (grid0.coords t) = if t.val % 4 = 0 then 1#1 else 0#1)

/-- The last two rows of a carried buffer. -/
def lastRows (x : Vec F S8x512 .f32) : Vec F S2x512 .f32 :=
  fun j => x ((Rect.unit (s := S8x512) ![6, 0] S2x512.size inb_S8x512_S2x512_6_0).toLoadRect.idx j)

/-- The convolved gate half of the block, from the activations, the gate weights, the filter, the bias, the state the
    batch starts from and the two rows carried over. -/
def gateConv (i : grid0.Coords) (x0 : Vec F S512x2048 .bf16) (x1 : Vec F S2048x512 .bf16) (x3 : Vec F S3x512 .f32) (x5 : Vec F S1x512 .f32) (x7 : Vec F S1x2x512 .f32) (w : Vec F S2x512 .f32) : FVec F S512x512 .f32 :=
  k0_pay9 (k0_pay2 x0 x1) (k0_pay4 i x7 w) (k0_pay6 i x0 x1 x7 w) k0_pay7 (k0_pay8 i x0 x1 x7 w) x3 x5

/-- The convolved value half of the block. -/
def valConv (i : grid0.Coords) (x0 : Vec F S512x2048 .bf16) (x2 : Vec F S2048x512 .bf16) (x4 : Vec F S3x512 .f32) (x6 : Vec F S1x512 .f32) (x8 : Vec F S1x2x512 .f32) (w : Vec F S2x512 .f32) : FVec F S512x512 .f32 :=
  k0_pay19 (iota .tc S512x512 32 [0] iota_S512x512_d0_w32) (k0_pay13 x0 x2) (k0_pay15 (firstBit i) x8 w) (k0_pay16 (firstBit i) x8 w) (k0_pay17 (iota .tc S512x512 32 [0] iota_S512x512_d0_w32)) (k0_pay18 x0 x2) x4 x6

/-- The activation block the point writes. -/
def actBlk (i : grid0.Coords) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (w0 w1 : Vec F S2x512 .f32) : FVec F S512x512 .bf16 :=
  k0_pay1 (valConv i x0 x2 x4 x6 x8 w1) (k0_pay23 (gateConv i x0 x1 x3 x5 x7 w0)) (k0_pay24 (gateConv i x0 x1 x3 x5 x7 w0)) (Scalar.ofBits .f32 0x3F800000#32)

/-- Where a batch opens, the gate half does not depend on the rows carried over. -/
theorem gateConv_first (i : grid0.Coords) (h : firstBit i = 1#1) (x0 : Vec F S512x2048 .bf16) (x1 : Vec F S2048x512 .bf16) (x3 : Vec F S3x512 .f32) (x5 : Vec F S1x512 .f32) (x7 : Vec F S1x2x512 .f32) (w w' : Vec F S2x512 .f32) :
    gateConv i x0 x1 x3 x5 x7 w = gateConv i x0 x1 x3 x5 x7 w' := by
  have e : k0_pay3 i x7 w = k0_pay3 i x7 w' := by
    change Scalar.select (firstBit i) _ _ = Scalar.select (firstBit i) _ _
    rw [h]; rfl
  unfold gateConv k0_pay4 k0_pay6 k0_pay8 k0_pay5
  rw [e]

/-- Where a batch opens, the value half does not depend on the rows carried over. -/
theorem valConv_first (i : grid0.Coords) (h : firstBit i = 1#1) (x0 : Vec F S512x2048 .bf16) (x2 : Vec F S2048x512 .bf16) (x4 : Vec F S3x512 .f32) (x6 : Vec F S1x512 .f32) (x8 : Vec F S1x2x512 .f32) (w w' : Vec F S2x512 .f32) :
    valConv i x0 x2 x4 x6 x8 w = valConv i x0 x2 x4 x6 x8 w' := by
  have e : k0_pay14 (firstBit i) x8 w = k0_pay14 (firstBit i) x8 w' := by
    change Scalar.select (firstBit i) _ _ = Scalar.select (firstBit i) _ _
    rw [h]; rfl
  unfold valConv k0_pay15 k0_pay16
  rw [e]

/-- Where a batch opens, the block written does not depend on the rows carried over. -/
theorem actBlk_first (i : grid0.Coords) (h : firstBit i = 1#1) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (w0 w1 w0' w1' : Vec F S2x512 .f32) :
    actBlk i x0 x1 x2 x3 x4 x5 x6 x7 x8 w0 w1 = actBlk i x0 x1 x2 x3 x4 x5 x6 x7 x8 w0' w1' := by
  unfold actBlk
  rw [gateConv_first i h x0 x1 x3 x5 x7 w0 w0', valConv_first i h x0 x2 x4 x6 x8 w1 w1']

/-- A load of a whole buffer of a two-axis shape reads its contents. -/
theorem load_whole2 {a b : ℕ} {e : EltTy} (M : Memref sig .tc .vmem ⟨2, ![a, b]⟩ e) (h : M.IsWhole)
    (inb : ∀ k, (![0, 0] : Fin 2 → ℕ) k + (⟨2, ![a, b]⟩ : Shape).size k ≤ (⟨2, ![a, b]⟩ : Shape).size k) (x : Vec F ⟨2, ![a, b]⟩ e) :
    View.readAt (Elt F) M.view (Rect.unit (s := ⟨2, ![a, b]⟩) ![0, 0] (⟨2, ![a, b]⟩ : Shape).size inb).toLoadRect (h.unread x) = x := by
  funext y
  refine Eq.trans ?_ (congrFun (h.read_unread x) y)
  refine congrArg (M.view.read (Elt F) (h.unread x)) (funext fun k => Fin.ext ?_)
  fin_cases k <;> simp [LoadRect.idx, Rect.toLoadRect, Rect.unit]

/-- A load of a whole buffer of a three-axis shape reads its contents. -/
theorem load_whole3 {a b d : ℕ} {e : EltTy} (M : Memref sig .tc .vmem ⟨3, ![a, b, d]⟩ e) (h : M.IsWhole)
    (inb : ∀ k, (![0, 0, 0] : Fin 3 → ℕ) k + (⟨3, ![a, b, d]⟩ : Shape).size k ≤ (⟨3, ![a, b, d]⟩ : Shape).size k) (x : Vec F ⟨3, ![a, b, d]⟩ e) :
    View.readAt (Elt F) M.view (Rect.unit (s := ⟨3, ![a, b, d]⟩) ![0, 0, 0] (⟨3, ![a, b, d]⟩ : Shape).size inb).toLoadRect (h.unread x) = x := by
  funext y
  refine Eq.trans ?_ (congrFun (h.read_unread x) y)
  refine congrArg (M.view.read (Elt F) (h.unread x)) (funext fun k => Fin.ext ?_)
  fin_cases k <;> simp [LoadRect.idx, Rect.toLoadRect, Rect.unit]

/-- A load of the last two rows of a carried buffer reads them. -/
theorem load_last (M : Memref sig .tc .vmem S8x512 .f32) (h : M.IsWhole) (x : Vec F S8x512 .f32) :
    View.readAt (Elt F) M.view (Rect.unit (s := S8x512) ![6, 0] S2x512.size inb_S8x512_S2x512_6_0).toLoadRect (h.unread x) = lastRows x := by
  funext y
  exact congrFun (h.read_unread x) _

/-- A buffer wholly written by one piece of a two-axis shape reads back that piece. -/
theorem read_piece2 {a b : ℕ} {e : EltTy} (v : View sig .tc .vmem ⟨2, ![a, b]⟩ e) (f : v.ty.Contents (Elt F))
    (inb : ∀ k, (![0, 0] : Fin 2 → ℕ) k + (⟨2, ![a, b]⟩ : Shape).size k ≤ (⟨2, ![a, b]⟩ : Shape).size k) (p : Vec F ⟨2, ![a, b]⟩ e) :
    v.read (Elt F) (v.writes (Elt F) f [⟨Rect.unit (s := ⟨2, ![a, b]⟩) ![0, 0] (⟨2, ![a, b]⟩ : Shape).size inb, p⟩]) = p := by
  funext y
  refine Eq.trans ?_ (View.read_writes_cons_emb v f (Rect.unit (s := ⟨2, ![a, b]⟩) ![0, 0] (⟨2, ![a, b]⟩ : Shape).size inb) p [] y)
  refine congrArg (v.read (Elt F) (v.writes (Elt F) f _)) (funext fun k => Fin.ext ?_)
  fin_cases k <;> simp [Rect.emb, Rect.unit]

/-- A buffer wholly written by one piece of a three-axis shape reads back that piece. -/
theorem read_piece3 {a b d : ℕ} {e : EltTy} (v : View sig .tc .vmem ⟨3, ![a, b, d]⟩ e) (f : v.ty.Contents (Elt F))
    (inb : ∀ k, (![0, 0, 0] : Fin 3 → ℕ) k + (⟨3, ![a, b, d]⟩ : Shape).size k ≤ (⟨3, ![a, b, d]⟩ : Shape).size k) (p : Vec F ⟨3, ![a, b, d]⟩ e) :
    v.read (Elt F) (v.writes (Elt F) f [⟨Rect.unit (s := ⟨3, ![a, b, d]⟩) ![0, 0, 0] (⟨3, ![a, b, d]⟩ : Shape).size inb, p⟩]) = p := by
  funext y
  refine Eq.trans ?_ (View.read_writes_cons_emb v f (Rect.unit (s := ⟨3, ![a, b, d]⟩) ![0, 0, 0] (⟨3, ![a, b, d]⟩ : Shape).size inb) p [] y)
  refine congrArg (v.read (Elt F) (v.writes (Elt F) f _)) (funext fun k => Fin.ext ?_)
  fin_cases k <;> simp [Rect.emb, Rect.unit]

/-- The activation buffer after the point. -/
theorem act_written (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) (f : arg11.view.ty.Contents (Elt F)) :
    arg11.view.read (Elt F) (arg11.view.writes (Elt F) f (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).1) = actBlk i x0 x1 x2 x3 x4 x5 x6 x7 x8 (lastRows xs0) (lastRows xs1) := by
  have e : (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).1 = [⟨Rect.unit (s := S512x512) ![0, 0] S512x512.size inb_S512x512_S512x512_0_0, actBlk i (View.readAt (Elt F) arg2.view (Rect.unit ![0, 0] S512x2048.size inb_S512x2048_S512x2048_0_0).toLoadRect (harg2.unread x0)) (View.readAt (Elt F) arg3.view (Rect.unit ![0, 0] S2048x512.size inb_S2048x512_S2048x512_0_0).toLoadRect (harg3.unread x1)) (View.readAt (Elt F) arg4.view (Rect.unit ![0, 0] S2048x512.size inb_S2048x512_S2048x512_0_0).toLoadRect (harg4.unread x2)) (View.readAt (Elt F) arg5.view (Rect.unit ![0, 0] S3x512.size inb_S3x512_S3x512_0_0).toLoadRect (harg5.unread x3)) (View.readAt (Elt F) arg6.view (Rect.unit ![0, 0] S3x512.size inb_S3x512_S3x512_0_0).toLoadRect (harg6.unread x4)) (View.readAt (Elt F) arg7.view (Rect.unit ![0, 0] S1x512.size inb_S1x512_S1x512_0_0).toLoadRect (harg7.unread x5)) (View.readAt (Elt F) arg8.view (Rect.unit ![0, 0] S1x512.size inb_S1x512_S1x512_0_0).toLoadRect (harg8.unread x6)) (View.readAt (Elt F) arg9.view (Rect.unit ![0, 0, 0] S1x2x512.size inb_S1x2x512_S1x2x512_0_0_0).toLoadRect (harg9.unread x7)) (View.readAt (Elt F) arg10.view (Rect.unit ![0, 0, 0] S1x2x512.size inb_S1x2x512_S1x2x512_0_0_0).toLoadRect (harg10.unread x8)) (View.readAt (Elt F) arg14.view (Rect.unit (s := S8x512) ![6, 0] S2x512.size inb_S8x512_S2x512_6_0).toLoadRect (harg14.unread xs0)) (View.readAt (Elt F) arg15.view (Rect.unit (s := S8x512) ![6, 0] S2x512.size inb_S8x512_S2x512_6_0).toLoadRect (harg15.unread xs1))⟩] := rfl
  rw [e, show (View.readAt (Elt F) arg2.view (Rect.unit ![0, 0] S512x2048.size inb_S512x2048_S512x2048_0_0).toLoadRect (harg2.unread x0)) = x0 from load_whole2 arg2 harg2 _ x0, show (View.readAt (Elt F) arg3.view (Rect.unit ![0, 0] S2048x512.size inb_S2048x512_S2048x512_0_0).toLoadRect (harg3.unread x1)) = x1 from load_whole2 arg3 harg3 _ x1, show (View.readAt (Elt F) arg4.view (Rect.unit ![0, 0] S2048x512.size inb_S2048x512_S2048x512_0_0).toLoadRect (harg4.unread x2)) = x2 from load_whole2 arg4 harg4 _ x2, show (View.readAt (Elt F) arg5.view (Rect.unit ![0, 0] S3x512.size inb_S3x512_S3x512_0_0).toLoadRect (harg5.unread x3)) = x3 from load_whole2 arg5 harg5 _ x3, show (View.readAt (Elt F) arg6.view (Rect.unit ![0, 0] S3x512.size inb_S3x512_S3x512_0_0).toLoadRect (harg6.unread x4)) = x4 from load_whole2 arg6 harg6 _ x4, show (View.readAt (Elt F) arg7.view (Rect.unit ![0, 0] S1x512.size inb_S1x512_S1x512_0_0).toLoadRect (harg7.unread x5)) = x5 from load_whole2 arg7 harg7 _ x5, show (View.readAt (Elt F) arg8.view (Rect.unit ![0, 0] S1x512.size inb_S1x512_S1x512_0_0).toLoadRect (harg8.unread x6)) = x6 from load_whole2 arg8 harg8 _ x6, show (View.readAt (Elt F) arg9.view (Rect.unit ![0, 0, 0] S1x2x512.size inb_S1x2x512_S1x2x512_0_0_0).toLoadRect (harg9.unread x7)) = x7 from load_whole3 arg9 harg9 _ x7, show (View.readAt (Elt F) arg10.view (Rect.unit ![0, 0, 0] S1x2x512.size inb_S1x2x512_S1x2x512_0_0_0).toLoadRect (harg10.unread x8)) = x8 from load_whole3 arg10 harg10 _ x8, load_last arg14 harg14 xs0, load_last arg15 harg15 xs1]
  exact read_piece2 _ _ _ _

/-- The gate tail buffer after the point. -/
theorem gateTail_written (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) (f : arg12.view.ty.Contents (Elt F)) :
    arg12.view.read (Elt F) (arg12.view.writes (Elt F) f (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.1) = k0_pay12 (k0_pay2 x0 x1) := by
  have e : (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.1 = [⟨Rect.unit (s := S1x8x512) ![0, 0, 0] S1x8x512.size inb_S1x8x512_S1x8x512_0_0_0, k0_pay12 (k0_pay2 (View.readAt (Elt F) arg2.view (Rect.unit ![0, 0] S512x2048.size inb_S512x2048_S512x2048_0_0).toLoadRect (harg2.unread x0)) (View.readAt (Elt F) arg3.view (Rect.unit ![0, 0] S2048x512.size inb_S2048x512_S2048x512_0_0).toLoadRect (harg3.unread x1)))⟩] := rfl
  rw [e, show (View.readAt (Elt F) arg2.view (Rect.unit ![0, 0] S512x2048.size inb_S512x2048_S512x2048_0_0).toLoadRect (harg2.unread x0)) = x0 from load_whole2 arg2 harg2 _ x0, show (View.readAt (Elt F) arg3.view (Rect.unit ![0, 0] S2048x512.size inb_S2048x512_S2048x512_0_0).toLoadRect (harg3.unread x1)) = x1 from load_whole2 arg3 harg3 _ x1]
  exact read_piece3 _ _ _ _

/-- The value tail buffer after the point. -/
theorem valTail_written (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) (f : arg13.view.ty.Contents (Elt F)) :
    arg13.view.read (Elt F) (arg13.view.writes (Elt F) f (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.1) = k0_pay22 (k0_pay13 x0 x2) := by
  have e : (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.1 = [⟨Rect.unit (s := S1x8x512) ![0, 0, 0] S1x8x512.size inb_S1x8x512_S1x8x512_0_0_0, k0_pay22 (k0_pay13 (View.readAt (Elt F) arg2.view (Rect.unit ![0, 0] S512x2048.size inb_S512x2048_S512x2048_0_0).toLoadRect (harg2.unread x0)) (View.readAt (Elt F) arg4.view (Rect.unit ![0, 0] S2048x512.size inb_S2048x512_S2048x512_0_0).toLoadRect (harg4.unread x2)))⟩] := rfl
  rw [e, show (View.readAt (Elt F) arg2.view (Rect.unit ![0, 0] S512x2048.size inb_S512x2048_S512x2048_0_0).toLoadRect (harg2.unread x0)) = x0 from load_whole2 arg2 harg2 _ x0, show (View.readAt (Elt F) arg4.view (Rect.unit ![0, 0] S2048x512.size inb_S2048x512_S2048x512_0_0).toLoadRect (harg4.unread x2)) = x2 from load_whole2 arg4 harg4 _ x2]
  exact read_piece3 _ _ _ _

/-- The gate carry buffer after the point. -/
theorem gateCarry_written (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) (f : arg14.view.ty.Contents (Elt F)) :
    arg14.view.read (Elt F) (arg14.view.writes (Elt F) f (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.2.1) = k0_pay11 (k0_pay2 x0 x1) := by
  have e : (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.2.1 = [⟨Rect.unit (s := S8x512) ![0, 0] S8x512.size inb_S8x512_S8x512_0_0, k0_pay11 (k0_pay2 (View.readAt (Elt F) arg2.view (Rect.unit ![0, 0] S512x2048.size inb_S512x2048_S512x2048_0_0).toLoadRect (harg2.unread x0)) (View.readAt (Elt F) arg3.view (Rect.unit ![0, 0] S2048x512.size inb_S2048x512_S2048x512_0_0).toLoadRect (harg3.unread x1)))⟩] := rfl
  rw [e, show (View.readAt (Elt F) arg2.view (Rect.unit ![0, 0] S512x2048.size inb_S512x2048_S512x2048_0_0).toLoadRect (harg2.unread x0)) = x0 from load_whole2 arg2 harg2 _ x0, show (View.readAt (Elt F) arg3.view (Rect.unit ![0, 0] S2048x512.size inb_S2048x512_S2048x512_0_0).toLoadRect (harg3.unread x1)) = x1 from load_whole2 arg3 harg3 _ x1]
  exact read_piece2 _ _ _ _

/-- The value carry buffer after the point. -/
theorem valCarry_written (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2x512 .f32) (harg9 : arg9.IsWhole) (arg10 : Memref sig .tc .vmem S1x2x512 .f32) (harg10 : arg10.IsWhole) (arg11 : Memref sig .tc .vmem S512x512 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S8x512 .f32) (harg14 : arg14.IsWhole) (arg15 : Memref sig .tc .vmem S8x512 .f32) (harg15 : arg15.IsWhole) (x0 : Vec F S512x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S1x2x512 .f32) (x8 : Vec F S1x2x512 .f32) (xs0 xs1 : Vec F S8x512 .f32) (f : arg15.view.ty.Contents (Elt F)) :
    arg15.view.read (Elt F) (arg15.view.writes (Elt F) f (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.2.2.1) = k0_pay21 (k0_pay13 x0 x2) := by
  have e : (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 xs0 xs1).2.2.2.2.1 = [⟨Rect.unit (s := S8x512) ![0, 0] S8x512.size inb_S8x512_S8x512_0_0, k0_pay21 (k0_pay13 (View.readAt (Elt F) arg2.view (Rect.unit ![0, 0] S512x2048.size inb_S512x2048_S512x2048_0_0).toLoadRect (harg2.unread x0)) (View.readAt (Elt F) arg4.view (Rect.unit ![0, 0] S2048x512.size inb_S2048x512_S2048x512_0_0).toLoadRect (harg4.unread x2)))⟩] := rfl
  rw [e, show (View.readAt (Elt F) arg2.view (Rect.unit ![0, 0] S512x2048.size inb_S512x2048_S512x2048_0_0).toLoadRect (harg2.unread x0)) = x0 from load_whole2 arg2 harg2 _ x0, show (View.readAt (Elt F) arg4.view (Rect.unit ![0, 0] S2048x512.size inb_S2048x512_S2048x512_0_0).toLoadRect (harg4.unread x2)) = x2 from load_whole2 arg4 harg4 _ x2]
  exact read_piece2 _ _ _ _

end Cert.UpIdeal

end
-- ==== Proof.UpIdeal.Frame.lean ====
/- The run of the first feed-forward kernel: what every grid point leaves, and the frame. -/
module

public import proofs.«01_k».proof.Proof.UpIdeal.Point
public import Idealize.ShloMosaic.Lib.Claim

@[expose] public section

set_option maxRecDepth 16384

noncomputable section

namespace Cert.UpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal Cert.KernelUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two carried buffers. -/
abbrev carryG : Memref sig .tc .vmem S8x512 .f32 := Memref.whole cc0_scratch0
/-- The second of them. -/
abbrev carryV : Memref sig .tc .vmem S8x512 .f32 := Memref.whole cc0_scratch1

/-- The gate half of the product at point `t`. -/
def gateUp (c : Dev nD) (t : Fin cfg0.N) : FVec F S512x512 .f32 := k0_pay2 (iblk m c 0 t) (iblk m c 1 t)
/-- The value half of the product at point `t`. -/
def valUp (c : Dev nD) (t : Fin cfg0.N) : FVec F S512x512 .f32 := k0_pay13 (iblk m c 0 t) (iblk m c 2 t)

/-- The point before `t`, or `t` itself when `t` is the first. -/
def prevPt (t : Fin cfg0.N) : Fin cfg0.N := ⟨t.val - 1, Nat.lt_of_le_of_lt (Nat.sub_le _ _) t.isLt⟩

/-- What point `t` leaves in the gate's carried buffer: the last rows of its product. -/
def leftG (c : Dev nD) (t : Fin cfg0.N) : Vec F S8x512 .f32 := k0_pay11 (gateUp m c t)
/-- What point `t` leaves in the value's carried buffer. -/
def leftV (c : Dev nD) (t : Fin cfg0.N) : Vec F S8x512 .f32 := k0_pay21 (valUp m c t)

/-- The activation block of point `t`: the carried rows are those of the point before. -/
def actAt (c : Dev nD) (t : Fin cfg0.N) : FVec F S512x512 .bf16 :=
  actBlk (grid0.coords t) (iblk m c 0 t) (iblk m c 1 t) (iblk m c 2 t) (iblk m c 3 t) (iblk m c 4 t) (iblk m c 5 t) (iblk m c 6 t) (iblk m c 7 t) (iblk m c 8 t) (lastRows (leftG m c (prevPt t))) (lastRows (leftV m c (prevPt t)))

/-- The invariant: before the first point the carried buffers hold anything; afterwards what the point before left. -/
def PhiS (c : Dev nD) : (n : ℕ) → n ≤ cfg0.N → sProp 𝕄
  | 0, _ => Pipeline.ΦA spec0 c
  | n + 1, hn => iprop(iprop(owns (c : Thread nD τ) carryG fullShare (leftG m c ⟨n, hn⟩) ∗ owns (c : Thread nD τ) carryV fullShare (leftV m c ⟨n, hn⟩)) ∗ (∃ r, prngReg c r))

/-- The invariant before the first point, the carried buffers as memory references. -/
theorem PhiA_eq (c : Dev nD) :
    (Pipeline.ΦA spec0 c : sProp 𝕄)
      = iprop(iprop((∃ d, owns (c : Thread nD τ) carryG fullShare d) ∗ (∃ d, owns (c : Thread nD τ) carryV fullShare d)) ∗ (∃ r, prngReg c r)) := by
  unfold Pipeline.ΦA; rw [scopedRest0_eq]; simp only [carryG, carryV, owns_whole]; try rfl

/-- Before the first point the invariant asks for nothing more than the launch gives. -/
theorem PhiS_first (c : Dev nD) (n : ℕ) (h : n ≤ cfg0.N) (hz : n = 0) : PhiS m c n h = Pipeline.ΦA spec0 c := by
  subst hz; rfl

/-- After point `n` the carried buffers hold what it left. -/
theorem PhiS_next (c : Dev nD) (n : ℕ) (hn : n < cfg0.N) :
    PhiS m c (n + 1) hn = iprop(iprop(owns (c : Thread nD τ) carryG fullShare (leftG m c ⟨n, hn⟩) ∗ owns (c : Thread nD τ) carryV fullShare (leftV m c ⟨n, hn⟩)) ∗ (∃ r, prngReg c r)) := rfl

/-- Before a later point they hold what the point before left. -/
theorem PhiS_later (c : Dev nD) (t : Fin cfg0.N) (hz : t.val ≠ 0) :
    PhiS m c t.val (Nat.le_of_lt t.isLt) = iprop(iprop(owns (c : Thread nD τ) carryG fullShare (leftG m c (prevPt t)) ∗ owns (c : Thread nD τ) carryV fullShare (leftV m c (prevPt t))) ∗ (∃ r, prngReg c r)) := by
  obtain ⟨n, hn⟩ := t
  cases n with
  | zero => exact absurd rfl hz
  | succ n => rfl

/-- The proof data of the one pipeline: every input buffer keeps its block, the outputs hold the activation block and
    the two tails, and the carried buffers follow the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => actAt m c t
    | ⟨10, _⟩ => k0_pay12 (gateUp m c t)
    | ⟨11, _⟩ => k0_pay22 (valUp m c t)
  Φ t := PhiS m c t.val (Nat.le_of_lt_succ t.isLt)
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- The invariant at a point's start. -/
theorem PhiS_start (c : Dev nD) (t : Fin cfg0.N) : (dats m 0 c).Φ t.castSucc = PhiS m c t.val (Nat.le_of_lt t.isLt) := by
  dsimp only [dats]; exact Pipeline.Dat.Φ_castSucc (PhiS m c) t

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = iblk m c 6 t := by dsimp only [dats]
/-- What the body leaves in window 7. -/
theorem after_7 (c : Dev nD) (t : Fin cfg0.N) : (dats m 0 c).after 7 t = iblk m c 7 t := by dsimp only [dats]
/-- What the body leaves in window 8. -/
theorem after_8 (c : Dev nD) (t : Fin cfg0.N) : (dats m 0 c).after 8 t = iblk m c 8 t := by dsimp only [dats]
/-- What the body leaves in window 9. -/
theorem after_9 (c : Dev nD) (t : Fin cfg0.N) : (dats m 0 c).after 9 t = actAt m c t := by dsimp only [dats]
/-- What the body leaves in window 10. -/
theorem after_10 (c : Dev nD) (t : Fin cfg0.N) : (dats m 0 c).after 10 t = k0_pay12 (gateUp m c t) := by dsimp only [dats]
/-- What the body leaves in window 11. -/
theorem after_11 (c : Dev nD) (t : Fin cfg0.N) : (dats m 0 c).after 11 t = k0_pay22 (valUp m c t) := by dsimp only [dats]
/-- What the body finds in window 0. -/
theorem before_0 (c : Dev nD) (t : Fin cfg0.N) (d) : (dats m 0 c).before 0 t d = iblk m c 0 t :=
  before0_0_of m (dats m 0 c) (A_eq m c 0) (after_0 m c) t d
/-- What the body finds in window 1. -/
theorem before_1 (c : Dev nD) (t : Fin cfg0.N) (d) : (dats m 0 c).before 1 t d = iblk m c 1 t :=
  before0_1_of m (dats m 0 c) (A_eq m c 1) (after_1 m c) t d
/-- What the body finds in window 2. -/
theorem before_2 (c : Dev nD) (t : Fin cfg0.N) (d) : (dats m 0 c).before 2 t d = iblk m c 2 t :=
  before0_2_of m (dats m 0 c) (A_eq m c 2) (after_2 m c) t d
/-- What the body finds in window 3. -/
theorem before_3 (c : Dev nD) (t : Fin cfg0.N) (d) : (dats m 0 c).before 3 t d = iblk m c 3 t :=
  before0_3_of m (dats m 0 c) (A_eq m c 3) (after_3 m c) t d
/-- What the body finds in window 4. -/
theorem before_4 (c : Dev nD) (t : Fin cfg0.N) (d) : (dats m 0 c).before 4 t d = iblk m c 4 t :=
  before0_4_of m (dats m 0 c) (A_eq m c 4) (after_4 m c) t d
/-- What the body finds in window 5. -/
theorem before_5 (c : Dev nD) (t : Fin cfg0.N) (d) : (dats m 0 c).before 5 t d = iblk m c 5 t :=
  before0_5_of m (dats m 0 c) (A_eq m c 5) (after_5 m c) t d
/-- What the body finds in window 6. -/
theorem before_6 (c : Dev nD) (t : Fin cfg0.N) (d) : (dats m 0 c).before 6 t d = iblk m c 6 t :=
  before0_6_of m (dats m 0 c) (A_eq m c 6) (after_6 m c) t d
/-- What the body finds in window 7. -/
theorem before_7 (c : Dev nD) (t : Fin cfg0.N) (d) : (dats m 0 c).before 7 t d = iblk m c 7 t :=
  before0_7_of m (dats m 0 c) (A_eq m c 7) (after_7 m c) t d
/-- What the body finds in window 8. -/
theorem before_8 (c : Dev nD) (t : Fin cfg0.N) (d) : (dats m 0 c).before 8 t d = iblk m c 8 t :=
  before0_8_of m (dats m 0 c) (A_eq m c 8) (after_8 m c) t d
/-- Window 0 is handed back at its contents. -/
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
/-- Window 1 is handed back at its contents. -/
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
/-- Window 2 is handed back at its contents. -/
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
/-- Window 3 is handed back at its contents. -/
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
/-- Window 4 is handed back at its contents. -/
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
/-- Window 5 is handed back at its contents. -/
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
/-- Window 6 is handed back at its contents. -/
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
/-- Window 7 is handed back at its contents. -/
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]
/-- Window 8 is handed back at its contents. -/
theorem leaves_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, after_8]
/-- Window 9 is handed back at its contents. -/
theorem leaves_9 (c : Dev nD) (t : Fin cfg0.N) : (dats m 0 c).leavesExact 9 t = owns (c : Thread nD τ) (win0_9.stage (cfg0.slots t 9)) fullShare (actAt m c t) := by
  unfold Dat.leavesExact; rw [show cfg0.idle 9 (grid0.coords t) = false from rfl, after_9]
/-- Window 10 is handed back at its contents. -/
theorem leaves_10 (c : Dev nD) (t : Fin cfg0.N) : (dats m 0 c).leavesExact 10 t = owns (c : Thread nD τ) (win0_10.stage (cfg0.slots t 10)) fullShare (k0_pay12 (gateUp m c t)) := by
  unfold Dat.leavesExact; rw [show cfg0.idle 10 (grid0.coords t) = false from rfl, after_10]
/-- Window 11 is handed back at its contents. -/
theorem leaves_11 (c : Dev nD) (t : Fin cfg0.N) : (dats m 0 c).leavesExact 11 t = owns (c : Thread nD τ) (win0_11.stage (cfg0.slots t 11)) fullShare (k0_pay22 (valUp m c t)) := by
  unfold Dat.leavesExact; rw [show cfg0.idle 11 (grid0.coords t) = false from rfl, after_11]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The body at point `t` from carried buffers at `xs0`, `xs1`: every buffer ends at its stated contents. -/
theorem body_at (c : Dev nD) (t : Fin cfg0.N) (xs0 xs1 : Vec F S8x512 .f32) (R O : sProp 𝕄)
    (hact : actBlk (grid0.coords t) (iblk m c 0 t) (iblk m c 1 t) (iblk m c 2 t) (iblk m c 3 t) (iblk m c 4 t) (iblk m c 5 t) (iblk m c 6 t) (iblk m c 7 t) (iblk m c 8 t) (lastRows xs0) (lastRows xs1) = actAt m c t) :
    iprop(iprop(iprop(owns (c : Thread nD τ) carryG fullShare xs0 ∗ owns (c : Thread nD τ) carryV fullShare xs1) ∗ R) ∗ O
        ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t)
        ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d))
      ⊢ wp frame (wpE (defs₀ (F := F)) Variants.none c none) Set.univ (bodyAt0 t) (fun _ =>
        iprop(iprop(iprop(owns (c : Thread nD τ) carryG fullShare (leftG m c t) ∗ owns (c : Thread nD τ) carryV fullShare (leftV m c t)) ∗ R) ∗ O
          ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (actAt m c t) ∗ owns (c : Thread nD τ) (win0_10.stage (cfg0.slots t 10)) fullShare (k0_pay12 (gateUp m c t)) ∗ owns (c : Thread nD τ) (win0_11.stage (cfg0.slots t 11)) fullShare (k0_pay22 (valUp m c t)))) := by
  iintro ⟨⟨⟨HS0, HS1⟩, HR⟩, HO, H0, H1, H2, H3, H4, H5, H6, H7, H8, H9, H10, H11⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, ⟨%e9, H9⟩, ⟨%e10, H10⟩, ⟨%e11, H11⟩, ⟨%es0, HS0⟩, ⟨%es1, HS1⟩⟩
  isplitl [HS0 HS1 HR]
  · isplitl [HS0 HS1]
    · isplitl [HS0]
      · unfold owns; iexists _; isplitr
        swap; · iexact HS0
        ipureintro; exact gateCarry_written c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1 _
      unfold owns; iexists _; isplitr
      swap; · iexact HS1
      ipureintro; exact valCarry_written c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1 _
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact (act_written c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1 _).trans hact
  isplitl [H10]
  · unfold owns; iexists _; isplitr
    swap; · iexact H10
    ipureintro; exact gateTail_written c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1 _
  unfold owns; iexists _; isplitr
  swap; · iexact H11
  ipureintro; exact valTail_written c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) xs0 xs1 _

/-- The body at any point, from the invariant to the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_next]
  rw [leaves_0, leaves_1, leaves_2, leaves_3, leaves_4, leaves_5, leaves_6, leaves_7, leaves_8, leaves_9, leaves_10, leaves_11, PhiS_start]
  by_cases hz : t.val = 0
  · rw [PhiS_first m c _ _ hz, PhiA_eq]
    iintro ⟨⟨⟨⟨%s0, HS0⟩, ⟨%s1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_at m c t s0 s1 _ _ (actBlk_first _ ((firstBit_eq t).trans (if_pos (by rw [hz]))) _ _ _ _ _ _ _ _ _ _ _ _ _))
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11
  · rw [PhiS_later m c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_at m c t _ _ _ _ rfl)
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

/-- The body table's row at the point's buffers is the body. -/
theorem body_row (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch gives the invariant before the first point. -/
theorem phi_in (c : Dev nD) : Pipeline.ΦA spec0 c ⊢ (dats m 0 c).Φ 0 := by
  rw [show (dats m 0 c).Φ 0 = PhiS m c 0 (Nat.zero_le _) from rfl, PhiS_first m c 0 _ rfl]
  try exact Idealize.SL.BI.Entails.refl _

/-- After the last point the invariant gives the buffers back. -/
theorem phi_out (c : Dev nD) : (dats m 0 c).Φ (Fin.last cfg0.N) ⊢ Pipeline.ΦA spec0 c := by
  have hN : cfg0.N = 175 + 1 := N_0
  rw [show (dats m 0 c).Φ (Fin.last cfg0.N) = PhiS m c (175 + 1) (Nat.le_of_eq hN.symm) from rfl, PhiS_next, PhiA_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- Every execution ends with the arrays at what the proof data computes and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every argument ends as it was launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.UpIdeal

end
-- ==== Proof.Up.Block.lean ====
/- The first feed-forward product's convolved block, entry by entry. -/
module

public import proofs.«01_k».proof.Proof.UpIdeal.Frame
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Up

open Idealize.ShloMosaic Idealize.ShloMosaic.TcCoe Idealize.SL.Sem
open Idealize.ShloMosaic.Pipeline (Dat)
open Cert.KernelUpIdeal Cert.KernelUpIdeal.Gen
open Cert.UpIdeal

/-- The row `d` rows before row `r` of a block `u`: one of the two rows `p` ahead of the block when there is none in it. -/
def back (u : FVec Ideal S512x512 .f32) (p : FVec Ideal S2x512 .f32) (d : ℕ) (r : Fin 512) (l : Fin 512) : EReal :=
  if h : r.val < d then p (ix2 (⟨r.val + 2 - d, by omega⟩ : Fin 2) l) else u (ix2 (⟨r.val - d, by omega⟩ : Fin 512) l)

/-- The two rows ahead of a block: the given state at a sequence's first block, the carried rows at any other. -/
def ahead (i : grid0.Coords) (s : Vec Ideal S1x2x512 .f32) (w : Vec Ideal S2x512 .f32) : FVec Ideal S2x512 .f32 :=
  fun j => if firstBit i = 1#1 then s (ix3 0 (j 0 : Fin 2) (j 1 : Fin 512)) else w j

/-- The block product at an index. -/
theorem pay2_at (x : FVec Ideal S512x2048 .bf16) (w : FVec Ideal S2048x512 .bf16) (r : Fin 512) (l : Fin 512) :
    k0_pay2 (F := Ideal) x w (ix2 r l) = (∑ k : Fin 2048, x (ix2 r k) * w (ix2 k l) : EReal) := by
  pointwise [k0_pay2]

/-- The selected rows are those ahead of the block. -/
theorem pay3_at (i : grid0.Coords) (s : Vec Ideal S1x2x512 .f32) (w : Vec Ideal S2x512 .f32) (a : Fin 2) (l : Fin 512) :
    (show EReal from k0_pay3 (F := Ideal) i s w (ix2 a l)) = (show EReal from ahead i s w (ix2 a l)) := by
  have e : k0_pay3 (F := Ideal) i s w = Scalar.select (firstBit i) (shapeCast S2x512 s shapeCasts_S1x2x512_S2x512) w := rfl
  rw [e]
  unfold ahead
  by_cases h : firstBit i = 1#1
  · rw [if_pos h, h]
    pointwise
  · rw [if_neg h]
    exact congrFun (if_neg h) _

/-- The first of the rows ahead. -/
theorem pay4_at (i : grid0.Coords) (s : Vec Ideal S1x2x512 .f32) (w : Vec Ideal S2x512 .f32) (l : Fin 512) :
    (show EReal from k0_pay4 (F := Ideal) i s w (ix2 0 l)) = (show EReal from ahead i s w (ix2 0 l)) := by
  rw [← pay3_at]
  generalize hp : k0_pay3 (F := Ideal) i s w = p
  pointwise [k0_pay4, hp]

/-- The second of the rows ahead. -/
theorem pay5_at (i : grid0.Coords) (s : Vec Ideal S1x2x512 .f32) (w : Vec Ideal S2x512 .f32) (l : Fin 512) :
    (show EReal from k0_pay5 (F := Ideal) i s w (ix2 0 l)) = (show EReal from ahead i s w (ix2 1 l)) := by
  rw [← pay3_at]
  generalize hp : k0_pay3 (F := Ideal) i s w = p
  pointwise [k0_pay5, hp]

/-- A word compared with zero. -/
theorem flag0 : ∀ r : Fin 512, IntOp.cmpi CmpIPredicate.eq (BitVec.ofNat 32 r.val) 0#32 = if r.val = 0 then 1#1 else 0#1 := by
  decide +kernel

/-- A word compared with one. -/
theorem flag1 : ∀ r : Fin 512, IntOp.cmpi CmpIPredicate.eq (BitVec.ofNat 32 r.val) 1#32 = if r.val = 1 then 1#1 else 0#1 := by
  decide +kernel

/-- A choice by a clear bit. -/
theorem select_off (a b : EReal) : Scalar.select 0#1 a b = b := rfl

/-- A choice by a set bit. -/
theorem select_on (a b : EReal) : Scalar.select 1#1 a b = a := rfl

/-- A block rotated by one row, its first row replaced. -/
theorem pay6_at (i : grid0.Coords) (x : FVec Ideal S512x2048 .bf16) (v : FVec Ideal S2048x512 .bf16) (s : Vec Ideal S1x2x512 .f32) (w : Vec Ideal S2x512 .f32) (r l : Fin 512) :
    (show EReal from k0_pay6 (F := Ideal) i x v s w (ix2 r l)) = back (k0_pay2 x v) (ahead i s w) 1 r l := by
  have h5 := pay5_at i s w l
  generalize hp : k0_pay5 (F := Ideal) i s w = p at h5
  generalize hu : k0_pay2 (F := Ideal) x v = u
  unfold back
  by_cases h : r.val < 1
  · obtain rfl : r = 0 := Fin.ext (by simpa using h)
    rw [dif_pos (by decide)]
    refine Eq.trans ?_ h5
    pointwise [k0_pay6, hp, hu]
  · rw [dif_neg h]
    pointwise [k0_pay6, hp, hu]
    rw [flag0 r, if_neg (by omega)]
    refine (select_off _ _).trans (congrArg (fun q : Fin 512 => (show EReal from u (ix2 q l))) (Fin.ext ?_))
    simp only []
    omega

/-- A block rotated by two rows, its second row replaced. -/
theorem pay8_at (i : grid0.Coords) (x : FVec Ideal S512x2048 .bf16) (v : FVec Ideal S2048x512 .bf16) (s : Vec Ideal S1x2x512 .f32) (w : Vec Ideal S2x512 .f32) (r l : Fin 512) (h0 : r.val ≠ 0) :
    (show EReal from k0_pay8 (F := Ideal) i x v s w (ix2 r l)) = back (k0_pay2 x v) (ahead i s w) 2 r l := by
  have h5 := pay5_at i s w l
  generalize hp : k0_pay5 (F := Ideal) i s w = p at h5
  generalize hu : k0_pay2 (F := Ideal) x v = u
  unfold back
  by_cases h : r.val < 2
  · obtain rfl : r = 1 := Fin.ext (by simp only [Fin.val_one]; omega)
    rw [dif_pos (by decide)]
    refine Eq.trans ?_ h5
    pointwise [k0_pay8, hp, hu]
  · rw [dif_neg h]
    pointwise [k0_pay8, hp, hu]
    rw [flag1 r, if_neg (by omega)]
    refine (select_off _ _).trans (congrArg (fun q : Fin 512 => (show EReal from u (ix2 q l))) (Fin.ext ?_))
    simp only []
    omega

/-- The flag of the first row. -/
theorem pay7_at (r l : Fin 512) : k0_pay7 (ix2 r l) = if r.val = 0 then 1#1 else 0#1 := by
  pointwise [k0_pay7]
  exact flag0 r

/-- The filter applied to a block, its two shifted copies and the bias. -/
theorem pay9_at (u : FVec Ideal S512x512 .f32) (p : FVec Ideal S1x512 .f32) (y : FVec Ideal S512x512 .f32) (f : IVec S512x512 1) (z : FVec Ideal S512x512 .f32)
    (k : FVec Ideal S3x512 .f32) (b : FVec Ideal S1x512 .f32) (r l : Fin 512) :
    k0_pay9 (F := Ideal) u p y f z k b (ix2 r l)
      = b (ix2 0 l) + Scalar.select (f (ix2 r l)) (p (ix2 0 l)) (z (ix2 r l)) * k (ix2 0 l) + y (ix2 r l) * k (ix2 1 l) + u (ix2 r l) * k (ix2 2 l) := by
  pointwise [k0_pay9]

/-- The convolved block at an index: the bias and the three taps, on the row two before, the row one before and the row itself. -/
theorem gateConv_at (i : grid0.Coords) (x : FVec Ideal S512x2048 .bf16) (v : FVec Ideal S2048x512 .bf16) (k : FVec Ideal S3x512 .f32) (b : FVec Ideal S1x512 .f32) (s : Vec Ideal S1x2x512 .f32) (w : Vec Ideal S2x512 .f32) (r l : Fin 512) :
    (show EReal from gateConv (F := Ideal) i x v k b s w (ix2 r l))
      = (show EReal from b (ix2 0 l)) + back (k0_pay2 x v) (ahead i s w) 2 r l * (show EReal from k (ix2 0 l))
        + back (k0_pay2 x v) (ahead i s w) 1 r l * (show EReal from k (ix2 1 l)) + back (k0_pay2 x v) (ahead i s w) 0 r l * (show EReal from k (ix2 2 l)) := by
  have h6 := pay6_at i x v s w r l
  have h4 := pay4_at i s w l
  have h2 : (show EReal from Scalar.select (k0_pay7 (ix2 r l)) (k0_pay4 (F := Ideal) i s w (ix2 0 l)) (k0_pay8 (F := Ideal) i x v s w (ix2 r l))) = back (k0_pay2 x v) (ahead i s w) 2 r l := by
    rw [pay7_at]
    by_cases h : r.val = 0
    · rw [if_pos h]
      refine (select_on _ _).trans (h4.trans ?_)
      obtain rfl : r = 0 := Fin.ext h
      unfold back
      rw [dif_pos (by decide)]
      rfl
    · rw [if_neg h]
      exact (select_off _ _).trans (pay8_at i x v s w r l h)
  have h0 : back (k0_pay2 x v) (ahead i s w) 0 r l = (show EReal from k0_pay2 (F := Ideal) x v (ix2 r l)) := by
    unfold back
    rw [dif_neg (Nat.not_lt_zero _)]
    rfl
  rw [← h6, ← h2, h0]
  exact pay9_at _ _ _ _ _ _ _ r l

/-- The value half's convolution is the gate half's at the value half's operands. -/
theorem valConv_eq (i : grid0.Coords) (x : FVec Ideal S512x2048 .bf16) (v : FVec Ideal S2048x512 .bf16) (k : FVec Ideal S3x512 .f32) (b : FVec Ideal S1x512 .f32) (s : Vec Ideal S1x2x512 .f32) (w : Vec Ideal S2x512 .f32) :
    valConv (F := Ideal) i x v k b s w = gateConv (F := Ideal) i x v k b s w := rfl

/-- The stored activation block over the two convolved halves. -/
theorem pay1_at (g v : FVec Ideal S512x512 .f32) (r l : Fin 512) :
    k0_pay1 (F := Ideal) v (k0_pay23 g) (k0_pay24 g) (Scalar.ofBits .f32 0x3F800000#32) (ix2 r l)
      = (Ideal.ofBits .f32 0x3F000000#32 * g (ix2 r l)) * (1 + Ideal.erf (g (ix2 r l) * Ideal.ofBits .f32 0x3F3504F3#32)) * v (ix2 r l) := by
  pointwise [k0_pay1, k0_pay23, k0_pay24]
  rfl

/-- The last rows of a carried buffer that holds the block's last eight rows. -/
theorem carried_at (u : FVec Ideal S512x512 .f32) (a : Fin 2) (l : Fin 512) :
    (show EReal from lastRows (F := Ideal) (k0_pay11 u) (ix2 a l)) = (show EReal from u (ix2 (⟨510 + a, by omega⟩ : Fin 512) l)) := by
  pointwise [lastRows, k0_pay11, k0_pay10]
  exact congrArg (fun q : Fin 512 => (show EReal from u (ix2 q l))) (Fin.ext (by simp only []; omega))

/-- The tail block at an index. -/
theorem pay12_at (u : FVec Ideal S512x512 .f32) (a : Fin 8) (l : Fin 512) :
    (show EReal from k0_pay12 (F := Ideal) u (ix3 0 a l)) = (show EReal from u (ix2 (⟨504 + a, by omega⟩ : Fin 512) l)) := by
  pointwise [k0_pay12, k0_pay10]

/-- The windows' blocks at every grid point: 11 column blocks, each visited by the 16 row blocks. -/
theorem idx_val : ∀ t : Fin cfg0.N,
    win0_0.index t = ![t.val % 16, 0] ∧ win0_1.index t = ![0, t.val / 16] ∧ win0_2.index t = ![0, t.val / 16 + 11]
    ∧ win0_3.index t = ![0, t.val / 16] ∧ win0_4.index t = ![0, t.val / 16 + 11] ∧ win0_5.index t = ![0, t.val / 16] ∧ win0_6.index t = ![0, t.val / 16 + 11]
    ∧ win0_7.index t = ![t.val % 16 / 4, 0, t.val / 16] ∧ win0_8.index t = ![t.val % 16 / 4, 0, t.val / 16 + 11]
    ∧ win0_9.index t = ![t.val % 16, t.val / 16] ∧ win0_10.index t = ![t.val % 16 / 4, 0, t.val / 16] ∧ win0_11.index t = ![t.val % 16 / 4, 0, t.val / 16] :=
  (by decide +kernel : ∀ t : Fin grid0.N, _)

end Cert.Up

end
-- ==== Proof.Up.Kernel.lean ====
/- The first feed-forward product's result arrays as functions of its arguments. -/
module

public import proofs.«01_k».proof.Proof.Up.Block

@[expose] public section

set_option maxRecDepth 16384

noncomputable section

namespace Cert.Up

open Idealize.ShloMosaic Idealize.ShloMosaic.TcCoe Idealize.SL.Sem
open Idealize.ShloMosaic.Pipeline (Dat)
open Cert.KernelUpIdeal Cert.KernelUpIdeal.Gen
open Cert.UpIdeal

variable (m : (ℓ : Loc nD τ sig) → Buf (Elt Ideal) ℓ)

/-- The product's row `R` at column `L`. -/
def upAt (X : FVec Ideal S8192x2048 .bf16) (W : FVec Ideal S1x2048x11264 .f32) (R : Fin 8192) (L : Fin 11264) : EReal :=
  ∑ k : Fin 2048, X (ix2 R k) * W (ix3 0 k L)

/-- The row `d` rows before row `R` within its sequence of 2048 rows, `d` at most two: a row of the given state when the
    sequence has none. -/
def rowBefore (X : FVec Ideal S8192x2048 .bf16) (W : FVec Ideal S1x2048x11264 .f32) (P : FVec Ideal S4x2x11264 .f32)
    (d : ℕ) (R : Fin 8192) (L : Fin 11264) : EReal :=
  if h : R.val % 2048 < d then P (ix3 (⟨R.val / 2048, by omega⟩ : Fin 4) (⟨R.val % 2048 + 2 - d, by omega⟩ : Fin 2) L)
  else upAt X W ⟨R.val - d, by omega⟩ L

/-- The causal convolution of three taps at row `R` and column `L`. -/
def convAt (X : FVec Ideal S8192x2048 .bf16) (W : FVec Ideal S1x2048x11264 .f32) (K : FVec Ideal S1x3x11264 .f32)
    (B : FVec Ideal S1x11264 .f32) (P : FVec Ideal S4x2x11264 .f32) (R : Fin 8192) (L : Fin 11264) : EReal :=
  B (ix2 0 L) + rowBefore X W P 2 R L * K (ix3 0 0 L) + rowBefore X W P 1 R L * K (ix3 0 1 L) + rowBefore X W P 0 R L * K (ix3 0 2 L)

/-- The gated unit: the Gaussian error unit of `g` times `v`. -/
def gated (g v : EReal) : EReal :=
  (Ideal.ofBits .f32 0x3F000000#32 * g) * (1 + Ideal.erf (g * Ideal.ofBits .f32 0x3F3504F3#32)) * v

/-- A column of the gate half. -/
def gateCol (l : Fin 5632) : Fin 11264 := ⟨l.val, by omega⟩
/-- A column of the value half. -/
def valCol (l : Fin 5632) : Fin 11264 := ⟨5632 + l.val, by omega⟩

/-- The activation array. -/
def out (X : FVec Ideal S8192x2048 .bf16) (W : FVec Ideal S1x2048x11264 .f32) (K : FVec Ideal S1x3x11264 .f32)
    (B : FVec Ideal S1x11264 .f32) (P : FVec Ideal S4x2x11264 .f32) : FVec Ideal S8192x5632 .bf16 :=
  fun j => gated (convAt X W K B P (j 0) (gateCol (j 1))) (convAt X W K B P (j 0) (valCol (j 1)))

/-- The last eight rows of a sequence's product at a column. -/
def tailAt (X : FVec Ideal S8192x2048 .bf16) (W : FVec Ideal S1x2048x11264 .f32) (b : Fin 4) (a : Fin 8) (L : Fin 11264) : EReal :=
  upAt X W ⟨b.val * 2048 + 2040 + a.val, by omega⟩ L

/-- Tails at equal places are equal. -/
theorem tailAt_congr (X : FVec Ideal S8192x2048 .bf16) (W : FVec Ideal S1x2048x11264 .f32) (f : Fin 5632 → Fin 11264) {b b' : Fin 4} {a a' : Fin 8} {l l' : Fin 5632}
    (hb : b.val = b'.val) (ha : a.val = a'.val) (hl : l.val = l'.val) : tailAt X W b a (f l) = tailAt X W b' a' (f l') := by
  obtain rfl := Fin.ext hb
  obtain rfl := Fin.ext ha
  obtain rfl := Fin.ext hl
  rfl

/-- The gate half's tails. -/
def gateTail (X : FVec Ideal S8192x2048 .bf16) (W : FVec Ideal S1x2048x11264 .f32) : FVec Ideal S4x8x5632 .f32 :=
  fun j => tailAt X W (j 0) (j 1) (gateCol (j 2))

/-- The value half's tails. -/
def valTail (X : FVec Ideal S8192x2048 .bf16) (W : FVec Ideal S1x2048x11264 .f32) : FVec Ideal S4x8x5632 .f32 :=
  fun j => tailAt X W (j 0) (j 1) (valCol (j 2))

/-- The row `d` before a block's row is the array's: the rows ahead of the block are the given state's at a sequence's
    first block and the product's at any other. -/
theorem back_eq (X : FVec Ideal S8192x2048 .bf16) (W : FVec Ideal S1x2048x11264 .f32) (P : FVec Ideal S4x2x11264 .f32)
    (u : FVec Ideal S512x512 .f32) (p : FVec Ideal S2x512 .f32) (j : ℕ) (hj : j < 16) (L : Fin 11264) (l : Fin 512)
    (hu : ∀ (r : Fin 512) (R : Fin 8192), R.val = j * 512 + r.val → (show EReal from u (ix2 r l)) = upAt X W R L)
    (hp : ∀ a : Fin 2, j % 4 = 0 → (show EReal from p (ix2 a l)) = (show EReal from P (ix3 (⟨j / 4, by omega⟩ : Fin 4) a L)))
    (hq : ∀ (a : Fin 2) (R : Fin 8192), ¬ j % 4 = 0 → R.val + 2 = j * 512 + a.val → (show EReal from p (ix2 a l)) = upAt X W R L)
    (d : ℕ) (hd : d ≤ 2) (r : Fin 512) (R : Fin 8192) (hR : R.val = j * 512 + r.val) :
    back u p d r l = rowBefore X W P d R L := by
  unfold back rowBefore
  by_cases h : r.val < d
  · rw [dif_pos h]
    by_cases h4 : j % 4 = 0
    · rw [dif_pos (by omega)]
      refine (hp _ h4).trans ?_
      refine congrArg₂ (fun (b : Fin 4) (a : Fin 2) => (show EReal from P (ix3 b a L))) (Fin.ext ?_) (Fin.ext ?_) <;> simp only [] <;> omega
    · rw [dif_neg (by omega)]
      exact hq _ _ h4 (by simp only []; omega)
  · rw [dif_neg h, dif_neg (by omega)]
    exact hu _ _ (by simp only []; omega)

/-- A convolved block's entry is the array's. -/
theorem conv_block (X : FVec Ideal S8192x2048 .bf16) (W : FVec Ideal S1x2048x11264 .f32) (K : FVec Ideal S1x3x11264 .f32)
    (B : FVec Ideal S1x11264 .f32) (P : FVec Ideal S4x2x11264 .f32) (i : grid0.Coords) (x : FVec Ideal S512x2048 .bf16)
    (v : FVec Ideal S2048x512 .bf16) (k : FVec Ideal S3x512 .f32) (b : FVec Ideal S1x512 .f32) (s : Vec Ideal S1x2x512 .f32) (w : Vec Ideal S2x512 .f32)
    (j : ℕ) (hj : j < 16) (L : Fin 11264) (l : Fin 512)
    (hu : ∀ (r : Fin 512) (R : Fin 8192), R.val = j * 512 + r.val → (show EReal from k0_pay2 (F := Ideal) x v (ix2 r l)) = upAt X W R L)
    (hp : ∀ a : Fin 2, j % 4 = 0 → (show EReal from ahead i s w (ix2 a l)) = (show EReal from P (ix3 (⟨j / 4, by omega⟩ : Fin 4) a L)))
    (hq : ∀ (a : Fin 2) (R : Fin 8192), ¬ j % 4 = 0 → R.val + 2 = j * 512 + a.val → (show EReal from ahead i s w (ix2 a l)) = upAt X W R L)
    (hk : ∀ a : Fin 3, (show EReal from k (ix2 a l)) = (show EReal from K (ix3 0 a L)))
    (hb : (show EReal from b (ix2 0 l)) = (show EReal from B (ix2 0 L)))
    (r : Fin 512) (R : Fin 8192) (hR : R.val = j * 512 + r.val) :
    (show EReal from gateConv (F := Ideal) i x v k b s w (ix2 r l)) = convAt X W K B P R L := by
  have hback := fun d hd => back_eq X W P (k0_pay2 (F := Ideal) x v) (ahead i s w) j hj L l hu hp hq d hd r R hR
  refine (gateConv_at i x v k b s w r l).trans ?_
  unfold convAt
  rw [hback 2 (by omega), hback 1 (by omega), hback 0 (by omega), hk 0, hk 1, hk 2, hb]

/-- The weights as the host hands them over. -/
theorem w_entry (c : Dev nD) (k : Fin 2048) (L : Fin 11264) :
    (show EReal from V m c main_v1 (ix2 k L)) = (show EReal from m ((c : Thread nD τ).loc main_arg1) (ix3 0 k L)) := by
  entry_read
  pointwise

/-- The filter as the host hands it over. -/
theorem k_entry (c : Dev nD) (a : Fin 3) (L : Fin 11264) :
    (show EReal from V m c main_v2 (ix2 a L)) = (show EReal from m ((c : Thread nD τ).loc main_arg2) (ix3 0 a L)) := by
  entry_read
  pointwise

/-- The bias as the host hands it over. -/
theorem b_entry (c : Dev nD) (L : Fin 11264) :
    (show EReal from V m c main_v4 (ix2 0 L)) = (show EReal from m ((c : Thread nD τ).loc main_arg3) (ix2 0 L)) := by
  entry_read
  pointwise

/-- The rows read. -/
theorem x_at (c : Dev nD) (t : Fin cfg0.N) (r : Fin 512) (k : Fin 2048) (R : Fin 8192) (hR : (R : ℕ) = t.val % 16 * 512 + r) :
    (show EReal from iblk m c 0 t (ix2 r k)) = (show EReal from m ((c : Thread nD τ).loc main_arg0) (ix2 R k)) := by
  blk_ext [iblk, V, idx_val t]

/-- The gate weights read. -/
theorem w1_at (c : Dev nD) (t : Fin cfg0.N) (k : Fin 2048) (l : Fin 512) (L : Fin 11264) (hL : (L : ℕ) = t.val / 16 * 512 + l) :
    (show EReal from iblk m c 1 t (ix2 k l)) = (show EReal from m ((c : Thread nD τ).loc main_arg1) (ix3 0 k L)) := by
  refine Eq.trans ?_ (w_entry m c k L)
  blk_ext [iblk, idx_val t]

/-- The value weights read. -/
theorem w2_at (c : Dev nD) (t : Fin cfg0.N) (k : Fin 2048) (l : Fin 512) (L : Fin 11264) (hL : (L : ℕ) = 5632 + t.val / 16 * 512 + l) :
    (show EReal from iblk m c 2 t (ix2 k l)) = (show EReal from m ((c : Thread nD τ).loc main_arg1) (ix3 0 k L)) := by
  refine Eq.trans ?_ (w_entry m c k L)
  blk_ext [iblk, idx_val t]

/-- The gate filter read. -/
theorem k3_at (c : Dev nD) (t : Fin cfg0.N) (a : Fin 3) (l : Fin 512) (L : Fin 11264) (hL : (L : ℕ) = t.val / 16 * 512 + l) :
    (show EReal from iblk m c 3 t (ix2 a l)) = (show EReal from m ((c : Thread nD τ).loc main_arg2) (ix3 0 a L)) := by
  refine Eq.trans ?_ (k_entry m c a L)
  blk_ext [iblk, idx_val t]

/-- The value filter read. -/
theorem k4_at (c : Dev nD) (t : Fin cfg0.N) (a : Fin 3) (l : Fin 512) (L : Fin 11264) (hL : (L : ℕ) = 5632 + t.val / 16 * 512 + l) :
    (show EReal from iblk m c 4 t (ix2 a l)) = (show EReal from m ((c : Thread nD τ).loc main_arg2) (ix3 0 a L)) := by
  refine Eq.trans ?_ (k_entry m c a L)
  blk_ext [iblk, idx_val t]

/-- The gate bias read. -/
theorem b5_at (c : Dev nD) (t : Fin cfg0.N) (l : Fin 512) (L : Fin 11264) (hL : (L : ℕ) = t.val / 16 * 512 + l) :
    (show EReal from iblk m c 5 t (ix2 0 l)) = (show EReal from m ((c : Thread nD τ).loc main_arg3) (ix2 0 L)) := by
  refine Eq.trans ?_ (b_entry m c L)
  blk_ext [iblk, idx_val t]

/-- The value bias read. -/
theorem b6_at (c : Dev nD) (t : Fin cfg0.N) (l : Fin 512) (L : Fin 11264) (hL : (L : ℕ) = 5632 + t.val / 16 * 512 + l) :
    (show EReal from iblk m c 6 t (ix2 0 l)) = (show EReal from m ((c : Thread nD τ).loc main_arg3) (ix2 0 L)) := by
  refine Eq.trans ?_ (b_entry m c L)
  blk_ext [iblk, idx_val t]

/-- The gate's given state read. -/
theorem s7_at (c : Dev nD) (t : Fin cfg0.N) (a : Fin 2) (l : Fin 512) (b : Fin 4) (L : Fin 11264) (hb : (b : ℕ) = t.val % 16 / 4) (hL : (L : ℕ) = t.val / 16 * 512 + l) :
    (show EReal from iblk m c 7 t (ix3 0 a l)) = (show EReal from m ((c : Thread nD τ).loc main_arg4) (ix3 b a L)) := by
  blk_ext [iblk, V, idx_val t]

/-- The value's given state read. -/
theorem s8_at (c : Dev nD) (t : Fin cfg0.N) (a : Fin 2) (l : Fin 512) (b : Fin 4) (L : Fin 11264) (hb : (b : ℕ) = t.val % 16 / 4) (hL : (L : ℕ) = 5632 + t.val / 16 * 512 + l) :
    (show EReal from iblk m c 8 t (ix3 0 a l)) = (show EReal from m ((c : Thread nD τ).loc main_arg4) (ix3 b a L)) := by
  blk_ext [iblk, V, idx_val t]

/-- The gate product block's entries are the array's. -/
theorem gateUp_at (c : Dev nD) (t : Fin cfg0.N) (r l : Fin 512) (R : Fin 8192) (L : Fin 11264) (hR : (R : ℕ) = t.val % 16 * 512 + r) (hL : (L : ℕ) = t.val / 16 * 512 + l) :
    (show EReal from gateUp m c t (ix2 r l)) = upAt (m ((c : Thread nD τ).loc main_arg0)) (m ((c : Thread nD τ).loc main_arg1)) R L := by
  refine (pay2_at _ _ r l).trans ?_
  unfold upAt
  exact Finset.sum_congr rfl fun k _ => Ideal.mul_congr (x_at m c t r k R hR) (w1_at m c t k l L hL)

/-- The value product block's entries are the array's. -/
theorem valUp_at (c : Dev nD) (t : Fin cfg0.N) (r l : Fin 512) (R : Fin 8192) (L : Fin 11264) (hR : (R : ℕ) = t.val % 16 * 512 + r) (hL : (L : ℕ) = 5632 + t.val / 16 * 512 + l) :
    (show EReal from valUp m c t (ix2 r l)) = upAt (m ((c : Thread nD τ).loc main_arg0)) (m ((c : Thread nD τ).loc main_arg1)) R L := by
  refine (pay2_at _ _ r l).trans ?_
  unfold upAt
  exact Finset.sum_congr rfl fun k _ => Ideal.mul_congr (x_at m c t r k R hR) (w2_at m c t k l L hL)

/-- The carried gate rows are those of the product above the block. -/
theorem carryG_at (c : Dev nD) (t : Fin cfg0.N) (h : ¬ t.val % 4 = 0) (a : Fin 2) (l : Fin 512) (R : Fin 8192) (L : Fin 11264)
    (hR : R.val + 2 = t.val % 16 * 512 + a.val) (hL : (L : ℕ) = t.val / 16 * 512 + l) :
    (show EReal from lastRows (F := Ideal) (leftG m c (prevPt t)) (ix2 a l)) = upAt (m ((c : Thread nD τ).loc main_arg0)) (m ((c : Thread nD τ).loc main_arg1)) R L := by
  have hv : (prevPt t).val = t.val - 1 := rfl
  refine (carried_at _ a l).trans ?_
  refine gateUp_at m c (prevPt t) _ l R L ?_ ?_
  · rw [hv]; simp only []; omega
  · rw [hv]; omega

/-- The carried value rows are those of the product above the block. -/
theorem carryV_at (c : Dev nD) (t : Fin cfg0.N) (h : ¬ t.val % 4 = 0) (a : Fin 2) (l : Fin 512) (R : Fin 8192) (L : Fin 11264)
    (hR : R.val + 2 = t.val % 16 * 512 + a.val) (hL : (L : ℕ) = 5632 + t.val / 16 * 512 + l) :
    (show EReal from lastRows (F := Ideal) (leftV m c (prevPt t)) (ix2 a l)) = upAt (m ((c : Thread nD τ).loc main_arg0)) (m ((c : Thread nD τ).loc main_arg1)) R L := by
  have hv : (prevPt t).val = t.val - 1 := rfl
  have e : leftV m c (prevPt t) = k0_pay11 (F := Ideal) (valUp m c (prevPt t)) := rfl
  rw [e]
  refine (carried_at _ a l).trans ?_
  refine valUp_at m c (prevPt t) _ l R L ?_ ?_
  · rw [hv]; simp only []; omega
  · rw [hv]; omega

/-- The rows ahead of a sequence's first block are the given state's. -/
theorem ahead_first (t : Fin cfg0.N) (h : t.val % 4 = 0) (s : Vec Ideal S1x2x512 .f32) (w : Vec Ideal S2x512 .f32) (a : Fin 2) (l : Fin 512) :
    (show EReal from ahead (grid0.coords t) s w (ix2 a l)) = (show EReal from s (ix3 0 a l)) := by
  have hf : firstBit (grid0.coords t) = 1#1 := by rw [firstBit_eq t, if_pos h]
  exact if_pos hf

/-- The rows ahead of any other block are the carried ones. -/
theorem ahead_next (t : Fin cfg0.N) (h : ¬ t.val % 4 = 0) (s : Vec Ideal S1x2x512 .f32) (w : Vec Ideal S2x512 .f32) (a : Fin 2) (l : Fin 512) :
    (show EReal from ahead (grid0.coords t) s w (ix2 a l)) = (show EReal from w (ix2 a l)) := by
  have hf : ¬ firstBit (grid0.coords t) = 1#1 := by rw [firstBit_eq t, if_neg h]; decide
  exact if_neg hf

/-- The convolved gate block's entries are the array's. -/
theorem gate_at (c : Dev nD) (t : Fin cfg0.N) (r l : Fin 512) (R : Fin 8192) (L : Fin 11264) (hR : (R : ℕ) = t.val % 16 * 512 + r) (hL : (L : ℕ) = t.val / 16 * 512 + l) :
    (show EReal from gateConv (F := Ideal) (grid0.coords t) (iblk m c 0 t) (iblk m c 1 t) (iblk m c 3 t) (iblk m c 5 t) (iblk m c 7 t) (lastRows (leftG m c (prevPt t))) (ix2 r l))
      = convAt (m ((c : Thread nD τ).loc main_arg0)) (m ((c : Thread nD τ).loc main_arg1)) (m ((c : Thread nD τ).loc main_arg2)) (m ((c : Thread nD τ).loc main_arg3)) (m ((c : Thread nD τ).loc main_arg4)) R L := by
  refine conv_block _ _ _ _ _ _ _ _ _ _ _ _ (t.val % 16) (Nat.mod_lt _ (by omega)) L l (fun r R hR => gateUp_at m c t r l R L hR hL) (fun a h4 => ?_) (fun a R h4 hR => ?_)
    (fun a => k3_at m c t a l L hL) (b5_at m c t l L hL) r R hR
  · exact (ahead_first t (by omega) _ _ a l).trans (s7_at m c t a l _ L rfl hL)
  · exact (ahead_next t (by omega) _ _ a l).trans (carryG_at m c t (by omega) a l R L hR hL)

/-- The convolved value block's entries are the array's. -/
theorem val_at (c : Dev nD) (t : Fin cfg0.N) (r l : Fin 512) (R : Fin 8192) (L : Fin 11264) (hR : (R : ℕ) = t.val % 16 * 512 + r) (hL : (L : ℕ) = 5632 + t.val / 16 * 512 + l) :
    (show EReal from gateConv (F := Ideal) (grid0.coords t) (iblk m c 0 t) (iblk m c 2 t) (iblk m c 4 t) (iblk m c 6 t) (iblk m c 8 t) (lastRows (leftV m c (prevPt t))) (ix2 r l))
      = convAt (m ((c : Thread nD τ).loc main_arg0)) (m ((c : Thread nD τ).loc main_arg1)) (m ((c : Thread nD τ).loc main_arg2)) (m ((c : Thread nD τ).loc main_arg3)) (m ((c : Thread nD τ).loc main_arg4)) R L := by
  refine conv_block _ _ _ _ _ _ _ _ _ _ _ _ (t.val % 16) (Nat.mod_lt _ (by omega)) L l (fun r R hR => valUp_at m c t r l R L hR hL) (fun a h4 => ?_) (fun a R h4 hR => ?_)
    (fun a => k4_at m c t a l L hL) (b6_at m c t l L hL) r R hR
  · exact (ahead_first t (by omega) _ _ a l).trans (s8_at m c t a l _ L rfl hL)
  · exact (ahead_next t (by omega) _ _ a l).trans (carryV_at m c t (by omega) a l R L hR hL)

/-- The activation block's entries are the array's. -/
theorem act_at (c : Dev nD) (t : Fin cfg0.N) (r l : Fin 512) (R : Fin 8192) (L : Fin 5632) (hR : (R : ℕ) = t.val % 16 * 512 + r) (hL : (L : ℕ) = t.val / 16 * 512 + l) :
    (show EReal from actAt m c t (ix2 r l))
      = (show EReal from out (m ((c : Thread nD τ).loc main_arg0)) (m ((c : Thread nD τ).loc main_arg1)) (m ((c : Thread nD τ).loc main_arg2)) (m ((c : Thread nD τ).loc main_arg3)) (m ((c : Thread nD τ).loc main_arg4)) (ix2 R L)) := by
  refine (pay1_at _ _ r l).trans ?_
  exact congrArg₂ gated (gate_at m c t r l R (gateCol L) hR hL) (val_at m c t r l R (valCol L) hR (by unfold valCol; simp only []; omega))

/-- The activation array after the run. -/
theorem final (c : Dev nD) : (dats m 0 c).arrAt 9 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after_9]
  have ht : t.val < 176 := t.isLt
  obtain ⟨r, l, rfl⟩ : ∃ (r : Fin 512) (l : Fin 512), y = ix2 r l := ⟨y 0, y 1, eq_ix2 y⟩
  refine (act_at m c t r l (⟨t.val % 16 * 512 + r, by omega⟩ : Fin 8192) (⟨t.val / 16 * 512 + l, by omega⟩ : Fin 5632) rfl rfl).trans ?_
  refine congrArg₂ (fun (R : Fin 8192) (L : Fin 5632) => gated (convAt _ _ _ _ _ R (gateCol L)) (convAt _ _ _ _ _ R (valCol L))) (Fin.ext ?_) (Fin.ext ?_)
  · blk_simp [idx_val t]
  · blk_simp [idx_val t]

/-- The gate tails after the run. -/
theorem finalG (c : Dev nD) : (dats m 0 c).arrAt 10 (cfgs 0).N
    = gateTail (m ((c : Thread nD τ).loc main_arg0)) (m ((c : Thread nD τ).loc main_arg1)) := by
  refine (dats m 0 c).arrAt_eq_of_covers 10 _ (by decide +kernel) fun t hf y => ?_
  blk_simp
  have h3 := (flush0_10 t).mp hf
  rw [after_10]
  have ht : t.val < 176 := t.isLt
  obtain ⟨a, l, rfl⟩ : ∃ (a : Fin 8) (l : Fin 512), y = ix3 0 a l :=
    ⟨y 1, y 2, (eq_ix3 y).trans (congrArg (fun z : Fin 1 => ix3 z (y 1 : Fin 8) (y 2 : Fin 512)) (Subsingleton.elim _ _))⟩
  refine (pay12_at _ a l).trans ?_
  refine (gateUp_at m c t _ l (⟨t.val % 16 / 4 * 2048 + 2040 + a, by omega⟩ : Fin 8192) (gateCol (⟨t.val / 16 * 512 + l, by omega⟩ : Fin 5632)) (by simp only []; omega) rfl).trans ?_
  refine Eq.trans (show _ = tailAt _ _ (⟨t.val % 16 / 4, by omega⟩ : Fin 4) a (gateCol (⟨t.val / 16 * 512 + l, by omega⟩ : Fin 5632)) from rfl) ?_
  refine tailAt_congr _ _ gateCol ?_ ?_ ?_
  · blk_simp [idx_val t]
    rfl
  · blk_simp [idx_val t]
  · blk_simp [idx_val t]

/-- The value tails after the run. -/
theorem finalV (c : Dev nD) : (dats m 0 c).arrAt 11 (cfgs 0).N
    = valTail (m ((c : Thread nD τ).loc main_arg0)) (m ((c : Thread nD τ).loc main_arg1)) := by
  refine (dats m 0 c).arrAt_eq_of_covers 11 _ (by decide +kernel) fun t hf y => ?_
  blk_simp
  have h3 := (flush0_11 t).mp hf
  rw [after_11]
  have ht : t.val < 176 := t.isLt
  obtain ⟨a, l, rfl⟩ : ∃ (a : Fin 8) (l : Fin 512), y = ix3 0 a l :=
    ⟨y 1, y 2, (eq_ix3 y).trans (congrArg (fun z : Fin 1 => ix3 z (y 1 : Fin 8) (y 2 : Fin 512)) (Subsingleton.elim _ _))⟩
  refine (pay12_at _ a l).trans ?_
  refine (valUp_at m c t _ l (⟨t.val % 16 / 4 * 2048 + 2040 + a, by omega⟩ : Fin 8192) (valCol (⟨t.val / 16 * 512 + l, by omega⟩ : Fin 5632)) (by simp only []; omega) (by unfold valCol; simp only []; omega)).trans ?_
  refine Eq.trans (show _ = tailAt _ _ (⟨t.val % 16 / 4, by omega⟩ : Fin 4) a (valCol (⟨t.val / 16 * 512 + l, by omega⟩ : Fin 5632)) from rfl) ?_
  refine tailAt_congr _ _ valCol ?_ ?_ ?_
  · blk_simp [idx_val t]
    rfl
  · blk_simp [idx_val t]
  · blk_simp [idx_val t]

end Cert.Up

end
-- ==== Proof.Up.Reference.lean ====
/- The reference's first feed-forward product, convolution and gate, read as scalar mathematics. -/
module

public import proofs.«01_k».proof.Proof.Gen.ReferenceUpIdeal.Run
public import proofs.«01_k».proof.Proof.Up.Kernel

@[expose] public section

set_option maxRecDepth 16384

noncomputable section

namespace Cert.Up.Ref

open Idealize.ShloMosaic Idealize.ShloMosaic.TcCoe Idealize.SL.Sem
open Cert.ReferenceUpIdeal Cert.ReferenceUpIdeal.Gen

/-- The product of every row with the weights. -/
def prod (X : FVec Ideal S8192x2048 .bf16) (W : FVec Ideal S1x2048x11264 .f32) : FVec Ideal S4x2048x11264 .f32 :=
  Host.dotGeneral dot_S4x2048x2048_S2048x11264_S4x2048x11264_2_0_01_1_n_n none (shapeCast _ (extf .f32 X bitsLt_bf16_f32) shapeCasts_S8192x2048_S4x2048x2048) (shapeCast _ W shapeCasts_S1x2048x11264_S2048x11264)

/-- Each sequence's product with the two given rows ahead of it. -/
def extended (U : FVec Ideal S4x2048x11264 .f32) (P : FVec Ideal S4x2x11264 .f32) : FVec Ideal S4x2050x11264 .f32 :=
  concatenate S4x2050x11264 1 [⟨S4x2x11264, P⟩, ⟨S4x2048x11264, U⟩] concatenates_S4x2x11264_S4x2048x11264_S4x2050x11264_d1

/-- The convolution over the extended sequences. -/
def conv (E : FVec Ideal S4x2050x11264 .f32) (K : FVec Ideal S1x3x11264 .f32) (B : FVec Ideal S1x11264 .f32) : FVec Ideal S4x2048x11264 .f32 :=
  addf (addf (addf (broadcastInDim S4x2048x11264 ![0, 1, 2] bcast_S1x1x11264_S4x2048x11264_0_1_2 (broadcastInDim S1x1x11264 ![2] bcast_S11264_S1x1x11264_2 (shapeCast _ B shapeCasts_S1x11264_S11264)))
    (mulf (extractStridedSlice S4x2048x11264 ![0, 0, 0] E slices_S4x2050x11264_S4x2048x11264_0_0_0) (broadcastInDim S4x2048x11264 ![0, 1, 2] bcast_S1x1x11264_S4x2048x11264_0_1_2 (broadcastInDim S1x1x11264 ![2] bcast_S11264_S1x1x11264_2 (shapeCast _ (extractStridedSlice S1x11264 ![0, 0] (shapeCast _ K shapeCasts_S1x3x11264_S3x11264) slices_S3x11264_S1x11264_0_0) shapeCasts_S1x11264_S11264)))))
    (mulf (extractStridedSlice S4x2048x11264 ![0, 1, 0] E slices_S4x2050x11264_S4x2048x11264_0_1_0) (broadcastInDim S4x2048x11264 ![0, 1, 2] bcast_S1x1x11264_S4x2048x11264_0_1_2 (broadcastInDim S1x1x11264 ![2] bcast_S11264_S1x1x11264_2 (shapeCast _ (extractStridedSlice S1x11264 ![1, 0] (shapeCast _ K shapeCasts_S1x3x11264_S3x11264) slices_S3x11264_S1x11264_1_0) shapeCasts_S1x11264_S11264)))))
    (mulf (extractStridedSlice S4x2048x11264 ![0, 2, 0] E slices_S4x2050x11264_S4x2048x11264_0_2_0) (broadcastInDim S4x2048x11264 ![0, 1, 2] bcast_S1x1x11264_S4x2048x11264_0_1_2 (broadcastInDim S1x1x11264 ![2] bcast_S11264_S1x1x11264_2 (shapeCast _ (extractStridedSlice S1x11264 ![2, 0] (shapeCast _ K shapeCasts_S1x3x11264_S3x11264) slices_S3x11264_S1x11264_2_0) shapeCasts_S1x11264_S11264))))

/-- The gated unit over the two halves of the convolved columns. -/
def unit (C : FVec Ideal S4x2048x11264 .f32) : FVec Ideal S8192x5632 .bf16 :=
  truncf .bf16 (shapeCast _ (mulf (mulf (mulf (broadcastInDim S4x2048x5632 ![] bcast_S_S4x2048x5632 (constant S_ .f32 0x3F000000#32)) (extractStridedSlice S4x2048x5632 ![0, 0, 0] C slices_S4x2048x11264_S4x2048x5632_0_0_0))
    (Host.erfc (mulf (Host.negf (extractStridedSlice S4x2048x5632 ![0, 0, 0] C slices_S4x2048x11264_S4x2048x5632_0_0_0)) (broadcastInDim S4x2048x5632 ![] bcast_S_S4x2048x5632 (constant S_ .f32 0x3F3504F3#32)))))
    (extractStridedSlice S4x2048x5632 ![0, 0, 5632] C slices_S4x2048x11264_S4x2048x5632_0_0_5632)) shapeCasts_S4x2048x5632_S8192x5632) bitsLt_bf16_f32

/-- The product at an index. -/
theorem prod_at (X : FVec Ideal S8192x2048 .bf16) (W : FVec Ideal S1x2048x11264 .f32) (b : Fin 4) (T : Fin 2048) (L : Fin 11264) (R : Fin 8192) (hR : R.val = b.val * 2048 + T.val) :
    (show EReal from prod X W (ix3 b T L)) = upAt X W R L := by
  rw [show R = ⟨b.val * 2048 + T.val, by omega⟩ from Fin.ext hR]
  unfold upAt
  pointwise [prod]

/-- An extended sequence at an index. -/
theorem extended_at (U : FVec Ideal S4x2048x11264 .f32) (P : FVec Ideal S4x2x11264 .f32) (b : Fin 4) (e : Fin 2050) (L : Fin 11264) :
    (show EReal from extended U P (ix3 b e L)) = if h : e.val < 2 then (show EReal from P (ix3 b (⟨e.val, h⟩ : Fin 2) L)) else (show EReal from U (ix3 b (⟨e.val - 2, by omega⟩ : Fin 2048) L)) := by
  pointwise [extended]

/-- The convolution at an index. -/
theorem conv_at (E : FVec Ideal S4x2050x11264 .f32) (K : FVec Ideal S1x3x11264 .f32) (B : FVec Ideal S1x11264 .f32) (b : Fin 4) (T : Fin 2048) (L : Fin 11264) :
    (show EReal from conv E K B (ix3 b T L)) = (show EReal from B (ix2 0 L)) + (show EReal from E (ix3 b (⟨T.val, by omega⟩ : Fin 2050) L)) * (show EReal from K (ix3 0 0 L))
      + (show EReal from E (ix3 b (⟨1 + T.val, by omega⟩ : Fin 2050) L)) * (show EReal from K (ix3 0 1 L)) + (show EReal from E (ix3 b (⟨2 + T.val, by omega⟩ : Fin 2050) L)) * (show EReal from K (ix3 0 2 L)) := by
  pointwise [conv]

/-- The gated unit at an index. -/
theorem unit_at (C : FVec Ideal S4x2048x11264 .f32) (R : Fin 8192) (l : Fin 5632) :
    (show EReal from unit C (ix2 R l)) = gated (C (ix3 (⟨R.val / 2048, by omega⟩ : Fin 4) (⟨R.val % 2048, by omega⟩ : Fin 2048) (gateCol l)))
      (C (ix3 (⟨R.val / 2048, by omega⟩ : Fin 4) (⟨R.val % 2048, by omega⟩ : Fin 2048) (valCol l))) := by
  unfold gated gateCol valCol
  rw [← Ideal.erfc_neg, ← neg_mul]
  pointwise [unit]

/-- The extended sequences' rows are the rows before, by how many they lie back. -/
theorem extended_eq (X : FVec Ideal S8192x2048 .bf16) (W : FVec Ideal S1x2048x11264 .f32) (P : FVec Ideal S4x2x11264 .f32) (R : Fin 8192) (L : Fin 11264) (d : ℕ) (hd : d ≤ 2)
    (e : Fin 2050) (he : e.val + d = R.val % 2048 + 2) :
    (show EReal from extended (prod X W) P (ix3 (⟨R.val / 2048, by omega⟩ : Fin 4) e L)) = rowBefore X W P d R L := by
  refine (extended_at _ _ _ e L).trans ?_
  unfold rowBefore
  by_cases h : R.val % 2048 < d
  · rw [dif_pos h, dif_pos (by omega)]
    exact congrArg (fun a : Fin 2 => (show EReal from P (ix3 _ a L))) (Fin.ext (by simp only []; omega))
  · rw [dif_neg h, dif_neg (by omega)]
    exact prod_at X W _ _ L _ (by simp only []; omega)

/-- The reference's convolution is the array's. -/
theorem conv_eq (X : FVec Ideal S8192x2048 .bf16) (W : FVec Ideal S1x2048x11264 .f32) (K : FVec Ideal S1x3x11264 .f32) (B : FVec Ideal S1x11264 .f32) (P : FVec Ideal S4x2x11264 .f32) (R : Fin 8192) (L : Fin 11264) :
    (show EReal from conv (extended (prod X W) P) K B (ix3 (⟨R.val / 2048, by omega⟩ : Fin 4) (⟨R.val % 2048, by omega⟩ : Fin 2048) L)) = convAt X W K B P R L := by
  refine (conv_at _ K B _ _ L).trans ?_
  unfold convAt
  rw [extended_eq X W P R L 2 (by omega) _ rfl, extended_eq X W P R L 1 (by omega) _ (by simp only []; omega), extended_eq X W P R L 0 (by omega) _ (by simp only []; omega)]

/-- The reference's steps composed are the kernel's activation array. -/
theorem steps_eq (X : FVec Ideal S8192x2048 .bf16) (W : FVec Ideal S1x2048x11264 .f32) (K : FVec Ideal S1x3x11264 .f32) (B : FVec Ideal S1x11264 .f32) (P : FVec Ideal S4x2x11264 .f32) :
    unit (conv (extended (prod X W) P) K B) = out X W K B P := by
  funext j
  obtain ⟨R, l, rfl⟩ : ∃ (R : Fin 8192) (l : Fin 5632), j = ix2 R l := ⟨j 0, j 1, eq_ix2 j⟩
  refine (unit_at _ R l).trans ?_
  exact congrArg₂ gated (conv_eq X W K B P R (gateCol l)) (conv_eq X W K B P R (valCol l))

/-- The last eight rows of the gate half. -/
def gateLast (E : FVec Ideal S4x2050x11264 .f32) : FVec Ideal S4x8x5632 .f32 :=
  extractStridedSlice S4x8x5632 ![0, 0, 0] (extractStridedSlice S4x8x11264 ![0, 2042, 0] E slices_S4x2050x11264_S4x8x11264_0_2042_0) slices_S4x8x11264_S4x8x5632_0_0_0

/-- The last eight rows of the value half. -/
def valLast (E : FVec Ideal S4x2050x11264 .f32) : FVec Ideal S4x8x5632 .f32 :=
  extractStridedSlice S4x8x5632 ![0, 0, 5632] (extractStridedSlice S4x8x11264 ![0, 2042, 0] E slices_S4x2050x11264_S4x8x11264_0_2042_0) slices_S4x8x11264_S4x8x5632_0_0_5632

/-- The gate half's last rows at an index. -/
theorem gateLast_at (E : FVec Ideal S4x2050x11264 .f32) (b : Fin 4) (a : Fin 8) (l : Fin 5632) :
    (show EReal from gateLast E (ix3 b a l)) = (show EReal from E (ix3 b (⟨2042 + a.val, by omega⟩ : Fin 2050) (gateCol l))) := by
  unfold gateCol
  pointwise [gateLast]

/-- The value half's last rows at an index. -/
theorem valLast_at (E : FVec Ideal S4x2050x11264 .f32) (b : Fin 4) (a : Fin 8) (l : Fin 5632) :
    (show EReal from valLast E (ix3 b a l)) = (show EReal from E (ix3 b (⟨2042 + a.val, by omega⟩ : Fin 2050) (valCol l))) := by
  unfold valCol
  pointwise [valLast]

/-- An extended sequence's last eight rows are the product's. -/
theorem last_eq (X : FVec Ideal S8192x2048 .bf16) (W : FVec Ideal S1x2048x11264 .f32) (P : FVec Ideal S4x2x11264 .f32) (b : Fin 4) (a : Fin 8) (L : Fin 11264) :
    (show EReal from extended (prod X W) P (ix3 b (⟨2042 + a.val, by omega⟩ : Fin 2050) L)) = tailAt X W b a L := by
  refine (extended_at _ _ _ _ L).trans ?_
  rw [dif_neg (by simp only []; omega)]
  exact prod_at X W _ _ L _ (by simp only []; omega)

/-- The reference's gate tails are the kernel's. -/
theorem gate_eq (X : FVec Ideal S8192x2048 .bf16) (W : FVec Ideal S1x2048x11264 .f32) (P : FVec Ideal S4x2x11264 .f32) :
    gateLast (extended (prod X W) P) = gateTail X W := by
  funext j
  obtain ⟨b, a, l, rfl⟩ : ∃ (b : Fin 4) (a : Fin 8) (l : Fin 5632), j = ix3 b a l := ⟨j 0, j 1, j 2, eq_ix3 j⟩
  exact (gateLast_at _ b a l).trans (last_eq X W P b a _)

/-- The reference's value tails are the kernel's. -/
theorem val_eq (X : FVec Ideal S8192x2048 .bf16) (W : FVec Ideal S1x2048x11264 .f32) (P : FVec Ideal S4x2x11264 .f32) :
    valLast (extended (prod X W) P) = valTail X W := by
  funext j
  obtain ⟨b, a, l, rfl⟩ : ∃ (b : Fin 4) (a : Fin 8) (l : Fin 5632), j = ix3 b a l := ⟨j 0, j 1, j 2, eq_ix3 j⟩
  exact (valLast_at _ b a l).trans (last_eq X W P b a _)

/-- The reference's activation is its steps composed. -/
theorem result_eq (m : (ℓ : Loc nD τ sig) → Buf (Elt Ideal) ℓ) (c : Dev nD) :
    Value.res_out0 m c = unit (conv (extended (prod (m ((c.tc : Thread nD τ).loc main_arg0)) (m ((c.tc : Thread nD τ).loc main_arg1))) (m ((c.tc : Thread nD τ).loc main_arg4)))
      (m ((c.tc : Thread nD τ).loc main_arg2)) (m ((c.tc : Thread nD τ).loc main_arg3))) := rfl

end Cert.Up.Ref

end
-- ==== Proof.Up.Claims.lean ====
/- The first feed-forward product's claims. -/
module

public import proofs.«01_k».proof.Defs
public import proofs.«01_k».proof.Proof.Up.Reference
public import Idealize.ShloMosaic.Adequacy
public import Idealize.ShloMosaic.Init

@[expose] public section

noncomputable section

namespace Cert.Up

open Idealize.ShloMosaic Idealize.ShloMosaic.TcCoe Idealize.SL.Sem

/-- The reference runs, leaves its arguments as they were and ends with every counter at zero. -/
theorem reference_frame : Cert.quiescent_ReferenceUpIdeal (hReferenceUpIdeal := Cert.ReferenceUpIdeal.Gen.facts) := by
  intro m g _
  exact (θ_run Cert.ReferenceUpIdeal.defs _ _).mono (fun r h => ⟨fun c => (h c).2.2.2, sem_eq_zero_of_no_sems (by decide) r.2⟩)
    (Cert.ReferenceUpIdeal.Value.run m g)

/-- The reference's activation over arguments equal to the kernel's. -/
theorem result_out (m : (ℓ : Loc Cert.ReferenceUpIdeal.nD Cert.ReferenceUpIdeal.τ Cert.ReferenceUpIdeal.sig) → Buf (Elt Ideal) ℓ) (c : Dev Cert.ReferenceUpIdeal.nD)
    (X : FVec Ideal Cert.KernelUpIdeal.S8192x2048 .bf16) (W : FVec Ideal Cert.KernelUpIdeal.S1x2048x11264 .f32) (K : FVec Ideal Cert.KernelUpIdeal.S1x3x11264 .f32)
    (B : FVec Ideal Cert.KernelUpIdeal.S1x11264 .f32) (P : FVec Ideal Cert.KernelUpIdeal.S4x2x11264 .f32)
    (h0 : m ((c.tc : Thread Cert.ReferenceUpIdeal.nD Cert.ReferenceUpIdeal.τ).loc Cert.ReferenceUpIdeal.main_arg0) = X)
    (h1 : m ((c.tc : Thread Cert.ReferenceUpIdeal.nD Cert.ReferenceUpIdeal.τ).loc Cert.ReferenceUpIdeal.main_arg1) = W)
    (h2 : m ((c.tc : Thread Cert.ReferenceUpIdeal.nD Cert.ReferenceUpIdeal.τ).loc Cert.ReferenceUpIdeal.main_arg2) = K)
    (h3 : m ((c.tc : Thread Cert.ReferenceUpIdeal.nD Cert.ReferenceUpIdeal.τ).loc Cert.ReferenceUpIdeal.main_arg3) = B)
    (h4 : m ((c.tc : Thread Cert.ReferenceUpIdeal.nD Cert.ReferenceUpIdeal.τ).loc Cert.ReferenceUpIdeal.main_arg4) = P) :
    Cert.ReferenceUpIdeal.Value.res_out0 m c = out X W K B P := by
  refine (Ref.result_eq m c).trans ?_
  rw [h0, h1, h2, h3, h4]
  exact Ref.steps_eq X W K B P

/-- The kernel's and the reference's results are the same arrays. -/
theorem algebraic : Cert.algebraic_KernelUpIdeal_ReferenceUpIdeal (hKernelUpIdeal := Cert.KernelUpIdeal.Gen.facts)
    (hReferenceUpIdeal := Cert.ReferenceUpIdeal.Gen.facts) := by
  intro m g m' g' _ hargs
  refine ⟨fun c => out (m (c.tc.loc Cert.KernelUpIdeal.main_arg0)) (m (c.tc.loc Cert.KernelUpIdeal.main_arg1)) (m (c.tc.loc Cert.KernelUpIdeal.main_arg2)) (m (c.tc.loc Cert.KernelUpIdeal.main_arg3)) (m (c.tc.loc Cert.KernelUpIdeal.main_arg4)),
    fun c => gateTail (m (c.tc.loc Cert.KernelUpIdeal.main_arg0)) (m (c.tc.loc Cert.KernelUpIdeal.main_arg1)),
    fun c => valTail (m (c.tc.loc Cert.KernelUpIdeal.main_arg0)) (m (c.tc.loc Cert.KernelUpIdeal.main_arg1)), ?_, ?_⟩
  · run_from Cert.UpIdeal.run_main m g
    · exact final m c
    · exact finalG m c
    · exact finalV m c
  · run_from Cert.ReferenceUpIdeal.Value.run m' g'
    · obtain ⟨h0, h1, h2, h3, h4⟩ := hargs c
      exact result_out m' c _ _ _ _ _ h0 h1 h2 h3 h4
    · obtain ⟨h0, h1, h2, h3, h4⟩ := hargs c
      rw [h0, h1]
      exact Ref.gate_eq _ _ _
    · obtain ⟨h0, h1, h2, h3, h4⟩ := hargs c
      rw [h0, h1]
      exact Ref.val_eq _ _ _

end Cert.Up

end
-- ==== Proof.InIdeal.Run.lean ====
/- One grid point of the input projection kernel: the body, run on whole staging buffers, in each of its four cases. -/
module

public import proofs.«01_k».proof.Proof.Gen.KernelInIdeal.Frame
public import proofs.«01_k».proof.Proof.Gen.KernelInIdeal.Skeleton

@[expose] public section

set_option maxRecDepth 16384

noncomputable section

namespace Cert.InIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen

variable {F : FTy → Type} [FloatOps F]

local notation "𝕄" => MT nD τ sig Unit (Elt F) ℕ (UR sig nD τ) ℕ

set_option maxHeartbeats 2000000 in
/-- The body at a row block's first point: the normalised rows are stored, in both formats, and the product of this column block is written plain. -/
def runFirst (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : k0_cond1 i = 1#1) (h2 : ¬k0_cond2 i = 1#1) (h3 : ¬k0_cond3 i = 1#1) (h4 : k0_cond4 i = 1#1)
    (x0 : Vec F S512x2048 .f32) (x1 : Vec F S1x2048 .f32) (x2 : Vec F S1x2048 .f32) (x3 : Vec F S2048x256 .bf16) (x4 : Vec F S512x128 .f32) (x5 : Vec F S512x128 .f32) (xs : Vec F S512x2048 .bf16) :
    Σ' (L6 : List (View.Piece (Elt F) S512x256 .f32)) (L7 : List (View.Piece (Elt F) S512x2048 .f32)), { LS : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 2000000 in
/-- The body at a point whose column block is written plain: the normalised rows stay as they are. -/
def runPlain (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : ¬k0_cond2 i = 1#1) (h3 : ¬k0_cond3 i = 1#1) (h4 : k0_cond4 i = 1#1)
    (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) :
    { L6 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare x7 ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7; obtain rfl := harg10.eq_unread hfs
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

set_option maxHeartbeats 2000000 in
/-- The body at a point of the query columns: both halves of the block are turned by the position tables. -/
def runQuery (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : k0_cond2 i = 1#1) (h3 : ¬k0_cond3 i = 1#1) (h4 : ¬k0_cond4 i = 1#1)
    (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) :
    { L6 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare x7 ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7; obtain rfl := harg10.eq_unread hfs
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

set_option maxHeartbeats 2000000 in
/-- The body at the point of the key and value columns: only the left half is turned. -/
def runKey (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : ¬k0_cond2 i = 1#1) (h3 : k0_cond3 i = 1#1) (h4 : ¬k0_cond4 i = 1#1)
    (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) :
    { L6 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare x7 ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7; obtain rfl := harg10.eq_unread hfs
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

end Cert.InIdeal

end
-- ==== Proof.InIdeal.Point.lean ====
/- What one grid point of the input projection kernel writes, in terms of the blocks it reads. -/
module

public import proofs.«01_k».proof.Proof.InIdeal.Run
public import Idealize.ShloMosaic.Lib.WritesUnit
public import Idealize.ShloMosaic.Lib.Pointwise.Index

@[expose] public section

set_option maxRecDepth 16384

noncomputable section

namespace Cert.InIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen

variable {F : FTy → Type} [FloatOps F]

local notation "𝕄" => MT nD τ sig Unit (Elt F) ℕ (UR sig nD τ) ℕ

/-- A load of a whole two-axis buffer after one piece was written over all of it reads that piece. -/
theorem load_piece {a b : ℕ} {e : EltTy} (v : View sig .tc .vmem ⟨2, ![a, b]⟩ e) (f : v.ty.Contents (Elt F))
    (inb : ∀ k, (![0, 0] : Fin 2 → ℕ) k + (⟨2, ![a, b]⟩ : Shape).size k ≤ (⟨2, ![a, b]⟩ : Shape).size k) (p : Vec F ⟨2, ![a, b]⟩ e) :
    View.readAt (Elt F) v (Rect.unit (s := ⟨2, ![a, b]⟩) ![0, 0] (⟨2, ![a, b]⟩ : Shape).size inb).toLoadRect (v.writes (Elt F) f [⟨Rect.unit (s := ⟨2, ![a, b]⟩) ![0, 0] (⟨2, ![a, b]⟩ : Shape).size inb, p⟩]) = p := by
  funext y
  exact View.read_writes_cons_emb v f (Rect.unit (s := ⟨2, ![a, b]⟩) ![0, 0] (⟨2, ![a, b]⟩ : Shape).size inb) p [] y

/-- Two column halves side by side. -/
def joinCols (a b : Vec F S512x128 .f32) : Vec F S512x256 .f32 := fun y =>
  if h : (y 1).val < 128 then a (ix2 (y 0) ⟨(y 1).val, h⟩)
  else b (ix2 (y 0) ⟨(y 1).val - 128, by have h2 : (y 1).val < 256 := (y 1).isLt; omega⟩)

/-- The block of the query columns: both halves turned. -/
def queryBlk (acc : FVec F S512x256 .f32) (x4 x5 : Vec F S512x128 .f32) : Vec F S512x256 .f32 :=
  joinCols (k0_pay9 acc x4 x5) (k0_pay4 (k0_pay7 x4) (k0_pay8 x5) (k0_pay10 acc) (Scalar.select (Scalar.cmpi .eq 64#32 0#32) 1#32 64#32) k0_pay11 k0_pay12 0#32)

/-- The block of the key and value columns: the left half turned. -/
def keyBlk (xs : Vec F S512x2048 .bf16) (x3 : Vec F S2048x256 .bf16) (x4 x5 : Vec F S512x128 .f32) : Vec F S512x256 .f32 :=
  joinCols (k0_pay5 xs x3 x4 x5) (k0_pay6 xs x3)

/-- A load of a whole two-axis buffer reads its contents. -/
theorem load_whole {a b : ℕ} {e : EltTy} (M : Memref sig .tc .vmem ⟨2, ![a, b]⟩ e) (h : M.IsWhole)
    (inb : ∀ k, (![0, 0] : Fin 2 → ℕ) k + (⟨2, ![a, b]⟩ : Shape).size k ≤ (⟨2, ![a, b]⟩ : Shape).size k) (x : Vec F ⟨2, ![a, b]⟩ e) :
    View.readAt (Elt F) M.view (Rect.unit (s := ⟨2, ![a, b]⟩) ![0, 0] (⟨2, ![a, b]⟩ : Shape).size inb).toLoadRect (h.unread x) = x := by
  funext y
  refine Eq.trans ?_ (congrFun (h.read_unread x) y)
  refine congrArg (M.view.read (Elt F) (h.unread x)) (funext fun k => Fin.ext ?_)
  fin_cases k <;> simp [LoadRect.idx, Rect.toLoadRect, Rect.unit]

/-- A two-axis buffer wholly written by one piece reads back that piece. -/
theorem read_piece {a b : ℕ} {e : EltTy} (v : View sig .tc .vmem ⟨2, ![a, b]⟩ e) (f : v.ty.Contents (Elt F))
    (inb : ∀ k, (![0, 0] : Fin 2 → ℕ) k + (⟨2, ![a, b]⟩ : Shape).size k ≤ (⟨2, ![a, b]⟩ : Shape).size k) (p : Vec F ⟨2, ![a, b]⟩ e) :
    v.read (Elt F) (v.writes (Elt F) f [⟨Rect.unit (s := ⟨2, ![a, b]⟩) ![0, 0] (⟨2, ![a, b]⟩ : Shape).size inb, p⟩]) = p := by
  funext y
  refine Eq.trans ?_ (View.read_writes_cons_emb v f (Rect.unit (s := ⟨2, ![a, b]⟩) ![0, 0] (⟨2, ![a, b]⟩ : Shape).size inb) p [] y)
  refine congrArg (v.read (Elt F) (v.writes (Elt F) f _)) (funext fun k => Fin.ext ?_)
  fin_cases k <;> simp [Rect.emb, Rect.unit]

/-- A buffer written in two column halves reads back the halves side by side. -/
theorem read_halves (v : View sig .tc .vmem S512x256 .f32) (f : v.ty.Contents (Elt F)) (a b : Vec F S512x128 .f32) :
    v.read (Elt F) (v.writes (Elt F) f [⟨Rect.unit (s := S512x256) ![0, 128] S512x128.size inb_S512x256_S512x128_0_128, b⟩, ⟨Rect.unit (s := S512x256) ![0, 0] S512x128.size inb_S512x256_S512x128_0_0, a⟩]) = joinCols a b := by
  funext y
  have h2 : (y 1).val < 256 := (y 1).isLt
  unfold joinCols
  by_cases h : (y 1).val < 128
  · rw [dif_pos h]
    refine (View.read_writes_cons_unit_of_not_mem v f _ b _ y rfl 1 (Or.inl h)).trans ?_
    refine View.read_writes_cons_unit_of_mem v f _ a _ y _ rfl fun k => ?_
    fin_cases k
    · exact (Nat.zero_add _).symm
    · exact (Nat.zero_add _).symm
  · rw [dif_neg h]
    refine View.read_writes_cons_unit_of_mem v f _ b _ y _ rfl fun k => ?_
    fin_cases k
    · exact (Nat.zero_add _).symm
    · show (y 1).val = 128 + ((y 1).val - 128)
      omega

/-- The normalised rows stored at a row block's first point. -/
theorem first_rows (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : k0_cond1 i = 1#1) (h2 : ¬k0_cond2 i = 1#1) (h3 : ¬k0_cond3 i = 1#1) (h4 : k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (xs : Vec F S512x2048 .bf16) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 h1 h2 h3 h4 x0 x1 x2 x3 x4 x5 xs).2.1) = k0_pay1 x0 x1 x2 := by
  have e : (runFirst c i arg2 harg2 arg3 harg3 arg4 harg4 arg5 harg5 arg6 harg6 arg7 harg7 arg8 harg8 arg9 harg9 arg10 harg10 h1 h2 h3 h4 x0 x1 x2 x3 x4 x5 xs).2.1 = [⟨(Rect.unit (s := S512x2048) ![0, 0] S512x2048.size inb_S512x2048_S512x2048_0_0), k0_pay1 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1)) (View.readAt (Elt F) arg4.view (Rect.unit (s := S1x2048) ![0, 0] S1x2048.size inb_S1x2048_S1x2048_0_0).toLoadRect (harg4.unread x2))⟩] := rfl
  rw [e, show (View.readAt (Elt F) arg2.view (Rect.unit (s := S512x2048) ![0, 0] S512x2048.size inb_S512x2048_S512x2048_0_0).toLoadRect (harg2.unread x0)) = x0 from load_whole arg2 harg2 _ x0, show (View.readAt (Elt F) arg3.view (Rect.unit (s := S1x2048) ![0, 0] S1x2048.size inb_S1x2048_S1x2048_0_0).toLoadRect (harg3.unread x1)) = x1 from load_whole arg3 harg3 _ x1, show (View.readAt (Elt F) arg4.view (Rect.unit (s := S1x2048) ![0, 0] S1x2048.size inb_S1x2048_S1x2048_0_0).toLoadRect (harg4.unread x2)) = x2 from load_whole arg4 harg4 _ x2]
  exact read_piece _ _ _ _

/-- The rounded rows stored at a row block's first point. -/
theorem first_kept (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : k0_cond1 i = 1#1) (h2 : ¬k0_cond2 i = 1#1) (h3 : ¬k0_cond3 i = 1#1) (h4 : k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (xs : Vec F S512x2048 .bf16) (f : arg10.view.ty.Contents (Elt F)) :
    arg10.view.read (Elt F) (arg10.view.writes (Elt F) f (runFirst c i arg2 harg2 arg3 harg3 arg4 harg4 arg5 harg5 arg6 harg6 arg7 harg7 arg8 harg8 arg9 harg9 arg10 harg10 h1 h2 h3 h4 x0 x1 x2 x3 x4 x5 xs).2.2.1) = k0_pay2 x0 x1 x2 := by
  have e : (runFirst c i arg2 harg2 arg3 harg3 arg4 harg4 arg5 harg5 arg6 harg6 arg7 harg7 arg8 harg8 arg9 harg9 arg10 harg10 h1 h2 h3 h4 x0 x1 x2 x3 x4 x5 xs).2.2.1 = [⟨(Rect.unit (s := S512x2048) ![0, 0] S512x2048.size inb_S512x2048_S512x2048_0_0), k0_pay2 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1)) (View.readAt (Elt F) arg4.view (Rect.unit (s := S1x2048) ![0, 0] S1x2048.size inb_S1x2048_S1x2048_0_0).toLoadRect (harg4.unread x2))⟩] := rfl
  rw [e, show (View.readAt (Elt F) arg2.view (Rect.unit (s := S512x2048) ![0, 0] S512x2048.size inb_S512x2048_S512x2048_0_0).toLoadRect (harg2.unread x0)) = x0 from load_whole arg2 harg2 _ x0, show (View.readAt (Elt F) arg3.view (Rect.unit (s := S1x2048) ![0, 0] S1x2048.size inb_S1x2048_S1x2048_0_0).toLoadRect (harg3.unread x1)) = x1 from load_whole arg3 harg3 _ x1, show (View.readAt (Elt F) arg4.view (Rect.unit (s := S1x2048) ![0, 0] S1x2048.size inb_S1x2048_S1x2048_0_0).toLoadRect (harg4.unread x2)) = x2 from load_whole arg4 harg4 _ x2]
  exact read_piece _ _ _ _

/-- The block written at a row block's first point. -/
theorem first_blk (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : k0_cond1 i = 1#1) (h2 : ¬k0_cond2 i = 1#1) (h3 : ¬k0_cond3 i = 1#1) (h4 : k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (xs : Vec F S512x2048 .bf16) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 arg10 harg10 h1 h2 h3 h4 x0 x1 x2 x3 x4 x5 xs).1) = k0_pay3 (k0_pay2 x0 x1 x2) x3 := by
  have e : (runFirst c i arg2 harg2 arg3 harg3 arg4 harg4 arg5 harg5 arg6 harg6 arg7 harg7 arg8 harg8 arg9 harg9 arg10 harg10 h1 h2 h3 h4 x0 x1 x2 x3 x4 x5 xs).1 = [⟨(Rect.unit (s := S512x256) ![0, 0] S512x256.size inb_S512x256_S512x256_0_0), k0_pay3 (View.readAt (Elt F) arg10.view (Rect.unit (s := S512x2048) ![0, 0] S512x2048.size inb_S512x2048_S512x2048_0_0).toLoadRect (arg10.view.writes (Elt F) arg10.view.junk [⟨(Rect.unit (s := S512x2048) ![0, 0] S512x2048.size inb_S512x2048_S512x2048_0_0), k0_pay2 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1)) (View.readAt (Elt F) arg4.view (Rect.unit (s := S1x2048) ![0, 0] S1x2048.size inb_S1x2048_S1x2048_0_0).toLoadRect (harg4.unread x2))⟩])) (View.readAt (Elt F) arg5.view (Rect.unit (s := S2048x256) ![0, 0] S2048x256.size inb_S2048x256_S2048x256_0_0).toLoadRect (harg5.unread x3))⟩] := rfl
  rw [e, show (View.readAt (Elt F) arg2.view (Rect.unit (s := S512x2048) ![0, 0] S512x2048.size inb_S512x2048_S512x2048_0_0).toLoadRect (harg2.unread x0)) = x0 from load_whole arg2 harg2 _ x0, show (View.readAt (Elt F) arg3.view (Rect.unit (s := S1x2048) ![0, 0] S1x2048.size inb_S1x2048_S1x2048_0_0).toLoadRect (harg3.unread x1)) = x1 from load_whole arg3 harg3 _ x1, show (View.readAt (Elt F) arg4.view (Rect.unit (s := S1x2048) ![0, 0] S1x2048.size inb_S1x2048_S1x2048_0_0).toLoadRect (harg4.unread x2)) = x2 from load_whole arg4 harg4 _ x2, show (View.readAt (Elt F) arg5.view (Rect.unit (s := S2048x256) ![0, 0] S2048x256.size inb_S2048x256_S2048x256_0_0).toLoadRect (harg5.unread x3)) = x3 from load_whole arg5 harg5 _ x3]
  rw [load_piece]; exact read_piece _ _ _ _

/-- The block written at a plain point. -/
theorem plain_blk (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : ¬k0_cond2 i = 1#1) (h3 : ¬k0_cond3 i = 1#1) (h4 : k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) (f : arg8.view.ty.Contents (Elt F)) :
    arg8.view.read (Elt F) (arg8.view.writes (Elt F) f (runPlain c i arg2 harg2 arg3 harg3 arg4 harg4 arg5 harg5 arg6 harg6 arg7 harg7 arg8 harg8 arg9 harg9 arg10 harg10 h1 h2 h3 h4 x0 x1 x2 x3 x4 x5 x7 xs).1) = k0_pay3 xs x3 := by
  have e : (runPlain c i arg2 harg2 arg3 harg3 arg4 harg4 arg5 harg5 arg6 harg6 arg7 harg7 arg8 harg8 arg9 harg9 arg10 harg10 h1 h2 h3 h4 x0 x1 x2 x3 x4 x5 x7 xs).1 = [⟨(Rect.unit (s := S512x256) ![0, 0] S512x256.size inb_S512x256_S512x256_0_0), k0_pay3 (View.readAt (Elt F) arg10.view (Rect.unit (s := S512x2048) ![0, 0] S512x2048.size inb_S512x2048_S512x2048_0_0).toLoadRect (harg10.unread xs)) (View.readAt (Elt F) arg5.view (Rect.unit (s := S2048x256) ![0, 0] S2048x256.size inb_S2048x256_S2048x256_0_0).toLoadRect (harg5.unread x3))⟩] := rfl
  rw [e, show (View.readAt (Elt F) arg5.view (Rect.unit (s := S2048x256) ![0, 0] S2048x256.size inb_S2048x256_S2048x256_0_0).toLoadRect (harg5.unread x3)) = x3 from load_whole arg5 harg5 _ x3, show (View.readAt (Elt F) arg10.view (Rect.unit (s := S512x2048) ![0, 0] S512x2048.size inb_S512x2048_S512x2048_0_0).toLoadRect (harg10.unread xs)) = xs from load_whole arg10 harg10 _ xs]
  exact read_piece _ _ _ _

/-- The block written at a point of the query columns. -/
theorem query_blk (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : k0_cond2 i = 1#1) (h3 : ¬k0_cond3 i = 1#1) (h4 : ¬k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) (f : arg8.view.ty.Contents (Elt F)) :
    arg8.view.read (Elt F) (arg8.view.writes (Elt F) f (runQuery c i arg2 harg2 arg3 harg3 arg4 harg4 arg5 harg5 arg6 harg6 arg7 harg7 arg8 harg8 arg9 harg9 arg10 harg10 h1 h2 h3 h4 x0 x1 x2 x3 x4 x5 x7 xs).1) = queryBlk (k0_pay3 xs x3) x4 x5 := by
  have e : (runQuery c i arg2 harg2 arg3 harg3 arg4 harg4 arg5 harg5 arg6 harg6 arg7 harg7 arg8 harg8 arg9 harg9 arg10 harg10 h1 h2 h3 h4 x0 x1 x2 x3 x4 x5 x7 xs).1 = [⟨Rect.unit (s := S512x256) ![0, 128] S512x128.size inb_S512x256_S512x128_0_128, k0_pay4 (k0_pay7 (View.readAt (Elt F) arg6.view (Rect.unit (s := S512x128) ![0, 0] S512x128.size inb_S512x128_S512x128_0_0).toLoadRect (harg6.unread x4))) (k0_pay8 (View.readAt (Elt F) arg7.view (Rect.unit (s := S512x128) ![0, 0] S512x128.size inb_S512x128_S512x128_0_0).toLoadRect (harg7.unread x5))) (k0_pay10 (k0_pay3 (View.readAt (Elt F) arg10.view (Rect.unit (s := S512x2048) ![0, 0] S512x2048.size inb_S512x2048_S512x2048_0_0).toLoadRect (harg10.unread xs)) (View.readAt (Elt F) arg5.view (Rect.unit (s := S2048x256) ![0, 0] S2048x256.size inb_S2048x256_S2048x256_0_0).toLoadRect (harg5.unread x3)))) (Scalar.select (Scalar.cmpi .eq 64#32 0#32) 1#32 64#32) k0_pay11 k0_pay12 0#32⟩, ⟨Rect.unit (s := S512x256) ![0, 0] S512x128.size inb_S512x256_S512x128_0_0, k0_pay9 (k0_pay3 (View.readAt (Elt F) arg10.view (Rect.unit (s := S512x2048) ![0, 0] S512x2048.size inb_S512x2048_S512x2048_0_0).toLoadRect (harg10.unread xs)) (View.readAt (Elt F) arg5.view (Rect.unit (s := S2048x256) ![0, 0] S2048x256.size inb_S2048x256_S2048x256_0_0).toLoadRect (harg5.unread x3))) (View.readAt (Elt F) arg6.view (Rect.unit (s := S512x128) ![0, 0] S512x128.size inb_S512x128_S512x128_0_0).toLoadRect (harg6.unread x4)) (View.readAt (Elt F) arg7.view (Rect.unit (s := S512x128) ![0, 0] S512x128.size inb_S512x128_S512x128_0_0).toLoadRect (harg7.unread x5))⟩] := rfl
  rw [e, show (View.readAt (Elt F) arg5.view (Rect.unit (s := S2048x256) ![0, 0] S2048x256.size inb_S2048x256_S2048x256_0_0).toLoadRect (harg5.unread x3)) = x3 from load_whole arg5 harg5 _ x3, show (View.readAt (Elt F) arg6.view (Rect.unit (s := S512x128) ![0, 0] S512x128.size inb_S512x128_S512x128_0_0).toLoadRect (harg6.unread x4)) = x4 from load_whole arg6 harg6 _ x4, show (View.readAt (Elt F) arg7.view (Rect.unit (s := S512x128) ![0, 0] S512x128.size inb_S512x128_S512x128_0_0).toLoadRect (harg7.unread x5)) = x5 from load_whole arg7 harg7 _ x5, show (View.readAt (Elt F) arg10.view (Rect.unit (s := S512x2048) ![0, 0] S512x2048.size inb_S512x2048_S512x2048_0_0).toLoadRect (harg10.unread xs)) = xs from load_whole arg10 harg10 _ xs]
  exact read_halves _ _ _ _

/-- The block written at the point of the key and value columns. -/
theorem key_blk (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S512x2048 .f32) (harg9 : arg9.IsWhole) (arg10 : Memref sig .tc .vmem S512x2048 .bf16) (harg10 : arg10.IsWhole) (h1 : ¬k0_cond1 i = 1#1) (h2 : ¬k0_cond2 i = 1#1) (h3 : k0_cond3 i = 1#1) (h4 : ¬k0_cond4 i = 1#1) (x0 : Vec F S512x2048 .f32) (x1 : Vec F S1x2048 .f32) (x2 : Vec F S1x2048 .f32) (x3 : Vec F S2048x256 .bf16) (x4 : Vec F S512x128 .f32) (x5 : Vec F S512x128 .f32) (x7 : Vec F S512x2048 .f32) (xs : Vec F S512x2048 .bf16) (f : arg8.view.ty.Contents (Elt F)) :
    arg8.view.read (Elt F) (arg8.view.writes (Elt F) f (runKey c i arg2 harg2 arg3 harg3 arg4 harg4 arg5 harg5 arg6 harg6 arg7 harg7 arg8 harg8 arg9 harg9 arg10 harg10 h1 h2 h3 h4 x0 x1 x2 x3 x4 x5 x7 xs).1) = keyBlk xs x3 x4 x5 := by
  have e : (runKey c i arg2 harg2 arg3 harg3 arg4 harg4 arg5 harg5 arg6 harg6 arg7 harg7 arg8 harg8 arg9 harg9 arg10 harg10 h1 h2 h3 h4 x0 x1 x2 x3 x4 x5 x7 xs).1 = [⟨Rect.unit (s := S512x256) ![0, 128] S512x128.size inb_S512x256_S512x128_0_128, k0_pay6 (View.readAt (Elt F) arg10.view (Rect.unit (s := S512x2048) ![0, 0] S512x2048.size inb_S512x2048_S512x2048_0_0).toLoadRect (harg10.unread xs)) (View.readAt (Elt F) arg5.view (Rect.unit (s := S2048x256) ![0, 0] S2048x256.size inb_S2048x256_S2048x256_0_0).toLoadRect (harg5.unread x3))⟩, ⟨Rect.unit (s := S512x256) ![0, 0] S512x128.size inb_S512x256_S512x128_0_0, k0_pay5 (View.readAt (Elt F) arg10.view (Rect.unit (s := S512x2048) ![0, 0] S512x2048.size inb_S512x2048_S512x2048_0_0).toLoadRect (harg10.unread xs)) (View.readAt (Elt F) arg5.view (Rect.unit (s := S2048x256) ![0, 0] S2048x256.size inb_S2048x256_S2048x256_0_0).toLoadRect (harg5.unread x3)) (View.readAt (Elt F) arg6.view (Rect.unit (s := S512x128) ![0, 0] S512x128.size inb_S512x128_S512x128_0_0).toLoadRect (harg6.unread x4)) (View.readAt (Elt F) arg7.view (Rect.unit (s := S512x128) ![0, 0] S512x128.size inb_S512x128_S512x128_0_0).toLoadRect (harg7.unread x5))⟩] := rfl
  rw [e, show (View.readAt (Elt F) arg5.view (Rect.unit (s := S2048x256) ![0, 0] S2048x256.size inb_S2048x256_S2048x256_0_0).toLoadRect (harg5.unread x3)) = x3 from load_whole arg5 harg5 _ x3, show (View.readAt (Elt F) arg6.view (Rect.unit (s := S512x128) ![0, 0] S512x128.size inb_S512x128_S512x128_0_0).toLoadRect (harg6.unread x4)) = x4 from load_whole arg6 harg6 _ x4, show (View.readAt (Elt F) arg7.view (Rect.unit (s := S512x128) ![0, 0] S512x128.size inb_S512x128_S512x128_0_0).toLoadRect (harg7.unread x5)) = x5 from load_whole arg7 harg7 _ x5, show (View.readAt (Elt F) arg10.view (Rect.unit (s := S512x2048) ![0, 0] S512x2048.size inb_S512x2048_S512x2048_0_0).toLoadRect (harg10.unread xs)) = xs from load_whole arg10 harg10 _ xs]
  exact read_halves _ _ _ _

end Cert.InIdeal

end
-- ==== Proof.InIdeal.Frame.lean ====
/- The input projection kernel: what its buffers hold point by point, its run, and its frame. -/
module

public import proofs.«01_k».proof.Proof.InIdeal.Point
public import Idealize.ShloMosaic.Lib.Pipeline.TableIdle
public import Idealize.ShloMosaic.Lib.Claim

@[expose] public section

set_option maxRecDepth 16384

noncomputable section

namespace Cert.InIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried buffer of rounded rows. -/
abbrev carry : Memref sig .tc .vmem S512x2048 .bf16 := Memref.whole cc0_scratch0

/-- The point before `t`, or `t` itself when `t` is the first. -/
def prevPt (t : Fin cfg0.N) : Fin cfg0.N := ⟨t.val - 1, Nat.lt_of_le_of_lt (Nat.sub_le _ _) t.isLt⟩

/-- The first point of the row block `t` lies in. -/
def rowStart (t : Fin cfg0.N) : Fin cfg0.N := ⟨t.val - t.val % 19, Nat.lt_of_le_of_lt (Nat.sub_le _ _) t.isLt⟩

/-- Inside a row block the point before has the same first point. -/
theorem rowStart_prev (t : Fin cfg0.N) (h : t.val % 19 ≠ 0) : rowStart (prevPt t) = rowStart t := by
  refine Fin.ext ?_
  show t.val - 1 - (t.val - 1) % 19 = t.val - t.val % 19
  omega

/-- At a row block's first point it is the point itself. -/
theorem rowStart_first (t : Fin cfg0.N) (h : t.val % 19 = 0) : rowStart t = t := by
  refine Fin.ext ?_
  show t.val - t.val % 19 = t.val
  omega

/-- The normalised rows of point `t`'s row block. -/
def rowsAt (c : Dev nD) (t : Fin cfg0.N) : Vec F S512x2048 .f32 :=
  k0_pay1 (iblk m c 0 (rowStart t)) (iblk m c 1 (rowStart t)) (iblk m c 2 (rowStart t))

/-- The same rows rounded. -/
def keptAt (c : Dev nD) (t : Fin cfg0.N) : Vec F S512x2048 .bf16 :=
  k0_pay2 (iblk m c 0 (rowStart t)) (iblk m c 1 (rowStart t)) (iblk m c 2 (rowStart t))

/-- The block of the projection that point `t` writes. -/
def blkAt (c : Dev nD) (t : Fin cfg0.N) : Vec F S512x256 .f32 :=
  if 12 ≤ t.val % 19 ∧ t.val % 19 < 16 then queryBlk (k0_pay3 (keptAt m c t) (iblk m c 3 t)) (iblk m c 4 t) (iblk m c 5 t)
  else if t.val % 19 = 18 then keyBlk (keptAt m c t) (iblk m c 3 t) (iblk m c 4 t) (iblk m c 5 t)
  else k0_pay3 (keptAt m c t) (iblk m c 3 t)

/-- Inside a row block the normalised rows are those of the point before. -/
theorem rowsAt_prev (c : Dev nD) (t : Fin cfg0.N) (h : t.val % 19 ≠ 0) : rowsAt m c (prevPt t) = rowsAt m c t := by
  unfold rowsAt; rw [rowStart_prev t h]
/-- Inside a row block the rounded rows are those of the point before. -/
theorem keptAt_prev (c : Dev nD) (t : Fin cfg0.N) (h : t.val % 19 ≠ 0) : keptAt m c (prevPt t) = keptAt m c t := by
  unfold keptAt; rw [rowStart_prev t h]

/-- The body normalises at the first point of each row block. -/
theorem cond1_iff : ∀ t : Fin cfg0.N, k0_cond1 (grid0.coords t) = 1#1 ↔ t.val % 19 = 0 :=
  (by decide +kernel : ∀ t : Fin grid0.N, k0_cond1 (grid0.coords t) = 1#1 ↔ t.val % 19 = 0)
/-- The query columns are column blocks 12 to 15. -/
theorem cond2_iff : ∀ t : Fin cfg0.N, k0_cond2 (grid0.coords t) = 1#1 ↔ 12 ≤ t.val % 19 ∧ t.val % 19 < 16 :=
  (by decide +kernel : ∀ t : Fin grid0.N, k0_cond2 (grid0.coords t) = 1#1 ↔ 12 ≤ t.val % 19 ∧ t.val % 19 < 16)
/-- The key and value columns are column block 18. -/
theorem cond3_iff : ∀ t : Fin cfg0.N, k0_cond3 (grid0.coords t) = 1#1 ↔ t.val % 19 = 18 :=
  (by decide +kernel : ∀ t : Fin grid0.N, k0_cond3 (grid0.coords t) = 1#1 ↔ t.val % 19 = 18)
/-- The other column blocks are written plain. -/
theorem cond4_iff : ∀ t : Fin cfg0.N, k0_cond4 (grid0.coords t) = 1#1 ↔ ¬(12 ≤ t.val % 19 ∧ t.val % 19 < 16) ∧ ¬t.val % 19 = 18 :=
  (by decide +kernel : ∀ t : Fin grid0.N, k0_cond4 (grid0.coords t) = 1#1 ↔ ¬(12 ≤ t.val % 19 ∧ t.val % 19 < 16) ∧ ¬t.val % 19 = 18)

/-- The projection's block is written at every point. -/
theorem live_6 : ∀ t : Fin cfg0.N, cfg0.idle 6 (grid0.coords t) = false :=
  (by decide +kernel : ∀ t : Fin grid0.N, idle0 6 (grid0.coords t) = false)
/-- The normalised rows are written at a row block's first point only. -/
theorem idle_7 : ∀ t : Fin cfg0.N, cfg0.idle 7 (grid0.coords t) = !decide (t.val % 19 = 0) :=
  (by decide +kernel : ∀ t : Fin grid0.N, idle0 7 (grid0.coords t) = !decide (t.val % 19 = 0))
/-- They are moved out at its last. -/
theorem flush_7 (t : Fin cfg0.N) : (cfg0.win 7).flush t = decide (t.val % 19 = 18) := by
  have h := flush0_7 t
  by_cases e : t.val % 19 = 18
  · rw [h.mpr e, decide_eq_true e]
  · rw [decide_eq_false e]; exact Bool.eq_false_iff.mpr fun h' => e (h.mp h')
/-- Their buffer holds nothing of use exactly when a row block begins. -/
theorem fresh_7 (n : ℕ) (hn : n ≤ cfg0.N) : cfg0.fresh 7 n = decide (n % 19 = 0) := by
  refine Pipeline.Cfg.fresh_tab cfg0 7 (fun n => decide (n % 19 = 0)) rfl (fun t => ?_) n hn
  rw [flush_7]
  refine Eq.trans ?_ (congrArg (fun b => decide (t.val % 19 = 18) || (b && decide (t.val % 19 = 0))) (idle_7 t).symm)
  by_cases e : t.val % 19 = 18
  · have : (t.val + 1) % 19 = 0 := by omega
    simp [e, this]
  · have : ¬(t.val + 1) % 19 = 0 := by omega
    simp [e, this]

/-- The invariant: before the first point the carried buffer holds anything; afterwards the rounded rows of the point
    before. -/
def PhiS (c : Dev nD) : (n : ℕ) → n ≤ cfg0.N → sProp 𝕄
  | 0, _ => Pipeline.ΦA spec0 c
  | n + 1, hn => iprop(owns (c : Thread nD τ) carry fullShare (keptAt m c ⟨n, hn⟩) ∗ (∃ r, prngReg c r))

/-- The invariant before the first point, the carried buffer as a memory reference. -/
theorem PhiA_eq (c : Dev nD) :
    (Pipeline.ΦA spec0 c : sProp 𝕄) = iprop((∃ d, owns (c : Thread nD τ) carry fullShare d) ∗ (∃ r, prngReg c r)) := by
  unfold Pipeline.ΦA; rw [scopedRest0_eq]; simp only [carry, owns_whole]; try rfl

/-- Before the first point the invariant asks for nothing more than the launch gives. -/
theorem PhiS_first (c : Dev nD) (n : ℕ) (h : n ≤ cfg0.N) (hz : n = 0) : PhiS m c n h = Pipeline.ΦA spec0 c := by
  subst hz; rfl

/-- After point `n` the carried buffer holds its rounded rows. -/
theorem PhiS_next (c : Dev nD) (n : ℕ) (hn : n < cfg0.N) :
    PhiS m c (n + 1) hn = iprop(owns (c : Thread nD τ) carry fullShare (keptAt m c ⟨n, hn⟩) ∗ (∃ r, prngReg c r)) := rfl

/-- Before a later point it holds those of the point before. -/
theorem PhiS_later (c : Dev nD) (t : Fin cfg0.N) (hz : t.val ≠ 0) :
    PhiS m c t.val (Nat.le_of_lt t.isLt) = iprop(owns (c : Thread nD τ) carry fullShare (keptAt m c (prevPt t)) ∗ (∃ r, prngReg c r)) := by
  obtain ⟨n, hn⟩ := t
  cases n with
  | zero => exact absurd rfl hz
  | succ n => rfl

/-- The proof data of the one pipeline: every input buffer keeps its block, the outputs hold the projection's block and
    the normalised rows, and the carried buffer follows the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkAt m c t
    | ⟨7, _⟩ => rowsAt m c t
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- The invariant at a point's start. -/
theorem PhiS_start (c : Dev nD) (t : Fin cfg0.N) : (dats m 0 c).Φ t.castSucc = PhiS m c t.val (Nat.le_of_lt t.isLt) := by
  dsimp only [dats]; exact Pipeline.Dat.Φ_castSucc (PhiS m c) t

/-- What the proof data says of window 0. -/
theorem after_0 (c : Dev nD) (t : Fin cfg0.N) : (dats m 0 c).after 0 t = iblk m c 0 t := by dsimp only [dats]
/-- What the proof data says of window 1. -/
theorem after_1 (c : Dev nD) (t : Fin cfg0.N) : (dats m 0 c).after 1 t = iblk m c 1 t := by dsimp only [dats]
/-- What the proof data says of window 2. -/
theorem after_2 (c : Dev nD) (t : Fin cfg0.N) : (dats m 0 c).after 2 t = iblk m c 2 t := by dsimp only [dats]
/-- What the proof data says of window 3. -/
theorem after_3 (c : Dev nD) (t : Fin cfg0.N) : (dats m 0 c).after 3 t = iblk m c 3 t := by dsimp only [dats]
/-- What the proof data says of window 4. -/
theorem after_4 (c : Dev nD) (t : Fin cfg0.N) : (dats m 0 c).after 4 t = iblk m c 4 t := by dsimp only [dats]
/-- What the proof data says of window 5. -/
theorem after_5 (c : Dev nD) (t : Fin cfg0.N) : (dats m 0 c).after 5 t = iblk m c 5 t := by dsimp only [dats]
/-- What the proof data says of window 6. -/
theorem after_6 (c : Dev nD) (t : Fin cfg0.N) : (dats m 0 c).after 6 t = blkAt m c t := by dsimp only [dats]
/-- What the proof data says of window 7. -/
theorem after_7 (c : Dev nD) (t : Fin cfg0.N) : (dats m 0 c).after 7 t = rowsAt m c t := by dsimp only [dats]
/-- What the body finds in window 0. -/
theorem before_0 (c : Dev nD) (t : Fin cfg0.N) (d) : (dats m 0 c).before 0 t d = iblk m c 0 t :=
  before0_0_of m (dats m 0 c) (A_eq m c 0) (after_0 m c) t d
/-- Window 0 is handed back at its contents. -/
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
/-- What the body finds in window 1. -/
theorem before_1 (c : Dev nD) (t : Fin cfg0.N) (d) : (dats m 0 c).before 1 t d = iblk m c 1 t :=
  before0_1_of m (dats m 0 c) (A_eq m c 1) (after_1 m c) t d
/-- Window 1 is handed back at its contents. -/
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
/-- What the body finds in window 2. -/
theorem before_2 (c : Dev nD) (t : Fin cfg0.N) (d) : (dats m 0 c).before 2 t d = iblk m c 2 t :=
  before0_2_of m (dats m 0 c) (A_eq m c 2) (after_2 m c) t d
/-- Window 2 is handed back at its contents. -/
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
/-- What the body finds in window 3. -/
theorem before_3 (c : Dev nD) (t : Fin cfg0.N) (d) : (dats m 0 c).before 3 t d = iblk m c 3 t :=
  before0_3_of m (dats m 0 c) (A_eq m c 3) (after_3 m c) t d
/-- Window 3 is handed back at its contents. -/
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
/-- What the body finds in window 4. -/
theorem before_4 (c : Dev nD) (t : Fin cfg0.N) (d) : (dats m 0 c).before 4 t d = iblk m c 4 t :=
  before0_4_of m (dats m 0 c) (A_eq m c 4) (after_4 m c) t d
/-- Window 4 is handed back at its contents. -/
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
/-- What the body finds in window 5. -/
theorem before_5 (c : Dev nD) (t : Fin cfg0.N) (d) : (dats m 0 c).before 5 t d = iblk m c 5 t :=
  before0_5_of m (dats m 0 c) (A_eq m c 5) (after_5 m c) t d
/-- Window 5 is handed back at its contents. -/
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
/-- The projection's block is handed back at its contents. -/
theorem leaves_6 (c : Dev nD) (t : Fin cfg0.N) : (dats m 0 c).leavesExact 6 t = owns (c : Thread nD τ) (win0_6.stage (cfg0.slots t 6)) fullShare (blkAt m c t) := by
  unfold Dat.leavesExact; rw [live_6 t, after_6]
/-- Inside a row block the body finds the normalised rows where its first point left them. -/
theorem before_7 (c : Dev nD) (t : Fin cfg0.N) (h : t.val % 19 ≠ 0) (d) : (dats m 0 c).before 7 t d = rowsAt m c t := by
  refine ((dats m 0 c).before_out_traj 7 rfl (fun _ _ => rfl) (fun s hs hi hf => ?_) t.val t rfl d).trans ?_
  · have hi' : cfg0.idle 7 (grid0.coords s) = true := hi
    rw [idle_7] at hi'
    have h0 : s.val % 19 ≠ 0 := by simpa using hi'
    rw [after_7, after_7]
    exact (rowsAt_prev m c s h0).symm
  · rw [fresh_7 _ (Nat.le_of_lt t.isLt), decide_eq_false h, after_7]
    exact rowsAt_prev m c t h
/-- At a row block's first point the normalised rows are handed back as stored. -/
theorem leaves_7_first (c : Dev nD) (t : Fin cfg0.N) (h : t.val % 19 = 0) : (dats m 0 c).leavesExact 7 t = owns (c : Thread nD τ) (win0_7.stage (cfg0.slots t 7)) fullShare (rowsAt m c t) := by
  unfold Dat.leavesExact; rw [idle_7 t, decide_eq_true h, after_7]; rfl
/-- At its last they are handed back for the move out. -/
theorem leaves_7_last (c : Dev nD) (t : Fin cfg0.N) (h : t.val % 19 = 18) : (dats m 0 c).leavesExact 7 t = owns (c : Thread nD τ) (win0_7.stage (cfg0.slots t 7)) fullShare (rowsAt m c t) := by
  unfold Dat.leavesExact; rw [idle_7 t, flush_7 t, decide_eq_true h, decide_eq_false (show ¬t.val % 19 = 0 by omega), after_7]; rfl
/-- In between they are handed back as found. -/
theorem leaves_7_mid (c : Dev nD) (t : Fin cfg0.N) (h : t.val % 19 ≠ 0) (h' : t.val % 19 ≠ 18) : (dats m 0 c).leavesExact 7 t = iprop(∃ d, owns (c : Thread nD τ) (win0_7.stage (cfg0.slots t 7)) fullShare ((dats m 0 c).before 7 t d)) :=
  (dats m 0 c).leavesExact_idle 7 t ((idle_7 t).trans (by rw [decide_eq_false h]; rfl)) ((flush_7 t).trans (decide_eq_false h'))

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body at a row block's first point, from a carried buffer at anything: every buffer ends at its stated contents. -/
theorem body_first (c : Dev nD) (t : Fin cfg0.N) (h : t.val % 19 = 0) (s : Vec F S512x2048 .bf16) (R O : sProp 𝕄) :
    iprop(iprop(owns (c : Thread nD τ) carry fullShare s ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ (∃ d, owns (c : Thread nD τ) (win0_6.stage (cfg0.slots t 6)) fullShare d) ∗ (∃ d, owns (c : Thread nD τ) (win0_7.stage (cfg0.slots t 7)) fullShare d))
      ⊢ wp frame (wpE (defs₀ (F := F)) Variants.none c none) Set.univ (bodyAt0 t) (fun _ => iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (blkAt m c t) ∗ owns (c : Thread nD τ) (win0_7.stage (cfg0.slots t 7)) fullShare (rowsAt m c t))) := by
  iintro ⟨⟨HS, HR⟩, HO, H0, H1, H2, H3, H4, H5, H6, H7⟩
  iapply ((runFirst c (grid0.coords t) _ _ _ _ _ _ _ _ _ _ _ _ _ _ _ _ _ _ ((cond1_iff t).mpr h) (fun e => absurd ((cond2_iff t).mp e) (by omega)) (fun e => absurd ((cond3_iff t).mp e) (by omega)) ((cond4_iff t).mpr (by omega)) (iblk m c 0 t) (iblk m c 1 t) (iblk m c 2 t) (iblk m c 3 t) (iblk m c 4 t) (iblk m c 5 t) s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%e6, H6⟩, ⟨%e7, H7⟩, ⟨%es, HS⟩⟩
  isplitl [HS HR]
  · isplitl [HS]
    · unfold owns; iexists _; isplitr
      swap; · iexact HS
      ipureintro; exact (first_kept c (grid0.coords t) _ _ _ _ _ _ _ _ _ _ _ _ _ _ _ _ _ _ ((cond1_iff t).mpr h) (fun e => absurd ((cond2_iff t).mp e) (by omega)) (fun e => absurd ((cond3_iff t).mp e) (by omega)) ((cond4_iff t).mpr (by omega)) (iblk m c 0 t) (iblk m c 1 t) (iblk m c 2 t) (iblk m c 3 t) (iblk m c 4 t) (iblk m c 5 t) s _).trans (by unfold keptAt; rw [rowStart_first t h])
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (first_blk c (grid0.coords t) _ _ _ _ _ _ _ _ _ _ _ _ _ _ _ _ _ _ ((cond1_iff t).mpr h) (fun e => absurd ((cond2_iff t).mp e) (by omega)) (fun e => absurd ((cond3_iff t).mp e) (by omega)) ((cond4_iff t).mpr (by omega)) (iblk m c 0 t) (iblk m c 1 t) (iblk m c 2 t) (iblk m c 3 t) (iblk m c 4 t) (iblk m c 5 t) s _).trans (by unfold blkAt keptAt; rw [rowStart_first t h, if_neg (by omega), if_neg (by omega)])
  unfold owns; iexists _; isplitr
  swap; · iexact H7
  ipureintro; exact (first_rows c (grid0.coords t) _ _ _ _ _ _ _ _ _ _ _ _ _ _ _ _ _ _ ((cond1_iff t).mpr h) (fun e => absurd ((cond2_iff t).mp e) (by omega)) (fun e => absurd ((cond3_iff t).mp e) (by omega)) ((cond4_iff t).mpr (by omega)) (iblk m c 0 t) (iblk m c 1 t) (iblk m c 2 t) (iblk m c 3 t) (iblk m c 4 t) (iblk m c 5 t) s _).trans (by unfold rowsAt; rw [rowStart_first t h])

/-- The body at a point written plain: every buffer ends at its stated contents. -/
theorem body_plain (c : Dev nD) (t : Fin cfg0.N) (h : t.val % 19 ≠ 0) (h2 : ¬(12 ≤ t.val % 19 ∧ t.val % 19 < 16)) (h3 : ¬t.val % 19 = 18) (x7 : Vec F S512x2048 .f32) (Q7 : sProp 𝕄) (hQ : owns (c : Thread nD τ) (win0_7.stage (cfg0.slots t 7)) fullShare x7 ⊢ Q7) (R O : sProp 𝕄) :
    iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ (∃ d, owns (c : Thread nD τ) (win0_6.stage (cfg0.slots t 6)) fullShare d) ∗ owns (c : Thread nD τ) (win0_7.stage (cfg0.slots t 7)) fullShare x7)
      ⊢ wp frame (wpE (defs₀ (F := F)) Variants.none c none) Set.univ (bodyAt0 t) (fun _ => iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (blkAt m c t) ∗ Q7)) := by
  iintro ⟨⟨HS, HR⟩, HO, H0, H1, H2, H3, H4, H5, H6, H7⟩
  iapply ((runPlain c (grid0.coords t) _ _ _ _ _ _ _ _ _ _ _ _ _ _ _ _ _ _ (fun e => h ((cond1_iff t).mp e)) (fun e => h2 ((cond2_iff t).mp e)) (fun e => h3 ((cond3_iff t).mp e)) ((cond4_iff t).mpr ⟨h2, h3⟩) (iblk m c 0 t) (iblk m c 1 t) (iblk m c 2 t) (iblk m c 3 t) (iblk m c 4 t) (iblk m c 5 t) x7 (keptAt m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%e6, H6⟩, H7, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (plain_blk c (grid0.coords t) _ _ _ _ _ _ _ _ _ _ _ _ _ _ _ _ _ _ (fun e => h ((cond1_iff t).mp e)) (fun e => h2 ((cond2_iff t).mp e)) (fun e => h3 ((cond3_iff t).mp e)) ((cond4_iff t).mpr ⟨h2, h3⟩) (iblk m c 0 t) (iblk m c 1 t) (iblk m c 2 t) (iblk m c 3 t) (iblk m c 4 t) (iblk m c 5 t) x7 (keptAt m c t) _).trans (by unfold blkAt; rw [if_neg h2, if_neg h3])
  iapply hQ; iexact H7

/-- The body at a point of the query columns: every buffer ends at its stated contents. -/
theorem body_query (c : Dev nD) (t : Fin cfg0.N) (h : 12 ≤ t.val % 19 ∧ t.val % 19 < 16) (x7 : Vec F S512x2048 .f32) (Q7 : sProp 𝕄) (hQ : owns (c : Thread nD τ) (win0_7.stage (cfg0.slots t 7)) fullShare x7 ⊢ Q7) (R O : sProp 𝕄) :
    iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ (∃ d, owns (c : Thread nD τ) (win0_6.stage (cfg0.slots t 6)) fullShare d) ∗ owns (c : Thread nD τ) (win0_7.stage (cfg0.slots t 7)) fullShare x7)
      ⊢ wp frame (wpE (defs₀ (F := F)) Variants.none c none) Set.univ (bodyAt0 t) (fun _ => iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (blkAt m c t) ∗ Q7)) := by
  iintro ⟨⟨HS, HR⟩, HO, H0, H1, H2, H3, H4, H5, H6, H7⟩
  iapply ((runQuery c (grid0.coords t) _ _ _ _ _ _ _ _ _ _ _ _ _ _ _ _ _ _ (fun e => absurd ((cond1_iff t).mp e) (by omega)) ((cond2_iff t).mpr h) (fun e => absurd ((cond3_iff t).mp e) (by omega)) (fun e => ((cond4_iff t).mp e).1 h) (iblk m c 0 t) (iblk m c 1 t) (iblk m c 2 t) (iblk m c 3 t) (iblk m c 4 t) (iblk m c 5 t) x7 (keptAt m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%e6, H6⟩, H7, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (query_blk c (grid0.coords t) _ _ _ _ _ _ _ _ _ _ _ _ _ _ _ _ _ _ (fun e => absurd ((cond1_iff t).mp e) (by omega)) ((cond2_iff t).mpr h) (fun e => absurd ((cond3_iff t).mp e) (by omega)) (fun e => ((cond4_iff t).mp e).1 h) (iblk m c 0 t) (iblk m c 1 t) (iblk m c 2 t) (iblk m c 3 t) (iblk m c 4 t) (iblk m c 5 t) x7 (keptAt m c t) _).trans (by unfold blkAt; rw [if_pos h])
  iapply hQ; iexact H7

/-- The body at the point of the key and value columns: every buffer ends at its stated contents. -/
theorem body_key (c : Dev nD) (t : Fin cfg0.N) (h : t.val % 19 = 18) (x7 : Vec F S512x2048 .f32) (Q7 : sProp 𝕄) (hQ : owns (c : Thread nD τ) (win0_7.stage (cfg0.slots t 7)) fullShare x7 ⊢ Q7) (R O : sProp 𝕄) :
    iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ (∃ d, owns (c : Thread nD τ) (win0_6.stage (cfg0.slots t 6)) fullShare d) ∗ owns (c : Thread nD τ) (win0_7.stage (cfg0.slots t 7)) fullShare x7)
      ⊢ wp frame (wpE (defs₀ (F := F)) Variants.none c none) Set.univ (bodyAt0 t) (fun _ => iprop(iprop(owns (c : Thread nD τ) carry fullShare (keptAt m c t) ∗ R) ∗ O ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (blkAt m c t) ∗ Q7)) := by
  iintro ⟨⟨HS, HR⟩, HO, H0, H1, H2, H3, H4, H5, H6, H7⟩
  iapply ((runKey c (grid0.coords t) _ _ _ _ _ _ _ _ _ _ _ _ _ _ _ _ _ _ (fun e => absurd ((cond1_iff t).mp e) (by omega)) (fun e => absurd ((cond2_iff t).mp e) (by omega)) ((cond3_iff t).mpr h) (fun e => ((cond4_iff t).mp e).2 h) (iblk m c 0 t) (iblk m c 1 t) (iblk m c 2 t) (iblk m c 3 t) (iblk m c 4 t) (iblk m c 5 t) x7 (keptAt m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, ⟨%e6, H6⟩, H7, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (key_blk c (grid0.coords t) _ _ _ _ _ _ _ _ _ _ _ _ _ _ _ _ _ _ (fun e => absurd ((cond1_iff t).mp e) (by omega)) (fun e => absurd ((cond2_iff t).mp e) (by omega)) ((cond3_iff t).mpr h) (fun e => ((cond4_iff t).mp e).2 h) (iblk m c 0 t) (iblk m c 1 t) (iblk m c 2 t) (iblk m c 3 t) (iblk m c 4 t) (iblk m c 5 t) x7 (keptAt m c t) _).trans (by unfold blkAt; rw [if_neg (by omega), if_pos h])
  iapply hQ; iexact H7

/-- The body at a row block's first point, from the invariant to the invariant. -/
theorem sound_first (c : Dev nD) (t : Fin cfg0.N) (h : t.val % 19 = 0) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_next]
  rw [leaves_0, leaves_1, leaves_2, leaves_3, leaves_4, leaves_5, leaves_6, leaves_7_first m c t h, PhiS_start]
  by_cases hz : t.val = 0
  · rw [PhiS_first m c _ _ hz, PhiA_eq]
    iintro ⟨⟨⟨%s, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first m c t h s _ _)
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · rw [PhiS_later m c t hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first m c t h _ _ _)
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- A buffer at the normalised rows is a buffer at them whatever it is asked to have held. -/
theorem mid_rows (c : Dev nD) (t : Fin cfg0.N) :
    owns (c : Thread nD τ) (win0_7.stage (cfg0.slots t 7)) fullShare (rowsAt m c t) ⊢ (iprop(∃ d : (cfg0.win 7).block.Idx → Elt F (cfg0.win 7).elt, owns (c : Thread nD τ) (win0_7.stage (cfg0.slots t 7)) fullShare (rowsAt m c t)) : sProp 𝕄) := by
  iintro H; iexists (rowsAt m c t); iexact H

/-- The body inside a row block, before its last point. -/
theorem sound_mid (c : Dev nD) (t : Fin cfg0.N) (h : t.val % 19 ≠ 0) (h' : t.val % 19 ≠ 18) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_next]
  rw [leaves_0, leaves_1, leaves_2, leaves_3, leaves_4, leaves_5, leaves_6, leaves_7_mid m c t h h', PhiS_start]
  rw [PhiS_later m c t (fun e => h (by rw [e])), keptAt_prev m c t h]
  simp only [before_7 m c t h]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h2 : 12 ≤ t.val % 19 ∧ t.val % 19 < 16
  · iapply (body_query m c t h2 (rowsAt m c t) _ (mid_rows m c t) _ _)
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  · iapply (body_plain m c t h h2 h' (rowsAt m c t) _ (mid_rows m c t) _ _)
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7

/-- The body at a row block's last point. -/
theorem sound_last (c : Dev nD) (t : Fin cfg0.N) (h : t.val % 19 = 18) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_next]
  rw [leaves_0, leaves_1, leaves_2, leaves_3, leaves_4, leaves_5, leaves_6, leaves_7_last m c t h, PhiS_start]
  rw [PhiS_later m c t (fun e => by rw [e] at h; exact absurd h (by decide)), keptAt_prev m c t (by omega)]
  simp only [before_7 m c t (show t.val % 19 ≠ 0 by omega)]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_key m c t h (rowsAt m c t) _ (Idealize.SL.BI.Entails.refl _) _ _)
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

/-- The body at any point. -/
theorem sound_body (c : Dev nD) (t : Fin cfg0.N) : bodyPre m c t ⊢ wp frame (wpE (defs₀ (F := F)) Variants.none c none) Set.univ (bodyAt0 t) (fun _ => bodyPost m c t) := by
  by_cases h : t.val % 19 = 0
  · exact sound_first m c t h
  by_cases h' : t.val % 19 = 18
  · exact sound_last m c t h'
  exact sound_mid m c t h h'

/-- The body table's row at the point's buffers is the body. -/
theorem body_row (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch gives the invariant before the first point. -/
theorem phi_in (c : Dev nD) : Pipeline.ΦA spec0 c ⊢ (dats m 0 c).Φ 0 := by
  rw [show (dats m 0 c).Φ 0 = PhiS m c 0 (Nat.zero_le _) from rfl, PhiS_first m c 0 _ rfl]
  try exact Idealize.SL.BI.Entails.refl _

/-- After the last point the invariant gives the buffer back. -/
theorem phi_out (c : Dev nD) : (dats m 0 c).Φ (Fin.last cfg0.N) ⊢ Pipeline.ΦA spec0 c := by
  have hN : cfg0.N = 303 + 1 := N_0
  rw [show (dats m 0 c).Φ (Fin.last cfg0.N) = PhiS m c (303 + 1) (Nat.le_of_eq hN.symm) from rfl, PhiS_next, PhiA_eq]
  iintro ⟨HS, Hg⟩
  isplitl [HS]; · iexists _; iexact HS
  iexact Hg

set_option backward.isDefEq.respectTransparency.types false in
set_option maxHeartbeats 800000 in
/-- Every execution ends with the arrays at what the proof data computes and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every argument ends as it was launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.InIdeal

end
-- ==== Proof.In.Block.lean ====
/- The input projection: what one grid point computes, read entry by entry. -/
module

public import proofs.«01_k».proof.Proof.InIdeal.Frame
public import proofs.«01_k».proof.Proof.Norm.Row
public import Idealize.ShloMosaic.Lib.Pipeline.Value
public import Idealize.ShloMosaic.Lib.Pipeline.ValueKit
public import Idealize.ShloMosaic.Lib.Pointwise

@[expose] public section

set_option maxRecDepth 16384

noncomputable section

namespace Cert.In

open Idealize.ShloMosaic Idealize.ShloMosaic.TcCoe Idealize.SL.Sem
open Idealize.ShloMosaic.Pipeline (Dat)
open Cert.KernelInIdeal Cert.KernelInIdeal.Gen
open Cert.InIdeal
open Cert.Norm (lnRow mean spread)

/-- The windows' blocks at every grid point: 16 row blocks, the 19 column blocks at each. -/
theorem idx_val : ∀ t : Fin cfg0.N,
    win0_0.index t = ![t.val / 19, 0] ∧ win0_1.index t = ![0, 0] ∧ win0_2.index t = ![0, 0] ∧ win0_3.index t = ![0, t.val % 19]
    ∧ win0_4.index t = ![t.val / 19 % 4, 0] ∧ win0_5.index t = ![t.val / 19 % 4, 0] ∧ win0_6.index t = ![t.val / 19, t.val % 19]
    ∧ win0_7.index t = ![t.val / 19, 0] :=
  (by decide +kernel : ∀ t : Fin grid0.N, _)

/-- The normalised rows at an index. -/
theorem pay1_at (x : FVec Ideal S512x2048 .f32) (g b : FVec Ideal S1x2048 .f32) (r : Fin 512) (l : Fin 2048) :
    (show EReal from k0_pay1 (F := Ideal) x g b (ix2 r l)) = lnRow (fun l => x (ix2 r l)) (g (ix2 0 l)) (b (ix2 0 l)) l := by
  unfold lnRow spread mean
  pointwise [k0_pay1]

/-- The rounded rows are the same numbers. -/
theorem pay2_at (x : FVec Ideal S512x2048 .f32) (g b : FVec Ideal S1x2048 .f32) (r : Fin 512) (l : Fin 2048) :
    (show EReal from k0_pay2 (F := Ideal) x g b (ix2 r l)) = lnRow (fun l => x (ix2 r l)) (g (ix2 0 l)) (b (ix2 0 l)) l := by
  refine Eq.trans ?_ (pay1_at x g b r l)
  unfold k0_pay2
  generalize k0_pay1 (F := Ideal) x g b = u
  pointwise

/-- The product block at an index. -/
theorem pay3_at (x : FVec Ideal S512x2048 .bf16) (w : FVec Ideal S2048x256 .bf16) (r : Fin 512) (l : Fin 256) :
    (show EReal from k0_pay3 (F := Ideal) x w (ix2 r l)) = (∑ k : Fin 2048, x (ix2 r k) * w (ix2 k l) : EReal) := by
  pointwise [k0_pay3]

/-- A row of 128 lanes, two heads of 64, turned by the tables: each lane times its cosine plus its partner, 32 lanes away
    in the same head, times its sine. -/
def turn (x c s : Fin 128 → EReal) (l : Fin 128) : EReal :=
  if h : l.val % 64 < 32 then x l * c l + x ⟨l.val + 32, by omega⟩ * s l else x l * c l + x ⟨l.val - 32, by omega⟩ * s l

/-- The width of a head, as the body computes it. -/
def headWord : BitVec 32 := Scalar.select (Scalar.cmpi CmpIPredicate.eq 64#32 0#32) 1#32 64#32

/-- The test of a lane's place in its head, as the body computes it. -/
def laneBit (l : BitVec 32) : BitVec 1 :=
  IntOp.cmpi CmpIPredicate.slt
    (Scalar.select
      (IntOp.andi
        (IntOp.xori (IntOp.cmpi CmpIPredicate.slt (IntOp.remsi ArithUnit.vector l headWord) 0#32)
          (Scalar.cmpi CmpIPredicate.slt headWord 0#32))
        (IntOp.cmpi CmpIPredicate.ne (IntOp.remsi ArithUnit.vector l headWord) 0#32))
      (IntOp.addi (IntOp.remsi ArithUnit.vector l headWord) headWord) (IntOp.remsi ArithUnit.vector l headWord))
    32#32

/-- A lane passes the test when it lies in the first half of its head. -/
theorem laneBit_eq : ∀ l : Fin 128, laneBit (BitVec.ofNat 32 l.val) = if l.val % 64 < 32 then 1#1 else 0#1 := by
  decide +kernel

/-- The two rotations of a row, chosen by the test, are the partner lane. -/
theorem turn_of_bit (x c s : Fin 128 → EReal) (l : Fin 128) :
    x l * c l + Scalar.select (laneBit (BitVec.ofNat 32 l.val)) (x ⟨(l.val + 128 - 96) % 128, Nat.mod_lt _ (by decide)⟩)
        (x ⟨(l.val + 128 - 32) % 128, Nat.mod_lt _ (by decide)⟩) * s l = turn x c s l := by
  rw [laneBit_eq]
  unfold turn
  by_cases h : l.val % 64 < 32
  · rw [if_pos h, dif_pos h]
    refine congrArg (fun z => x l * c l + x z * s l) (Fin.ext ?_)
    show (l.val + 128 - 96) % 128 = l.val + 32
    omega
  · rw [if_neg h, dif_neg h]
    refine congrArg (fun z => x l * c l + x z * s l) (Fin.ext ?_)
    show (l.val + 128 - 32) % 128 = l.val - 32
    omega

/-- The left half of the turned query block. -/
theorem pay9_at (a : FVec Ideal S512x256 .f32) (c s : FVec Ideal S512x128 .f32) (r : Fin 512) (l : Fin 128) :
    (show EReal from k0_pay9 (F := Ideal) a c s (ix2 r l))
      = turn (fun l => a (ix2 r (⟨l.val, by omega⟩ : Fin 256))) (fun l => c (ix2 r l)) (fun l => s (ix2 r l)) l := by
  refine Eq.trans ?_ (turn_of_bit _ _ _ l)
  pointwise [k0_pay9, k0_pay7, k0_pay8, laneBit, headWord]

/-- The right half of the turned query block. -/
theorem right_at (a : FVec Ideal S512x256 .f32) (c s : FVec Ideal S512x128 .f32) (r : Fin 512) (l : Fin 128) :
    (show EReal from k0_pay4 (F := Ideal) (k0_pay7 c) (k0_pay8 s) (k0_pay10 a)
        (Scalar.select (Scalar.cmpi .eq 64#32 0#32) 1#32 64#32) k0_pay11 k0_pay12 0#32 (ix2 r l))
      = turn (fun l => a (ix2 r (⟨128 + l.val, by omega⟩ : Fin 256))) (fun l => c (ix2 r l)) (fun l => s (ix2 r l)) l := by
  refine Eq.trans ?_ (turn_of_bit _ _ _ l)
  pointwise [k0_pay4, k0_pay7, k0_pay8, k0_pay10, k0_pay11, k0_pay12, laneBit, headWord]

/-- The left half of the key block, turned. -/
theorem pay5_at (x : FVec Ideal S512x2048 .bf16) (w : FVec Ideal S2048x256 .bf16) (c s : FVec Ideal S512x128 .f32)
    (r : Fin 512) (l : Fin 128) :
    (show EReal from k0_pay5 (F := Ideal) x w c s (ix2 r l))
      = turn (fun l => k0_pay3 (F := Ideal) x w (ix2 r (⟨l.val, by omega⟩ : Fin 256))) (fun l => c (ix2 r l)) (fun l => s (ix2 r l)) l := by
  refine Eq.trans ?_ (turn_of_bit _ _ _ l)
  unfold k0_pay5
  generalize k0_pay3 (F := Ideal) x w = a
  pointwise [laneBit, headWord]

/-- The right half of the key block, as multiplied. -/
theorem pay6_at (x : FVec Ideal S512x2048 .bf16) (w : FVec Ideal S2048x256 .bf16) (r : Fin 512) (l : Fin 128) :
    (show EReal from k0_pay6 (F := Ideal) x w (ix2 r l))
      = (show EReal from k0_pay3 (F := Ideal) x w (ix2 r (⟨128 + l.val, by omega⟩ : Fin 256))) := by
  unfold k0_pay6
  generalize k0_pay3 (F := Ideal) x w = a
  pointwise

end Cert.In

end
-- ==== Proof.In.Math.lean ====
/- The input projection in mathematics: the normalised rows, their products with the weights, the columns' order and the turning. -/
module

public import proofs.«01_k».proof.Proof.In.Block

@[expose] public section

set_option maxRecDepth 16384

noncomputable section

namespace Cert.In

open Idealize.ShloMosaic Idealize.ShloMosaic.TcCoe Idealize.SL.Sem
open Cert.KernelInIdeal Cert.KernelInIdeal.Gen
open Cert.Norm (lnRow)

/-- The normalised row `R` at column `l`: row `R` of the flattened array is row `R % 2048` of sequence `R / 2048`. -/
def hAt (x : FVec Ideal S4x2048x2048 .f32) (g b : FVec Ideal S2048 .f32) (R : Fin 8192) (l : Fin 2048) : EReal :=
  lnRow (fun l => x (ix3 (⟨R.val / 2048, by omega⟩ : Fin 4) (⟨R.val % 2048, Nat.mod_lt _ (by decide)⟩ : Fin 2048) l)) (g (ix1 l)) (b (ix1 l)) l

/-- The normalised rows. -/
def normed (x : FVec Ideal S4x2048x2048 .f32) (g b : FVec Ideal S2048 .f32) : FVec Ideal S8192x2048 .f32 :=
  fun j => hAt x g b (j 0) (j 1)

/-- The normalised row `R` times the weights' column `C`. -/
def prodAt (x : FVec Ideal S4x2048x2048 .f32) (g b : FVec Ideal S2048 .f32) (w : FVec Ideal S1x2048x4640 .f32) (R : Fin 8192) (C : Fin 4640) : EReal :=
  ∑ k : Fin 2048, hAt x g b R k * w (ix3 0 k C)

/-- The weights' column whose product lies at the result's column `L`. -/
def src (L : ℕ) : ℕ :=
  if L < 1024 then 1280 + L else if L < 3072 then L + 1344 else if L < 4096 then L - 3072 else if L < 4160 then L - 1792
  else if L < 4384 then L + 256 else L - 3584

/-- That column is one of the weights'. -/
theorem src_lt (L : Fin 4864) : src L.val < 4640 := by
  unfold src
  split_ifs <;> omega

/-- The weights' entry for the result's column `L`: nothing for the columns between 4384 and 4608. -/
def wcol (w : FVec Ideal S1x2048x4640 .f32) (k : Fin 2048) (L : Fin 4864) : EReal :=
  if 4384 ≤ L.val ∧ L.val < 4608 then 0 else w (ix3 0 k ⟨src L.val, src_lt L⟩)

/-- The angle of position `s` at frequency `f`: the position times 10000 to the power `-f / 32`. -/
def angle (s : Fin 2048) (f : Fin 32) : EReal :=
  (FloatOps.sitofp (F := Ideal) FTy.f32 (BitVec.ofNat 32 s.val) : EReal)
    * (Ideal.pow (Ideal.ofBits .f32 0x461C4000#32)
        (Ideal.div (-(FloatOps.sitofp (F := Ideal) FTy.f32 (BitVec.ofNat 32 f.val) : EReal)) (Ideal.ofBits .f32 0x42000000#32)) : EReal)

/-- Its cosine. -/
def cosAt (s : Fin 2048) (f : Fin 32) : EReal := Ideal.cos (angle s f)

/-- Its sine. -/
def sinAt (s : Fin 2048) (f : Fin 32) : EReal := Ideal.sin (angle s f)

/-- The query and key columns turned: a column of a head's first half with the column 32 further on, one of the second half
    with the column 32 before. -/
def turnedAt (x : FVec Ideal S4x2048x2048 .f32) (g b : FVec Ideal S2048 .f32) (w : FVec Ideal S1x2048x4640 .f32) (R : Fin 8192) (C : Fin 1152) : EReal :=
  if h : C.val % 64 < 32 then
    prodAt x g b w R ⟨C.val, by omega⟩ * cosAt ⟨R.val % 2048, Nat.mod_lt _ (by decide)⟩ ⟨C.val % 32, Nat.mod_lt _ (by decide)⟩
      - prodAt x g b w R ⟨C.val + 32, by omega⟩ * sinAt ⟨R.val % 2048, Nat.mod_lt _ (by decide)⟩ ⟨C.val % 32, Nat.mod_lt _ (by decide)⟩
  else
    prodAt x g b w R ⟨C.val, by omega⟩ * cosAt ⟨R.val % 2048, Nat.mod_lt _ (by decide)⟩ ⟨C.val % 32, Nat.mod_lt _ (by decide)⟩
      + prodAt x g b w R ⟨C.val - 32, by omega⟩ * sinAt ⟨R.val % 2048, Nat.mod_lt _ (by decide)⟩ ⟨C.val % 32, Nat.mod_lt _ (by decide)⟩

/-- The projection's row `R` at column `L`. -/
def projAt (x : FVec Ideal S4x2048x2048 .f32) (g b : FVec Ideal S2048 .f32) (w : FVec Ideal S1x2048x4640 .f32) (R : Fin 8192) (L : Fin 4864) : EReal :=
  if 4384 ≤ L.val ∧ L.val < 4608 then 0
  else if h : 3072 ≤ L.val ∧ L.val < 4096 then turnedAt x g b w R ⟨L.val - 3072, by omega⟩
  else if h : 4608 ≤ L.val ∧ L.val < 4736 then turnedAt x g b w R ⟨L.val - 3584, by omega⟩
  else prodAt x g b w R ⟨src L.val, src_lt L⟩

/-- The projection. -/
def proj (x : FVec Ideal S4x2048x2048 .f32) (g b : FVec Ideal S2048 .f32) (w : FVec Ideal S1x2048x4640 .f32) : FVec Ideal S8192x4864 .f32 :=
  fun j => projAt x g b w (j 0) (j 1)

/-- The recurrence's weights in the kernel's order. -/
def ordered (p : FVec Ideal S2048x3360 .f32) : FVec Ideal S2048x3584 .f32 :=
  concatenate S2048x3584 1 [⟨S2048x1024, extractStridedSlice S2048x1024 ![0, 0] p slices_S2048x3360_S2048x1024_0_0⟩,
    ⟨S2048x1024, extractStridedSlice S2048x1024 ![0, 1088] p slices_S2048x3360_S2048x1024_0_1088⟩,
    ⟨S2048x1024, extractStridedSlice S2048x1024 ![0, 2112] p slices_S2048x3360_S2048x1024_0_2112⟩,
    ⟨S2048x64, extractStridedSlice S2048x64 ![0, 1024] p slices_S2048x3360_S2048x64_0_1024⟩,
    ⟨S2048x64, extractStridedSlice S2048x64 ![0, 3136] p slices_S2048x3360_S2048x64_0_3136⟩,
    ⟨S2048x160, extractStridedSlice S2048x160 ![0, 3200] p slices_S2048x3360_S2048x160_0_3200⟩,
    ⟨S2048x224, broadcastInDim S2048x224 ![] bcast_S_S2048x224 (constant S_ .f32 0x00000000#32)⟩]
    concatenates_S2048x1024_S2048x1024_S2048x1024_S2048x64_S2048x64_S2048x160_S2048x224_S2048x3584_d1

/-- All the weights in the kernel's order. -/
def joined (p : FVec Ideal S2048x3584 .f32) (q : FVec Ideal S2048x1280 .f32) : FVec Ideal S2048x4864 .f32 :=
  concatenate S2048x4864 1 [⟨S2048x3072, extractStridedSlice S2048x3072 ![0, 0] p slices_S2048x3584_S2048x3072_0_0⟩,
    ⟨S2048x1024, extractStridedSlice S2048x1024 ![0, 0] q slices_S2048x1280_S2048x1024_0_0⟩,
    ⟨S2048x512, extractStridedSlice S2048x512 ![0, 3072] p slices_S2048x3584_S2048x512_0_3072⟩,
    ⟨S2048x256, extractStridedSlice S2048x256 ![0, 1024] q slices_S2048x1280_S2048x256_0_1024⟩]
    concatenates_S2048x3072_S2048x1024_S2048x512_S2048x256_S2048x4864_d1

/-- Four tables side by side. -/
def four (p q r s : FVec Ideal S2048x32 .f32) : FVec Ideal S2048x128 .f32 :=
  concatenate S2048x128 1 [⟨S2048x32, p⟩, ⟨S2048x32, q⟩, ⟨S2048x32, r⟩, ⟨S2048x32, s⟩] concatenates_S2048x32_S2048x32_S2048x32_S2048x32_S2048x128_d1

/-- Two reads at equal columns. -/
theorem col_eq {n d : ℕ} {α : Type} (p : (⟨2, ![n, d]⟩ : Shape).Idx → α) (k : Fin n) (a b : ℕ) (ha : a < d) (hb : b < d) (h : a = b) :
    p (ix2 k ⟨a, ha⟩) = p (ix2 k ⟨b, hb⟩) := by
  subst h
  rfl

/-- The recurrence's weights in the kernel's order, as the pieces lie. -/
theorem ordered_raw (p : FVec Ideal S2048x3360 .f32) (k : Fin 2048) (L : Fin 3584) :
    (show EReal from ordered p (ix2 k L))
      = if h : L.val < 1024 then p (ix2 k (⟨L.val, by omega⟩ : Fin 3360))
        else if h : L.val - 1024 < 1024 then p (ix2 k (⟨1088 + (L.val - 1024), by omega⟩ : Fin 3360))
        else if h : L.val - 1024 - 1024 < 1024 then p (ix2 k (⟨2112 + (L.val - 1024 - 1024), by omega⟩ : Fin 3360))
        else if h : L.val - 1024 - 1024 - 1024 < 64 then p (ix2 k (⟨1024 + (L.val - 1024 - 1024 - 1024), by omega⟩ : Fin 3360))
        else if h : L.val - 1024 - 1024 - 1024 - 64 < 64 then p (ix2 k (⟨3136 + (L.val - 1024 - 1024 - 1024 - 64), by omega⟩ : Fin 3360))
        else if h : L.val - 1024 - 1024 - 1024 - 64 - 64 < 160 then p (ix2 k (⟨3200 + (L.val - 1024 - 1024 - 1024 - 64 - 64), by omega⟩ : Fin 3360))
        else 0 := by
  pointwise [ordered]

/-- The recurrence's weights in the kernel's order, entry by entry. -/
theorem ordered_at (p : FVec Ideal S2048x3360 .f32) (k : Fin 2048) (L : Fin 3584) :
    (show EReal from ordered p (ix2 k L))
      = if h : L.val < 1024 then p (ix2 k (⟨L.val, by omega⟩ : Fin 3360)) else if h : L.val < 3072 then p (ix2 k (⟨L.val + 64, by omega⟩ : Fin 3360))
        else if h : L.val < 3136 then p (ix2 k (⟨L.val - 2048, by omega⟩ : Fin 3360)) else if h : L.val < 3360 then p (ix2 k (⟨L.val, by omega⟩ : Fin 3360)) else 0 := by
  rw [ordered_raw]
  split_ifs <;> first | (exfalso; omega) | exact col_eq p k _ _ _ _ (by omega) | rfl

/-- All the weights in the kernel's order, as the pieces lie. -/
theorem joined_raw (p : FVec Ideal S2048x3584 .f32) (q : FVec Ideal S2048x1280 .f32) (k : Fin 2048) (L : Fin 4864) :
    (show EReal from joined p q (ix2 k L))
      = if h : L.val < 3072 then p (ix2 k (⟨L.val, by omega⟩ : Fin 3584))
        else if h : L.val - 3072 < 1024 then q (ix2 k (⟨L.val - 3072, by omega⟩ : Fin 1280))
        else if h : L.val - 3072 - 1024 < 512 then p (ix2 k (⟨3072 + (L.val - 3072 - 1024), by omega⟩ : Fin 3584))
        else q (ix2 k (⟨1024 + (L.val - 3072 - 1024 - 512), by omega⟩ : Fin 1280)) := by
  pointwise [joined]

/-- All the weights in the kernel's order, entry by entry. -/
theorem joined_at (p : FVec Ideal S2048x3584 .f32) (q : FVec Ideal S2048x1280 .f32) (k : Fin 2048) (L : Fin 4864) :
    (show EReal from joined p q (ix2 k L))
      = if h : L.val < 3072 then p (ix2 k (⟨L.val, by omega⟩ : Fin 3584)) else if h : L.val < 4096 then q (ix2 k (⟨L.val - 3072, by omega⟩ : Fin 1280))
        else if h : L.val < 4608 then p (ix2 k (⟨L.val - 1024, by omega⟩ : Fin 3584)) else q (ix2 k (⟨L.val - 3584, by omega⟩ : Fin 1280)) := by
  rw [joined_raw]
  by_cases h1 : L.val < 3072
  · rw [dif_pos h1, dif_pos h1]
  · rw [dif_neg h1, dif_neg h1]
    by_cases h2 : L.val < 4096
    · rw [dif_pos h2, dif_pos (show L.val - 3072 < 1024 by omega)]
    · rw [dif_neg h2, dif_neg (show ¬ L.val - 3072 < 1024 by omega)]
      by_cases h3 : L.val < 4608
      · rw [dif_pos h3, dif_pos (show L.val - 3072 - 1024 < 512 by omega)]
        exact col_eq p k _ _ _ _ (by omega)
      · rw [dif_neg h3, dif_neg (show ¬ L.val - 3072 - 1024 < 512 by omega)]
        exact col_eq q k _ _ _ _ (by omega)

/-- Four tables side by side, as the pieces lie. -/
theorem four_raw (p q : FVec Ideal S2048x32 .f32) (k : Fin 2048) (l : Fin 128) :
    (show EReal from four p q p q (ix2 k l))
      = if h : l.val < 32 then p (ix2 k (⟨l.val, by omega⟩ : Fin 32)) else if h : l.val - 32 < 32 then q (ix2 k (⟨l.val - 32, by omega⟩ : Fin 32))
        else if h : l.val - 32 - 32 < 32 then p (ix2 k (⟨l.val - 32 - 32, by omega⟩ : Fin 32)) else q (ix2 k (⟨l.val - 32 - 32 - 32, by omega⟩ : Fin 32)) := by
  pointwise [four]

/-- Four tables side by side, the first two repeated, entry by entry. -/
theorem four_at (p q : FVec Ideal S2048x32 .f32) (k : Fin 2048) (l : Fin 128) :
    (show EReal from four p q p q (ix2 k l))
      = if l.val % 64 < 32 then p (ix2 k (⟨l.val % 32, Nat.mod_lt _ (by decide)⟩ : Fin 32)) else q (ix2 k (⟨l.val % 32, Nat.mod_lt _ (by decide)⟩ : Fin 32)) := by
  rw [four_raw]
  split_ifs <;> first | rfl | (exfalso; omega) | exact col_eq p k _ _ _ _ (by omega) | exact col_eq q k _ _ _ _ (by omega)

/-- A row of two heads turned by the tables is the row turned: `C` columns before it lie a whole number of heads. -/
theorem turn_at (x : FVec Ideal S4x2048x2048 .f32) (g b : FVec Ideal S2048 .f32) (w : FVec Ideal S1x2048x4640 .f32) (R : Fin 8192)
    (C : ℕ) (hC : C % 64 = 0) (hC' : C + 128 ≤ 1152) (u v z : Fin 128 → EReal) (l : Fin 128)
    (hu : ∀ l : Fin 128, u l = prodAt x g b w R ⟨C + l.val, by omega⟩)
    (hv : ∀ l : Fin 128, v l = cosAt ⟨R.val % 2048, Nat.mod_lt _ (by decide)⟩ ⟨l.val % 32, Nat.mod_lt _ (by decide)⟩)
    (hz : ∀ l : Fin 128, z l = if l.val % 64 < 32 then -sinAt ⟨R.val % 2048, Nat.mod_lt _ (by decide)⟩ ⟨l.val % 32, Nat.mod_lt _ (by decide)⟩
      else sinAt ⟨R.val % 2048, Nat.mod_lt _ (by decide)⟩ ⟨l.val % 32, Nat.mod_lt _ (by decide)⟩) :
    turn u v z l = turnedAt x g b w R ⟨C + l.val, by omega⟩ := by
  have e : (⟨(C + l.val) % 32, Nat.mod_lt _ (by decide)⟩ : Fin 32) = ⟨l.val % 32, Nat.mod_lt _ (by decide)⟩ := Fin.ext (by show (C + l.val) % 32 = l.val % 32; omega)
  unfold turn turnedAt
  show (if h : l.val % 64 < 32 then _ else _) = (if h : (C + l.val) % 64 < 32 then _ else _)
  by_cases h : l.val % 64 < 32
  · have h' : (C + l.val) % 64 < 32 := by omega
    rw [dif_pos h, dif_pos h', hu, hu, hv, hz, if_pos h, e, mul_neg, ← sub_eq_add_neg]
    rfl
  · have h' : ¬ (C + l.val) % 64 < 32 := by omega
    rw [dif_neg h, dif_neg h', hu, hu, hv, hz, if_neg h, e]
    refine congrArg (fun q => _ + prodAt x g b w R q * _) (Fin.ext ?_)
    show C + (l.val - 32) = C + l.val - 32
    omega

end Cert.In

end
-- ==== Proof.In.Entry.lean ====
/- The input projection's operands as the host hands them over, entry by entry. -/
module

public import proofs.«01_k».proof.Proof.In.Math
public import Idealize.ShloMosaic.Lib.StableHlo.RunRead

@[expose] public section

set_option maxRecDepth 16384

noncomputable section

namespace Cert.In

open Idealize.ShloMosaic Idealize.ShloMosaic.TcCoe Idealize.SL.Sem
open Cert.KernelInIdeal Cert.KernelInIdeal.Gen

variable (m : (ℓ : Loc nD τ sig) → Buf (Elt Ideal) ℓ)

/-- The table's angles. -/
theorem angle_entry (c : Dev nD) (s : Fin 2048) (f : Fin 32) :
    (show EReal from V m c main_v29 (ix2 s f)) = angle s f := by
  entry_read
  pointwise
  rfl

/-- The cosines. -/
theorem cos_entry (c : Dev nD) (s : Fin 2048) (f : Fin 32) :
    (show EReal from V m c main_v30 (ix2 s f)) = cosAt s f := by
  entry_read
  pointwise
  rfl

/-- The sines. -/
theorem sin_entry (c : Dev nD) (s : Fin 2048) (f : Fin 32) :
    (show EReal from V m c main_v31 (ix2 s f)) = sinAt s f := by
  entry_read
  pointwise
  rfl

/-- The sines' negatives. -/
theorem neg_entry (c : Dev nD) (s : Fin 2048) (f : Fin 32) :
    (show EReal from V m c main_v33 (ix2 s f)) = -sinAt s f := by
  entry_read
  pointwise
  rfl

/-- The cosine table in one piece. -/
theorem v38_eq (c : Dev nD) : V m c main_v38 = shapeCast S2048x128 (broadcastInDim S1x2048x1x128 ![0, 1, 2, 3] bcast_S1x2048x1x128_S1x2048x1x128_0_1_2_3
      (shapeCast S1x2048x1x128 (four (V m c main_v30) (V m c main_v30) (V m c main_v30) (V m c main_v30)) shapeCasts_S2048x128_S1x2048x1x128)) shapeCasts_S1x2048x1x128_S2048x128 := by
  after_reads_simp
  rfl

/-- The sine table in one piece. -/
theorem v41_eq (c : Dev nD) : V m c main_v41 = shapeCast S2048x128 (broadcastInDim S1x2048x1x128 ![0, 1, 2, 3] bcast_S1x2048x1x128_S1x2048x1x128_0_1_2_3
      (shapeCast S1x2048x1x128 (four (V m c main_v33) (V m c main_v31) (V m c main_v33) (V m c main_v31)) shapeCasts_S2048x128_S1x2048x1x128)) shapeCasts_S1x2048x1x128_S2048x128 := by
  after_reads_simp
  rfl

/-- The weights in one piece. -/
theorem v16_eq (c : Dev nD) : V m c main_v16 = truncf .bf16 (joined (ordered (V m c main_v2)) (V m c main_v1)) bitsLt_bf16_f32 := by
  after_reads_simp
  rfl

/-- The attention's weights. -/
theorem v1_entry (c : Dev nD) (k : Fin 2048) (L : Fin 1280) :
    (show EReal from V m c main_v1 (ix2 k L)) = (show EReal from m ((c : Thread nD τ).loc main_arg3) (ix3 0 k (⟨L.val, by omega⟩ : Fin 4640))) := by
  entry_read
  pointwise

/-- The recurrence's weights. -/
theorem v2_entry (c : Dev nD) (k : Fin 2048) (L : Fin 3360) :
    (show EReal from V m c main_v2 (ix2 k L)) = (show EReal from m ((c : Thread nD τ).loc main_arg3) (ix3 0 k (⟨1280 + L.val, by omega⟩ : Fin 4640))) := by
  entry_read
  pointwise

/-- The rows as the host hands them over. -/
theorem x_entry (c : Dev nD) (R : Fin 8192) (l : Fin 2048) :
    (show EReal from V m c main_v42 (ix2 R l))
      = (show EReal from m ((c : Thread nD τ).loc main_arg0) (ix3 (⟨R.val / 2048, by omega⟩ : Fin 4) (⟨R.val % 2048, Nat.mod_lt _ (by decide)⟩ : Fin 2048) l)) := by
  entry_read
  pointwise

/-- The gains as the host hands them over. -/
theorem g_entry (c : Dev nD) (l : Fin 2048) :
    (show EReal from V m c main_v43 (ix2 0 l)) = (show EReal from m ((c : Thread nD τ).loc main_arg1) (ix1 l)) := by
  entry_read
  pointwise

/-- The biases as the host hands them over. -/
theorem b_entry (c : Dev nD) (l : Fin 2048) :
    (show EReal from V m c main_v44 (ix2 0 l)) = (show EReal from m ((c : Thread nD τ).loc main_arg2) (ix1 l)) := by
  entry_read
  pointwise

/-- An entry of the weights is the one for the result's column when it lies at that column's source. -/
theorem wcol_eq (w : FVec Ideal S1x2048x4640 .f32) (k : Fin 2048) (L : Fin 4864) (C : Fin 4640) (hC : C.val = src L.val)
    (hL : ¬ (4384 ≤ L.val ∧ L.val < 4608)) : (show EReal from w (ix3 0 k C)) = wcol w k L := by
  unfold wcol
  rw [if_neg hL, show C = ⟨src L.val, src_lt L⟩ from Fin.ext hC]

/-- The weights handed over. -/
theorem w_entry (c : Dev nD) (k : Fin 2048) (L : Fin 4864) :
    (show EReal from V m c main_v16 (ix2 k L)) = wcol (m ((c : Thread nD τ).loc main_arg3)) k L := by
  rw [v16_eq]
  refine Eq.trans (b := (show EReal from joined (ordered (V m c main_v2)) (V m c main_v1) (ix2 k L))) ?_ ((joined_at _ _ k L).trans ?_)
  · generalize joined (ordered (V m c main_v2)) (V m c main_v1) = u
    pointwise
  · have H1 := v1_entry m c k
    have H2 := v2_entry m c k
    by_cases h1 : L.val < 3072
    · rw [dif_pos h1]
      refine (ordered_at _ k _).trans ?_
      by_cases h2 : L.val < 1024
      · rw [dif_pos h2]
        exact (H2 _).trans (wcol_eq _ k L _ (by show 1280 + L.val = src L.val; unfold src; rw [if_pos h2]) (by omega))
      · rw [dif_neg h2, dif_pos h1]
        exact (H2 _).trans (wcol_eq _ k L _ (by show 1280 + (L.val + 64) = src L.val; unfold src; rw [if_neg h2, if_pos h1]; omega) (by omega))
    · rw [dif_neg h1]
      by_cases h2 : L.val < 4096
      · rw [dif_pos h2]
        exact (H1 _).trans (wcol_eq _ k L _ (by show L.val - 3072 = src L.val; unfold src; rw [if_neg (by omega), if_neg h1, if_pos h2]) (by omega))
      · rw [dif_neg h2]
        by_cases h3 : L.val < 4608
        · rw [dif_pos h3]
          refine (ordered_at _ k _).trans ?_
          have a1 : ¬ L.val - 1024 < 1024 := by omega
          have a2 : ¬ L.val - 1024 < 3072 := by omega
          rw [dif_neg a1, dif_neg a2]
          by_cases h4 : L.val < 4160
          · have a3 : L.val - 1024 < 3136 := by omega
            rw [dif_pos a3]
            exact (H2 _).trans (wcol_eq _ k L _ (by show 1280 + (L.val - 1024 - 2048) = src L.val; unfold src; rw [if_neg (by omega), if_neg h1, if_neg h2, if_pos h4]; omega) (by omega))
          · have a3 : ¬ L.val - 1024 < 3136 := by omega
            rw [dif_neg a3]
            by_cases h5 : L.val < 4384
            · have a4 : L.val - 1024 < 3360 := by omega
              rw [dif_pos a4]
              exact (H2 _).trans (wcol_eq _ k L _ (by show 1280 + (L.val - 1024) = src L.val; unfold src; rw [if_neg (by omega), if_neg h1, if_neg h2, if_neg h4, if_pos h5]; omega) (by omega))
            · have a4 : ¬ L.val - 1024 < 3360 := by omega
              rw [dif_neg a4]
              unfold wcol
              exact (if_pos (by omega)).symm
        · rw [dif_neg h3]
          exact (H1 _).trans (wcol_eq _ k L _ (by show L.val - 3584 = src L.val; unfold src; rw [if_neg (by omega), if_neg h1, if_neg h2, if_neg (by omega), if_neg (by omega)]) (by omega))

/-- The cosines handed over. -/
theorem cosT_entry (c : Dev nD) (s : Fin 2048) (l : Fin 128) :
    (show EReal from V m c main_v38 (ix2 s l)) = cosAt s ⟨l.val % 32, Nat.mod_lt _ (by decide)⟩ := by
  rw [v38_eq]
  refine Eq.trans (b := (show EReal from four (V m c main_v30) (V m c main_v30) (V m c main_v30) (V m c main_v30) (ix2 s l))) ?_ ((four_at _ _ s l).trans ?_)
  · generalize four (V m c main_v30) (V m c main_v30) (V m c main_v30) (V m c main_v30) = u
    pointwise
  · rw [ite_self]
    exact cos_entry m c s _

/-- The sines handed over. -/
theorem sinT_entry (c : Dev nD) (s : Fin 2048) (l : Fin 128) :
    (show EReal from V m c main_v41 (ix2 s l))
      = if l.val % 64 < 32 then -sinAt s ⟨l.val % 32, Nat.mod_lt _ (by decide)⟩ else sinAt s ⟨l.val % 32, Nat.mod_lt _ (by decide)⟩ := by
  rw [v41_eq]
  refine Eq.trans (b := (show EReal from four (V m c main_v33) (V m c main_v31) (V m c main_v33) (V m c main_v31) (ix2 s l))) ?_ ((four_at _ _ s l).trans ?_)
  · generalize four (V m c main_v33) (V m c main_v31) (V m c main_v33) (V m c main_v31) = u
    pointwise
  · by_cases h : l.val % 64 < 32
    · rw [if_pos h, if_pos h]
      exact neg_entry m c s _
    · rw [if_neg h, if_neg h]
      exact sin_entry m c s _

end Cert.In

end
-- ==== Proof.In.Kernel.lean ====
/- The input projection's result arrays as functions of its arguments. -/
module

public import proofs.«01_k».proof.Proof.In.Entry

@[expose] public section

set_option maxRecDepth 16384

noncomputable section

namespace Cert.In

open Idealize.ShloMosaic Idealize.ShloMosaic.TcCoe Idealize.SL.Sem
open Idealize.ShloMosaic.Pipeline (Dat)
open Cert.KernelInIdeal Cert.KernelInIdeal.Gen
open Cert.InIdeal
open Cert.Norm (lnRow)

variable (m : (ℓ : Loc nD τ sig) → Buf (Elt Ideal) ℓ)

/-- The rows' block read. -/
theorem x_at (c : Dev nD) (t : Fin cfg0.N) (r : Fin 512) (l : Fin 2048) (R : Fin 8192) (hR : (R : ℕ) = t.val / 19 * 512 + r) :
    (show EReal from iblk m c 0 t (ix2 r l))
      = (show EReal from m ((c : Thread nD τ).loc main_arg0) (ix3 (⟨R.val / 2048, by omega⟩ : Fin 4) (⟨R.val % 2048, Nat.mod_lt _ (by decide)⟩ : Fin 2048) l)) := by
  refine Eq.trans ?_ (x_entry m c R l)
  blk_ext [iblk, idx_val t]

/-- The gains read. -/
theorem g_at (c : Dev nD) (t : Fin cfg0.N) (l : Fin 2048) :
    (show EReal from iblk m c 1 t (ix2 0 l)) = (show EReal from m ((c : Thread nD τ).loc main_arg1) (ix1 l)) := by
  refine Eq.trans ?_ (g_entry m c l)
  blk_ext [iblk, idx_val t]

/-- The biases read. -/
theorem b_at (c : Dev nD) (t : Fin cfg0.N) (l : Fin 2048) :
    (show EReal from iblk m c 2 t (ix2 0 l)) = (show EReal from m ((c : Thread nD τ).loc main_arg2) (ix1 l)) := by
  refine Eq.trans ?_ (b_entry m c l)
  blk_ext [iblk, idx_val t]

/-- The weights' block read. -/
theorem w_at (c : Dev nD) (t : Fin cfg0.N) (k : Fin 2048) (l : Fin 256) (L : Fin 4864) (hL : (L : ℕ) = t.val % 19 * 256 + l) :
    (show EReal from iblk m c 3 t (ix2 k l)) = wcol (m ((c : Thread nD τ).loc main_arg3)) k L := by
  refine Eq.trans ?_ (w_entry m c k L)
  blk_ext [iblk, idx_val t]

/-- The cosines read. -/
theorem cos_at (c : Dev nD) (t : Fin cfg0.N) (r : Fin 512) (l : Fin 128) (s : Fin 2048) (hs : (s : ℕ) = t.val / 19 % 4 * 512 + r) :
    (show EReal from iblk m c 4 t (ix2 r l)) = cosAt s ⟨l.val % 32, Nat.mod_lt _ (by decide)⟩ := by
  refine Eq.trans ?_ (cosT_entry m c s l)
  blk_ext [iblk, idx_val t]

/-- The sines read. -/
theorem sin_at (c : Dev nD) (t : Fin cfg0.N) (r : Fin 512) (l : Fin 128) (s : Fin 2048) (hs : (s : ℕ) = t.val / 19 % 4 * 512 + r) :
    (show EReal from iblk m c 5 t (ix2 r l))
      = if l.val % 64 < 32 then -sinAt s ⟨l.val % 32, Nat.mod_lt _ (by decide)⟩ else sinAt s ⟨l.val % 32, Nat.mod_lt _ (by decide)⟩ := by
  refine Eq.trans ?_ (sinT_entry m c s l)
  blk_ext [iblk, idx_val t]

/-- The normalised rows of a point are the array's. -/
theorem rows_at (c : Dev nD) (t : Fin cfg0.N) (r : Fin 512) (l : Fin 2048) (R : Fin 8192) (hR : (R : ℕ) = t.val / 19 * 512 + r) :
    (show EReal from rowsAt m c t (ix2 r l))
      = hAt (m ((c : Thread nD τ).loc main_arg0)) (m ((c : Thread nD τ).loc main_arg1)) (m ((c : Thread nD τ).loc main_arg2)) R l := by
  have hR' : (R : ℕ) = (rowStart t).val / 19 * 512 + r := by
    show (R : ℕ) = (t.val - t.val % 19) / 19 * 512 + r
    omega
  unfold rowsAt hAt
  refine (pay1_at _ _ _ r l).trans ?_
  refine (congrArg₂ (fun g b => lnRow _ g b l) (g_at m c (rowStart t) l) (b_at m c (rowStart t) l)).trans ?_
  exact congrArg (fun z => lnRow z _ _ l) (funext fun l => x_at m c (rowStart t) r l R hR')

/-- The kept rows of a point are the array's. -/
theorem kept_at (c : Dev nD) (t : Fin cfg0.N) (r : Fin 512) (l : Fin 2048) (R : Fin 8192) (hR : (R : ℕ) = t.val / 19 * 512 + r) :
    (show EReal from keptAt m c t (ix2 r l))
      = hAt (m ((c : Thread nD τ).loc main_arg0)) (m ((c : Thread nD τ).loc main_arg1)) (m ((c : Thread nD τ).loc main_arg2)) R l := by
  refine Eq.trans ?_ (rows_at m c t r l R hR)
  unfold keptAt rowsAt
  exact (pay2_at _ _ _ r l).trans (pay1_at _ _ _ r l).symm

/-- The normalised row `R` times the kernel's weights' column `L`. -/
def mulAt (x : FVec Ideal S4x2048x2048 .f32) (g b : FVec Ideal S2048 .f32) (w : FVec Ideal S1x2048x4640 .f32) (R : Fin 8192) (L : Fin 4864) : EReal :=
  ∑ k : Fin 2048, hAt x g b R k * wcol w k L

/-- That product is nothing at a padded column. -/
theorem mulAt_pad (x : FVec Ideal S4x2048x2048 .f32) (g b : FVec Ideal S2048 .f32) (w : FVec Ideal S1x2048x4640 .f32) (R : Fin 8192) (L : Fin 4864)
    (h : 4384 ≤ L.val ∧ L.val < 4608) : mulAt x g b w R L = 0 := by
  unfold mulAt wcol
  exact Finset.sum_eq_zero fun k _ => by rw [if_pos h, mul_zero]

/-- At any other column it is the product with the weights' column. -/
theorem mulAt_src (x : FVec Ideal S4x2048x2048 .f32) (g b : FVec Ideal S2048 .f32) (w : FVec Ideal S1x2048x4640 .f32) (R : Fin 8192) (L : Fin 4864)
    (h : ¬ (4384 ≤ L.val ∧ L.val < 4608)) (C : Fin 4640) (hC : C.val = src L.val) : mulAt x g b w R L = prodAt x g b w R C := by
  unfold mulAt prodAt
  exact Finset.sum_congr rfl fun k _ => congrArg (fun z => hAt x g b R k * z) (wcol_eq w k L C hC h).symm

/-- The product block's entries. -/
theorem acc_at (c : Dev nD) (t : Fin cfg0.N) (r : Fin 512) (l : Fin 256) (R : Fin 8192) (L : Fin 4864)
    (hR : (R : ℕ) = t.val / 19 * 512 + r) (hL : (L : ℕ) = t.val % 19 * 256 + l) :
    (show EReal from k0_pay3 (F := Ideal) (keptAt m c t) (iblk m c 3 t) (ix2 r l))
      = mulAt (m ((c : Thread nD τ).loc main_arg0)) (m ((c : Thread nD τ).loc main_arg1)) (m ((c : Thread nD τ).loc main_arg2))
          (m ((c : Thread nD τ).loc main_arg3)) R L := by
  refine (pay3_at _ _ r l).trans ?_
  unfold mulAt
  exact Finset.sum_congr rfl fun k _ => Ideal.mul_congr (kept_at m c t r k R hR) (w_at m c t k l L hL)

/-- The left half of a joined block. -/
theorem join_left (a b : Vec Ideal S512x128 .f32) (r : Fin 512) (l : Fin 256) (h : l.val < 128) :
    (show EReal from joinCols a b (ix2 r l)) = (show EReal from a (ix2 r (⟨l.val, h⟩ : Fin 128))) := dif_pos h

/-- The right half of a joined block. -/
theorem join_right (a b : Vec Ideal S512x128 .f32) (r : Fin 512) (l : Fin 256) (h : ¬ l.val < 128) :
    (show EReal from joinCols a b (ix2 r l)) = (show EReal from b (ix2 r (⟨l.val - 128, by omega⟩ : Fin 128))) := dif_neg h

/-- A turned half block's entries: `C` is the weights' column that its first lane comes from, `o` its place in the block. -/
theorem half_at (c : Dev nD) (t : Fin cfg0.N) (r : Fin 512) (l : Fin 128) (R : Fin 8192) (hR : (R : ℕ) = t.val / 19 * 512 + r)
    (e : Fin 128 → Fin 256) (o C : ℕ) (he : ∀ l : Fin 128, (e l).val = o + l.val) (hC : C % 64 = 0) (hC' : C + 128 ≤ 1152)
    (hp : ∀ l : Fin 128, ¬ (4384 ≤ t.val % 19 * 256 + (o + l.val) ∧ t.val % 19 * 256 + (o + l.val) < 4608))
    (hs : ∀ l : Fin 128, C + l.val = src (t.val % 19 * 256 + (o + l.val))) (D : Fin 1152) (hD : D.val = C + l.val) :
    turn (fun l => k0_pay3 (F := Ideal) (keptAt m c t) (iblk m c 3 t) (ix2 r (e l)))
        (fun l => iblk m c 4 t (ix2 r l)) (fun l => iblk m c 5 t (ix2 r l)) l
      = turnedAt (m ((c : Thread nD τ).loc main_arg0)) (m ((c : Thread nD τ).loc main_arg1)) (m ((c : Thread nD τ).loc main_arg2))
          (m ((c : Thread nD τ).loc main_arg3)) R D := by
  have ht : t.val < 304 := t.isLt
  have hb : ∀ l : Fin 128, t.val % 19 * 256 + (o + l.val) < 4864 := fun l => by have := he l; omega
  rw [show D = ⟨C + l.val, by omega⟩ from Fin.ext hD]
  refine turn_at _ _ _ _ R C hC hC' _ _ _ l (fun l => ?_) (fun l => ?_) (fun l => ?_)
  · refine (acc_at m c t r (e l) R (⟨t.val % 19 * 256 + (o + l.val), hb l⟩ : Fin 4864) hR (by rw [he])).trans ?_
    exact mulAt_src _ _ _ _ R _ (hp l) _ (hs l)
  · exact cos_at m c t r l _ (by show R.val % 2048 = t.val / 19 % 4 * 512 + r; omega)
  · exact sin_at m c t r l _ (by show R.val % 2048 = t.val / 19 % 4 * 512 + r; omega)

/-- A query column of the projection. -/
theorem projAt_query (x : FVec Ideal S4x2048x2048 .f32) (g b : FVec Ideal S2048 .f32) (w : FVec Ideal S1x2048x4640 .f32) (R : Fin 8192) (L : Fin 4864)
    (h : 3072 ≤ L.val ∧ L.val < 4096) : projAt x g b w R L = turnedAt x g b w R ⟨L.val - 3072, by omega⟩ := by
  unfold projAt
  rw [if_neg (by omega), dif_pos h]

/-- A key column of the projection. -/
theorem projAt_key (x : FVec Ideal S4x2048x2048 .f32) (g b : FVec Ideal S2048 .f32) (w : FVec Ideal S1x2048x4640 .f32) (R : Fin 8192) (L : Fin 4864)
    (h : 4608 ≤ L.val ∧ L.val < 4736) : projAt x g b w R L = turnedAt x g b w R ⟨L.val - 3584, by omega⟩ := by
  unfold projAt
  rw [if_neg (by omega), dif_neg (by omega), dif_pos h]

/-- Any other column of the projection is the product. -/
theorem projAt_mul (x : FVec Ideal S4x2048x2048 .f32) (g b : FVec Ideal S2048 .f32) (w : FVec Ideal S1x2048x4640 .f32) (R : Fin 8192) (L : Fin 4864)
    (h : ¬ (3072 ≤ L.val ∧ L.val < 4096)) (h' : ¬ (4608 ≤ L.val ∧ L.val < 4736)) : mulAt x g b w R L = projAt x g b w R L := by
  unfold projAt
  by_cases hp : 4384 ≤ L.val ∧ L.val < 4608
  · rw [if_pos hp, mulAt_pad _ _ _ _ _ _ hp]
  · rw [if_neg hp, dif_neg h, dif_neg h']
    exact mulAt_src _ _ _ _ _ _ hp _ rfl

/-- A query block's entries. -/
theorem query_at (c : Dev nD) (t : Fin cfg0.N) (r : Fin 512) (l : Fin 256) (R : Fin 8192) (L : Fin 4864)
    (hR : (R : ℕ) = t.val / 19 * 512 + r) (hL : (L : ℕ) = t.val % 19 * 256 + l) (h : 12 ≤ t.val % 19 ∧ t.val % 19 < 16) :
    (show EReal from queryBlk (k0_pay3 (F := Ideal) (keptAt m c t) (iblk m c 3 t)) (iblk m c 4 t) (iblk m c 5 t) (ix2 r l))
      = projAt (m ((c : Thread nD τ).loc main_arg0)) (m ((c : Thread nD τ).loc main_arg1)) (m ((c : Thread nD τ).loc main_arg2))
          (m ((c : Thread nD τ).loc main_arg3)) R L := by
  rw [projAt_query _ _ _ _ R L (by omega)]
  unfold queryBlk
  by_cases hl : l.val < 128
  · refine (join_left _ _ r l hl).trans ((pay9_at _ _ _ r _).trans ?_)
    refine half_at m c t r ⟨l.val, hl⟩ R hR _ 0 (t.val % 19 * 256 - 3072) (fun l => (Nat.zero_add _).symm) (by omega) (by omega) (fun l => by omega)
      (fun l => ?_) _ (by show L.val - 3072 = t.val % 19 * 256 - 3072 + l.val; omega)
    unfold src
    split_ifs <;> omega
  · refine (join_right _ _ r l hl).trans ((right_at _ _ _ r _).trans ?_)
    refine half_at m c t r ⟨l.val - 128, by omega⟩ R hR _ 128 (t.val % 19 * 256 + 128 - 3072) (fun l => rfl) (by omega) (by omega) (fun l => by omega)
      (fun l => ?_) _ (by show L.val - 3072 = t.val % 19 * 256 + 128 - 3072 + (l.val - 128); omega)
    unfold src
    split_ifs <;> omega

/-- The key block's entries. -/
theorem key_at (c : Dev nD) (t : Fin cfg0.N) (r : Fin 512) (l : Fin 256) (R : Fin 8192) (L : Fin 4864)
    (hR : (R : ℕ) = t.val / 19 * 512 + r) (hL : (L : ℕ) = t.val % 19 * 256 + l) (h : t.val % 19 = 18) :
    (show EReal from keyBlk (F := Ideal) (keptAt m c t) (iblk m c 3 t) (iblk m c 4 t) (iblk m c 5 t) (ix2 r l))
      = projAt (m ((c : Thread nD τ).loc main_arg0)) (m ((c : Thread nD τ).loc main_arg1)) (m ((c : Thread nD τ).loc main_arg2))
          (m ((c : Thread nD τ).loc main_arg3)) R L := by
  unfold keyBlk
  by_cases hl : l.val < 128
  · rw [projAt_key _ _ _ _ R L (by omega)]
    refine (join_left _ _ r l hl).trans ((pay5_at _ _ _ _ r _).trans ?_)
    refine half_at m c t r ⟨l.val, hl⟩ R hR _ 0 1024 (fun l => (Nat.zero_add _).symm) (by omega) (by omega) (fun l => by omega)
      (fun l => ?_) _ (by show L.val - 3584 = 1024 + l.val; omega)
    unfold src
    split_ifs <;> omega
  · refine (join_right _ _ r l hl).trans ((pay6_at _ _ r _).trans ?_)
    refine (acc_at m c t r _ R L hR (by show L.val = t.val % 19 * 256 + (128 + (l.val - 128)); omega)).trans ?_
    exact projAt_mul _ _ _ _ R L (by omega) (by omega)

/-- The block stored at a point is the projection's. -/
theorem blk_at (c : Dev nD) (t : Fin cfg0.N) (r : Fin 512) (l : Fin 256) (R : Fin 8192) (L : Fin 4864)
    (hR : (R : ℕ) = t.val / 19 * 512 + r) (hL : (L : ℕ) = t.val % 19 * 256 + l) :
    (show EReal from blkAt m c t (ix2 r l))
      = projAt (m ((c : Thread nD τ).loc main_arg0)) (m ((c : Thread nD τ).loc main_arg1)) (m ((c : Thread nD τ).loc main_arg2))
          (m ((c : Thread nD τ).loc main_arg3)) R L := by
  unfold blkAt
  by_cases h : 12 ≤ t.val % 19 ∧ t.val % 19 < 16
  · rw [if_pos h]
    exact query_at m c t r l R L hR hL h
  · rw [if_neg h]
    by_cases h' : t.val % 19 = 18
    · rw [if_pos h']
      exact key_at m c t r l R L hR hL h'
    · rw [if_neg h']
      exact (acc_at m c t r l R L hR hL).trans (projAt_mul _ _ _ _ R L (by omega) (by omega))

/-- The projection after the run. -/
theorem final (c : Dev nD) : (dats m 0 c).arrAt 6 (cfgs 0).N
    = proj (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after_6]
  have ht : t.val < 304 := t.isLt
  obtain ⟨r, l, rfl⟩ : ∃ (r : Fin 512) (l : Fin 256), y = ix2 r l := ⟨y 0, y 1, eq_ix2 y⟩
  refine (blk_at m c t r l (⟨t.val / 19 * 512 + r, by omega⟩ : Fin 8192) (⟨t.val % 19 * 256 + l, by omega⟩ : Fin 4864) rfl rfl).trans ?_
  refine congrArg₂ (projAt _ _ _ _) (Fin.ext ?_) (Fin.ext ?_)
  · blk_simp [idx_val t]
  · blk_simp [idx_val t]

/-- The normalised rows after the run. -/
theorem finalH (c : Dev nD) : (dats m 0 c).arrAt 7 (cfgs 0).N
    = normed (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after_7]
  have ht : t.val < 304 := t.isLt
  obtain ⟨r, l, rfl⟩ : ∃ (r : Fin 512) (l : Fin 2048), y = ix2 r l := ⟨y 0, y 1, eq_ix2 y⟩
  refine (rows_at m c t r l (⟨t.val / 19 * 512 + r, by omega⟩ : Fin 8192) rfl).trans ?_
  refine congrArg₂ (hAt _ _ _) (Fin.ext ?_) (Fin.ext ?_)
  · blk_simp [idx_val t]
  · blk_simp [idx_val t]

end Cert.In

end
-- ==== Proof.In.Reference.lean ====
/- The input projection's reference, read as scalar mathematics. -/
module

public import proofs.«01_k».proof.Proof.Gen.ReferenceInIdeal.Run
public import proofs.«01_k».proof.Proof.In.Math

@[expose] public section

set_option maxRecDepth 16384

noncomputable section

namespace Cert.In.Ref

open Idealize.ShloMosaic Idealize.ShloMosaic.TcCoe Idealize.SL.Sem
open Cert.ReferenceInIdeal Cert.ReferenceInIdeal.Gen
open Cert.Norm (lnRow mean spread)

/-- The rows' means, as the reference computes them. -/
def over (Z : FVec Ideal S4x2048x2048 .f32) : FVec Ideal S4x2048x1 .f32 :=
  Host.divf (broadcastInDim S4x2048x1 ![0, 1] bcast_S4x2048_S4x2048x1_0_1 (Host.reduceAdd Z (constant S_ .f32 0x00000000#32) reducesTo_S4x2048x2048_S4x2048_d2 h_S_))
    (broadcastInDim S4x2048x1 ![] bcast_S_S4x2048x1 (constant S_ .f32 0x45000000#32))

/-- The distances from the means. -/
def centered (Z : FVec Ideal S4x2048x2048 .f32) : FVec Ideal S4x2048x2048 .f32 :=
  subf Z (broadcastInDim S4x2048x2048 ![0, 1, 2] bcast_S4x2048x1_S4x2048x2048_0_1_2 (over Z))

/-- The layer norm of distances `D`, as the reference computes it. -/
def scaled (D : FVec Ideal S4x2048x2048 .f32) (g b : FVec Ideal S2048 .f32) : FVec Ideal S4x2048x2048 .f32 :=
  addf (mulf (mulf D (broadcastInDim S4x2048x2048 ![0, 1, 2] bcast_S4x2048x1_S4x2048x2048_0_1_2
      (Host.rsqrt (addf (over (mulf D D)) (broadcastInDim S4x2048x1 ![] bcast_S_S4x2048x1 (constant S_ .f32 0x3727C5AC#32))))))
      (broadcastInDim S4x2048x2048 ![0, 1, 2] bcast_S1x1x2048_S4x2048x2048_0_1_2 (broadcastInDim S1x1x2048 ![2] bcast_S2048_S1x1x2048_2 g)))
    (broadcastInDim S4x2048x2048 ![0, 1, 2] bcast_S1x1x2048_S4x2048x2048_0_1_2 (broadcastInDim S1x1x2048 ![2] bcast_S2048_S1x1x2048_2 b))

/-- The product with the weights. -/
def prod (H : FVec Ideal S4x2048x2048 .f32) (w : FVec Ideal S1x2048x4640 .f32) : FVec Ideal S4x2048x4640 .f32 :=
  Host.dotGeneral dot_S4x2048x2048_S2048x4640_S4x2048x4640_2_0_01_1_n_n none H (shapeCast S2048x4640 w shapeCasts_S1x2048x4640_S2048x4640)

/-- The angles of every position and frequency. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The cosines spread over the heads. -/
def cosines : FVec Ideal S1x2048x1x32 .f32 := broadcastInDim S1x2048x1x32 ![1, 3] bcast_S2048x32_S1x2048x1x32_1_3 (Host.cos angles)

/-- The sines spread over the heads. -/
def sines : FVec Ideal S1x2048x1x32 .f32 := broadcastInDim S1x2048x1x32 ![1, 3] bcast_S2048x32_S1x2048x1x32_1_3 (Host.sin angles)

/-- The queries' heads turned. -/
def turnQ (u : FVec Ideal S4x2048x1024 .f32) (c s : FVec Ideal S1x2048x1x32 .f32) : FVec Ideal S4x2048x1024 .f32 :=
  shapeCast S4x2048x1024 (concatenate S4x2048x16x64 3
    [⟨S4x2048x16x32, subf
      (mulf (extractStridedSlice S4x2048x16x32 ![0, 0, 0, 0] (shapeCast S4x2048x16x64 u shapeCasts_S4x2048x1024_S4x2048x16x64) slices_S4x2048x16x64_S4x2048x16x32_0_0_0_0)
        (broadcastInDim S4x2048x16x32 ![0, 1, 2, 3] bcast_S1x2048x1x32_S4x2048x16x32_0_1_2_3 c))
      (mulf (extractStridedSlice S4x2048x16x32 ![0, 0, 0, 32] (shapeCast S4x2048x16x64 u shapeCasts_S4x2048x1024_S4x2048x16x64) slices_S4x2048x16x64_S4x2048x16x32_0_0_0_32)
        (broadcastInDim S4x2048x16x32 ![0, 1, 2, 3] bcast_S1x2048x1x32_S4x2048x16x32_0_1_2_3 s))⟩,
     ⟨S4x2048x16x32, addf
      (mulf (extractStridedSlice S4x2048x16x32 ![0, 0, 0, 32] (shapeCast S4x2048x16x64 u shapeCasts_S4x2048x1024_S4x2048x16x64) slices_S4x2048x16x64_S4x2048x16x32_0_0_0_32)
        (broadcastInDim S4x2048x16x32 ![0, 1, 2, 3] bcast_S1x2048x1x32_S4x2048x16x32_0_1_2_3 c))
      (mulf (extractStridedSlice S4x2048x16x32 ![0, 0, 0, 0] (shapeCast S4x2048x16x64 u shapeCasts_S4x2048x1024_S4x2048x16x64) slices_S4x2048x16x64_S4x2048x16x32_0_0_0_0)
        (broadcastInDim S4x2048x16x32 ![0, 1, 2, 3] bcast_S1x2048x1x32_S4x2048x16x32_0_1_2_3 s))⟩]
    concatenates_S4x2048x16x32_S4x2048x16x32_S4x2048x16x64_d3) shapeCasts_S4x2048x16x64_S4x2048x1024

/-- The keys' heads turned. -/
def turnK (u : FVec Ideal S4x2048x128 .f32) (c s : FVec Ideal S1x2048x1x32 .f32) : FVec Ideal S4x2048x128 .f32 :=
  shapeCast S4x2048x128 (concatenate S4x2048x2x64 3
    [⟨S4x2048x2x32, subf
      (mulf (extractStridedSlice S4x2048x2x32 ![0, 0, 0, 0] (shapeCast S4x2048x2x64 u shapeCasts_S4x2048x128_S4x2048x2x64) slices_S4x2048x2x64_S4x2048x2x32_0_0_0_0)
        (broadcastInDim S4x2048x2x32 ![0, 1, 2, 3] bcast_S1x2048x1x32_S4x2048x2x32_0_1_2_3 c))
      (mulf (extractStridedSlice S4x2048x2x32 ![0, 0, 0, 32] (shapeCast S4x2048x2x64 u shapeCasts_S4x2048x128_S4x2048x2x64) slices_S4x2048x2x64_S4x2048x2x32_0_0_0_32)
        (broadcastInDim S4x2048x2x32 ![0, 1, 2, 3] bcast_S1x2048x1x32_S4x2048x2x32_0_1_2_3 s))⟩,
     ⟨S4x2048x2x32, addf
      (mulf (extractStridedSlice S4x2048x2x32 ![0, 0, 0, 32] (shapeCast S4x2048x2x64 u shapeCasts_S4x2048x128_S4x2048x2x64) slices_S4x2048x2x64_S4x2048x2x32_0_0_0_32)
        (broadcastInDim S4x2048x2x32 ![0, 1, 2, 3] bcast_S1x2048x1x32_S4x2048x2x32_0_1_2_3 c))
      (mulf (extractStridedSlice S4x2048x2x32 ![0, 0, 0, 0] (shapeCast S4x2048x2x64 u shapeCasts_S4x2048x128_S4x2048x2x64) slices_S4x2048x2x64_S4x2048x2x32_0_0_0_0)
        (broadcastInDim S4x2048x2x32 ![0, 1, 2, 3] bcast_S1x2048x1x32_S4x2048x2x32_0_1_2_3 s))⟩]
    concatenates_S4x2048x2x32_S4x2048x2x32_S4x2048x2x64_d3) shapeCasts_S4x2048x2x64_S4x2048x128

/-- The columns in the result's order, from the product `u`, the turned queries `q` and the turned keys `k`. -/
def joined (u : FVec Ideal S4x2048x4640 .f32) (q : FVec Ideal S4x2048x1024 .f32) (k : FVec Ideal S4x2048x128 .f32) : FVec Ideal S4x2048x4864 .f32 :=
  concatenate S4x2048x4864 2 [⟨S4x2048x1024, extractStridedSlice S4x2048x1024 ![0, 0, 1280] u slices_S4x2048x4640_S4x2048x1024_0_0_1280⟩,
    ⟨S4x2048x1024, extractStridedSlice S4x2048x1024 ![0, 0, 2368] u slices_S4x2048x4640_S4x2048x1024_0_0_2368⟩,
    ⟨S4x2048x1024, extractStridedSlice S4x2048x1024 ![0, 0, 3392] u slices_S4x2048x4640_S4x2048x1024_0_0_3392⟩,
    ⟨S4x2048x1024, q⟩,
    ⟨S4x2048x64, extractStridedSlice S4x2048x64 ![0, 0, 2304] u slices_S4x2048x4640_S4x2048x64_0_0_2304⟩,
    ⟨S4x2048x64, extractStridedSlice S4x2048x64 ![0, 0, 4416] u slices_S4x2048x4640_S4x2048x64_0_0_4416⟩,
    ⟨S4x2048x160, extractStridedSlice S4x2048x160 ![0, 0, 4480] u slices_S4x2048x4640_S4x2048x160_0_0_4480⟩,
    ⟨S4x2048x224, broadcastInDim S4x2048x224 ![] bcast_S_S4x2048x224 (constant S_ .f32 0x00000000#32)⟩,
    ⟨S4x2048x128, k⟩,
    ⟨S4x2048x128, extractStridedSlice S4x2048x128 ![0, 0, 1152] u slices_S4x2048x4640_S4x2048x128_0_0_1152⟩]
    concatenates_S4x2048x1024_S4x2048x1024_S4x2048x1024_S4x2048x1024_S4x2048x64_S4x2048x64_S4x2048x160_S4x2048x224_S4x2048x128_S4x2048x128_S4x2048x4864_d2

/-- The means at an index. -/
theorem over_at (Z : FVec Ideal S4x2048x2048 .f32) (B : Fin 4) (S : Fin 2048) :
    (show EReal from over Z (ix3 B S 0)) = Ideal.div (∑ l : Fin 2048, (Z (ix3 B S l) : EReal)) (Ideal.ofBits .f32 0x45000000#32) := by
  pointwise [over]

/-- The distances at an index. -/
theorem centered_at (Z : FVec Ideal S4x2048x2048 .f32) (B : Fin 4) (S : Fin 2048) (l : Fin 2048) :
    (show EReal from centered Z (ix3 B S l)) = (show EReal from Z (ix3 B S l)) - mean (fun l => Z (ix3 B S l)) := by
  unfold mean
  pointwise [centered, over]

/-- The layer norm of distances at an index. -/
theorem scaled_at (D : FVec Ideal S4x2048x2048 .f32) (g b : FVec Ideal S2048 .f32) (B : Fin 4) (S : Fin 2048) (l : Fin 2048) :
    scaled D g b (ix3 B S l) = (D (ix3 B S l) * Ideal.rsqrt (Ideal.div (∑ k : Fin 2048, D (ix3 B S k) * D (ix3 B S k)) (Ideal.ofBits .f32 0x45000000#32) + Ideal.ofBits .f32 0x3727C5AC#32)
      * g (ix1 l) + b (ix1 l) : EReal) := by
  pointwise [scaled, over]

/-- The whole layer norm at an index is the row's. -/
theorem norm_at (Z : FVec Ideal S4x2048x2048 .f32) (g b : FVec Ideal S2048 .f32) (B : Fin 4) (S : Fin 2048) (l : Fin 2048) :
    (show EReal from scaled (centered Z) g b (ix3 B S l)) = lnRow (fun l => Z (ix3 B S l)) (g (ix1 l)) (b (ix1 l)) l := by
  refine (scaled_at _ g b B S l).trans ?_
  have h : ∀ l, centered Z (ix3 B S l) = _ := fun l => centered_at Z B S l
  simp only [h]
  rfl

/-- The product at an index. -/
theorem prod_at (H : FVec Ideal S4x2048x2048 .f32) (w : FVec Ideal S1x2048x4640 .f32) (B : Fin 4) (S : Fin 2048) (C : Fin 4640) :
    (show EReal from prod H w (ix3 B S C)) = (∑ k : Fin 2048, H (ix3 B S k) * w (ix3 0 k C) : EReal) := by
  pointwise [prod]

/-- The angles at an index. -/
theorem angles_at (s : Fin 2048) (f : Fin 32) : (show EReal from angles (ix2 s f)) = angle s f := by
  pointwise [angles]
  rfl

/-- The cosines at an index. -/
theorem cosines_at (s : Fin 2048) (f : Fin 32) : (show EReal from cosines (ix4 0 s 0 f)) = cosAt s f := by
  unfold cosAt
  rw [← angles_at]
  unfold cosines
  generalize angles = a
  pointwise

/-- The sines at an index. -/
theorem sines_at (s : Fin 2048) (f : Fin 32) : (show EReal from sines (ix4 0 s 0 f)) = sinAt s f := by
  unfold sinAt
  rw [← angles_at]
  unfold sines
  generalize angles = a
  pointwise

/-- Two reads at equal columns. -/
theorem col_eq {a n d : ℕ} {α : Type} (p : (⟨3, ![a, n, d]⟩ : Shape).Idx → α) (B : Fin a) (S : Fin n) (i j : ℕ) (hi : i < d) (hj : j < d) (h : i = j) :
    p (ix3 B S ⟨i, hi⟩) = p (ix3 B S ⟨j, hj⟩) := by
  subst h
  rfl

/-- Two reads at equal frequencies. -/
theorem freq_eq (p : FVec Ideal S1x2048x1x32 .f32) (S : Fin 2048) (i j : ℕ) (hi : i < 32) (hj : j < 32) (h : i = j) :
    p (ix4 0 S 0 (⟨i, hi⟩ : Fin 32)) = p (ix4 0 S 0 (⟨j, hj⟩ : Fin 32)) := by
  subst h
  rfl

/-- The turned queries as their pieces lie. -/
theorem turnQ_raw (u : FVec Ideal S4x2048x1024 .f32) (c s : FVec Ideal S1x2048x1x32 .f32) (B : Fin 4) (S : Fin 2048) (C : Fin 1024) :
    (show EReal from turnQ u c s (ix3 B S C))
      = if h : C.val % 64 < 32 then
          u (ix3 B S C) * c (ix4 0 S 0 (⟨C.val % 64, h⟩ : Fin 32)) - u (ix3 B S (⟨C.val / 64 * 64 + (32 + C.val % 64), by omega⟩ : Fin 1024)) * s (ix4 0 S 0 (⟨C.val % 64, h⟩ : Fin 32))
        else
          (u (ix3 B S (⟨C.val / 64 * 64 + (32 + (C.val % 64 - 32)), by omega⟩ : Fin 1024)) * c (ix4 0 S 0 (⟨C.val % 64 - 32, by omega⟩ : Fin 32))
            + u (ix3 B S (⟨C.val / 64 * 64 + (C.val % 64 - 32), by omega⟩ : Fin 1024)) * s (ix4 0 S 0 (⟨C.val % 64 - 32, by omega⟩ : Fin 32)) : EReal) := by
  pointwise [turnQ]

/-- The turned queries at an index. -/
theorem turnQ_at (u : FVec Ideal S4x2048x1024 .f32) (c s : FVec Ideal S1x2048x1x32 .f32) (B : Fin 4) (S : Fin 2048) (C : Fin 1024) :
    (show EReal from turnQ u c s (ix3 B S C))
      = if h : C.val % 64 < 32 then
          u (ix3 B S C) * c (ix4 0 S 0 (⟨C.val % 32, Nat.mod_lt _ (by decide)⟩ : Fin 32)) - u (ix3 B S (⟨C.val + 32, by omega⟩ : Fin 1024)) * s (ix4 0 S 0 (⟨C.val % 32, Nat.mod_lt _ (by decide)⟩ : Fin 32))
        else
          (u (ix3 B S C) * c (ix4 0 S 0 (⟨C.val % 32, Nat.mod_lt _ (by decide)⟩ : Fin 32)) + u (ix3 B S (⟨C.val - 32, by omega⟩ : Fin 1024)) * s (ix4 0 S 0 (⟨C.val % 32, Nat.mod_lt _ (by decide)⟩ : Fin 32)) : EReal) := by
  rw [turnQ_raw]
  by_cases h : C.val % 64 < 32
  · rw [dif_pos h, dif_pos h]
    rw [col_eq u B S (C.val / 64 * 64 + (32 + C.val % 64)) (C.val + 32) (by omega) (by omega) (by omega), freq_eq c S (C.val % 64) (C.val % 32) (by omega) (by omega) (by omega),
      freq_eq s S (C.val % 64) (C.val % 32) (by omega) (by omega) (by omega)]
  · rw [dif_neg h, dif_neg h]
    rw [col_eq u B S (C.val / 64 * 64 + (32 + (C.val % 64 - 32))) C.val (by omega) (by omega) (by omega), col_eq u B S (C.val / 64 * 64 + (C.val % 64 - 32)) (C.val - 32) (by omega) (by omega) (by omega),
      freq_eq c S (C.val % 64 - 32) (C.val % 32) (by omega) (by omega) (by omega), freq_eq s S (C.val % 64 - 32) (C.val % 32) (by omega) (by omega) (by omega)]

/-- The turned keys as their pieces lie. -/
theorem turnK_raw (u : FVec Ideal S4x2048x128 .f32) (c s : FVec Ideal S1x2048x1x32 .f32) (B : Fin 4) (S : Fin 2048) (C : Fin 128) :
    (show EReal from turnK u c s (ix3 B S C))
      = if h : C.val % 64 < 32 then
          u (ix3 B S C) * c (ix4 0 S 0 (⟨C.val % 64, h⟩ : Fin 32)) - u (ix3 B S (⟨C.val / 64 * 64 + (32 + C.val % 64), by omega⟩ : Fin 128)) * s (ix4 0 S 0 (⟨C.val % 64, h⟩ : Fin 32))
        else
          (u (ix3 B S (⟨C.val / 64 * 64 + (32 + (C.val % 64 - 32)), by omega⟩ : Fin 128)) * c (ix4 0 S 0 (⟨C.val % 64 - 32, by omega⟩ : Fin 32))
            + u (ix3 B S (⟨C.val / 64 * 64 + (C.val % 64 - 32), by omega⟩ : Fin 128)) * s (ix4 0 S 0 (⟨C.val % 64 - 32, by omega⟩ : Fin 32)) : EReal) := by
  pointwise [turnK]

/-- The turned keys at an index. -/
theorem turnK_at (u : FVec Ideal S4x2048x128 .f32) (c s : FVec Ideal S1x2048x1x32 .f32) (B : Fin 4) (S : Fin 2048) (C : Fin 128) :
    (show EReal from turnK u c s (ix3 B S C))
      = if h : C.val % 64 < 32 then
          u (ix3 B S C) * c (ix4 0 S 0 (⟨C.val % 32, Nat.mod_lt _ (by decide)⟩ : Fin 32)) - u (ix3 B S (⟨C.val + 32, by omega⟩ : Fin 128)) * s (ix4 0 S 0 (⟨C.val % 32, Nat.mod_lt _ (by decide)⟩ : Fin 32))
        else
          (u (ix3 B S C) * c (ix4 0 S 0 (⟨C.val % 32, Nat.mod_lt _ (by decide)⟩ : Fin 32)) + u (ix3 B S (⟨C.val - 32, by omega⟩ : Fin 128)) * s (ix4 0 S 0 (⟨C.val % 32, Nat.mod_lt _ (by decide)⟩ : Fin 32)) : EReal) := by
  rw [turnK_raw]
  by_cases h : C.val % 64 < 32
  · rw [dif_pos h, dif_pos h]
    rw [col_eq u B S (C.val / 64 * 64 + (32 + C.val % 64)) (C.val + 32) (by omega) (by omega) (by omega), freq_eq c S (C.val % 64) (C.val % 32) (by omega) (by omega) (by omega),
      freq_eq s S (C.val % 64) (C.val % 32) (by omega) (by omega) (by omega)]
  · rw [dif_neg h, dif_neg h]
    rw [col_eq u B S (C.val / 64 * 64 + (32 + (C.val % 64 - 32))) C.val (by omega) (by omega) (by omega), col_eq u B S (C.val / 64 * 64 + (C.val % 64 - 32)) (C.val - 32) (by omega) (by omega) (by omega),
      freq_eq c S (C.val % 64 - 32) (C.val % 32) (by omega) (by omega) (by omega), freq_eq s S (C.val % 64 - 32) (C.val % 32) (by omega) (by omega) (by omega)]

/-- The columns in the result's order, as the pieces lie. -/
theorem joined_raw (u : FVec Ideal S4x2048x4640 .f32) (q : FVec Ideal S4x2048x1024 .f32) (k : FVec Ideal S4x2048x128 .f32) (B : Fin 4) (S : Fin 2048) (L : Fin 4864) :
    (show EReal from joined u q k (ix3 B S L))
      = if h : L.val < 1024 then u (ix3 B S (⟨1280 + L.val, by omega⟩ : Fin 4640))
        else if h : L.val - 1024 < 1024 then u (ix3 B S (⟨2368 + (L.val - 1024), by omega⟩ : Fin 4640))
        else if h : L.val - 1024 - 1024 < 1024 then u (ix3 B S (⟨3392 + (L.val - 1024 - 1024), by omega⟩ : Fin 4640))
        else if h : L.val - 1024 - 1024 - 1024 < 1024 then q (ix3 B S (⟨L.val - 1024 - 1024 - 1024, by omega⟩ : Fin 1024))
        else if h : L.val - 1024 - 1024 - 1024 - 1024 < 64 then u (ix3 B S (⟨2304 + (L.val - 1024 - 1024 - 1024 - 1024), by omega⟩ : Fin 4640))
        else if h : L.val - 1024 - 1024 - 1024 - 1024 - 64 < 64 then u (ix3 B S (⟨4416 + (L.val - 1024 - 1024 - 1024 - 1024 - 64), by omega⟩ : Fin 4640))
        else if h : L.val - 1024 - 1024 - 1024 - 1024 - 64 - 64 < 160 then u (ix3 B S (⟨4480 + (L.val - 1024 - 1024 - 1024 - 1024 - 64 - 64), by omega⟩ : Fin 4640))
        else if h : L.val - 1024 - 1024 - 1024 - 1024 - 64 - 64 - 160 < 224 then 0
        else if h : L.val - 1024 - 1024 - 1024 - 1024 - 64 - 64 - 160 - 224 < 128 then k (ix3 B S (⟨L.val - 1024 - 1024 - 1024 - 1024 - 64 - 64 - 160 - 224, by omega⟩ : Fin 128))
        else u (ix3 B S (⟨1152 + (L.val - 1024 - 1024 - 1024 - 1024 - 64 - 64 - 160 - 224 - 128), by omega⟩ : Fin 4640)) := by
  pointwise [joined]

/-- The columns in the result's order, column by column. -/
theorem joined_at (u : FVec Ideal S4x2048x4640 .f32) (q : FVec Ideal S4x2048x1024 .f32) (k : FVec Ideal S4x2048x128 .f32) (B : Fin 4) (S : Fin 2048) (L : Fin 4864) :
    (show EReal from joined u q k (ix3 B S L))
      = if 4384 ≤ L.val ∧ L.val < 4608 then 0
        else if h : 3072 ≤ L.val ∧ L.val < 4096 then q (ix3 B S (⟨L.val - 3072, by omega⟩ : Fin 1024))
        else if h : 4608 ≤ L.val ∧ L.val < 4736 then k (ix3 B S (⟨L.val - 4608, by omega⟩ : Fin 128))
        else u (ix3 B S ⟨src L.val, src_lt L⟩) := by
  rw [joined_raw]
  by_cases h1 : L.val < 1024
  · rw [dif_pos h1, if_neg (by omega), dif_neg (by omega), dif_neg (by omega)]
    exact col_eq u B S _ _ _ _ (by unfold src; split_ifs <;> omega)
  rw [dif_neg h1]
  by_cases h2 : L.val < 2048
  · rw [dif_pos (show L.val - 1024 < 1024 by omega), if_neg (by omega), dif_neg (by omega), dif_neg (by omega)]
    exact col_eq u B S _ _ _ _ (by unfold src; split_ifs <;> omega)
  rw [dif_neg (show ¬ L.val - 1024 < 1024 by omega)]
  by_cases h3 : L.val < 3072
  · rw [dif_pos (show L.val - 1024 - 1024 < 1024 by omega), if_neg (by omega), dif_neg (by omega), dif_neg (by omega)]
    exact col_eq u B S _ _ _ _ (by unfold src; split_ifs <;> omega)
  rw [dif_neg (show ¬ L.val - 1024 - 1024 < 1024 by omega)]
  by_cases h4 : L.val < 4096
  · rw [dif_pos (show L.val - 1024 - 1024 - 1024 < 1024 by omega), if_neg (by omega), dif_pos (show 3072 ≤ L.val ∧ L.val < 4096 by omega)]
    exact col_eq q B S _ _ _ _ (by omega)
  rw [dif_neg (show ¬ L.val - 1024 - 1024 - 1024 < 1024 by omega), dif_neg (show ¬ (3072 ≤ L.val ∧ L.val < 4096) by omega)]
  by_cases h5 : L.val < 4160
  · rw [dif_pos (show L.val - 1024 - 1024 - 1024 - 1024 < 64 by omega), if_neg (by omega), dif_neg (by omega)]
    exact col_eq u B S _ _ _ _ (by unfold src; split_ifs <;> omega)
  rw [dif_neg (show ¬ L.val - 1024 - 1024 - 1024 - 1024 < 64 by omega)]
  by_cases h6 : L.val < 4224
  · rw [dif_pos (show L.val - 1024 - 1024 - 1024 - 1024 - 64 < 64 by omega), if_neg (by omega), dif_neg (by omega)]
    exact col_eq u B S _ _ _ _ (by unfold src; split_ifs <;> omega)
  rw [dif_neg (show ¬ L.val - 1024 - 1024 - 1024 - 1024 - 64 < 64 by omega)]
  by_cases h7 : L.val < 4384
  · rw [dif_pos (show L.val - 1024 - 1024 - 1024 - 1024 - 64 - 64 < 160 by omega), if_neg (by omega), dif_neg (by omega)]
    exact col_eq u B S _ _ _ _ (by unfold src; split_ifs <;> omega)
  rw [dif_neg (show ¬ L.val - 1024 - 1024 - 1024 - 1024 - 64 - 64 < 160 by omega)]
  by_cases h8 : L.val < 4608
  · rw [dif_pos (show L.val - 1024 - 1024 - 1024 - 1024 - 64 - 64 - 160 < 224 by omega), if_pos (by omega)]
  rw [dif_neg (show ¬ L.val - 1024 - 1024 - 1024 - 1024 - 64 - 64 - 160 < 224 by omega), if_neg (by omega)]
  by_cases h9 : L.val < 4736
  · rw [dif_pos (show L.val - 1024 - 1024 - 1024 - 1024 - 64 - 64 - 160 - 224 < 128 by omega), dif_pos (show 4608 ≤ L.val ∧ L.val < 4736 by omega)]
    exact col_eq k B S _ _ _ _ (by omega)
  rw [dif_neg (show ¬ L.val - 1024 - 1024 - 1024 - 1024 - 64 - 64 - 160 - 224 < 128 by omega), dif_neg (by omega)]
  exact col_eq u B S _ _ _ _ (by unfold src; split_ifs <;> omega)

/-- The queries' columns at an index. -/
theorem sliceQ_at (u : FVec Ideal S4x2048x4640 .f32) (B : Fin 4) (S : Fin 2048) (C : Fin 1024) :
    (show EReal from extractStridedSlice S4x2048x1024 ![0, 0, 0] u slices_S4x2048x4640_S4x2048x1024_0_0_0 (ix3 B S C)) = u (ix3 B S (⟨C.val, by omega⟩ : Fin 4640)) := by
  pointwise

/-- The keys' columns at an index. -/
theorem sliceK_at (u : FVec Ideal S4x2048x4640 .f32) (B : Fin 4) (S : Fin 2048) (C : Fin 128) :
    (show EReal from extractStridedSlice S4x2048x128 ![0, 0, 1024] u slices_S4x2048x4640_S4x2048x128_0_0_1024 (ix3 B S C)) = u (ix3 B S (⟨1024 + C.val, by omega⟩ : Fin 4640)) := by
  pointwise

/-- The sequences' rows set one below the other. -/
theorem rows_at (J : FVec Ideal S4x2048x4864 .f32) (R : Fin 8192) (L : Fin 4864) :
    (show EReal from shapeCast S8192x4864 J shapeCasts_S4x2048x4864_S8192x4864 (ix2 R L))
      = J (ix3 (⟨R.val / 2048, by omega⟩ : Fin 4) (⟨R.val % 2048, Nat.mod_lt _ (by decide)⟩ : Fin 2048) L) := by
  pointwise

/-- The same of the normalised rows. -/
theorem rowsH_at (J : FVec Ideal S4x2048x2048 .f32) (R : Fin 8192) (L : Fin 2048) :
    (show EReal from shapeCast S8192x2048 J shapeCasts_S4x2048x2048_S8192x2048 (ix2 R L))
      = J (ix3 (⟨R.val / 2048, by omega⟩ : Fin 4) (⟨R.val % 2048, Nat.mod_lt _ (by decide)⟩ : Fin 2048) L) := by
  pointwise

/-- The whole product of the normalised rows, row by row. -/
theorem prod_row (x : FVec Ideal S4x2048x2048 .f32) (g b : FVec Ideal S2048 .f32) (w : FVec Ideal S1x2048x4640 .f32) (R : Fin 8192) (C : Fin 4640) :
    (show EReal from prod (scaled (centered x) g b) w (ix3 (⟨R.val / 2048, by omega⟩ : Fin 4) (⟨R.val % 2048, Nat.mod_lt _ (by decide)⟩ : Fin 2048) C)) = prodAt x g b w R C := by
  refine (prod_at _ w _ _ C).trans ?_
  refine Finset.sum_congr rfl fun k _ => ?_
  rw [show scaled (centered x) g b (ix3 (⟨R.val / 2048, by omega⟩ : Fin 4) (⟨R.val % 2048, Nat.mod_lt _ (by decide)⟩ : Fin 2048) k) = hAt x g b R k from norm_at x g b _ _ k]

/-- The turned queries of the product, row by row. -/
theorem query_row (u : FVec Ideal S4x2048x4640 .f32) (x : FVec Ideal S4x2048x2048 .f32) (g b : FVec Ideal S2048 .f32) (w : FVec Ideal S1x2048x4640 .f32) (R : Fin 8192)
    (hu : ∀ C : Fin 4640, (show EReal from u (ix3 (⟨R.val / 2048, by omega⟩ : Fin 4) (⟨R.val % 2048, Nat.mod_lt _ (by decide)⟩ : Fin 2048) C)) = prodAt x g b w R C) (C : Fin 1024) :
    (show EReal from turnQ (extractStridedSlice S4x2048x1024 ![0, 0, 0] u slices_S4x2048x4640_S4x2048x1024_0_0_0) cosines sines
      (ix3 (⟨R.val / 2048, by omega⟩ : Fin 4) (⟨R.val % 2048, Nat.mod_lt _ (by decide)⟩ : Fin 2048) C)) = turnedAt x g b w R ⟨C.val, by omega⟩ := by
  refine (turnQ_at _ _ _ _ _ C).trans ?_
  unfold turnedAt
  by_cases h : C.val % 64 < 32
  · rw [dif_pos h, dif_pos h]
    refine congrArg₂ (fun a b : EReal => a - b) (congrArg₂ (fun a b : EReal => a * b) ((sliceQ_at _ _ _ _).trans (hu _)) (cosines_at _ _)) (congrArg₂ (fun a b : EReal => a * b) ((sliceQ_at _ _ _ _).trans (hu _)) (sines_at _ _))
  · rw [dif_neg h, dif_neg h]
    refine congrArg₂ (fun a b : EReal => a + b) (congrArg₂ (fun a b : EReal => a * b) ((sliceQ_at _ _ _ _).trans (hu _)) (cosines_at _ _)) (congrArg₂ (fun a b : EReal => a * b) ((sliceQ_at _ _ _ _).trans (hu _)) (sines_at _ _))

/-- The product's columns agree where the columns do. -/
theorem prodAt_col (x : FVec Ideal S4x2048x2048 .f32) (g b : FVec Ideal S2048 .f32) (w : FVec Ideal S1x2048x4640 .f32) (R : Fin 8192) (i j : ℕ) (hi : i < 4640) (hj : j < 4640) (h : i = j) :
    prodAt x g b w R ⟨i, hi⟩ = prodAt x g b w R ⟨j, hj⟩ := by
  subst h
  rfl

/-- The turned keys of the product, row by row. -/
theorem key_row (u : FVec Ideal S4x2048x4640 .f32) (x : FVec Ideal S4x2048x2048 .f32) (g b : FVec Ideal S2048 .f32) (w : FVec Ideal S1x2048x4640 .f32) (R : Fin 8192)
    (hu : ∀ C : Fin 4640, (show EReal from u (ix3 (⟨R.val / 2048, by omega⟩ : Fin 4) (⟨R.val % 2048, Nat.mod_lt _ (by decide)⟩ : Fin 2048) C)) = prodAt x g b w R C) (C : Fin 128) :
    (show EReal from turnK (extractStridedSlice S4x2048x128 ![0, 0, 1024] u slices_S4x2048x4640_S4x2048x128_0_0_1024) cosines sines
      (ix3 (⟨R.val / 2048, by omega⟩ : Fin 4) (⟨R.val % 2048, Nat.mod_lt _ (by decide)⟩ : Fin 2048) C)) = turnedAt x g b w R ⟨1024 + C.val, by omega⟩ := by
  refine (turnK_at _ _ _ _ _ C).trans ?_
  unfold turnedAt
  have hf : (⟨C.val % 32, Nat.mod_lt _ (by decide)⟩ : Fin 32) = ⟨(1024 + C.val) % 32, Nat.mod_lt _ (by decide)⟩ := Fin.ext (by show C.val % 32 = (1024 + C.val) % 32; omega)
  by_cases h : C.val % 64 < 32
  · rw [dif_pos h, dif_pos (show (1024 + C.val) % 64 < 32 by omega), hf]
    refine congrArg₂ (fun a b : EReal => a - b) (congrArg₂ (fun a b : EReal => a * b) ((sliceK_at _ _ _ _).trans (hu _)) (cosines_at _ _))
      (congrArg₂ (fun a b : EReal => a * b) ((sliceK_at _ _ _ _).trans ((hu _).trans (prodAt_col x g b w R _ _ _ _ (by show 1024 + (C.val + 32) = 1024 + C.val + 32; omega)))) (sines_at _ _))
  · rw [dif_neg h, dif_neg (show ¬ (1024 + C.val) % 64 < 32 by omega), hf]
    refine congrArg₂ (fun a b : EReal => a + b) (congrArg₂ (fun a b : EReal => a * b) ((sliceK_at _ _ _ _).trans (hu _)) (cosines_at _ _))
      (congrArg₂ (fun a b : EReal => a * b) ((sliceK_at _ _ _ _).trans ((hu _).trans (prodAt_col x g b w R _ _ _ _ (by show 1024 + (C.val - 32) = 1024 + C.val - 32; omega)))) (sines_at _ _))

/-- The steps over a product whose rows are known are the projection. -/
theorem joined_eq (u : FVec Ideal S4x2048x4640 .f32) (x : FVec Ideal S4x2048x2048 .f32) (g b : FVec Ideal S2048 .f32) (w : FVec Ideal S1x2048x4640 .f32)
    (hu : ∀ (R : Fin 8192) (C : Fin 4640), (show EReal from u (ix3 (⟨R.val / 2048, by omega⟩ : Fin 4) (⟨R.val % 2048, Nat.mod_lt _ (by decide)⟩ : Fin 2048) C)) = prodAt x g b w R C) :
    shapeCast S8192x4864 (joined u (turnQ (extractStridedSlice S4x2048x1024 ![0, 0, 0] u slices_S4x2048x4640_S4x2048x1024_0_0_0) cosines sines)
      (turnK (extractStridedSlice S4x2048x128 ![0, 0, 1024] u slices_S4x2048x4640_S4x2048x128_0_0_1024) cosines sines)) shapeCasts_S4x2048x4864_S8192x4864 = proj x g b w := by
  funext j
  obtain ⟨R, L, rfl⟩ : ∃ (R : Fin 8192) (L : Fin 4864), j = ix2 R L := ⟨j 0, j 1, eq_ix2 j⟩
  refine (rows_at _ R L).trans ((joined_at _ _ _ _ _ L).trans ?_)
  show _ = projAt x g b w R L
  unfold projAt
  by_cases h0 : 4384 ≤ L.val ∧ L.val < 4608
  · rw [if_pos h0, if_pos h0]
  rw [if_neg h0, if_neg h0]
  by_cases h1 : 3072 ≤ L.val ∧ L.val < 4096
  · rw [dif_pos h1, dif_pos h1]
    exact query_row u x g b w R (hu R) _
  rw [dif_neg h1, dif_neg h1]
  by_cases h2 : 4608 ≤ L.val ∧ L.val < 4736
  · rw [dif_pos h2, dif_pos h2]
    refine (key_row u x g b w R (hu R) _).trans (congrArg (turnedAt x g b w R) (Fin.ext ?_))
    show 1024 + (L.val - 4608) = L.val - 3584
    omega
  rw [dif_neg h2, dif_neg h2]
  exact hu R _

/-- The steps over the arguments are the projection. -/
theorem steps_eq (x : FVec Ideal S4x2048x2048 .f32) (g b : FVec Ideal S2048 .f32) (w : FVec Ideal S1x2048x4640 .f32) :
    shapeCast S8192x4864 (joined (prod (scaled (centered x) g b) w) (turnQ (extractStridedSlice S4x2048x1024 ![0, 0, 0] (prod (scaled (centered x) g b) w) slices_S4x2048x4640_S4x2048x1024_0_0_0) cosines sines)
      (turnK (extractStridedSlice S4x2048x128 ![0, 0, 1024] (prod (scaled (centered x) g b) w) slices_S4x2048x4640_S4x2048x128_0_0_1024) cosines sines)) shapeCasts_S4x2048x4864_S8192x4864 = proj x g b w :=
  joined_eq _ x g b w fun R C => prod_row x g b w R C

/-- The normalised rows over the arguments. -/
theorem stepsH_eq (x : FVec Ideal S4x2048x2048 .f32) (g b : FVec Ideal S2048 .f32) :
    shapeCast S8192x2048 (scaled (centered x) g b) shapeCasts_S4x2048x2048_S8192x2048 = normed x g b := by
  funext j
  obtain ⟨R, L, rfl⟩ : ∃ (R : Fin 8192) (L : Fin 2048), j = ix2 R L := ⟨j 0, j 1, eq_ix2 j⟩
  exact (rowsH_at _ R L).trans (norm_at x g b _ _ L)

/-- The reference's projection is these steps composed. -/
theorem result_eq (m : (ℓ : Loc nD τ sig) → Buf (Elt Ideal) ℓ) (c : Dev nD) :
    Cert.ReferenceInIdeal.Value.res_out0 m c
      = shapeCast S8192x4864 (joined (prod (scaled (centered (m ((c.tc : Thread nD τ).loc main_arg0))) (m ((c.tc : Thread nD τ).loc main_arg1)) (m ((c.tc : Thread nD τ).loc main_arg2))) (m ((c.tc : Thread nD τ).loc main_arg3)))
          (turnQ (extractStridedSlice S4x2048x1024 ![0, 0, 0] (prod (scaled (centered (m ((c.tc : Thread nD τ).loc main_arg0))) (m ((c.tc : Thread nD τ).loc main_arg1)) (m ((c.tc : Thread nD τ).loc main_arg2))) (m ((c.tc : Thread nD τ).loc main_arg3))) slices_S4x2048x4640_S4x2048x1024_0_0_0) cosines sines)
          (turnK (extractStridedSlice S4x2048x128 ![0, 0, 1024] (prod (scaled (centered (m ((c.tc : Thread nD τ).loc main_arg0))) (m ((c.tc : Thread nD τ).loc main_arg1)) (m ((c.tc : Thread nD τ).loc main_arg2))) (m ((c.tc : Thread nD τ).loc main_arg3))) slices_S4x2048x4640_S4x2048x128_0_0_1024) cosines sines))
          shapeCasts_S4x2048x4864_S8192x4864 := rfl

end Cert.In.Ref

end
-- ==== Proof.In.Claims.lean ====
/- The input projection's claims. -/
module

public import proofs.«01_k».proof.Defs
public import proofs.«01_k».proof.Proof.In.Kernel
public import proofs.«01_k».proof.Proof.In.Reference
public import Idealize.ShloMosaic.Adequacy
public import Idealize.ShloMosaic.Init

@[expose] public section

noncomputable section

namespace Cert.In

open Idealize.ShloMosaic Idealize.ShloMosaic.TcCoe Idealize.SL.Sem

/-- The reference runs, leaves its arguments as they were and ends with every counter at zero. -/
theorem reference_frame : Cert.quiescent_ReferenceInIdeal (hReferenceInIdeal := Cert.ReferenceInIdeal.Gen.facts) := by
  intro m g _
  exact (θ_run Cert.ReferenceInIdeal.defs _ _).mono (fun r h => ⟨fun c => (h c).2.2, sem_eq_zero_of_no_sems (by decide) r.2⟩)
    (Cert.ReferenceInIdeal.Value.run m g)

/-- The reference's projection over arguments equal to the kernel's. -/
theorem result_out (m : (ℓ : Loc Cert.ReferenceInIdeal.nD Cert.ReferenceInIdeal.τ Cert.ReferenceInIdeal.sig) → Buf (Elt Ideal) ℓ) (c : Dev Cert.ReferenceInIdeal.nD)
    (x : FVec Ideal Cert.KernelInIdeal.S4x2048x2048 .f32) (g b : FVec Ideal Cert.KernelInIdeal.S2048 .f32) (w : FVec Ideal Cert.KernelInIdeal.S1x2048x4640 .f32)
    (h0 : m ((c.tc : Thread Cert.ReferenceInIdeal.nD Cert.ReferenceInIdeal.τ).loc Cert.ReferenceInIdeal.main_arg0) = x)
    (h1 : m ((c.tc : Thread Cert.ReferenceInIdeal.nD Cert.ReferenceInIdeal.τ).loc Cert.ReferenceInIdeal.main_arg1) = g)
    (h2 : m ((c.tc : Thread Cert.ReferenceInIdeal.nD Cert.ReferenceInIdeal.τ).loc Cert.ReferenceInIdeal.main_arg2) = b)
    (h3 : m ((c.tc : Thread Cert.ReferenceInIdeal.nD Cert.ReferenceInIdeal.τ).loc Cert.ReferenceInIdeal.main_arg3) = w) :
    Cert.ReferenceInIdeal.Value.res_out0 m c = proj x g b w := by
  refine (Ref.result_eq m c).trans ?_
  rw [h0, h1, h2, h3]
  exact Ref.steps_eq x g b w

/-- The kernel's and the reference's results are the same arrays. -/
theorem algebraic : Cert.algebraic_KernelInIdeal_ReferenceInIdeal (hKernelInIdeal := Cert.KernelInIdeal.Gen.facts)
    (hReferenceInIdeal := Cert.ReferenceInIdeal.Gen.facts) := by
  intro m g m' g' _ hargs
  refine ⟨fun c => proj (m (c.tc.loc Cert.KernelInIdeal.main_arg0)) (m (c.tc.loc Cert.KernelInIdeal.main_arg1)) (m (c.tc.loc Cert.KernelInIdeal.main_arg2)) (m (c.tc.loc Cert.KernelInIdeal.main_arg3)),
    fun c => normed (m (c.tc.loc Cert.KernelInIdeal.main_arg0)) (m (c.tc.loc Cert.KernelInIdeal.main_arg1)) (m (c.tc.loc Cert.KernelInIdeal.main_arg2)), ?_, ?_⟩
  · run_from Cert.InIdeal.run_main m g
    · exact final m c
    · exact finalH m c
  · run_from Cert.ReferenceInIdeal.Value.run m' g'
    · obtain ⟨h0, h1, h2, h3⟩ := hargs c
      exact result_out m' c _ _ _ _ h0 h1 h2 h3
    · obtain ⟨h0, h1, h2, h3⟩ := hargs c
      rw [h0, h1, h2]
      exact Ref.stepsH_eq _ _ _

end Cert.In

end
-- ==== Proof.Step.Block.lean ====
/- What the sampled batch's attention stores at one grid point, read element by element. -/
module

public import proofs.«01_k».proof.Proof.Gen.KernelStepIdeal.Skeleton
public import Idealize.ShloMosaic.Lib.Pipeline.ValueKit
public import proofs.«01_k».proof.Proof.Attn.Math

@[expose] public section

set_option maxRecDepth 16384

noncomputable section

namespace Cert.Step

open Idealize.ShloMosaic Idealize.ShloMosaic.TcCoe Idealize.SL.Sem
open Cert.KernelStepIdeal Cert.KernelStepIdeal.Gen
open Cert.Attn (top den)

/-- The query columns of head `g` of the first key-value head. -/
def qtile0 (q : FVec Ideal S32x1024 .f32) (g : Fin 8) : FVec Ideal S32x64 .f32 :=
  match g with
    | 0 => extractStridedSlice S32x64 ![0, 0] q slices_S32x1024_o0_0_S32x64
    | 1 => extractStridedSlice S32x64 ![0, 64] q slices_S32x1024_o0_64_S32x64
    | 2 => extractStridedSlice S32x64 ![0, 128] q slices_S32x1024_o0_128_S32x64
    | 3 => extractStridedSlice S32x64 ![0, 192] q slices_S32x1024_o0_192_S32x64
    | 4 => extractStridedSlice S32x64 ![0, 256] q slices_S32x1024_o0_256_S32x64
    | 5 => extractStridedSlice S32x64 ![0, 320] q slices_S32x1024_o0_320_S32x64
    | 6 => extractStridedSlice S32x64 ![0, 384] q slices_S32x1024_o0_384_S32x64
    | 7 => extractStridedSlice S32x64 ![0, 448] q slices_S32x1024_o0_448_S32x64

/-- The query columns of head `g` of the second key-value head. -/
def qtile1 (q : FVec Ideal S32x1024 .f32) (g : Fin 8) : FVec Ideal S32x64 .f32 :=
  match g with
    | 0 => extractStridedSlice S32x64 ![0, 512] q slices_S32x1024_o0_512_S32x64
    | 1 => extractStridedSlice S32x64 ![0, 576] q slices_S32x1024_o0_576_S32x64
    | 2 => extractStridedSlice S32x64 ![0, 640] q slices_S32x1024_o0_640_S32x64
    | 3 => extractStridedSlice S32x64 ![0, 704] q slices_S32x1024_o0_704_S32x64
    | 4 => extractStridedSlice S32x64 ![0, 768] q slices_S32x1024_o0_768_S32x64
    | 5 => extractStridedSlice S32x64 ![0, 832] q slices_S32x1024_o0_832_S32x64
    | 6 => extractStridedSlice S32x64 ![0, 896] q slices_S32x1024_o0_896_S32x64
    | 7 => extractStridedSlice S32x64 ![0, 960] q slices_S32x1024_o0_960_S32x64

/-- The eight heads' query columns of the second key-value head, stacked. -/
def stack (p : Fin 8 → FVec Ideal S32x64 .f32) : FVec Ideal S256x64 .f32 :=
  concatenate S256x64 0 [⟨S32x64, p 0⟩, ⟨S32x64, p 1⟩, ⟨S32x64, p 2⟩, ⟨S32x64, p 3⟩, ⟨S32x64, p 4⟩, ⟨S32x64, p 5⟩, ⟨S32x64, p 6⟩, ⟨S32x64, p 7⟩] concatenates_S32x64_S32x64_S32x64_S32x64_S32x64_S32x64_S32x64_S32x64_S256x64_d0

/-- Sixteen tiles side by side. -/
def beside (p : Fin 16 → FVec Ideal S32x64 .f32) : FVec Ideal S32x1024 .f32 :=
  concatenate S32x1024 1 [⟨S32x64, p 0⟩, ⟨S32x64, p 1⟩, ⟨S32x64, p 2⟩, ⟨S32x64, p 3⟩, ⟨S32x64, p 4⟩, ⟨S32x64, p 5⟩, ⟨S32x64, p 6⟩, ⟨S32x64, p 7⟩, ⟨S32x64, p 8⟩, ⟨S32x64, p 9⟩, ⟨S32x64, p 10⟩, ⟨S32x64, p 11⟩, ⟨S32x64, p 12⟩, ⟨S32x64, p 13⟩, ⟨S32x64, p 14⟩, ⟨S32x64, p 15⟩] concatenates_S32x64_S32x64_S32x64_S32x64_S32x64_S32x64_S32x64_S32x64_S32x64_S32x64_S32x64_S32x64_S32x64_S32x64_S32x64_S32x64_S32x1024_d1

/-- The first key-value head's columns, of the keys or the values. -/
def vals0 (vv : FVec Ideal S160x128 .f32) : FVec Ideal S160x64 .bf16 :=
  truncf .bf16 (extractStridedSlice S160x64 ![0, 0] vv slices_S160x128_o0_0_S160x64) bitsLt_bf16_f32

/-- The second key-value head's columns, of the keys or the values. -/
def vals1 (vv : FVec Ideal S160x128 .f32) : FVec Ideal S160x64 .bf16 :=
  truncf .bf16 (extractStridedSlice S160x64 ![0, 64] vv slices_S160x128_o0_64_S160x64) bitsLt_bf16_f32

/-- The scores of stacked queries against one head's keys. -/
def scores (qr : FVec Ideal S256x64 .bf16) (kh : FVec Ideal S160x64 .bf16) : FVec Ideal S256x160 .f32 :=
  mulf (matmul dot_S256x64_S160x64_S256x160_1_1_0_0_n_n none qr kh (constant S256x160 .f32 0x00000000#32)) (broadcast S256x160 (Scalar.ofBits .f32 0x3E000000#32))

/-- The greatest of each row's scores and its sink logit. -/
def rowTop (s : FVec Ideal S256x160 .f32) (σ : FVec Ideal S256x1 .f32) : FVec Ideal S256x1 .f32 :=
  maximumf (shapeCast S256x1 (multiReduction .maximumf [1] S256 s 0xFF800000#32 reduces_S256x160_S256 (.inl rfl) rfl) shapeCasts_S256_S256x1) σ

/-- The exponentials of the scores less their rows' greatest. -/
def rowExp (s : FVec Ideal S256x160 .f32) (t : FVec Ideal S256x1 .f32) : FVec Ideal S256x160 .f32 :=
  exp (subf s (broadcastTo S256x160 t broadcasts_S256x1_S256x160))

/-- One key-value head's averaged values, its eight query heads stacked. -/
def heads (v : FVec Ideal S160x64 .bf16) (σ : FVec Ideal S256x1 .f32) (s : FVec Ideal S256x160 .f32) : FVec Ideal S256x64 .f32 :=
  divf (matmul dot_S256x160_S160x64_S256x64_1_0_0_1_n_n none (truncf .bf16 (rowExp s (rowTop s σ)) bitsLt_bf16_f32) v (constant S256x64 .f32 0x00000000#32))
    (broadcastTo S256x64 (addf (shapeCast S256x1 (multiReduction .add [1] S256 (rowExp s (rowTop s σ)) 0x00000000#32 reduces_S256x160_S256 (.inl rfl) rfl) shapeCasts_S256_S256x1)
      (exp (subf σ (rowTop s σ)))) broadcasts_S256x1_S256x64)

/-- The sixteen heads' tiles, cut from the two stacks. -/
def otile (A B : FVec Ideal S256x64 .f32) (h : Fin 16) : FVec Ideal S32x64 .f32 :=
  match (h : ℕ) with
    | 0 => extractStridedSlice S32x64 ![0, 0] A slices_S256x64_o0_0_S32x64
    | 1 => extractStridedSlice S32x64 ![32, 0] A slices_S256x64_o32_0_S32x64
    | 2 => extractStridedSlice S32x64 ![64, 0] A slices_S256x64_o64_0_S32x64
    | 3 => extractStridedSlice S32x64 ![96, 0] A slices_S256x64_o96_0_S32x64
    | 4 => extractStridedSlice S32x64 ![128, 0] A slices_S256x64_o128_0_S32x64
    | 5 => extractStridedSlice S32x64 ![160, 0] A slices_S256x64_o160_0_S32x64
    | 6 => extractStridedSlice S32x64 ![192, 0] A slices_S256x64_o192_0_S32x64
    | 7 => extractStridedSlice S32x64 ![224, 0] A slices_S256x64_o224_0_S32x64
    | 8 => extractStridedSlice S32x64 ![0, 0] B slices_S256x64_o0_0_S32x64
    | 9 => extractStridedSlice S32x64 ![32, 0] B slices_S256x64_o32_0_S32x64
    | 10 => extractStridedSlice S32x64 ![64, 0] B slices_S256x64_o64_0_S32x64
    | 11 => extractStridedSlice S32x64 ![96, 0] B slices_S256x64_o96_0_S32x64
    | 12 => extractStridedSlice S32x64 ![128, 0] B slices_S256x64_o128_0_S32x64
    | 13 => extractStridedSlice S32x64 ![160, 0] B slices_S256x64_o160_0_S32x64
    | 14 => extractStridedSlice S32x64 ![192, 0] B slices_S256x64_o192_0_S32x64
    | _ => extractStridedSlice S32x64 ![224, 0] B slices_S256x64_o224_0_S32x64

/-- The block the kernel stores, from its queries, its keys, its values and its sinks. -/
def stored (q : FVec Ideal S32x1024 .f32) (kk vv : FVec Ideal S160x128 .f32) (σ0 σ1 : FVec Ideal S256x1 .f32) : FVec Ideal S32x1024 .bf16 :=
  truncf .bf16 (beside (otile (heads (vals0 vv) σ0 (scores (truncf .bf16 (stack (qtile0 q)) bitsLt_bf16_f32) (vals0 kk)))
    (heads (vals1 vv) σ1 (scores (truncf .bf16 (stack (qtile1 q)) bitsLt_bf16_f32) (vals1 kk))))) bitsLt_bf16_f32

/-- Eight tiles stacked: row `R` is row `R % 32` of tile `R / 32`. -/
theorem stack_at (p : Fin 8 → FVec Ideal S32x64 .f32) (R : Fin 256) (d : Fin 64) :
    stack p (ix2 R d) = p ⟨(R : ℕ) / 32, by omega⟩ (ix2 (⟨(R : ℕ) % 32, by omega⟩ : Fin 32) d) := by
  unfold stack
  have hb : ∀ b : Fin S32x64.rank, b.cast rfl ≠ (0 : Fin S256x64.rank) →
      ((ix2 (⟨(R : ℕ) % 32, by omega⟩ : Fin 32) d : S32x64.Idx) b).val = ((ix2 R d : S256x64.Idx) (b.cast rfl)).val := by
    intro b hb
    fin_cases b
    · exact absurd rfl hb
    · rfl
  exact concatenate_ofFn_apply (t := S256x64) (s₁ := S32x64) 0 p concatenates_S32x64_S32x64_S32x64_S32x64_S32x64_S32x64_S32x64_S32x64_S256x64_d0
    rfl 32 rfl (ix2 R d) ⟨(R : ℕ) / 32, by omega⟩ rfl (ix2 (⟨(R : ℕ) % 32, by omega⟩ : Fin 32) d) rfl hb

/-- Sixteen tiles side by side: column `l` is column `l % 64` of tile `l / 64`. -/
theorem beside_at (p : Fin 16 → FVec Ideal S32x64 .f32) (r : Fin 32) (l : Fin 1024) :
    beside p (ix2 r l) = p ⟨(l : ℕ) / 64, by omega⟩ (ix2 r (⟨(l : ℕ) % 64, by omega⟩ : Fin 64)) := by
  unfold beside
  have hb : ∀ b : Fin S32x64.rank, b.cast rfl ≠ (1 : Fin S32x1024.rank) →
      ((ix2 r (⟨(l : ℕ) % 64, by omega⟩ : Fin 64) : S32x64.Idx) b).val = ((ix2 r l : S32x1024.Idx) (b.cast rfl)).val := by
    intro b hb
    fin_cases b
    · rfl
    · exact absurd rfl hb
  exact concatenate_ofFn_apply (t := S32x1024) (s₁ := S32x64) 1 p concatenates_S32x64_S32x64_S32x64_S32x64_S32x64_S32x64_S32x64_S32x64_S32x64_S32x64_S32x64_S32x64_S32x64_S32x64_S32x64_S32x64_S32x1024_d1
    rfl 64 rfl (ix2 r l) ⟨(l : ℕ) / 64, by omega⟩ rfl (ix2 r (⟨(l : ℕ) % 64, by omega⟩ : Fin 64)) rfl hb

/-- A head's query column is the block's. -/
theorem qtile0_at (q : FVec Ideal S32x1024 .f32) (g : Fin 8) (r : Fin 32) (d : Fin 64) :
    qtile0 q g (ix2 r d) = q (ix2 r (⟨g * 64 + d, by omega⟩ : Fin 1024)) := by
  fin_cases g <;> (simp only [qtile0]; pointwise) <;> exact congrArg q ((ix2_inj ..).2 ⟨Fin.ext (by simp), Fin.ext (by simp)⟩)

/-- A head's query column is the block's, in the second half. -/
theorem qtile1_at (q : FVec Ideal S32x1024 .f32) (g : Fin 8) (r : Fin 32) (d : Fin 64) :
    qtile1 q g (ix2 r d) = q (ix2 r (⟨(8 + g) * 64 + d, by omega⟩ : Fin 1024)) := by
  fin_cases g <;> (simp only [qtile1]; pointwise) <;> exact congrArg q ((ix2_inj ..).2 ⟨Fin.ext (by simp), Fin.ext (by simp)⟩)

/-- The sink column read: row `g * 32 + r` holds the sink logit of head `g`. -/
theorem sinks_at (w : Fin 8 → EReal) (g : Fin 8) (r : Fin 32) :
    k0_pay11 (F := Ideal) (w 0) (w 1) (w 2) (w 3) (w 4) (w 5) (w 6) (w 7) (ix2 (⟨g * 32 + r, by omega⟩ : Fin 256) 0) = w g := by
  pointwise [k0_pay11]
  fin_vals g with hg <;> (simp only [hg]; repeat (first | rw [dif_pos (by omega)] | rw [dif_neg (by omega)])) <;>
    exact congrArg w (Fin.ext (by rw [hg]; rfl))

/-- One averaged value: the weighted sum of the values over the softmax denominator. -/
theorem heads_at (v : FVec Ideal S160x64 .bf16) (σ : FVec Ideal S256x1 .f32) (s : FVec Ideal S256x160 .f32) (R : Fin 256) (d : Fin 64) :
    heads v σ s (ix2 R d)
      = Ideal.div (∑ k : Fin 160, Ideal.exp (s (ix2 R k) - top (fun k : Fin 160 => s (ix2 R k)) (σ (ix2 R 0))) * v (ix2 k d))
          (den (fun k : Fin 160 => s (ix2 R k)) (σ (ix2 R 0))) := by
  pointwise [heads, rowTop, rowExp, top, den]

/-- One score. -/
theorem scores_at (q : FVec Ideal S256x64 .f32) (kh : FVec Ideal S160x64 .bf16) (R : Fin 256) (k : Fin 160) :
    scores (truncf .bf16 q bitsLt_bf16_f32) kh (ix2 R k) = (∑ d : Fin 64, q (ix2 R d) * kh (ix2 k d)) * Ideal.ofBits .f32 0x3E000000#32 := by
  pointwise [scores]

/-- The first head's columns read. -/
theorem vals0_at (vv : FVec Ideal S160x128 .f32) (k : Fin 160) (d : Fin 64) :
    (show EReal from vals0 vv (ix2 k d)) = vv (ix2 k (⟨d, by omega⟩ : Fin 128)) := by
  pointwise [vals0]

/-- The second head's columns read. -/
theorem vals1_at (vv : FVec Ideal S160x128 .f32) (k : Fin 160) (d : Fin 64) :
    (show EReal from vals1 vv (ix2 k d)) = vv (ix2 k (⟨64 + d, by omega⟩ : Fin 128)) := by
  pointwise [vals1]

/-- An element of a head's tile, in the first stack for the first eight heads and in the second for the others. -/
theorem otile_at (A B : FVec Ideal S256x64 .f32) (h : Fin 16) (r : Fin 32) (d : Fin 64) :
    otile A B h (ix2 r d) = (if (h : ℕ) < 8 then A else B) (ix2 (⟨h % 8 * 32 + r, by omega⟩ : Fin 256) d) := by
  fin_cases h <;> (simp only [otile]; pointwise) <;> (first | rw [if_pos (by simp)] | rw [if_neg (by simp)]) <;>
    exact congrArg _ ((ix2_inj ..).2 ⟨Fin.ext (by simp), Fin.ext (by simp)⟩)

/-- A stored element is an averaged value of its head. -/
theorem stored_at (q : FVec Ideal S32x1024 .f32) (kk vv : FVec Ideal S160x128 .f32) (σ0 σ1 : FVec Ideal S256x1 .f32) (r : Fin 32) (l : Fin 1024) :
    stored q kk vv σ0 σ1 (ix2 r l)
      = (if (l : ℕ) / 64 < 8 then heads (vals0 vv) σ0 (scores (truncf .bf16 (stack (qtile0 q)) bitsLt_bf16_f32) (vals0 kk))
          else heads (vals1 vv) σ1 (scores (truncf .bf16 (stack (qtile1 q)) bitsLt_bf16_f32) (vals1 kk)))
          (ix2 (⟨l / 64 % 8 * 32 + r, by omega⟩ : Fin 256) (⟨(l : ℕ) % 64, by omega⟩ : Fin 64)) :=
  (beside_at (otile _ _) r l).trans (otile_at _ _ _ r _)

/-- The scores of head `l / 64` in row `r` of a block. -/
def blockScores (q : FVec Ideal S32x1024 .f32) (kk : FVec Ideal S160x128 .f32) (r : Fin 32) (l : Fin 1024) (k : Fin 160) : EReal :=
  (∑ d : Fin 64, q (ix2 r (⟨(l : ℕ) / 64 * 64 + d, by omega⟩ : Fin 1024)) * kk (ix2 k (⟨(l : ℕ) / 64 / 8 * 64 + d, by omega⟩ : Fin 128)))
    * Ideal.ofBits .f32 0x3E000000#32

/-- The scores of a row of the first stack. -/
theorem scores0_eq (q : FVec Ideal S32x1024 .f32) (kk : FVec Ideal S160x128 .f32) (r : Fin 32) (l : Fin 1024) (hl : (l : ℕ) / 64 < 8) (k : Fin 160) :
    scores (truncf .bf16 (stack (qtile0 q)) bitsLt_bf16_f32) (vals0 kk) (ix2 (⟨(l : ℕ) / 64 % 8 * 32 + r, by omega⟩ : Fin 256) k) = blockScores q kk r l k := by
  rw [scores_at]
  unfold blockScores
  congr 1
  refine Finset.sum_congr rfl fun d _ => ?_
  rw [stack_at, qtile0_at]
  exact Ideal.mul_congr (congrArg q ((ix2_inj ..).2 ⟨Fin.ext (by simp only []; omega), Fin.ext (by simp only []; omega)⟩))
    ((vals0_at kk k d).trans (congrArg _ ((ix2_inj ..).2 ⟨rfl, Fin.ext (by simp only []; omega)⟩)))

/-- The scores of a row of the second stack. -/
theorem scores1_eq (q : FVec Ideal S32x1024 .f32) (kk : FVec Ideal S160x128 .f32) (r : Fin 32) (l : Fin 1024) (hl : ¬ (l : ℕ) / 64 < 8) (k : Fin 160) :
    scores (truncf .bf16 (stack (qtile1 q)) bitsLt_bf16_f32) (vals1 kk) (ix2 (⟨(l : ℕ) / 64 % 8 * 32 + r, by omega⟩ : Fin 256) k) = blockScores q kk r l k := by
  rw [scores_at]
  unfold blockScores
  congr 1
  refine Finset.sum_congr rfl fun d _ => ?_
  rw [stack_at, qtile1_at]
  exact Ideal.mul_congr (congrArg q ((ix2_inj ..).2 ⟨Fin.ext (by simp only []; omega), Fin.ext (by simp only []; omega)⟩))
    ((vals1_at kk k d).trans (congrArg _ ((ix2_inj ..).2 ⟨rfl, Fin.ext (by simp only []; omega)⟩)))

/-- A stored element from the block's keys and values. -/
theorem stored_row (q : FVec Ideal S32x1024 .f32) (kk vv : FVec Ideal S160x128 .f32) (w : Fin 16 → EReal) (r : Fin 32) (l : Fin 1024) :
    stored q kk vv (k0_pay11 (F := Ideal) (w 0) (w 1) (w 2) (w 3) (w 4) (w 5) (w 6) (w 7))
        (k0_pay11 (F := Ideal) (w 8) (w 9) (w 10) (w 11) (w 12) (w 13) (w 14) (w 15)) (ix2 r l)
      = Ideal.div (∑ k : Fin 160, Ideal.exp (blockScores q kk r l k - top (blockScores q kk r l) (w ⟨(l : ℕ) / 64, by omega⟩))
            * vv (ix2 k (⟨(l : ℕ) / 64 / 8 * 64 + (l : ℕ) % 64, by omega⟩ : Fin 128)))
          (den (blockScores q kk r l) (w ⟨(l : ℕ) / 64, by omega⟩)) := by
  rw [stored_at]
  by_cases hl : (l : ℕ) / 64 < 8
  · rw [if_pos hl, heads_at]
    have hσ := (sinks_at (fun g : Fin 8 => w ⟨g, by omega⟩) ⟨(l : ℕ) / 64 % 8, by omega⟩ r).trans
      (show w ⟨(l : ℕ) / 64 % 8, by omega⟩ = w ⟨(l : ℕ) / 64, by omega⟩ from congrArg w (Fin.ext (by simp only []; omega)))
    have hs := fun k : Fin 160 => scores0_eq q kk r l hl k
    simp only [hs]
    erw [hσ]
    congr 1
    refine Finset.sum_congr rfl fun k _ => ?_
    exact Ideal.mul_congr rfl ((vals0_at vv k _).trans (congrArg _ ((ix2_inj ..).2 ⟨rfl, Fin.ext (by simp only []; omega)⟩)))
  · rw [if_neg hl, heads_at]
    have hσ := (sinks_at (fun g : Fin 8 => w ⟨8 + g, by omega⟩) ⟨(l : ℕ) / 64 % 8, by omega⟩ r).trans
      (show w ⟨8 + (l : ℕ) / 64 % 8, by omega⟩ = w ⟨(l : ℕ) / 64, by omega⟩ from congrArg w (Fin.ext (by simp only []; omega)))
    have hs := fun k : Fin 160 => scores1_eq q kk r l hl k
    simp only [hs]
    erw [hσ]
    congr 1
    refine Finset.sum_congr rfl fun k _ => ?_
    exact Ideal.mul_congr rfl ((vals1_at vv k _).trans (congrArg _ ((ix2_inj ..).2 ⟨rfl, Fin.ext (by simp only []; omega)⟩)))

/-- The cached rows and the new rows set below them, read. -/
theorem both_at (a : FVec Ideal S128x128 .f32) (b : FVec Ideal S32x128 .f32) (k : Fin 160) (l : Fin 128) :
    (show EReal from k0_pay7 (F := Ideal) a b (ix2 k l)) = if h : k.val < 128 then a (ix2 (⟨k.val, h⟩ : Fin 128) l) else b (ix2 (⟨k.val - 128, by omega⟩ : Fin 32) l) := by
  pointwise [k0_pay7]

/-- The window stored: the newest 128 of the 160 rows. -/
theorem window_at (kk : FVec Ideal S160x128 .f32) (k l : Fin 128) :
    (show EReal from k0_pay5 (F := Ideal) kk (ix2 k l)) = kk (ix2 (⟨32 + k.val, by omega⟩ : Fin 160) l) := by
  pointwise [k0_pay5]

/-- The stored payload, as the body composes it, is `stored`. -/
theorem stored_eq (q : FVec Ideal S32x1024 .f32) (ck cv : FVec Ideal S128x128 .f32) (kn vn : FVec Ideal S32x128 .f32)
    (w0 w1 w2 w3 w4 w5 w6 w7 u0 u1 u2 u3 u4 u5 u6 u7 : Ideal .f32) :
    k0_pay4 (k0_pay14 (k0_pay9 ck kn) (k0_pay10 cv vn) (k0_pay11 w0 w1 w2 w3 w4 w5 w6 w7) (k0_pay12 q) (constant S256x160 .f32 0x00000000#32)) (k0_pay15 (k0_pay9 ck kn) (k0_pay10 cv vn) (k0_pay11 w0 w1 w2 w3 w4 w5 w6 w7) (k0_pay12 q) (constant S256x160 .f32 0x00000000#32)) (k0_pay16 (k0_pay9 ck kn) (k0_pay10 cv vn) (k0_pay11 w0 w1 w2 w3 w4 w5 w6 w7) (k0_pay12 q) (constant S256x160 .f32 0x00000000#32)) (k0_pay17 (k0_pay9 ck kn) (k0_pay10 cv vn) (k0_pay11 w0 w1 w2 w3 w4 w5 w6 w7) (k0_pay12 q) (constant S256x160 .f32 0x00000000#32)) (k0_pay18 (k0_pay9 ck kn) (k0_pay10 cv vn) (k0_pay11 w0 w1 w2 w3 w4 w5 w6 w7) (k0_pay12 q) (constant S256x160 .f32 0x00000000#32)) (k0_pay19 (k0_pay9 ck kn) (k0_pay10 cv vn) (k0_pay11 w0 w1 w2 w3 w4 w5 w6 w7) (k0_pay12 q) (constant S256x160 .f32 0x00000000#32)) (k0_pay20 (k0_pay9 ck kn) (k0_pay10 cv vn) (k0_pay11 w0 w1 w2 w3 w4 w5 w6 w7) (k0_pay12 q) (constant S256x160 .f32 0x00000000#32)) (k0_pay21 (k0_pay9 ck kn) (k0_pay10 cv vn) (k0_pay11 w0 w1 w2 w3 w4 w5 w6 w7) (k0_pay12 q) (constant S256x160 .f32 0x00000000#32))
      (k0_pay22 (k0_pay7 ck kn)) (k0_pay23 (k0_pay8 cv vn)) (k0_pay24 q)
      (k0_pay1 (k0_pay25 u0) (k0_pay26 u1) (k0_pay27 u2) (k0_pay28 u3) (k0_pay29 u4) u5 u6 u7)
      (k0_pay3 (k0_pay22 (k0_pay7 ck kn)) (k0_pay24 q) (k0_pay1 (k0_pay25 u0) (k0_pay26 u1) (k0_pay27 u2) (k0_pay28 u3) (k0_pay29 u4) u5 u6 u7))
    = stored q (k0_pay7 ck kn) (k0_pay7 cv vn) (k0_pay11 w0 w1 w2 w3 w4 w5 w6 w7) (k0_pay11 u0 u1 u2 u3 u4 u5 u6 u7) := rfl

end Cert.Step
-- ==== Proof.Step.Kernel.lean ====
/- The sampled batch's attention: the kernel's three result arrays as functions of its arguments. -/
module

public import proofs.«01_k».proof.Proof.Gen.KernelStepIdeal.Frame
public import proofs.«01_k».proof.Proof.Step.Block
public import Idealize.ShloMosaic.Lib.StableHlo.RunRead

@[expose] public section

set_option maxRecDepth 16384

noncomputable section

namespace Cert.Step

open Idealize.ShloMosaic Idealize.ShloMosaic.TcCoe Idealize.SL.Sem
open Idealize.ShloMosaic.Pipeline (Dat)
open Cert.KernelStepIdeal Cert.KernelStepIdeal.Gen
open Cert.Attn (top den)

variable (m : (ℓ : Loc nD τ sig) → Buf (Elt Ideal) ℓ)

/-- The windows' blocks at every grid point: one sequence each. -/
theorem idx_val : ∀ t : Fin cfg0.N,
    win0_0.index t = ![0] ∧ win0_1.index t = ![t.val, 3] ∧ win0_2.index t = ![t.val, 36] ∧ win0_3.index t = ![t.val, 37]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, _)

/-- Slot `k` of sequence `b` at column `l` of a group of 128: the first 128 slots are the cache's, the other 32 are the
    sequence's new rows, in the columns of the projections that start at `base`. -/
def joinAt (X : FVec Ideal S256x4864 .f32) (C : FVec Ideal S8x128x2x64 .f32) (base : ℕ) (hb : base ≤ 4736) (b : Fin 8) (k : Fin 160) (l : Fin 128) : EReal :=
  if h : (k : ℕ) < 128 then C (ix4 b (⟨k, h⟩ : Fin 128) (⟨(l : ℕ) / 64, by omega⟩ : Fin 2) (⟨(l : ℕ) % 64, by omega⟩ : Fin 64))
  else X (ix2 (⟨b * 32 + (k - 128), by omega⟩ : Fin 256) (⟨base + l, by omega⟩ : Fin 4864))

/-- The keys of sequence `b`. -/
def keyAt (X : FVec Ideal S256x4864 .f32) (C : FVec Ideal S8x128x2x64 .f32) (b : Fin 8) (k : Fin 160) (l : Fin 128) : EReal :=
  joinAt X C 4608 (by omega) b k l

/-- The values of sequence `b`. -/
def valAt (X : FVec Ideal S256x4864 .f32) (C : FVec Ideal S8x128x2x64 .f32) (b : Fin 8) (k : Fin 160) (l : Fin 128) : EReal :=
  joinAt X C 4736 (by omega) b k l

/-- The scores of row `R` and head `h`. -/
def rowScores (X : FVec Ideal S256x4864 .f32) (C : FVec Ideal S8x128x2x64 .f32) (R : Fin 256) (h : Fin 16) (k : Fin 160) : EReal :=
  (∑ d : Fin 64, X (ix2 R (⟨3072 + ((h : ℕ) * 64 + d), by omega⟩ : Fin 4864))
    * keyAt X C ⟨(R : ℕ) / 32, by omega⟩ k ⟨(h : ℕ) / 8 * 64 + d, by omega⟩) * Ideal.ofBits .f32 0x3E000000#32

/-- The kernel's first result at row `R` and column `l`. -/
def outAt (X : FVec Ideal S256x4864 .f32) (w : FVec Ideal S16 .f32) (C D : FVec Ideal S8x128x2x64 .f32) (R : Fin 256) (l : Fin 1024) : EReal :=
  Ideal.div (∑ k : Fin 160, Ideal.exp (rowScores X C R ⟨(l : ℕ) / 64, by omega⟩ k
        - top (rowScores X C R ⟨(l : ℕ) / 64, by omega⟩) (w (ix1 (⟨(l : ℕ) / 64, by omega⟩ : Fin 16))))
      * valAt X D ⟨(R : ℕ) / 32, by omega⟩ k ⟨(l : ℕ) / 64 / 8 * 64 + (l : ℕ) % 64, by omega⟩)
    (den (rowScores X C R ⟨(l : ℕ) / 64, by omega⟩) (w (ix1 (⟨(l : ℕ) / 64, by omega⟩ : Fin 16))))

/-- The kernel's first result array. -/
def out (X : FVec Ideal S256x4864 .f32) (w : FVec Ideal S16 .f32) (C D : FVec Ideal S8x128x2x64 .f32) : FVec Ideal S256x1024 .bf16 :=
  fun j => outAt X w C D (j 0) (j 1)

/-- The next step's cached keys at row `R` and column `l`: the newest 128 slots. -/
def keyWinAt (X : FVec Ideal S256x4864 .f32) (C : FVec Ideal S8x128x2x64 .f32) (R : Fin 1024) (l : Fin 128) : EReal :=
  keyAt X C ⟨(R : ℕ) / 128, by omega⟩ ⟨32 + (R : ℕ) % 128, by omega⟩ l

/-- The next step's cached values at row `R` and column `l`. -/
def valWinAt (X : FVec Ideal S256x4864 .f32) (C : FVec Ideal S8x128x2x64 .f32) (R : Fin 1024) (l : Fin 128) : EReal :=
  valAt X C ⟨(R : ℕ) / 128, by omega⟩ ⟨32 + (R : ℕ) % 128, by omega⟩ l

/-- The next step's cached keys. -/
def keyWin (X : FVec Ideal S256x4864 .f32) (C : FVec Ideal S8x128x2x64 .f32) : FVec Ideal S1024x128 .f32 := fun j => keyWinAt X C (j 0) (j 1)

/-- The next step's cached values. -/
def valWin (X : FVec Ideal S256x4864 .f32) (C : FVec Ideal S8x128x2x64 .f32) : FVec Ideal S1024x128 .f32 := fun j => valWinAt X C (j 0) (j 1)

/-- The query block read: 32 rows, the 1024 query columns. -/
theorem q_at (c : Dev nD) (t : Fin cfg0.N) (r : Fin 32) (l : Fin 1024) (R : Fin 256) (L : Fin 4864) (hR : (R : ℕ) = t.val * 32 + r) (hL : (L : ℕ) = 3072 + l) :
    (show EReal from X0_1 m c t (ix2 r l)) = (show EReal from m ((c : Thread nD τ).loc main_arg0) (ix2 R L)) := by
  unfold X0_1 Pipeline.Window.fill
  rw [dif_pos (moved0_1 t _)]
  blk_ext [iblk, V, idx_val t]

/-- The new keys read. -/
theorem kn_at (c : Dev nD) (t : Fin cfg0.N) (r : Fin 32) (l : Fin 128) (R : Fin 256) (L : Fin 4864) (hR : (R : ℕ) = t.val * 32 + r) (hL : (L : ℕ) = 4608 + l) :
    (show EReal from iblk m c 2 t (ix2 r l)) = (show EReal from m ((c : Thread nD τ).loc main_arg0) (ix2 R L)) := by
  blk_ext [iblk, V, idx_val t]

/-- The new values read. -/
theorem vn_at (c : Dev nD) (t : Fin cfg0.N) (r : Fin 32) (l : Fin 128) (R : Fin 256) (L : Fin 4864) (hR : (R : ℕ) = t.val * 32 + r) (hL : (L : ℕ) = 4736 + l) :
    (show EReal from iblk m c 3 t (ix2 r l)) = (show EReal from m ((c : Thread nD τ).loc main_arg0) (ix2 R L)) := by
  blk_ext [iblk, V, idx_val t]

/-- The cached keys as the host hands them over. -/
theorem ck_entry (c : Dev nD) (R : Fin 1024) (l : Fin 128) :
    (show EReal from V m c main_v0 (ix2 R l)) = (show EReal from m ((c : Thread nD τ).loc main_arg2)
      (ix4 (⟨(R : ℕ) / 128, by omega⟩ : Fin 8) (⟨(R : ℕ) % 128, by omega⟩ : Fin 128) (⟨(l : ℕ) / 64, by omega⟩ : Fin 2) (⟨(l : ℕ) % 64, by omega⟩ : Fin 64))) := by
  entry_read
  pointwise

/-- The cached values as the host hands them over. -/
theorem cv_entry (c : Dev nD) (R : Fin 1024) (l : Fin 128) :
    (show EReal from V m c main_v1 (ix2 R l)) = (show EReal from m ((c : Thread nD τ).loc main_arg3)
      (ix4 (⟨(R : ℕ) / 128, by omega⟩ : Fin 8) (⟨(R : ℕ) % 128, by omega⟩ : Fin 128) (⟨(l : ℕ) / 64, by omega⟩ : Fin 2) (⟨(l : ℕ) % 64, by omega⟩ : Fin 64))) := by
  entry_read
  pointwise

/-- The cached keys' block, of the host's array. -/
theorem ck_blk (c : Dev nD) (t : Fin cfg0.N) (r l : Fin 128) (R : Fin 1024) (hR : (R : ℕ) = t.val * 128 + r) :
    (show EReal from iblk m c 4 t (ix2 r l)) = (show EReal from V m c main_v0 (ix2 R l)) := by
  blk_ext [iblk, idx_val t]

/-- The cached values' block, of the host's array. -/
theorem cv_blk (c : Dev nD) (t : Fin cfg0.N) (r l : Fin 128) (R : Fin 1024) (hR : (R : ℕ) = t.val * 128 + r) :
    (show EReal from iblk m c 5 t (ix2 r l)) = (show EReal from V m c main_v1 (ix2 R l)) := by
  blk_ext [iblk, idx_val t]

/-- The cached keys read. -/
theorem ck_at (c : Dev nD) (t : Fin cfg0.N) (r l : Fin 128) (b : Fin 8) (hb : (b : ℕ) = t.val) :
    (show EReal from iblk m c 4 t (ix2 r l)) = (show EReal from m ((c : Thread nD τ).loc main_arg2)
      (ix4 b r (⟨(l : ℕ) / 64, by omega⟩ : Fin 2) (⟨(l : ℕ) % 64, by omega⟩ : Fin 64))) := by
  have hR : (b : ℕ) * 128 + r < 1024 := by omega
  refine (ck_blk m c t r l ⟨b * 128 + r, hR⟩ (by simp only []; omega)).trans ((ck_entry m c _ l).trans ?_)
  refine congrArg (m ((c : Thread nD τ).loc main_arg2)) ?_
  exact congrArg₂ (fun (x : Fin 8) (y : Fin 128) => (ix4 x y (⟨(l : ℕ) / 64, by omega⟩ : Fin 2) (⟨(l : ℕ) % 64, by omega⟩ : Fin 64) : S8x128x2x64.Idx))
    (Fin.ext (by simp only []; omega)) (Fin.ext (by simp only []; omega))

/-- The cached values read. -/
theorem cv_at (c : Dev nD) (t : Fin cfg0.N) (r l : Fin 128) (b : Fin 8) (hb : (b : ℕ) = t.val) :
    (show EReal from iblk m c 5 t (ix2 r l)) = (show EReal from m ((c : Thread nD τ).loc main_arg3)
      (ix4 b r (⟨(l : ℕ) / 64, by omega⟩ : Fin 2) (⟨(l : ℕ) % 64, by omega⟩ : Fin 64))) := by
  have hR : (b : ℕ) * 128 + r < 1024 := by omega
  refine (cv_blk m c t r l ⟨b * 128 + r, hR⟩ (by simp only []; omega)).trans ((cv_entry m c _ l).trans ?_)
  refine congrArg (m ((c : Thread nD τ).loc main_arg3)) ?_
  exact congrArg₂ (fun (x : Fin 8) (y : Fin 128) => (ix4 x y (⟨(l : ℕ) / 64, by omega⟩ : Fin 2) (⟨(l : ℕ) % 64, by omega⟩ : Fin 64) : S8x128x2x64.Idx))
    (Fin.ext (by simp only []; omega)) (Fin.ext (by simp only []; omega))

/-- The keys the body sees at point `t` are sequence `t`'s. -/
theorem keys_at (c : Dev nD) (t : Fin cfg0.N) (k : Fin 160) (l : Fin 128) (b : Fin 8) (hb : (b : ℕ) = t.val) :
    (show EReal from k0_pay7 (F := Ideal) (iblk m c 4 t) (iblk m c 2 t) (ix2 k l))
      = keyAt (m ((c : Thread nD τ).loc main_arg0)) (m ((c : Thread nD τ).loc main_arg2)) b k l := by
  refine (both_at _ _ k l).trans ?_
  unfold keyAt joinAt
  by_cases h : (k : ℕ) < 128
  · rw [dif_pos h, dif_pos h]
    exact ck_at m c t _ l b hb
  · rw [dif_neg h, dif_neg h]
    exact kn_at m c t _ l _ _ (by simp only []; omega) rfl

/-- The values the body sees at point `t` are sequence `t`'s. -/
theorem vals_at (c : Dev nD) (t : Fin cfg0.N) (k : Fin 160) (l : Fin 128) (b : Fin 8) (hb : (b : ℕ) = t.val) :
    (show EReal from k0_pay7 (F := Ideal) (iblk m c 5 t) (iblk m c 3 t) (ix2 k l))
      = valAt (m ((c : Thread nD τ).loc main_arg0)) (m ((c : Thread nD τ).loc main_arg3)) b k l := by
  refine (both_at _ _ k l).trans ?_
  unfold valAt joinAt
  by_cases h : (k : ℕ) < 128
  · rw [dif_pos h, dif_pos h]
    exact cv_at m c t _ l b hb
  · rw [dif_neg h, dif_neg h]
    exact vn_at m c t _ l _ _ (by simp only []; omega) rfl

/-- The sink logits as the body reads them. -/
def sblk (c : Dev nD) (t : Fin cfg0.N) (h : Fin 16) : EReal := iblk m c 0 t (ix1 h)

/-- The sink logits are the argument's. -/
theorem sblk_at (c : Dev nD) (t : Fin cfg0.N) (h : Fin 16) :
    sblk m c t h = (show EReal from m ((c : Thread nD τ).loc main_arg1) (ix1 h)) := by
  unfold sblk
  blk_ext [iblk, V, idx_val t]

/-- What the body stores at block index `(r, l)` of point `t` is the first result at the array index that it sits at. -/
theorem point (c : Dev nD) (t : Fin cfg0.N) (r : Fin 32) (l : Fin 1024) (h : t.val * 32 + r.val < 256) :
    stored (X0_1 m c t) (k0_pay7 (iblk m c 4 t) (iblk m c 2 t)) (k0_pay7 (iblk m c 5 t) (iblk m c 3 t))
        (k0_pay11 (F := Ideal) (iblk m c 0 t (ix1 0)) (iblk m c 0 t (ix1 1)) (iblk m c 0 t (ix1 2)) (iblk m c 0 t (ix1 3))
          (iblk m c 0 t (ix1 4)) (iblk m c 0 t (ix1 5)) (iblk m c 0 t (ix1 6)) (iblk m c 0 t (ix1 7)))
        (k0_pay11 (F := Ideal) (iblk m c 0 t (ix1 8)) (iblk m c 0 t (ix1 9)) (iblk m c 0 t (ix1 10)) (iblk m c 0 t (ix1 11))
          (iblk m c 0 t (ix1 12)) (iblk m c 0 t (ix1 13)) (iblk m c 0 t (ix1 14)) (iblk m c 0 t (ix1 15))) (ix2 r l)
      = outAt (m ((c : Thread nD τ).loc main_arg0)) (m ((c : Thread nD τ).loc main_arg1)) (m ((c : Thread nD τ).loc main_arg2))
          (m ((c : Thread nD τ).loc main_arg3)) ⟨t.val * 32 + r, h⟩ l := by
  refine (stored_row (X0_1 m c t) (k0_pay7 (iblk m c 4 t) (iblk m c 2 t)) (k0_pay7 (iblk m c 5 t) (iblk m c 3 t)) (sblk m c t) r l).trans ?_
  have hS : blockScores (X0_1 m c t) (k0_pay7 (iblk m c 4 t) (iblk m c 2 t)) r l
      = rowScores (m ((c : Thread nD τ).loc main_arg0)) (m ((c : Thread nD τ).loc main_arg2)) ⟨t.val * 32 + r, h⟩ ⟨(l : ℕ) / 64, by omega⟩ := by
    funext k
    unfold blockScores rowScores
    congr 1
    refine Finset.sum_congr rfl fun d _ => Ideal.mul_congr ?_ ?_
    · exact q_at m c t r _ _ _ rfl rfl
    · exact keys_at m c t k _ _ (by simp only []; omega)
  unfold outAt
  rw [hS, sblk_at]
  congr 1
  refine Finset.sum_congr rfl fun k _ => Ideal.mul_congr rfl ?_
  exact vals_at m c t k _ _ (by simp only []; omega)

/-- The first result array after the run. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold outsAt0 out0_A_6; frame_out
  have ht : t.val < 8 := t.isLt
  obtain ⟨r, l, rfl⟩ : ∃ (r : Fin 32) (l : Fin 1024), y = ix2 r l := ⟨y 0, y 1, eq_ix2 y⟩
  refine (congrFun (stored_eq _ _ _ _ _ _ _ _ _ _ _ _ _ _ _ _ _ _ _ _ _) _).trans ?_
  refine Eq.trans ?_ (show outAt _ _ _ _ (⟨t.val * 32 + r, by omega⟩ : Fin 256) l = _ from congrArg₂ (outAt (m ((c : Thread nD τ).loc main_arg0)) (m ((c : Thread nD τ).loc main_arg1))
    (m ((c : Thread nD τ).loc main_arg2)) (m ((c : Thread nD τ).loc main_arg3))) (Fin.ext ?_) (Fin.ext ?_))
  · pointwise
    exact (point m c t r l (by omega))
  · blk_simp [idx_val t]
  · blk_simp [idx_val t]

/-- The next step's cached keys after the run. -/
theorem finalK (c : Dev nD) : (dats m 0 c).arrAt 7 (cfgs 0).N
    = keyWin (m ((c : Thread nD τ).loc main_arg0)) (m ((c : Thread nD τ).loc main_arg2)) := by
  refine (dats m 0 c).arrAt_eq_of_covers 7 _ (by decide +kernel) fun t _ y => ?_
  blk_simp
  rw [after0_7]; unfold outsAt0 out0_A_7; frame_out
  have ht : t.val < 8 := t.isLt
  obtain ⟨r, l, rfl⟩ : ∃ (r l : Fin 128), y = ix2 r l := ⟨y 0, y 1, eq_ix2 y⟩
  refine Eq.trans ?_ (show keyWinAt _ _ (⟨t.val * 128 + r, by omega⟩ : Fin 1024) l = _ from congrArg₂ (keyWinAt (m ((c : Thread nD τ).loc main_arg0))
    (m ((c : Thread nD τ).loc main_arg2))) (Fin.ext ?_) (Fin.ext ?_))
  · refine (window_at _ r l).trans ((keys_at m c t _ l ⟨t.val, ht⟩ rfl).trans ?_)
    unfold keyWinAt
    exact congrArg₂ (fun (b : Fin 8) (k : Fin 160) => keyAt _ _ b k l) (Fin.ext (by simp only []; omega)) (Fin.ext (by simp only []; omega))
  · blk_simp [idx_val t]
  · blk_simp [idx_val t]

/-- The next step's cached values after the run. -/
theorem finalV (c : Dev nD) : (dats m 0 c).arrAt 8 (cfgs 0).N
    = valWin (m ((c : Thread nD τ).loc main_arg0)) (m ((c : Thread nD τ).loc main_arg3)) := by
  refine (dats m 0 c).arrAt_eq_of_covers 8 _ (by decide +kernel) fun t _ y => ?_
  blk_simp
  rw [after0_8]; unfold outsAt0 out0_A_8; frame_out
  have ht : t.val < 8 := t.isLt
  obtain ⟨r, l, rfl⟩ : ∃ (r l : Fin 128), y = ix2 r l := ⟨y 0, y 1, eq_ix2 y⟩
  refine Eq.trans ?_ (show valWinAt _ _ (⟨t.val * 128 + r, by omega⟩ : Fin 1024) l = _ from congrArg₂ (valWinAt (m ((c : Thread nD τ).loc main_arg0))
    (m ((c : Thread nD τ).loc main_arg3))) (Fin.ext ?_) (Fin.ext ?_))
  · refine (window_at _ r l).trans ((vals_at m c t _ l ⟨t.val, ht⟩ rfl).trans ?_)
    unfold valWinAt
    exact congrArg₂ (fun (b : Fin 8) (k : Fin 160) => valAt _ _ b k l) (Fin.ext (by simp only []; omega)) (Fin.ext (by simp only []; omega))
  · blk_simp [idx_val t]
  · blk_simp [idx_val t]

end Cert.Step

end
-- ==== Proof.Step.Reference.lean ====
/- The sampled batch's reference attention read element by element. -/
module

public import proofs.«01_k».proof.Proof.Gen.ReferenceStepIdeal.Run
public import proofs.«01_k».proof.Proof.Step.Kernel

@[expose] public section

set_option maxRecDepth 16384

noncomputable section

namespace Cert.Step.Ref

open Idealize.ShloMosaic Idealize.ShloMosaic.TcCoe Idealize.SL.Sem
open Cert.ReferenceStepIdeal Cert.ReferenceStepIdeal.Gen
open Cert.Attn (top den average_eq scale_real sum_real)

/-- A cache and the new rows after it, by sequence. -/
def joined (C : FVec Ideal S8x128x2x64 .f32) (T : FVec Ideal S256x128 .f32) : FVec Ideal S8x160x2x64 .f32 :=
  concatenate S8x160x2x64 1 [⟨S8x128x2x64, C⟩, ⟨S8x32x2x64, (shapeCast _ T shapeCasts_S256x128_S8x32x2x64 : FVec Ideal S8x32x2x64 .f32)⟩] concatenates_S8x128x2x64_S8x32x2x64_S8x160x2x64_d1

/-- A slot of the cache and the new rows. -/
theorem joined_at (C : FVec Ideal S8x128x2x64 .f32) (T : FVec Ideal S256x128 .f32) (b : Fin 8) (k : Fin 160) (a : Fin 2) (d : Fin 64) :
    joined C T (ix4 b k a d) = if h : k.val < 128 then C (ix4 b (⟨k.val, h⟩ : Fin 128) a d)
      else T (ix2 (⟨b * 32 + (k.val - 128), by omega⟩ : Fin 256) (⟨a * 64 + d, by omega⟩ : Fin 128)) := by
  pointwise [joined]

/-- The keys' columns. -/
theorem kcol_at (X : FVec Ideal S256x4864 .f32) (r : Fin 256) (c : Fin 128) :
    extractStridedSlice S256x128 ![0, 4608] X slices_S256x4864_S256x128_0_4608 (ix2 r c) = X (ix2 r (⟨4608 + c, by omega⟩ : Fin 4864)) := by
  pointwise

/-- The values' columns. -/
theorem vcol_at (X : FVec Ideal S256x4864 .f32) (r : Fin 256) (c : Fin 128) :
    extractStridedSlice S256x128 ![0, 4736] X slices_S256x4864_S256x128_0_4736 (ix2 r c) = X (ix2 r (⟨4736 + c, by omega⟩ : Fin 4864)) := by
  pointwise

/-- The keys by sequence. -/
def keys (X : FVec Ideal S256x4864 .f32) (C : FVec Ideal S8x128x2x64 .f32) : FVec Ideal S8x160x2x64 .f32 :=
  joined C (extractStridedSlice S256x128 ![0, 4608] X slices_S256x4864_S256x128_0_4608)

/-- The values by sequence. -/
def vals (X : FVec Ideal S256x4864 .f32) (C : FVec Ideal S8x128x2x64 .f32) : FVec Ideal S8x160x2x64 .f32 :=
  joined C (extractStridedSlice S256x128 ![0, 4736] X slices_S256x4864_S256x128_0_4736)

/-- The reference's keys are the kernel's. -/
theorem keys_at (X : FVec Ideal S256x4864 .f32) (C : FVec Ideal S8x128x2x64 .f32) (b : Fin 8) (k : Fin 160) (a : Fin 2) (d : Fin 64) (l : Fin 128) (hl : (l : ℕ) = a * 64 + d) :
    keys X C (ix4 b k a d) = keyAt X C b k l := by
  refine (joined_at _ _ b k a d).trans ?_
  unfold keyAt joinAt
  by_cases h : (k : ℕ) < 128
  · rw [dif_pos h, dif_pos h]
    exact congrArg₂ (fun (x : Fin 2) (y : Fin 64) => C (ix4 b (⟨k, h⟩ : Fin 128) x y)) (Fin.ext (by simp only []; omega)) (Fin.ext (by simp only []; omega))
  · rw [dif_neg h, dif_neg h, kcol_at]
    exact congrArg X ((ix2_inj ..).2 ⟨rfl, Fin.ext (by simp only []; omega)⟩)

/-- The reference's values are the kernel's. -/
theorem vals_at (X : FVec Ideal S256x4864 .f32) (C : FVec Ideal S8x128x2x64 .f32) (b : Fin 8) (k : Fin 160) (a : Fin 2) (d : Fin 64) (l : Fin 128) (hl : (l : ℕ) = a * 64 + d) :
    vals X C (ix4 b k a d) = valAt X C b k l := by
  refine (joined_at _ _ b k a d).trans ?_
  unfold valAt joinAt
  by_cases h : (k : ℕ) < 128
  · rw [dif_pos h, dif_pos h]
    exact congrArg₂ (fun (x : Fin 2) (y : Fin 64) => C (ix4 b (⟨k, h⟩ : Fin 128) x y)) (Fin.ext (by simp only []; omega)) (Fin.ext (by simp only []; omega))
  · rw [dif_neg h, dif_neg h, vcol_at]
    exact congrArg X ((ix2_inj ..).2 ⟨rfl, Fin.ext (by simp only []; omega)⟩)

/-- The raw scores. -/
def raw (X : FVec Ideal S256x4864 .f32) (K : FVec Ideal S8x160x2x64 .f32) : FVec Ideal S8x2x160x32x8 .f32 :=
  Host.dotGeneral dot_S8x160x2x64_S8x32x2x8x64_S8x2x160x32x8_3_4_1_13_02_02 none K
    (shapeCast _ (shapeCast _ (extractStridedSlice S256x1024 ![0, 3072] X slices_S256x4864_S256x1024_0_3072) shapeCasts_S256x1024_S8x32x16x64) shapeCasts_S8x32x16x64_S8x32x2x8x64 : FVec Ideal S8x32x2x8x64 .f32)

/-- A raw score. -/
theorem raw_at (X : FVec Ideal S256x4864 .f32) (K : FVec Ideal S8x160x2x64 .f32) (b : Fin 8) (a : Fin 2) (k : Fin 160) (q : Fin 32) (g : Fin 8) :
    raw X K (ix5 b a k q g) = ∑ d : Fin 64, K (ix4 b k a d)
      * X (ix2 (⟨b * 32 + q, by omega⟩ : Fin 256) (⟨3072 + (a * 512 + g * 64 + d), by omega⟩ : Fin 4864)) := by
  pointwise [raw]

/-- The scaled scores. -/
def scores (X : FVec Ideal S256x4864 .f32) (K : FVec Ideal S8x160x2x64 .f32) : FVec Ideal S8x2x8x32x160 .f32 :=
  mulf (transpose S8x2x8x32x160 [0, 1, 4, 3, 2] (raw X K) transposes_S8x2x160x32x8_S8x2x8x32x160_0_1_4_3_2) (broadcastInDim S8x2x8x32x160 ![] bcast_S_S8x2x8x32x160 (constant S_ .f32 0x3E000000#32))

/-- A scaled score. -/
theorem scores_at (X : FVec Ideal S256x4864 .f32) (K : FVec Ideal S8x160x2x64 .f32) (b : Fin 8) (a : Fin 2) (g : Fin 8) (q : Fin 32) (k : Fin 160) :
    scores X K (ix5 b a g q k) = raw X K (ix5 b a k q g) * Ideal.ofBits .f32 0x3E000000#32 := by
  pointwise [scores]

/-- The sink logits by head. -/
def sinks (W : FVec Ideal S16 .f32) : FVec Ideal S8x2x8x32 .f32 :=
  broadcastInDim S8x2x8x32 ![0, 1, 2, 3] bcast_S1x2x8x1_S8x2x8x32_0_1_2_3 (broadcastInDim S1x2x8x1 ![1, 2, 3] bcast_S2x8x1_S1x2x8x1_1_2_3 (shapeCast _ W shapeCasts_S16_S2x8x1))

/-- A sink logit. -/
theorem sinks_at (W : FVec Ideal S16 .f32) (b : Fin 8) (a : Fin 2) (g : Fin 8) (q : Fin 32) :
    sinks W (ix4 b a g q) = W (ix1 (⟨a * 8 + g, by omega⟩ : Fin 16)) := by
  pointwise [sinks]

/-- A maximum of two arrays, at an entry. -/
theorem max_at {s : Shape} (x y : FVec Ideal s .f32) (j : s.Idx) : maximumf x y j = max (x j) (y j) := rfl

/-- The greatest score and sink of each row. -/
def tops (s : FVec Ideal S8x2x8x32x160 .f32) (σ : FVec Ideal S8x2x8x32 .f32) : FVec Ideal S8x2x8x32 .f32 :=
  maximumf (Host.reduce FloatOps.maximumf s (constant S_ .f32 0xFF800000#32) reducesTo_S8x2x8x32x160_S8x2x8x32_d4 h_S_) σ

/-- The source indices of one row. -/
theorem row_fiber (b : Fin 8) (a : Fin 2) (g : Fin 8) (q : Fin 32) (i : S8x2x8x32x160.Idx) :
    reducesTo_S8x2x8x32x160_S8x2x8x32_d4.drop i = ix4 b a g q ↔ ∃ k : Fin 160, ix5 b a g q k = i := by
  constructor
  · intro e
    refine ⟨i 4, ?_⟩
    funext x
    apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext x
    apply Fin.ext
    match x with
    | ⟨0, _⟩ => rfl
    | ⟨1, _⟩ => rfl
    | ⟨2, _⟩ => rfl
    | ⟨3, _⟩ => rfl

/-- Different slots are different indices. -/
theorem row_injective (b : Fin 8) (a : Fin 2) (g : Fin 8) (q : Fin 32) :
    Function.Injective (fun k : Fin 160 => (ix5 b a g q k : S8x2x8x32x160.Idx)) := fun _ _ e => congrFun e 4

/-- A row's sum on the host. -/
theorem row_sum (v : FVec Ideal S8x2x8x32x160 .f32) (b : Fin 8) (a : Fin 2) (g : Fin 8) (q : Fin 32) :
    Host.reduceAdd v (constant (F := Ideal) S_ .f32 0x00000000#32) reducesTo_S8x2x8x32x160_S8x2x8x32_d4 h_S_ (ix4 b a g q)
      = ∑ k : Fin 160, v (ix5 b a g q k) := by
  have h : (Finset.univ.filter fun i => reducesTo_S8x2x8x32x160_S8x2x8x32_d4.drop i = ix4 b a g q).sum v
      = ∑ k : Fin 160, v (ix5 b a g q k) :=
    Finset.sum_filter_eq_sum_of_fiber _ _ (row_injective b a g q) (row_fiber b a g q) v
  refine Eq.trans (show _ = Ideal.ofBits .f32 0x00000000#32 + (Finset.univ.filter fun i => reducesTo_S8x2x8x32x160_S8x2x8x32_d4.drop i = ix4 b a g q).sum v from rfl) ?_
  rw [h]
  pointwise

/-- A row's greatest on the host. -/
theorem row_max (v : FVec Ideal S8x2x8x32x160 .f32) (b : Fin 8) (a : Fin 2) (g : Fin 8) (q : Fin 32) :
    Host.reduce FloatOps.maximumf v (constant (F := Ideal) S_ .f32 0xFF800000#32) reducesTo_S8x2x8x32x160_S8x2x8x32_d4 h_S_ (ix4 b a g q)
      = (Finset.univ : Finset (Fin 160)).fold max (Ideal.ofBits .f32 0xFF800000#32) (fun k => v (ix5 b a g q k)) := by
  refine (Host.reduce_eq_fold (max : EReal → EReal → EReal) v (constant (F := Ideal) S_ .f32 0xFF800000#32)
    reducesTo_S8x2x8x32x160_S8x2x8x32_d4 h_S_ (ix4 b a g q)).trans ?_
  exact Finset.fold_filter_eq_fold_of_fiber (max : EReal → EReal → EReal) _ _ (row_injective b a g q) (row_fiber b a g q) _ v

/-- A row's greatest score or sink. -/
theorem tops_at (s : FVec Ideal S8x2x8x32x160 .f32) (σ : FVec Ideal S8x2x8x32 .f32) (b : Fin 8) (a : Fin 2) (g : Fin 8) (q : Fin 32) :
    tops s σ (ix4 b a g q) = top (fun k : Fin 160 => s (ix5 b a g q k)) (σ (ix4 b a g q)) := by
  unfold tops top
  rw [max_at, row_max]

/-- The exponentials of the scores less their row's greatest. -/
def exps (s : FVec Ideal S8x2x8x32x160 .f32) (t : FVec Ideal S8x2x8x32 .f32) : FVec Ideal S8x2x8x32x160 .f32 :=
  Host.exp (subf s (broadcastInDim S8x2x8x32x160 ![0, 1, 2, 3, 4] bcast_S8x2x8x32x1_S8x2x8x32x160_0_1_2_3_4 (broadcastInDim S8x2x8x32x1 ![0, 1, 2, 3] bcast_S8x2x8x32_S8x2x8x32x1_0_1_2_3 t)))

/-- The softmax denominators. -/
def dens (e : FVec Ideal S8x2x8x32x160 .f32) (σ t : FVec Ideal S8x2x8x32 .f32) : FVec Ideal S8x2x8x32 .f32 :=
  addf (Host.reduceAdd e (constant S_ .f32 0x00000000#32) reducesTo_S8x2x8x32x160_S8x2x8x32_d4 h_S_) (Host.exp (subf σ t))

/-- One exponential. -/
theorem exps_at (s : FVec Ideal S8x2x8x32x160 .f32) (t : FVec Ideal S8x2x8x32 .f32) (b : Fin 8) (a : Fin 2) (g : Fin 8) (q : Fin 32) (k : Fin 160) :
    exps s t (ix5 b a g q k) = Ideal.exp (s (ix5 b a g q k) - t (ix4 b a g q)) := by
  pointwise [exps]

/-- One denominator. -/
theorem dens_at (e : FVec Ideal S8x2x8x32x160 .f32) (σ t : FVec Ideal S8x2x8x32 .f32) (b : Fin 8) (a : Fin 2) (g : Fin 8) (q : Fin 32) :
    dens e σ t (ix4 b a g q) = (∑ k : Fin 160, e (ix5 b a g q k)) + Ideal.exp (σ (ix4 b a g q) - t (ix4 b a g q)) := by
  refine Eq.trans (congrArg (fun z => z + _) (row_sum e b a g q)) ?_
  rfl

/-- The softmax weights. -/
def weights (s : FVec Ideal S8x2x8x32x160 .f32) (σ : FVec Ideal S8x2x8x32 .f32) : FVec Ideal S8x2x8x32x160 .f32 :=
  Host.divf (exps s (tops s σ)) (broadcastInDim S8x2x8x32x160 ![0, 1, 2, 3, 4] bcast_S8x2x8x32x1_S8x2x8x32x160_0_1_2_3_4 (broadcastInDim S8x2x8x32x1 ![0, 1, 2, 3] bcast_S8x2x8x32_S8x2x8x32x1_0_1_2_3 (dens (exps s (tops s σ)) σ (tops s σ))))

/-- One weight is a quotient. -/
theorem weights_at (s : FVec Ideal S8x2x8x32x160 .f32) (σ : FVec Ideal S8x2x8x32 .f32) (b : Fin 8) (a : Fin 2) (g : Fin 8) (q : Fin 32) (k : Fin 160) :
    weights s σ (ix5 b a g q k) = Ideal.div (exps s (tops s σ) (ix5 b a g q k)) (dens (exps s (tops s σ)) σ (tops s σ) (ix4 b a g q)) := by
  pointwise [weights]

/-- One weight in terms of its row's scores and sink. -/
theorem weight_eq (s : FVec Ideal S8x2x8x32x160 .f32) (σ : FVec Ideal S8x2x8x32 .f32) (b : Fin 8) (a : Fin 2) (g : Fin 8) (q : Fin 32) (k : Fin 160) :
    weights s σ (ix5 b a g q k) = Ideal.div (Ideal.exp (s (ix5 b a g q k) - top (fun k : Fin 160 => s (ix5 b a g q k)) (σ (ix4 b a g q))))
      (den (fun k : Fin 160 => s (ix5 b a g q k)) (σ (ix4 b a g q))) := by
  rw [weights_at, dens_at]
  simp only [exps_at, tops_at]
  rfl

/-- The averaged values. -/
def averaged (v : FVec Ideal S8x160x2x64 .f32) (w : FVec Ideal S8x2x8x32x160 .f32) : FVec Ideal S256x1024 .bf16 :=
  truncf .bf16 (shapeCast _ (transpose S8x32x2x8x64 [0, 4, 1, 3, 2] (Host.dotGeneral dot_S8x160x2x64_S8x2x8x32x160_S8x2x64x8x32_1_4_3_23_02_01 none v w : FVec Ideal S8x2x64x8x32 .f32) transposes_S8x2x64x8x32_S8x32x2x8x64_0_4_1_3_2) shapeCasts_S8x32x2x8x64_S256x1024) bitsLt_bf16_f32

/-- One averaged entry. -/
theorem averaged_at (v : FVec Ideal S8x160x2x64 .f32) (w : FVec Ideal S8x2x8x32x160 .f32) (R : Fin 256) (l : Fin 1024) :
    averaged v w (ix2 R l) = ∑ k : Fin 160, v (ix4 (⟨R / 32, by omega⟩ : Fin 8) k (⟨l / 512, by omega⟩ : Fin 2) (⟨l % 64, by omega⟩ : Fin 64))
      * w (ix5 (⟨R / 32, by omega⟩ : Fin 8) (⟨l / 512, by omega⟩ : Fin 2) (⟨l / 64 % 8, by omega⟩ : Fin 8) (⟨R % 32, by omega⟩ : Fin 32) k) := by
  pointwise [averaged]

/-- The reference's score of a row against a slot is the kernel's. -/
theorem scores_row (X : FVec Ideal S256x4864 .f32) (C : FVec Ideal S8x128x2x64 .f32) (R : Fin 256) (l : Fin 1024) (k : Fin 160) :
    scores X (keys X C) (ix5 (⟨R / 32, by omega⟩ : Fin 8) (⟨l / 512, by omega⟩ : Fin 2) (⟨l / 64 % 8, by omega⟩ : Fin 8) (⟨R % 32, by omega⟩ : Fin 32) k)
      = rowScores X C R (⟨(l : ℕ) / 64, by omega⟩ : Fin 16) k := by
  rw [scores_at, raw_at]
  unfold rowScores
  refine congrArg (fun z : EReal => z * _) (Finset.sum_congr rfl fun d _ => ?_)
  refine (congrArg₂ (fun p q : EReal => p * q) (keys_at X C _ k _ d (⟨(l : ℕ) / 64 / 8 * 64 + d, by omega⟩ : Fin 128) (by simp only []; omega))
    (congrArg X ((ix2_inj ..).2 ⟨Fin.ext ?_, Fin.ext ?_⟩))).trans (mul_comm (G := EReal) _ _)
  · show (R : ℕ) / 32 * 32 + (R : ℕ) % 32 = R
    omega
  · show 3072 + ((l : ℕ) / 512 * 512 + (l : ℕ) / 64 % 8 * 64 + d) = 3072 + ((l : ℕ) / 64 * 64 + d)
    omega

/-- With real keys a key of either kind is real. -/
theorem keyAt_real (X : FVec Ideal S256x4864 .f32) (C : FVec Ideal S8x128x2x64 .f32) (hK : ∀ (r : Fin 256) (c : Fin 128), ∃ x : ℝ, X (ix2 r (⟨4608 + c, by omega⟩ : Fin 4864)) = x) (hC : ∀ i, ∃ r : ℝ, C i = r)
    (b : Fin 8) (k : Fin 160) (l : Fin 128) : ∃ r : ℝ, keyAt X C b k l = r := by
  unfold keyAt joinAt
  by_cases h : (k : ℕ) < 128
  · rw [dif_pos h]
    exact hC _
  · rw [dif_neg h]
    exact hK _ _

/-- With real queries and keys a score is real. -/
theorem rowScores_real (X : FVec Ideal S256x4864 .f32) (C : FVec Ideal S8x128x2x64 .f32) (hQ : ∀ (r : Fin 256) (c : Fin 1024), ∃ x : ℝ, X (ix2 r (⟨3072 + c, by omega⟩ : Fin 4864)) = x) (hK : ∀ (r : Fin 256) (c : Fin 128), ∃ x : ℝ, X (ix2 r (⟨4608 + c, by omega⟩ : Fin 4864)) = x) (hC : ∀ i, ∃ r : ℝ, C i = r)
    (R : Fin 256) (h : Fin 16) (k : Fin 160) : ∃ r : ℝ, rowScores X C R h k = r := by
  obtain ⟨c, hc⟩ := scale_real
  unfold rowScores
  rw [hc]
  obtain ⟨x, hx⟩ := sum_real Finset.univ (fun d : Fin 64 => (X (ix2 R (⟨3072 + (h * 64 + d), by omega⟩ : Fin 4864)) * keyAt X C ⟨(R : ℕ) / 32, by omega⟩ k ⟨h / 8 * 64 + d, by omega⟩ : EReal))
    fun d _ => by
      obtain ⟨y, hy⟩ := hQ R ⟨h * 64 + d, by omega⟩
      obtain ⟨z, hz⟩ := keyAt_real X C hK hC ⟨(R : ℕ) / 32, by omega⟩ k ⟨h / 8 * 64 + d, by omega⟩
      exact ⟨y * z, by rw [hy, hz, EReal.coe_mul]⟩
  exact ⟨x * c, by rw [EReal.coe_mul, ← hx]⟩

/-- For real queries, keys and cached keys, and sinks below +∞, the reference's steps give the kernel's first array. -/
theorem steps_eq (X : FVec Ideal S256x4864 .f32) (W : FVec Ideal S16 .f32) (C D : FVec Ideal S8x128x2x64 .f32)
    (hQ : ∀ (r : Fin 256) (c : Fin 1024), ∃ x : ℝ, X (ix2 r (⟨3072 + c, by omega⟩ : Fin 4864)) = x) (hK : ∀ (r : Fin 256) (c : Fin 128), ∃ x : ℝ, X (ix2 r (⟨4608 + c, by omega⟩ : Fin 4864)) = x) (hW : ∀ i, W i ≠ ⊤) (hC : ∀ i, ∃ r : ℝ, C i = r) :
    averaged (vals X D) (weights (scores X (keys X C)) (sinks W)) = Cert.Step.out X W C D := by
  funext j
  obtain ⟨R, l, rfl⟩ : ∃ (R : Fin 256) (l : Fin 1024), j = ix2 R l := ⟨j 0, j 1, eq_ix2 j⟩
  rw [averaged_at]
  obtain ⟨σ, hσ⟩ : ∃ σ : EReal, W (ix1 (⟨(l : ℕ) / 64, by omega⟩ : Fin 16)) = σ := ⟨_, rfl⟩
  have hσt : σ ≠ ⊤ := hσ ▸ hW _
  have hs : (fun k : Fin 160 => scores X (keys X C) (ix5 (⟨R / 32, by omega⟩ : Fin 8) (⟨l / 512, by omega⟩ : Fin 2) (⟨l / 64 % 8, by omega⟩ : Fin 8) (⟨R % 32, by omega⟩ : Fin 32) k))
      = rowScores X C R (⟨(l : ℕ) / 64, by omega⟩ : Fin 16) := funext fun k => scores_row X C R l k
  have hσ' : sinks W (ix4 (⟨R / 32, by omega⟩ : Fin 8) (⟨l / 512, by omega⟩ : Fin 2) (⟨l / 64 % 8, by omega⟩ : Fin 8) (⟨R % 32, by omega⟩ : Fin 32)) = (σ : EReal) := by
    rw [sinks_at, ← hσ]
    exact congrArg W (congrArg ix1 (Fin.ext (show (l : ℕ) / 512 * 8 + (l : ℕ) / 64 % 8 = (l : ℕ) / 64 by omega)))
  have hw : ∀ k : Fin 160, weights (scores X (keys X C)) (sinks W) (ix5 (⟨R / 32, by omega⟩ : Fin 8) (⟨l / 512, by omega⟩ : Fin 2) (⟨l / 64 % 8, by omega⟩ : Fin 8) (⟨R % 32, by omega⟩ : Fin 32) k)
      = Ideal.div (Ideal.exp (rowScores X C R (⟨(l : ℕ) / 64, by omega⟩ : Fin 16) k - top (rowScores X C R (⟨(l : ℕ) / 64, by omega⟩ : Fin 16)) (σ : EReal)))
        (den (rowScores X C R (⟨(l : ℕ) / 64, by omega⟩ : Fin 16)) (σ : EReal)) := by
    intro k
    rw [weight_eq, hs, hσ', ← congrFun hs k]
  refine (Finset.sum_congr rfl fun k _ => congrArg (fun z => _ * z) (hw k)).trans ?_
  refine (average_eq (rowScores X C R (⟨(l : ℕ) / 64, by omega⟩ : Fin 16))
    (fun k => valAt X D ⟨(R : ℕ) / 32, by omega⟩ k ⟨(l : ℕ) / 64 / 8 * 64 + (l : ℕ) % 64, by omega⟩) _ σ
    hσt (fun k => Or.inr (rowScores_real X C hQ hK hC R _ k)) ⟨0, rowScores_real X C hQ hK hC R _ 0⟩ fun k => Or.inr ?_).symm.trans ?_
  · exact vals_at X D _ k _ _ _ (by simp only []; omega)
  · unfold out outAt
    rw [← hσ]
    rfl

/-- The reference's first result is these steps composed. -/
theorem result_eq (m : (ℓ : Loc nD τ sig) → Buf (Elt Ideal) ℓ) (c : Dev nD) :
    Cert.ReferenceStepIdeal.Value.res_out0 m c = averaged
      (vals (m ((c.tc : Thread nD τ).loc main_arg0)) (m ((c.tc : Thread nD τ).loc main_arg3)))
      (weights (scores (m ((c.tc : Thread nD τ).loc main_arg0)) (keys (m ((c.tc : Thread nD τ).loc main_arg0)) (m ((c.tc : Thread nD τ).loc main_arg2))))
        (sinks (m ((c.tc : Thread nD τ).loc main_arg1)))) := rfl

/-- The newest 128 slots of each sequence, one row a slot. -/
def newest (K : FVec Ideal S8x160x2x64 .f32) : FVec Ideal S1024x128 .f32 :=
  shapeCast _ (extractStridedSlice S8x128x2x64 ![0, 32, 0, 0] K slices_S8x160x2x64_S8x128x2x64_0_32_0_0) shapeCasts_S8x128x2x64_S1024x128

/-- An entry of the newest slots. -/
theorem newest_at (K : FVec Ideal S8x160x2x64 .f32) (R : Fin 1024) (l : Fin 128) :
    newest K (ix2 R l) = K (ix4 (⟨R / 128, by omega⟩ : Fin 8) (⟨32 + R % 128, by omega⟩ : Fin 160) (⟨l / 64, by omega⟩ : Fin 2) (⟨l % 64, by omega⟩ : Fin 64)) := by
  pointwise [newest]

/-- The reference's next cached keys are the kernel's. -/
theorem keyWin_eq (X : FVec Ideal S256x4864 .f32) (C : FVec Ideal S8x128x2x64 .f32) : newest (keys X C) = keyWin X C := by
  funext j
  obtain ⟨R, l, rfl⟩ : ∃ (R : Fin 1024) (l : Fin 128), j = ix2 R l := ⟨j 0, j 1, eq_ix2 j⟩
  exact (newest_at _ R l).trans (keys_at X C _ _ _ _ l (by simp only []; omega))

/-- The reference's next cached values are the kernel's. -/
theorem valWin_eq (X : FVec Ideal S256x4864 .f32) (D : FVec Ideal S8x128x2x64 .f32) : newest (vals X D) = valWin X D := by
  funext j
  obtain ⟨R, l, rfl⟩ : ∃ (R : Fin 1024) (l : Fin 128), j = ix2 R l := ⟨j 0, j 1, eq_ix2 j⟩
  exact (newest_at _ R l).trans (vals_at X D _ _ _ _ l (by simp only []; omega))

end Cert.Step.Ref

end
-- ==== Proof.Step.Finite.lean ====
/- What the sampled batch's precondition says: the queries, keys and cached keys are real numbers and the sinks are below +∞. -/
module

public import proofs.«01_k».proof.Proof.Gen.Pre_finite_step
public import proofs.«01_k».proof.Proof.Attn.Finite

@[expose] public section

set_option maxRecDepth 16384

noncomputable section

namespace Cert.Step.Finite

open Idealize.ShloMosaic Cert.Pre_finite_step
open Cert.Attn.Finite (real_of_lt ne_top_of_lt)

/-- The precondition's first part: every query is real. -/
theorem queries (X : FVec Ideal S256x4864 .f32) (W : FVec Ideal S16 .f32) (C D : FVec Ideal S8x128x2x64 .f32)
    (h : (@Cert.Pre_finite_step.fn Cert.Pre_finite_step.Gen.facts Ideal _ X W C D).1 = fun _ => 1#1) (r : Fin 256) (c : Fin 1024) :
    ∃ x : ℝ, X (ix2 r (⟨3072 + c, by omega⟩ : Fin 4864)) = (x : EReal) := by
  obtain ⟨x, hx⟩ := real_of_lt _ (congrFun h (ix2 r c))
  have e : extractStridedSlice S256x1024 ![0, 3072] X Cert.Pre_finite_step.Gen.facts.slices_S256x4864_S256x1024_0_3072 (ix2 r c) = X (ix2 r (⟨3072 + c, by omega⟩ : Fin 4864)) := by
    pointwise
  exact ⟨x, e.symm.trans hx⟩

/-- The precondition's second part: every key is real. -/
theorem keys (X : FVec Ideal S256x4864 .f32) (W : FVec Ideal S16 .f32) (C D : FVec Ideal S8x128x2x64 .f32)
    (h : (@Cert.Pre_finite_step.fn Cert.Pre_finite_step.Gen.facts Ideal _ X W C D).2.1 = fun _ => 1#1) (r : Fin 256) (c : Fin 128) :
    ∃ x : ℝ, X (ix2 r (⟨4608 + c, by omega⟩ : Fin 4864)) = (x : EReal) := by
  obtain ⟨x, hx⟩ := real_of_lt _ (congrFun h (ix2 r c))
  have e : extractStridedSlice S256x128 ![0, 4608] X Cert.Pre_finite_step.Gen.facts.slices_S256x4864_S256x128_0_4608 (ix2 r c) = X (ix2 r (⟨4608 + c, by omega⟩ : Fin 4864)) := by
    pointwise
  exact ⟨x, e.symm.trans hx⟩

/-- The precondition's third part: no sink is +∞. -/
theorem sinks (X : FVec Ideal S256x4864 .f32) (W : FVec Ideal S16 .f32) (C D : FVec Ideal S8x128x2x64 .f32)
    (h : (@Cert.Pre_finite_step.fn Cert.Pre_finite_step.Gen.facts Ideal _ X W C D).2.2.1 = fun _ => 1#1) (i : S16.Idx) :
    W i ≠ ⊤ := ne_top_of_lt (W i) (congrFun h i)

/-- The precondition's fourth part: every cached key is real. -/
theorem cached (X : FVec Ideal S256x4864 .f32) (W : FVec Ideal S16 .f32) (C D : FVec Ideal S8x128x2x64 .f32)
    (h : (@Cert.Pre_finite_step.fn Cert.Pre_finite_step.Gen.facts Ideal _ X W C D).2.2.2 = fun _ => 1#1) (i : S8x128x2x64.Idx) :
    ∃ r : ℝ, C i = (r : EReal) := real_of_lt (C i) (congrFun h i)

end Cert.Step.Finite

end
-- ==== Proof.Step.Claims.lean ====
/- The claims of the sampled batch's attention. -/
module

public import proofs.«01_k».proof.Defs
public import proofs.«01_k».proof.Proof.Step.Reference
public import proofs.«01_k».proof.Proof.Step.Finite
public import Idealize.ShloMosaic.Adequacy
public import Idealize.ShloMosaic.Init

@[expose] public section

noncomputable section

namespace Cert.Step

open Idealize.ShloMosaic Idealize.ShloMosaic.TcCoe Idealize.SL.Sem

/-- The reference's first result is the kernel's array when every query, key and cached key is real and no sink is +∞. -/
theorem result_out (m : (ℓ : Loc Cert.ReferenceStepIdeal.nD Cert.ReferenceStepIdeal.τ Cert.ReferenceStepIdeal.sig) → Buf (Elt Ideal) ℓ) (c : Dev Cert.ReferenceStepIdeal.nD)
    (X : FVec Ideal Cert.KernelStepIdeal.S256x4864 .f32) (W : FVec Ideal Cert.KernelStepIdeal.S16 .f32) (C D : FVec Ideal Cert.KernelStepIdeal.S8x128x2x64 .f32)
    (h0 : m ((c.tc : Thread Cert.ReferenceStepIdeal.nD Cert.ReferenceStepIdeal.τ).loc Cert.ReferenceStepIdeal.main_arg0) = X)
    (h1 : m ((c.tc : Thread Cert.ReferenceStepIdeal.nD Cert.ReferenceStepIdeal.τ).loc Cert.ReferenceStepIdeal.main_arg1) = W)
    (h2 : m ((c.tc : Thread Cert.ReferenceStepIdeal.nD Cert.ReferenceStepIdeal.τ).loc Cert.ReferenceStepIdeal.main_arg2) = C)
    (h3 : m ((c.tc : Thread Cert.ReferenceStepIdeal.nD Cert.ReferenceStepIdeal.τ).loc Cert.ReferenceStepIdeal.main_arg3) = D)
    (hQ : ∀ (r : Fin 256) (c : Fin 1024), ∃ x : ℝ, X (ix2 r (⟨3072 + c, by omega⟩ : Fin 4864)) = x) (hK : ∀ (r : Fin 256) (c : Fin 128), ∃ x : ℝ, X (ix2 r (⟨4608 + c, by omega⟩ : Fin 4864)) = x) (hW : ∀ i, W i ≠ ⊤) (hC : ∀ i, ∃ r : ℝ, C i = r) :
    Cert.ReferenceStepIdeal.Value.res_out0 m c = out X W C D := by
  refine (Ref.result_eq m c).trans ?_
  rw [h0, h1, h2, h3]
  exact Ref.steps_eq X W C D hQ hK hW hC

/-- The reference runs, leaves its arguments as they were and ends with every counter at zero. -/
theorem reference_frame : Cert.quiescent_ReferenceStepIdeal (hReferenceStepIdeal := Cert.ReferenceStepIdeal.Gen.facts) := by
  intro m g _
  exact (θ_run Cert.ReferenceStepIdeal.defs _ _).mono (fun r h => ⟨fun c => (h c).2.2.2, sem_eq_zero_of_no_sems (by decide) r.2⟩)
    (Cert.ReferenceStepIdeal.Value.run m g)

/-- On real queries, keys and cached keys, and sinks below +∞, the kernel's and the reference's results are the same arrays. -/
theorem algebraic : Cert.algebraic_KernelStepIdeal_ReferenceStepIdeal_pre_finite_step (hKernelStepIdeal := Cert.KernelStepIdeal.Gen.facts)
    (hReferenceStepIdeal := Cert.ReferenceStepIdeal.Gen.facts) (hPre_finite_step := Cert.Pre_finite_step.Gen.facts) := by
  intro m g m' g' hpre hargs
  refine ⟨fun c => out (m (c.tc.loc Cert.KernelStepIdeal.main_arg0)) (m (c.tc.loc Cert.KernelStepIdeal.main_arg1)) (m (c.tc.loc Cert.KernelStepIdeal.main_arg2)) (m (c.tc.loc Cert.KernelStepIdeal.main_arg3)),
    fun c => keyWin (m (c.tc.loc Cert.KernelStepIdeal.main_arg0)) (m (c.tc.loc Cert.KernelStepIdeal.main_arg2)),
    fun c => valWin (m (c.tc.loc Cert.KernelStepIdeal.main_arg0)) (m (c.tc.loc Cert.KernelStepIdeal.main_arg3)), ?_, ?_⟩
  · run_from Cert.KernelStepIdeal.Gen.run_main m g
    · exact final m c
    · exact finalK m c
    · exact finalV m c
  · run_from Cert.ReferenceStepIdeal.Value.run m' g'
    · obtain ⟨h0, h1, h2, h3⟩ := hargs c
      exact result_out m' c _ _ _ _ h0 h1 h2 h3 (fun r k => Finite.queries _ _ _ _ (hpre c).1 r k) (fun r k => Finite.keys _ _ _ _ (hpre c).2.1 r k) (fun i => Finite.sinks _ _ _ _ (hpre c).2.2.1 i)
        (fun i => Finite.cached _ _ _ _ (hpre c).2.2.2 i)
    · obtain ⟨h0, h1, h2, h3⟩ := hargs c
      rw [h0, h2]
      exact Ref.keyWin_eq _ _
    · obtain ⟨h0, h1, h2, h3⟩ := hargs c
      rw [h0, h3]
      exact Ref.valWin_eq _ _

end Cert.Step

end
-- ==== Proof.DownStep.Kernel.lean ====
/- The sampled batch's second feed-forward product's result array as one function of its arguments. -/
module

public import proofs.«01_k».proof.Proof.Gen.KernelDownStepIdeal.Frame
public import Idealize.ShloMosaic.Lib.Pipeline.Value
public import Idealize.ShloMosaic.Lib.Pipeline.ValueKit
public import Idealize.ShloMosaic.Lib.Pipeline.ReadBack
public import proofs.«01_k».proof.Proof.Norm.Row

@[expose] public section

set_option maxRecDepth 16384

noncomputable section

namespace Cert.DownStep

open Idealize.ShloMosaic Idealize.ShloMosaic.TcCoe Idealize.SL.Sem
open Idealize.ShloMosaic.Pipeline (Dat)
open Cert.KernelDownStepIdeal Cert.KernelDownStepIdeal.Gen
open Cert.Norm (lnRow resid mean spread)

variable (m : (ℓ : Loc nD τ sig) → Buf (Elt Ideal) ℓ)

/-- The windows' blocks at every grid point: one row block, visited by 4 runs of 1408 inner columns. -/
theorem idx_val : ∀ t : Fin cfg0.N,
    win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] :=
  (by decide +kernel : ∀ t : Fin grid0.N, _)

/-- One block product at an index. -/
theorem pay1_at (x : FVec Ideal S256x1408 .bf16) (w : FVec Ideal S1408x2048 .bf16) (r : Fin 256) (l : Fin 2048) :
    k0_pay1 (F := Ideal) x w (ix2 r l) = (∑ k : Fin 1408, x (ix2 r k) * w (ix2 k l) : EReal) := by
  pointwise [k0_pay1]

/-- The block product stored first. -/
theorem pay2_at (x : FVec Ideal S256x1408 .bf16) (w : FVec Ideal S1408x2048 .bf16) (r : Fin 256) (l : Fin 2048) :
    k0_pay2 (F := Ideal) x w (ix2 r l) = (∑ k : Fin 1408, x (ix2 r k) * w (ix2 k l) : EReal) := by
  refine Eq.trans ?_ (pay1_at x w r l)
  generalize hp : k0_pay1 (F := Ideal) x w = p
  pointwise [k0_pay2, hp]

/-- The block product added to what was accumulated. -/
theorem pay3_at (x : FVec Ideal S256x1408 .bf16) (w : FVec Ideal S1408x2048 .bf16) (a : FVec Ideal S256x2048 .f32) (r : Fin 256) (l : Fin 2048) :
    k0_pay3 (F := Ideal) x w a (ix2 r l) = (a (ix2 r l) + ∑ k : Fin 1408, x (ix2 r k) * w (ix2 k l) : EReal) := by
  rw [← pay1_at x w r l]
  generalize hp : k0_pay1 (F := Ideal) x w = p
  pointwise [k0_pay3, hp]

/-- The stored block: the layer norm of the scaled residual plus the accumulated product. -/
theorem pay4_at (h a : FVec Ideal S256x2048 .f32) (g b : FVec Ideal S1x2048 .f32) (r : Fin 256) (l : Fin 2048) :
    k0_pay4 (F := Ideal) h a g b (ix2 r l)
      = lnRow (resid (fun l => h (ix2 r l)) (fun l => a (ix2 r l))) (g (ix2 0 l)) (b (ix2 0 l)) l := by
  unfold lnRow spread mean resid
  pointwise [k0_pay4]

/-- The accumulated block after a run's first point. -/
theorem acc_first (c : Dev nD) (t : Fin cfg0.N) (h : t.val % 4 = 0) :
    (outsAt0 m c t.val t.isLt).2 = k0_pay2 (iblk m c 0 t) (iblk m c 1 t) := by
  rw [outsAt0_A m c t h (by have ht : t.val < 4 := t.isLt; omega) (by omega)]
  dsimp only
  frame_out

/-- The accumulated block after each further point. -/
theorem acc_next (c : Dev nD) (t : Fin cfg0.N) (h : ¬t.val % 4 = 0) :
    (outsAt0 m c t.val t.isLt).2
      = k0_pay3 (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    dsimp only
    frame_out
    rw [read_unread_whole]
  · rw [outsAt0_B m c t h (by omega) h2]
    dsimp only
    frame_out
    rw [read_unread_whole]

/-- The block written back at a run's last point, over the accumulated block. -/
theorem out_last (c : Dev nD) (t : Fin cfg0.N) (h : t.val % 4 = 3) :
    (outsAt0 m c t.val t.isLt).1 = k0_pay4 (iblk m c 2 t) (outsAt0 m c t.val t.isLt).2 (iblk m c 3 t) (iblk m c 4 t) := by
  rw [acc_next m c t (by omega), outsAt0_C m c t (by omega) (by omega) h]
  dsimp only
  frame_out
  rw [read_unread_whole]

/-- The product's row `R` at column `l`. -/
def prodAt (X : FVec Ideal S256x5632 .bf16) (w : FVec Ideal S1x5632x2048 .f32) (R : Fin 256) (l : Fin 2048) : EReal :=
  ∑ k : Fin 5632, X (ix2 R k) * w (ix3 0 k l)

/-- The result's row `R` at column `l`: the layer norm of the scaled residual plus the product. -/
def outAt (X : FVec Ideal S256x5632 .bf16) (w : FVec Ideal S1x5632x2048 .f32) (h : FVec Ideal S256x2048 .f32)
    (g b : FVec Ideal S1x2048 .f32) (R : Fin 256) (l : Fin 2048) : EReal :=
  lnRow (resid (fun l => h (ix2 R l)) (prodAt X w R)) (g (ix2 0 l)) (b (ix2 0 l)) l

/-- The result array. -/
def out (X : FVec Ideal S256x5632 .bf16) (w : FVec Ideal S1x5632x2048 .f32) (h : FVec Ideal S256x2048 .f32)
    (g b : FVec Ideal S1x2048 .f32) : FVec Ideal S256x2048 .f32 :=
  fun j => outAt X w h g b (j 0) (j 1)

/-- The weights as the host hands them over. -/
theorem w_entry (c : Dev nD) (k : Fin 5632) (l : Fin 2048) :
    (show EReal from V m c main_v1 (ix2 k l)) = (show EReal from m ((c : Thread nD τ).loc main_arg1) (ix3 0 k l)) := by
  entry_read
  pointwise

/-- The gains as the host hands them over. -/
theorem g_entry (c : Dev nD) (l : Fin 2048) :
    (show EReal from V m c main_v3 (ix2 0 l)) = (show EReal from m ((c : Thread nD τ).loc main_arg3) (ix2 0 l)) := by
  entry_read
  pointwise

/-- The biases as the host hands them over. -/
theorem b_entry (c : Dev nD) (l : Fin 2048) :
    (show EReal from V m c main_v5 (ix2 0 l)) = (show EReal from m ((c : Thread nD τ).loc main_arg4) (ix2 0 l)) := by
  entry_read
  pointwise

/-- The activation block read. -/
theorem x_at (c : Dev nD) (t : Fin cfg0.N) (r : Fin 256) (k : Fin 1408) (R : Fin 256) (K : Fin 5632)
    (hR : (R : ℕ) = t.val / 4 * 256 + r) (hK : (K : ℕ) = t.val % 4 * 1408 + k) :
    (show EReal from iblk m c 0 t (ix2 r k)) = (show EReal from m ((c : Thread nD τ).loc main_arg0) (ix2 R K)) := by
  blk_ext [iblk, V, idx_val t]

/-- The weight block read. -/
theorem w_at (c : Dev nD) (t : Fin cfg0.N) (k : Fin 1408) (l : Fin 2048) (K : Fin 5632) (hK : (K : ℕ) = t.val % 4 * 1408 + k) :
    (show EReal from iblk m c 1 t (ix2 k l)) = (show EReal from m ((c : Thread nD τ).loc main_arg1) (ix3 0 K l)) := by
  refine Eq.trans ?_ (w_entry m c K l)
  blk_ext [iblk, idx_val t]

/-- The residual block read. -/
theorem h_at (c : Dev nD) (t : Fin cfg0.N) (r : Fin 256) (l : Fin 2048) (R : Fin 256) (hR : (R : ℕ) = t.val / 4 * 256 + r) :
    (show EReal from iblk m c 2 t (ix2 r l)) = (show EReal from m ((c : Thread nD τ).loc main_arg2) (ix2 R l)) := by
  blk_ext [iblk, V, idx_val t]

/-- The gains read. -/
theorem g_at (c : Dev nD) (t : Fin cfg0.N) (l : Fin 2048) :
    (show EReal from iblk m c 3 t (ix2 0 l)) = (show EReal from m ((c : Thread nD τ).loc main_arg3) (ix2 0 l)) := by
  refine Eq.trans ?_ (g_entry m c l)
  blk_ext [iblk, idx_val t]

/-- The biases read. -/
theorem b_at (c : Dev nD) (t : Fin cfg0.N) (l : Fin 2048) :
    (show EReal from iblk m c 4 t (ix2 0 l)) = (show EReal from m ((c : Thread nD τ).loc main_arg4) (ix2 0 l)) := by
  refine Eq.trans ?_ (b_entry m c l)
  blk_ext [iblk, idx_val t]

/-- The accumulated block at a run's last point: the whole product's rows. -/
theorem acc_last (c : Dev nD) (t : Fin cfg0.N) (h : t.val % 4 = 3) (r : Fin 256) (l : Fin 2048) (R : Fin 256)
    (hR : (R : ℕ) = t.val / 4 * 256 + r) :
    (show EReal from (outsAt0 m c t.val t.isLt).2 (ix2 r l))
      = prodAt (m ((c : Thread nD τ).loc main_arg0)) (m ((c : Thread nD τ).loc main_arg1)) R l := by
  refine (Pipeline.eq_sum_fin_of_reset_step_apply_of_flush (M := EReal) (fun n h => (fun j => (outsAt0 m c n h).2 j)) 4 (fun _ => 0)
    (fun t j => ∑ k : Fin 1408, (show EReal from iblk m c 0 t (ix2 (j 0 : Fin 256) k)) * (show EReal from iblk m c 1 t (ix2 k (j 1 : Fin 2048))))
    (fun t h j => ?_) (fun t h j => ?_) t h (ix2 r l)).trans ?_
  · rw [eq_ix2 j, zero_add]
    exact (congrFun (acc_first m c t h) _).trans (pay2_at _ _ _ _)
  · rw [eq_ix2 j]
    exact (congrFun (acc_next m c t h) _).trans (pay3_at _ _ _ _ _)
  · rw [zero_add]
    unfold prodAt
    refine Fin.sum_mul_add_congr fun s k hl => ?_
    have hs : (4 * (t.val / 4) + s.val) / 4 = t.val / 4 := by omega
    have hs' : (4 * (t.val / 4) + s.val) % 4 = s.val := by omega
    refine Ideal.mul_congr (x_at m c _ r k R _ ?_ ?_) (w_at m c _ k l _ ?_) <;> simp only [] <;> omega

/-- What the body stores at block index `(r, l)` of a run's last point is the result at the array index that it sits at. -/
theorem point (c : Dev nD) (t : Fin cfg0.N) (h : t.val % 4 = 3) (r : Fin 256) (l : Fin 2048) (hR : t.val / 4 * 256 + r.val < 256) :
    lnRow (resid (fun l => (show EReal from iblk m c 2 t (ix2 r l))) (fun l => (show EReal from (outsAt0 m c t.val t.isLt).2 (ix2 r l))))
        (iblk m c 3 t (ix2 0 l)) (iblk m c 4 t (ix2 0 l)) l
      = outAt (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 4 * 256 + r, hR⟩ l := by
  have e1 : (fun l => (show EReal from iblk m c 2 t (ix2 r l))) = fun l => (show EReal from m ((c : Thread nD τ).loc main_arg2) (ix2 (⟨t.val / 4 * 256 + r, hR⟩ : Fin 256) l)) :=
    funext fun l => h_at m c t r l _ rfl
  have e2 : (fun l => (show EReal from (outsAt0 m c t.val t.isLt).2 (ix2 r l)))
      = prodAt (m ((c : Thread nD τ).loc main_arg0)) (m ((c : Thread nD τ).loc main_arg1)) ⟨t.val / 4 * 256 + r, hR⟩ :=
    funext fun l => acc_last m c t h r l _ rfl
  unfold outAt
  rw [e1, e2]
  exact congrArg₂ (fun g b => lnRow _ g b l) (g_at m c t l) (b_at m c t l)

/-- The result array after the run. -/
theorem final (c : Dev nD) : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5, out_last m c t h3]
  have ht : t.val < 4 := t.isLt
  obtain ⟨r, l, rfl⟩ : ∃ (r : Fin 256) (l : Fin 2048), y = ix2 r l := ⟨y 0, y 1, eq_ix2 y⟩
  refine (pay4_at _ _ _ _ r l).trans ?_
  refine Eq.trans ?_ (show outAt _ _ _ _ _ (⟨t.val / 4 * 256 + r, by omega⟩ : Fin 256) l = _ from
    congrArg₂ (outAt (m ((c : Thread nD τ).loc main_arg0)) (m ((c : Thread nD τ).loc main_arg1)) (m ((c : Thread nD τ).loc main_arg2))
      (m ((c : Thread nD τ).loc main_arg3)) (m ((c : Thread nD τ).loc main_arg4))) (Fin.ext ?_) (Fin.ext ?_))
  · exact point m c t h3 r l (by omega)
  · blk_simp [idx_val t]
  · blk_simp [idx_val t]

end Cert.DownStep
-- ==== Proof.DownStep.Reference.lean ====
/- The sampled batch's layer norm and second feed-forward product, as the reference computes them, read as scalar mathematics. -/
module

public import proofs.«01_k».proof.Proof.Gen.ReferenceDownStepIdeal.Run
public import proofs.«01_k».proof.Proof.DownStep.Kernel

@[expose] public section

set_option maxRecDepth 16384

noncomputable section

namespace Cert.DownStep.Ref

open Idealize.ShloMosaic Idealize.ShloMosaic.TcCoe Idealize.SL.Sem
open Cert.ReferenceDownStepIdeal Cert.ReferenceDownStepIdeal.Gen
open Cert.Norm (lnRow resid mean spread)

/-- The rows' distances from their means, as the reference computes them. -/
def centered (Z : FVec Ideal S256x2048 .f32) : FVec Ideal S256x2048 .f32 :=
  subf Z (broadcastInDim S256x2048 ![0, 1] bcast_S256x1_S256x2048_0_1 (Host.divf (broadcastInDim S256x1 ![0] bcast_S256_S256x1_0 (Host.reduceAdd Z (constant S_ .f32 0x00000000#32) reducesTo_S256x2048_S256_d1 h_S_)) (broadcastInDim S256x1 ![] bcast_S_S256x1 (constant S_ .f32 0x45000000#32))))

/-- The layer norm of distances `D`, as the reference computes it. -/
def scaled (D : FVec Ideal S256x2048 .f32) (g b : FVec Ideal S2048 .f32) : FVec Ideal S256x2048 .f32 :=
  addf (mulf (mulf D (broadcastInDim S256x2048 ![0, 1] bcast_S256x1_S256x2048_0_1 (Host.rsqrt (addf (Host.divf (broadcastInDim S256x1 ![0] bcast_S256_S256x1_0 (Host.reduceAdd (mulf D D) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x3727C5AC#32)))))) (broadcastInDim S256x2048 ![0, 1] bcast_S1x2048_S256x2048_0_1 (broadcastInDim S1x2048 ![1] bcast_S2048_S1x2048_1 g))) (broadcastInDim S256x2048 ![0, 1] bcast_S1x2048_S256x2048_0_1 (broadcastInDim S1x2048 ![1] bcast_S2048_S1x2048_1 b))

/-- The scaled residual plus what the layer adds. -/
def added (h f : FVec Ideal S256x2048 .f32) : FVec Ideal S256x2048 .f32 :=
  addf (mulf (broadcastInDim S256x2048 ![] bcast_S_S256x2048 (constant S_ .f32 0x3F9837F0#32)) h) f

/-- The product. -/
def prod (X : FVec Ideal S256x5632 .bf16) (w : FVec Ideal S1x5632x2048 .f32) : FVec Ideal S256x2048 .f32 :=
  Host.dotGeneral dot_S256x5632_S5632x2048_S256x2048_1_0_0_1_n_n none (extf .f32 X bitsLt_bf16_f32) (shapeCast S5632x2048 w shapeCasts_S1x5632x2048_S5632x2048)

/-- The distances at an index. -/
theorem centered_at (Z : FVec Ideal S256x2048 .f32) (R : Fin 256) (l : Fin 2048) :
    (show EReal from centered Z (ix2 R l)) = (show EReal from Z (ix2 R l)) - mean (fun l => Z (ix2 R l)) := by
  unfold mean
  pointwise [centered]

/-- The layer norm of distances at an index. -/
theorem scaled_at (D : FVec Ideal S256x2048 .f32) (g b : FVec Ideal S2048 .f32) (R : Fin 256) (l : Fin 2048) :
    scaled D g b (ix2 R l) = (D (ix2 R l) * Ideal.rsqrt (Ideal.div (∑ k : Fin 2048, D (ix2 R k) * D (ix2 R k)) (Ideal.ofBits .f32 0x45000000#32) + Ideal.ofBits .f32 0x3727C5AC#32)
      * g (ix1 l) + b (ix1 l) : EReal) := by
  pointwise [scaled]

/-- The whole layer norm at an index is the row's. -/
theorem norm_at (Z : FVec Ideal S256x2048 .f32) (g b : FVec Ideal S2048 .f32) (R : Fin 256) (l : Fin 2048) :
    (show EReal from scaled (centered Z) g b (ix2 R l)) = lnRow (fun l => Z (ix2 R l)) (g (ix1 l)) (b (ix1 l)) l := by
  refine (scaled_at _ g b R l).trans ?_
  have h : ∀ l, centered Z (ix2 R l) = _ := fun l => centered_at Z R l
  simp only [h]
  rfl

/-- The scaled residual plus what the layer adds, at an index. -/
theorem added_at (h f : FVec Ideal S256x2048 .f32) (R : Fin 256) (l : Fin 2048) :
    (show EReal from added h f (ix2 R l)) = resid (fun l => h (ix2 R l)) (fun l => f (ix2 R l)) l := by
  unfold resid
  pointwise [added]

/-- The product at an index. -/
theorem prod_at (X : FVec Ideal S256x5632 .bf16) (w : FVec Ideal S1x5632x2048 .f32) (R : Fin 256) (l : Fin 2048) :
    (show EReal from prod X w (ix2 R l)) = prodAt X w R l := by
  unfold prodAt
  pointwise [prod]

/-- A row's gains or biases read out of the argument. -/
theorem gain_at (g : FVec Ideal S1x2048 .f32) (l : Fin 2048) :
    (show EReal from shapeCast S2048 g shapeCasts_S1x2048_S2048 (ix1 l)) = (show EReal from g (ix2 0 l)) := by
  pointwise

/-- The reference's steps composed are the kernel's array. -/
theorem steps_eq (X : FVec Ideal S256x5632 .bf16) (w : FVec Ideal S1x5632x2048 .f32) (h : FVec Ideal S256x2048 .f32) (g b : FVec Ideal S1x2048 .f32) :
    scaled (centered (added h (prod X w))) (shapeCast S2048 g shapeCasts_S1x2048_S2048) (shapeCast S2048 b shapeCasts_S1x2048_S2048) = out X w h g b := by
  funext j
  obtain ⟨R, l, rfl⟩ : ∃ (R : Fin 256) (l : Fin 2048), j = ix2 R l := ⟨j 0, j 1, eq_ix2 j⟩
  refine (norm_at _ _ _ R l).trans ?_
  have hz : (fun l => (show EReal from added h (prod X w) (ix2 R l))) = resid (fun l => h (ix2 R l)) (prodAt X w R) := by
    funext l
    refine (added_at h _ R l).trans ?_
    exact congrArg (fun f => resid (fun l => h (ix2 R l)) f l) (funext fun l => prod_at X w R l)
  refine (congrArg (fun z => lnRow z _ _ l) hz).trans ?_
  exact congrArg₂ (fun g b => lnRow (resid (fun l => h (ix2 R l)) (prodAt X w R)) g b l) (gain_at g l) (gain_at b l)

end Cert.DownStep.Ref

end
-- ==== Proof.DownStep.Claims.lean ====
/- The sampled batch's second feed-forward product's claims. -/
module

public import proofs.«01_k».proof.Defs
public import proofs.«01_k».proof.Proof.DownStep.Reference
public import Idealize.ShloMosaic.Adequacy
public import Idealize.ShloMosaic.Init

@[expose] public section

noncomputable section

namespace Cert.DownStep

open Idealize.ShloMosaic Idealize.ShloMosaic.TcCoe Idealize.SL.Sem

/-- The reference runs, leaves its arguments as they were and ends with every counter at zero. -/
theorem reference_frame : Cert.quiescent_ReferenceDownStepIdeal (hReferenceDownStepIdeal := Cert.ReferenceDownStepIdeal.Gen.facts) := by
  intro m g _
  exact (θ_run Cert.ReferenceDownStepIdeal.defs _ _).mono (fun r h => ⟨fun c => (h c).2, sem_eq_zero_of_no_sems (by decide) r.2⟩)
    (Cert.ReferenceDownStepIdeal.Value.run m g)

/-- The kernel's and the reference's result are the same array. -/
theorem algebraic : Cert.algebraic_KernelDownStepIdeal_ReferenceDownStepIdeal (hKernelDownStepIdeal := Cert.KernelDownStepIdeal.Gen.facts)
    (hReferenceDownStepIdeal := Cert.ReferenceDownStepIdeal.Gen.facts) := by
  intro m g m' g' _ hargs
  refine ⟨fun c => out (m (c.tc.loc Cert.KernelDownStepIdeal.main_arg0)) (m (c.tc.loc Cert.KernelDownStepIdeal.main_arg1))
    (m (c.tc.loc Cert.KernelDownStepIdeal.main_arg2)) (m (c.tc.loc Cert.KernelDownStepIdeal.main_arg3)) (m (c.tc.loc Cert.KernelDownStepIdeal.main_arg4)), ?_, ?_⟩
  · run_from Cert.KernelDownStepIdeal.Gen.run_main m g
    exact final m c
  · run_from Cert.ReferenceDownStepIdeal.Value.run m' g'
    obtain ⟨h0, h1, h2, h3, h4⟩ := hargs c
    rw [h0, h1, h2, h3, h4]
    exact Ref.steps_eq _ _ _ _ _

end Cert.DownStep

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.Pre_finite_step
public import proofs.«01_k».proof.Proof.Gen.KernelStep
public import proofs.«01_k».proof.Proof.Gen.KernelStep.Skeleton
public import proofs.«01_k».proof.Proof.Gen.KernelStep.Launch
public import proofs.«01_k».proof.Proof.Gen.KernelStep.Points
public import proofs.«01_k».proof.Proof.Gen.KernelStep.Frame
public import proofs.«01_k».proof.Proof.Gen.KernelStepIdeal
public import proofs.«01_k».proof.Proof.Gen.KernelStepIdeal.Skeleton
public import proofs.«01_k».proof.Proof.Gen.KernelStepIdeal.Launch
public import proofs.«01_k».proof.Proof.Gen.KernelStepIdeal.Points
public import proofs.«01_k».proof.Proof.Gen.KernelStepIdeal.Frame
public import proofs.«01_k».proof.Proof.Gen.KernelStepIdeal.Value
public import proofs.«01_k».proof.Proof.Gen.ReferenceStepIdeal
public import proofs.«01_k».proof.Proof.Gen.ReferenceStepIdeal.Run
public import proofs.«01_k».proof.Proof.Gen.KernelDownStep
public import proofs.«01_k».proof.Proof.Gen.KernelDownStep.Skeleton
public import proofs.«01_k».proof.Proof.Gen.KernelDownStep.Launch
public import proofs.«01_k».proof.Proof.Gen.KernelDownStep.Points
public import proofs.«01_k».proof.Proof.Gen.KernelDownStep.Frame
public import proofs.«01_k».proof.Proof.Gen.KernelDownStepIdeal
public import proofs.«01_k».proof.Proof.Gen.KernelDownStepIdeal.Skeleton
public import proofs.«01_k».proof.Proof.Gen.KernelDownStepIdeal.Launch
public import proofs.«01_k».proof.Proof.Gen.KernelDownStepIdeal.Points
public import proofs.«01_k».proof.Proof.Gen.KernelDownStepIdeal.Frame
public import proofs.«01_k».proof.Proof.Gen.KernelDownStepIdeal.Value
public import proofs.«01_k».proof.Proof.Gen.ReferenceDownStepIdeal
public import proofs.«01_k».proof.Proof.Gen.ReferenceDownStepIdeal.Run
public import proofs.«01_k».proof.Proof.Attn.Claims
public import proofs.«01_k».proof.Proof.Down.Claims
public import proofs.«01_k».proof.Proof.Out.Claims
public import proofs.«01_k».proof.Proof.UpBits.Frame
public import proofs.«01_k».proof.Proof.UpIdeal.Frame
public import proofs.«01_k».proof.Proof.Up.Claims
public import proofs.«01_k».proof.Proof.InBits.Frame
public import proofs.«01_k».proof.Proof.InIdeal.Frame
public import proofs.«01_k».proof.Proof.In.Claims
public import proofs.«01_k».proof.Proof.Step.Claims
public import proofs.«01_k».proof.Proof.DownStep.Claims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelUp.Gen.facts, Cert.KernelUpIdeal.Gen.facts, Cert.ReferenceUpIdeal.Gen.facts,
    Cert.KernelIn.Gen.facts, Cert.KernelInIdeal.Gen.facts, Cert.ReferenceInIdeal.Gen.facts,
    Cert.KernelStep.Gen.facts, Cert.KernelStepIdeal.Gen.facts, Cert.ReferenceStepIdeal.Gen.facts,
    Cert.KernelDownStep.Gen.facts, Cert.KernelDownStepIdeal.Gen.facts, Cert.ReferenceDownStepIdeal.Gen.facts,
    Cert.Pre_finite.Gen.facts, Cert.Pre_finite_step.Gen.facts,
    fun m g _ => Cert.Kernel.Gen.frame m g,
    fun m g _ => Cert.KernelIdeal.Gen.frame m g,
    fun m g _ => Cert.KernelIdeal.Gen.frame m g,
    Cert.Attn.reference_frame,
    fun m g _ => Cert.Attn.reference_frame m g trivial,
    fun m g _ => Cert.KernelDown.Gen.frame m g,
    fun m g _ => Cert.KernelDownIdeal.Gen.frame m g,
    Cert.Down.reference_frame,
    fun m g _ => Cert.KernelOut.Gen.frame m g,
    fun m g _ => Cert.KernelOutIdeal.Gen.frame m g,
    Cert.Out.reference_frame,
    fun m g _ => Cert.UpBits.frame m g,
    fun m g _ => Cert.UpIdeal.frame m g,
    Cert.Up.reference_frame,
    fun m g _ => Cert.InBits.frame m g,
    fun m g _ => Cert.InIdeal.frame m g,
    Cert.In.reference_frame,
    fun m g _ => Cert.KernelStep.Gen.frame m g,
    fun m g _ => Cert.KernelStepIdeal.Gen.frame m g,
    fun m g _ => Cert.KernelStepIdeal.Gen.frame m g,
    Cert.Step.reference_frame,
    fun m g _ => Cert.Step.reference_frame m g trivial,
    fun m g _ => Cert.KernelDownStep.Gen.frame m g,
    fun m g _ => Cert.KernelDownStepIdeal.Gen.frame m g,
    Cert.DownStep.reference_frame,
    trivial,
    Cert.Attn.algebraic,
    trivial,
    Cert.Down.algebraic,
    trivial,
    Cert.Out.algebraic,
    trivial,
    Cert.Up.algebraic,
    trivial,
    Cert.In.algebraic,
    trivial,
    Cert.Step.algebraic,
    trivial,
    Cert.DownStep.algebraic⟩

end Cert.Proof

end
